-- ==== Defs.lean ====
def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_finite_final [hPre_finite_final : Cert.Pre_finite_final.Facts] (m : (ℓ : Loc Cert.FinalIdeal.nD Cert.FinalIdeal.τ Cert.FinalIdeal.sig) → Buf (Elt Ideal) ℓ) : Prop :=
  ∀ c : Dev Cert.FinalIdeal.nD,
    (Cert.Pre_finite_final.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2))).1 = (fun _ => 1#1)
    ∧ (Cert.Pre_finite_final.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2))).2.1 = (fun _ => 1#1)
    ∧ (Cert.Pre_finite_final.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2))).2.2 = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_finite_final [hPre_finite_final : Cert.Pre_finite_final.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_finite_final.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2))).1 = (fun _ => 1#1)
    ∧ (Cert.Pre_finite_final.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2))).2.1 = (fun _ => 1#1)
    ∧ (Cert.Pre_finite_final.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2))).2.2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.2.2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))).2.2.2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.2.2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))).2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.2.2.2 = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite_attend [hPre_finite_attend : Cert.Pre_finite_attend.Facts] (m : (ℓ : Loc Cert.AttendIdeal.nD Cert.AttendIdeal.τ Cert.AttendIdeal.sig) → Buf (Elt Ideal) ℓ) : Prop :=
  ∀ c : Dev Cert.AttendIdeal.nD,
    (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))).1 = (fun _ => 1#1)
    ∧ (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))).2.1 = (fun _ => 1#1)
    ∧ (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))).2.2.1 = (fun _ => 1#1)
    ∧ (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))).2.2.2.1 = (fun _ => 1#1)
    ∧ (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))).2.2.2.2.1 = (fun _ => 1#1)
    ∧ (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))).2.2.2.2.2.1 = (fun _ => 1#1)
    ∧ (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))).2.2.2.2.2.2 = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_finite_attend [hPre_finite_attend : Cert.Pre_finite_attend.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6))).1 = (fun _ => 1#1)
    ∧ (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6))).2.1 = (fun _ => 1#1)
    ∧ (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6))).2.2.1 = (fun _ => 1#1)
    ∧ (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6))).2.2.2.1 = (fun _ => 1#1)
    ∧ (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6))).2.2.2.2.1 = (fun _ => 1#1)
    ∧ (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6))).2.2.2.2.2.1 = (fun _ => 1#1)
    ∧ (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6))).2.2.2.2.2.2 = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_MixForward (m : (ℓ : Loc Cert.MixForward.nD Cert.MixForward.τ Cert.MixForward.sig) → Buf (Elt Bits) ℓ) : Prop :=
  True

def Pre_MixForwardIdeal (m : (ℓ : Loc Cert.MixForwardIdeal.nD Cert.MixForwardIdeal.τ Cert.MixForwardIdeal.sig) → Buf (Elt Ideal) ℓ) : Prop :=
  True

def Pre_MixForwardRefIdeal (m : (ℓ : Loc Cert.MixForwardRefIdeal.nD Cert.MixForwardRefIdeal.τ Cert.MixForwardRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Shard (m : (ℓ : Loc Cert.Shard.nD Cert.Shard.τ Cert.Shard.sig) → Buf (Elt Bits) ℓ) : Prop :=
  True

def Pre_ShardIdeal (m : (ℓ : Loc Cert.ShardIdeal.nD Cert.ShardIdeal.τ Cert.ShardIdeal.sig) → Buf (Elt Ideal) ℓ) : Prop :=
  True

def Pre_ShardRefIdeal (m : (ℓ : Loc Cert.ShardRefIdeal.nD Cert.ShardRefIdeal.τ Cert.ShardRefIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_WeightIn (m : (ℓ : Loc Cert.WeightIn.nD Cert.WeightIn.τ Cert.WeightIn.sig) → Buf (Elt Bits) ℓ) : Prop :=
  True

def Pre_WeightInIdeal (m : (ℓ : Loc Cert.WeightInIdeal.nD Cert.WeightInIdeal.τ Cert.WeightInIdeal.sig) → Buf (Elt Ideal) ℓ) : Prop :=
  True

def Pre_WeightInRefIdeal (m : (ℓ : Loc Cert.WeightInRefIdeal.nD Cert.WeightInRefIdeal.τ Cert.WeightInRefIdeal.sig) → Buf (Elt Ideal) ℓ) : Prop :=
  True

def Pre_One (m : (ℓ : Loc Cert.One.nD Cert.One.τ Cert.One.sig) → Buf (Elt Bits) ℓ) : Prop :=
  True

def Pre_OneIdeal (m : (ℓ : Loc Cert.OneIdeal.nD Cert.OneIdeal.τ Cert.OneIdeal.sig) → Buf (Elt Ideal) ℓ) : Prop :=
  True

def Pre_OneRefIdeal (m : (ℓ : Loc Cert.OneRefIdeal.nD Cert.OneRefIdeal.τ Cert.OneRefIdeal.sig) → Buf (Elt Ideal) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalIdeal_pre_finite_final [hFinalIdeal : Cert.FinalIdeal.Facts] [hPre_finite_final : Cert.Pre_finite_final.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_finite_final m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_FinalRefIdeal_pre_finite_final [hFinalRefIdeal : Cert.FinalRefIdeal.Facts] [hPre_finite_final : Cert.Pre_finite_final.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_finite_final m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5)
      ∧ r.2.mem ((c.tc : Thread Cert.Attend.nD Cert.Attend.τ).loc Cert.Attend.main_arg6) = m ((c.tc : Thread Cert.Attend.nD Cert.Attend.τ).loc Cert.Attend.main_arg6))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_AttendIdeal_pre_finite_attend [hAttendIdeal : Cert.AttendIdeal.Facts] [hPre_finite_attend : Cert.Pre_finite_attend.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_attend m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4)
      ∧ r.2.mem ((c.tc : Thread Cert.AttendRefIdeal.nD Cert.AttendRefIdeal.τ).loc Cert.AttendRefIdeal.main_arg5) = m ((c.tc : Thread Cert.AttendRefIdeal.nD Cert.AttendRefIdeal.τ).loc Cert.AttendRefIdeal.main_arg5)
      ∧ r.2.mem ((c.tc : Thread Cert.AttendRefIdeal.nD Cert.AttendRefIdeal.τ).loc Cert.AttendRefIdeal.main_arg6) = m ((c.tc : Thread Cert.AttendRefIdeal.nD Cert.AttendRefIdeal.τ).loc Cert.AttendRefIdeal.main_arg6))
      ∧ r.2.sem = fun _ => 0)

def quiescent_AttendRefIdeal_pre_finite_attend [hAttendRefIdeal : Cert.AttendRefIdeal.Facts] [hPre_finite_attend : Cert.Pre_finite_attend.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_finite_attend m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4)
      ∧ r.2.mem ((c.tc : Thread Cert.AttendRefIdeal.nD Cert.AttendRefIdeal.τ).loc Cert.AttendRefIdeal.main_arg5) = m ((c.tc : Thread Cert.AttendRefIdeal.nD Cert.AttendRefIdeal.τ).loc Cert.AttendRefIdeal.main_arg5)
      ∧ r.2.mem ((c.tc : Thread Cert.AttendRefIdeal.nD Cert.AttendRefIdeal.τ).loc Cert.AttendRefIdeal.main_arg6) = m ((c.tc : Thread Cert.AttendRefIdeal.nD Cert.AttendRefIdeal.τ).loc Cert.AttendRefIdeal.main_arg6))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_MixForward [hMixForward : Cert.MixForward.Facts] : Prop :=
  ∀ (m : (ℓ : Loc Cert.MixForward.nD Cert.MixForward.τ Cert.MixForward.sig) → Buf (Elt Bits) ℓ) (g : Dev Cert.MixForward.nD → PrngReg), Pre_MixForward m →
    θ_run (Cert.MixForward.defs (F := Bits)) (onTc (τ := Cert.MixForward.τ) (Cert.MixForward.main (F := Bits))) ⟨m, fun _ => 0, g⟩ (fun r => (∀ c : Dev Cert.MixForward.nD,
      r.2.mem ((c.tc : Thread Cert.MixForward.nD Cert.MixForward.τ).loc Cert.MixForward.main_arg0) = m ((c.tc : Thread Cert.MixForward.nD Cert.MixForward.τ).loc Cert.MixForward.main_arg0)
      ∧ r.2.mem ((c.tc : Thread Cert.MixForward.nD Cert.MixForward.τ).loc Cert.MixForward.main_arg1) = m ((c.tc : Thread Cert.MixForward.nD Cert.MixForward.τ).loc Cert.MixForward.main_arg1)
      ∧ r.2.mem ((c.tc : Thread Cert.MixForward.nD Cert.MixForward.τ).loc Cert.MixForward.main_arg2) = m ((c.tc : Thread Cert.MixForward.nD Cert.MixForward.τ).loc Cert.MixForward.main_arg2)
      ∧ r.2.mem ((c.tc : Thread Cert.MixForward.nD Cert.MixForward.τ).loc Cert.MixForward.main_arg3) = m ((c.tc : Thread Cert.MixForward.nD Cert.MixForward.τ).loc Cert.MixForward.main_arg3)
      ∧ r.2.mem ((c.tc : Thread Cert.MixForward.nD Cert.MixForward.τ).loc Cert.MixForward.main_arg4) = m ((c.tc : Thread Cert.MixForward.nD Cert.MixForward.τ).loc Cert.MixForward.main_arg4)
      ∧ r.2.mem ((c.tc : Thread Cert.MixForward.nD Cert.MixForward.τ).loc Cert.MixForward.main_arg5) = m ((c.tc : Thread Cert.MixForward.nD Cert.MixForward.τ).loc Cert.MixForward.main_arg5)
      ∧ r.2.mem ((c.tc : Thread Cert.MixForward.nD Cert.MixForward.τ).loc Cert.MixForward.main_arg6) = m ((c.tc : Thread Cert.MixForward.nD Cert.MixForward.τ).loc Cert.MixForward.main_arg6)
      ∧ r.2.mem ((c.tc : Thread Cert.MixForward.nD Cert.MixForward.τ).loc Cert.MixForward.main_arg7) = m ((c.tc : Thread Cert.MixForward.nD Cert.MixForward.τ).loc Cert.MixForward.main_arg7)
      ∧ r.2.mem ((c.tc : Thread Cert.MixForward.nD Cert.MixForward.τ).loc Cert.MixForward.main_arg8) = m ((c.tc : Thread Cert.MixForward.nD Cert.MixForward.τ).loc Cert.MixForward.main_arg8)
      ∧ r.2.mem ((c.tc : Thread Cert.MixForward.nD Cert.MixForward.τ).loc Cert.MixForward.main_arg9) = m ((c.tc : Thread Cert.MixForward.nD Cert.MixForward.τ).loc Cert.MixForward.main_arg9)
      ∧ r.2.mem ((c.tc : Thread Cert.MixForward.nD Cert.MixForward.τ).loc Cert.MixForward.main_arg10) = m ((c.tc : Thread Cert.MixForward.nD Cert.MixForward.τ).loc Cert.MixForward.main_arg10))
      ∧ r.2.sem = fun _ => 0)

def quiescent_MixForwardIdeal [hMixForwardIdeal : Cert.MixForwardIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg), Pre_MixForwardIdeal m →
    θ_run (Cert.MixForwardIdeal.defs (F := Ideal)) (onTc (τ := Cert.MixForwardIdeal.τ) (Cert.MixForwardIdeal.main (F := Ideal))) ⟨m, fun _ => 0, g⟩ (fun r => (∀ c : Dev Cert.MixForwardIdeal.nD,
      r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
      ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
      ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
      ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
      ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
      ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
      ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6)
      ∧ r.2.mem ((c.tc : Thread Cert.MixForwardIdeal.nD Cert.MixForwardIdeal.τ).loc Cert.MixForwardIdeal.main_arg7) = m ((c.tc : Thread Cert.MixForwardIdeal.nD Cert.MixForwardIdeal.τ).loc Cert.MixForwardIdeal.main_arg7)
      ∧ r.2.mem ((c.tc : Thread Cert.MixForwardIdeal.nD Cert.MixForwardIdeal.τ).loc Cert.MixForwardIdeal.main_arg8) = m ((c.tc : Thread Cert.MixForwardIdeal.nD Cert.MixForwardIdeal.τ).loc Cert.MixForwardIdeal.main_arg8)
      ∧ r.2.mem ((c.tc : Thread Cert.MixForwardIdeal.nD Cert.MixForwardIdeal.τ).loc Cert.MixForwardIdeal.main_arg9) = m ((c.tc : Thread Cert.MixForwardIdeal.nD Cert.MixForwardIdeal.τ).loc Cert.MixForwardIdeal.main_arg9)
      ∧ r.2.mem ((c.tc : Thread Cert.MixForwardIdeal.nD Cert.MixForwardIdeal.τ).loc Cert.MixForwardIdeal.main_arg10) = m ((c.tc : Thread Cert.MixForwardIdeal.nD Cert.MixForwardIdeal.τ).loc Cert.MixForwardIdeal.main_arg10))
      ∧ r.2.sem = fun _ => 0)

def quiescent_MixForwardRefIdeal [hMixForwardRefIdeal : Cert.MixForwardRefIdeal.Facts] : Prop :=
  ∀ (m : (ℓ : Loc Cert.MixForwardRefIdeal.nD Cert.MixForwardRefIdeal.τ Cert.MixForwardRefIdeal.sig) → Buf (Elt Ideal) ℓ) (g : Dev Cert.MixForwardRefIdeal.nD → PrngReg), Pre_MixForwardRefIdeal m →
    θ_run (Cert.MixForwardRefIdeal.defs (F := Ideal)) (onTc (τ := Cert.MixForwardRefIdeal.τ) (Cert.MixForwardRefIdeal.main (F := Ideal))) ⟨m, fun _ => 0, g⟩ (fun r => (∀ c : Dev Cert.MixForwardRefIdeal.nD,
      r.2.mem ((c.tc : Thread Cert.MixForwardRefIdeal.nD Cert.MixForwardRefIdeal.τ).loc Cert.MixForwardRefIdeal.main_arg0) = m ((c.tc : Thread Cert.MixForwardRefIdeal.nD Cert.MixForwardRefIdeal.τ).loc Cert.MixForwardRefIdeal.main_arg0)
      ∧ r.2.mem ((c.tc : Thread Cert.MixForwardRefIdeal.nD Cert.MixForwardRefIdeal.τ).loc Cert.MixForwardRefIdeal.main_arg1) = m ((c.tc : Thread Cert.MixForwardRefIdeal.nD Cert.MixForwardRefIdeal.τ).loc Cert.MixForwardRefIdeal.main_arg1)
      ∧ r.2.mem ((c.tc : Thread Cert.MixForwardRefIdeal.nD Cert.MixForwardRefIdeal.τ).loc Cert.MixForwardRefIdeal.main_arg2) = m ((c.tc : Thread Cert.MixForwardRefIdeal.nD Cert.MixForwardRefIdeal.τ).loc Cert.MixForwardRefIdeal.main_arg2)
      ∧ r.2.mem ((c.tc : Thread Cert.MixForwardRefIdeal.nD Cert.MixForwardRefIdeal.τ).loc Cert.MixForwardRefIdeal.main_arg3) = m ((c.tc : Thread Cert.MixForwardRefIdeal.nD Cert.MixForwardRefIdeal.τ).loc Cert.MixForwardRefIdeal.main_arg3)
      ∧ r.2.mem ((c.tc : Thread Cert.MixForwardRefIdeal.nD Cert.MixForwardRefIdeal.τ).loc Cert.MixForwardRefIdeal.main_arg4) = m ((c.tc : Thread Cert.MixForwardRefIdeal.nD Cert.MixForwardRefIdeal.τ).loc Cert.MixForwardRefIdeal.main_arg4)
      ∧ r.2.mem ((c.tc : Thread Cert.MixForwardRefIdeal.nD Cert.MixForwardRefIdeal.τ).loc Cert.MixForwardRefIdeal.main_arg5) = m ((c.tc : Thread Cert.MixForwardRefIdeal.nD Cert.MixForwardRefIdeal.τ).loc Cert.MixForwardRefIdeal.main_arg5)
      ∧ r.2.mem ((c.tc : Thread Cert.MixForwardRefIdeal.nD Cert.MixForwardRefIdeal.τ).loc Cert.MixForwardRefIdeal.main_arg6) = m ((c.tc : Thread Cert.MixForwardRefIdeal.nD Cert.MixForwardRefIdeal.τ).loc Cert.MixForwardRefIdeal.main_arg6)
      ∧ r.2.mem ((c.tc : Thread Cert.MixForwardRefIdeal.nD Cert.MixForwardRefIdeal.τ).loc Cert.MixForwardRefIdeal.main_arg7) = m ((c.tc : Thread Cert.MixForwardRefIdeal.nD Cert.MixForwardRefIdeal.τ).loc Cert.MixForwardRefIdeal.main_arg7)
      ∧ r.2.mem ((c.tc : Thread Cert.MixForwardRefIdeal.nD Cert.MixForwardRefIdeal.τ).loc Cert.MixForwardRefIdeal.main_arg8) = m ((c.tc : Thread Cert.MixForwardRefIdeal.nD Cert.MixForwardRefIdeal.τ).loc Cert.MixForwardRefIdeal.main_arg8)
      ∧ r.2.mem ((c.tc : Thread Cert.MixForwardRefIdeal.nD Cert.MixForwardRefIdeal.τ).loc Cert.MixForwardRefIdeal.main_arg9) = m ((c.tc : Thread Cert.MixForwardRefIdeal.nD Cert.MixForwardRefIdeal.τ).loc Cert.MixForwardRefIdeal.main_arg9)
      ∧ r.2.mem ((c.tc : Thread Cert.MixForwardRefIdeal.nD Cert.MixForwardRefIdeal.τ).loc Cert.MixForwardRefIdeal.main_arg10) = m ((c.tc : Thread Cert.MixForwardRefIdeal.nD Cert.MixForwardRefIdeal.τ).loc Cert.MixForwardRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Shard [hShard : Cert.Shard.Facts] : Prop :=
  ∀ (m : (ℓ : Loc Cert.Shard.nD Cert.Shard.τ Cert.Shard.sig) → Buf (Elt Bits) ℓ) (g : Dev Cert.Shard.nD → PrngReg), Pre_Shard m →
    θ_run (Cert.Shard.defs (F := Bits)) (onTc (τ := Cert.Shard.τ) (Cert.Shard.main (F := Bits))) ⟨m, fun _ => 0, g⟩ (fun r => (∀ c : Dev Cert.Shard.nD,
      r.2.mem ((c.tc : Thread Cert.Shard.nD Cert.Shard.τ).loc Cert.Shard.main_arg0) = m ((c.tc : Thread Cert.Shard.nD Cert.Shard.τ).loc Cert.Shard.main_arg0)
      ∧ r.2.mem ((c.tc : Thread Cert.Shard.nD Cert.Shard.τ).loc Cert.Shard.main_arg1) = m ((c.tc : Thread Cert.Shard.nD Cert.Shard.τ).loc Cert.Shard.main_arg1)
      ∧ r.2.mem ((c.tc : Thread Cert.Shard.nD Cert.Shard.τ).loc Cert.Shard.main_arg2) = m ((c.tc : Thread Cert.Shard.nD Cert.Shard.τ).loc Cert.Shard.main_arg2)
      ∧ r.2.mem ((c.tc : Thread Cert.Shard.nD Cert.Shard.τ).loc Cert.Shard.main_arg3) = m ((c.tc : Thread Cert.Shard.nD Cert.Shard.τ).loc Cert.Shard.main_arg3)
      ∧ r.2.mem ((c.tc : Thread Cert.Shard.nD Cert.Shard.τ).loc Cert.Shard.main_arg4) = m ((c.tc : Thread Cert.Shard.nD Cert.Shard.τ).loc Cert.Shard.main_arg4))
      ∧ r.2.sem = fun _ => 0)

def quiescent_ShardIdeal [hShardIdeal : Cert.ShardIdeal.Facts] : Prop :=
  ∀ (m : (ℓ : Loc Cert.ShardIdeal.nD Cert.ShardIdeal.τ Cert.ShardIdeal.sig) → Buf (Elt Ideal) ℓ) (g : Dev Cert.ShardIdeal.nD → PrngReg), Pre_ShardIdeal m →
    θ_run (Cert.ShardIdeal.defs (F := Ideal)) (onTc (τ := Cert.ShardIdeal.τ) (Cert.ShardIdeal.main (F := Ideal))) ⟨m, fun _ => 0, g⟩ (fun r => (∀ c : Dev Cert.ShardIdeal.nD,
      r.2.mem ((c.tc : Thread Cert.ShardIdeal.nD Cert.ShardIdeal.τ).loc Cert.ShardIdeal.main_arg0) = m ((c.tc : Thread Cert.ShardIdeal.nD Cert.ShardIdeal.τ).loc Cert.ShardIdeal.main_arg0)
      ∧ r.2.mem ((c.tc : Thread Cert.ShardIdeal.nD Cert.ShardIdeal.τ).loc Cert.ShardIdeal.main_arg1) = m ((c.tc : Thread Cert.ShardIdeal.nD Cert.ShardIdeal.τ).loc Cert.ShardIdeal.main_arg1)
      ∧ r.2.mem ((c.tc : Thread Cert.ShardIdeal.nD Cert.ShardIdeal.τ).loc Cert.ShardIdeal.main_arg2) = m ((c.tc : Thread Cert.ShardIdeal.nD Cert.ShardIdeal.τ).loc Cert.ShardIdeal.main_arg2)
      ∧ r.2.mem ((c.tc : Thread Cert.ShardIdeal.nD Cert.ShardIdeal.τ).loc Cert.ShardIdeal.main_arg3) = m ((c.tc : Thread Cert.ShardIdeal.nD Cert.ShardIdeal.τ).loc Cert.ShardIdeal.main_arg3)
      ∧ r.2.mem ((c.tc : Thread Cert.ShardIdeal.nD Cert.ShardIdeal.τ).loc Cert.ShardIdeal.main_arg4) = m ((c.tc : Thread Cert.ShardIdeal.nD Cert.ShardIdeal.τ).loc Cert.ShardIdeal.main_arg4))
      ∧ r.2.sem = fun _ => 0)

def quiescent_ShardRefIdeal [hShardRefIdeal : Cert.ShardRefIdeal.Facts] : Prop :=
  ∀ (m : (ℓ : Loc Cert.ShardRefIdeal.nD Cert.ShardRefIdeal.τ Cert.ShardRefIdeal.sig) → Buf (Elt Ideal) ℓ) (g : Dev Cert.ShardRefIdeal.nD → PrngReg), Pre_ShardRefIdeal m →
    θ_run (Cert.ShardRefIdeal.defs (F := Ideal)) (onTc (τ := Cert.ShardRefIdeal.τ) (Cert.ShardRefIdeal.main (F := Ideal))) ⟨m, fun _ => 0, g⟩ (fun r => (∀ c : Dev Cert.ShardRefIdeal.nD,
      r.2.mem ((c.tc : Thread Cert.ShardRefIdeal.nD Cert.ShardRefIdeal.τ).loc Cert.ShardRefIdeal.main_arg0) = m ((c.tc : Thread Cert.ShardRefIdeal.nD Cert.ShardRefIdeal.τ).loc Cert.ShardRefIdeal.main_arg0)
      ∧ r.2.mem ((c.tc : Thread Cert.ShardRefIdeal.nD Cert.ShardRefIdeal.τ).loc Cert.ShardRefIdeal.main_arg1) = m ((c.tc : Thread Cert.ShardRefIdeal.nD Cert.ShardRefIdeal.τ).loc Cert.ShardRefIdeal.main_arg1)
      ∧ r.2.mem ((c.tc : Thread Cert.ShardRefIdeal.nD Cert.ShardRefIdeal.τ).loc Cert.ShardRefIdeal.main_arg2) = m ((c.tc : Thread Cert.ShardRefIdeal.nD Cert.ShardRefIdeal.τ).loc Cert.ShardRefIdeal.main_arg2)
      ∧ r.2.mem ((c.tc : Thread Cert.ShardRefIdeal.nD Cert.ShardRefIdeal.τ).loc Cert.ShardRefIdeal.main_arg3) = m ((c.tc : Thread Cert.ShardRefIdeal.nD Cert.ShardRefIdeal.τ).loc Cert.ShardRefIdeal.main_arg3)
      ∧ r.2.mem ((c.tc : Thread Cert.ShardRefIdeal.nD Cert.ShardRefIdeal.τ).loc Cert.ShardRefIdeal.main_arg4) = m ((c.tc : Thread Cert.ShardRefIdeal.nD Cert.ShardRefIdeal.τ).loc Cert.ShardRefIdeal.main_arg4))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_WeightIn [hWeightIn : Cert.WeightIn.Facts] : Prop :=
  ∀ (m : (ℓ : Loc Cert.WeightIn.nD Cert.WeightIn.τ Cert.WeightIn.sig) → Buf (Elt Bits) ℓ) (g : Dev Cert.WeightIn.nD → PrngReg), Pre_WeightIn m →
    θ_run (Cert.WeightIn.defs (F := Bits)) (onTc (τ := Cert.WeightIn.τ) (Cert.WeightIn.main (F := Bits))) ⟨m, fun _ => 0, g⟩ (fun r => (∀ c : Dev Cert.WeightIn.nD,
      r.2.mem ((c.tc : Thread Cert.WeightIn.nD Cert.WeightIn.τ).loc Cert.WeightIn.main_arg0) = m ((c.tc : Thread Cert.WeightIn.nD Cert.WeightIn.τ).loc Cert.WeightIn.main_arg0)
      ∧ r.2.mem ((c.tc : Thread Cert.WeightIn.nD Cert.WeightIn.τ).loc Cert.WeightIn.main_arg1) = m ((c.tc : Thread Cert.WeightIn.nD Cert.WeightIn.τ).loc Cert.WeightIn.main_arg1))
      ∧ r.2.sem = fun _ => 0)

def quiescent_WeightInIdeal [hWeightInIdeal : Cert.WeightInIdeal.Facts] : Prop :=
  ∀ (m : (ℓ : Loc Cert.WeightInIdeal.nD Cert.WeightInIdeal.τ Cert.WeightInIdeal.sig) → Buf (Elt Ideal) ℓ) (g : Dev Cert.WeightInIdeal.nD → PrngReg), Pre_WeightInIdeal m →
    θ_run (Cert.WeightInIdeal.defs (F := Ideal)) (onTc (τ := Cert.WeightInIdeal.τ) (Cert.WeightInIdeal.main (F := Ideal))) ⟨m, fun _ => 0, g⟩ (fun r => (∀ c : Dev Cert.WeightInIdeal.nD,
      r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
      ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ r.2.sem = fun _ => 0)

def quiescent_WeightInRefIdeal [hWeightInRefIdeal : Cert.WeightInRefIdeal.Facts] : Prop :=
  ∀ (m : (ℓ : Loc Cert.WeightInRefIdeal.nD Cert.WeightInRefIdeal.τ Cert.WeightInRefIdeal.sig) → Buf (Elt Ideal) ℓ) (g : Dev Cert.WeightInRefIdeal.nD → PrngReg), Pre_WeightInRefIdeal m →
    θ_run (Cert.WeightInRefIdeal.defs (F := Ideal)) (onTc (τ := Cert.WeightInRefIdeal.τ) (Cert.WeightInRefIdeal.main (F := Ideal))) ⟨m, fun _ => 0, g⟩ (fun r => (∀ c : Dev Cert.WeightInRefIdeal.nD,
      r.2.mem ((c.tc : Thread Cert.WeightInRefIdeal.nD Cert.WeightInRefIdeal.τ).loc Cert.WeightInRefIdeal.main_arg0) = m ((c.tc : Thread Cert.WeightInRefIdeal.nD Cert.WeightInRefIdeal.τ).loc Cert.WeightInRefIdeal.main_arg0)
      ∧ r.2.mem ((c.tc : Thread Cert.WeightInRefIdeal.nD Cert.WeightInRefIdeal.τ).loc Cert.WeightInRefIdeal.main_arg1) = m ((c.tc : Thread Cert.WeightInRefIdeal.nD Cert.WeightInRefIdeal.τ).loc Cert.WeightInRefIdeal.main_arg1))
      ∧ r.2.sem = fun _ => 0)

def quiescent_One [hOne : Cert.One.Facts] : Prop :=
  ∀ (m : (ℓ : Loc Cert.One.nD Cert.One.τ Cert.One.sig) → Buf (Elt Bits) ℓ) (g : Dev Cert.One.nD → PrngReg), Pre_One m →
    θ_run (Cert.One.defs (F := Bits)) (onTc (τ := Cert.One.τ) (Cert.One.main (F := Bits))) ⟨m, fun _ => 0, g⟩ (fun r => (∀ c : Dev Cert.One.nD,
      r.2.mem ((c.tc : Thread Cert.One.nD Cert.One.τ).loc Cert.One.main_arg0) = m ((c.tc : Thread Cert.One.nD Cert.One.τ).loc Cert.One.main_arg0)
      ∧ r.2.mem ((c.tc : Thread Cert.One.nD Cert.One.τ).loc Cert.One.main_arg1) = m ((c.tc : Thread Cert.One.nD Cert.One.τ).loc Cert.One.main_arg1)
      ∧ r.2.mem ((c.tc : Thread Cert.One.nD Cert.One.τ).loc Cert.One.main_arg2) = m ((c.tc : Thread Cert.One.nD Cert.One.τ).loc Cert.One.main_arg2)
      ∧ r.2.mem ((c.tc : Thread Cert.One.nD Cert.One.τ).loc Cert.One.main_arg3) = m ((c.tc : Thread Cert.One.nD Cert.One.τ).loc Cert.One.main_arg3))
      ∧ r.2.sem = fun _ => 0)

def quiescent_OneIdeal [hOneIdeal : Cert.OneIdeal.Facts] : Prop :=
  ∀ (m : (ℓ : Loc Cert.OneIdeal.nD Cert.OneIdeal.τ Cert.OneIdeal.sig) → Buf (Elt Ideal) ℓ) (g : Dev Cert.OneIdeal.nD → PrngReg), Pre_OneIdeal m →
    θ_run (Cert.OneIdeal.defs (F := Ideal)) (onTc (τ := Cert.OneIdeal.τ) (Cert.OneIdeal.main (F := Ideal))) ⟨m, fun _ => 0, g⟩ (fun r => (∀ c : Dev Cert.OneIdeal.nD,
      r.2.mem ((c.tc : Thread Cert.OneIdeal.nD Cert.OneIdeal.τ).loc Cert.OneIdeal.main_arg0) = m ((c.tc : Thread Cert.OneIdeal.nD Cert.OneIdeal.τ).loc Cert.OneIdeal.main_arg0)
      ∧ r.2.mem ((c.tc : Thread Cert.OneIdeal.nD Cert.OneIdeal.τ).loc Cert.OneIdeal.main_arg1) = m ((c.tc : Thread Cert.OneIdeal.nD Cert.OneIdeal.τ).loc Cert.OneIdeal.main_arg1)
      ∧ r.2.mem ((c.tc : Thread Cert.OneIdeal.nD Cert.OneIdeal.τ).loc Cert.OneIdeal.main_arg2) = m ((c.tc : Thread Cert.OneIdeal.nD Cert.OneIdeal.τ).loc Cert.OneIdeal.main_arg2)
      ∧ r.2.mem ((c.tc : Thread Cert.OneIdeal.nD Cert.OneIdeal.τ).loc Cert.OneIdeal.main_arg3) = m ((c.tc : Thread Cert.OneIdeal.nD Cert.OneIdeal.τ).loc Cert.OneIdeal.main_arg3))
      ∧ r.2.sem = fun _ => 0)

def quiescent_OneRefIdeal [hOneRefIdeal : Cert.OneRefIdeal.Facts] : Prop :=
  ∀ (m : (ℓ : Loc Cert.OneRefIdeal.nD Cert.OneRefIdeal.τ Cert.OneRefIdeal.sig) → Buf (Elt Ideal) ℓ) (g : Dev Cert.OneRefIdeal.nD → PrngReg), Pre_OneRefIdeal m →
    θ_run (Cert.OneRefIdeal.defs (F := Ideal)) (onTc (τ := Cert.OneRefIdeal.τ) (Cert.OneRefIdeal.main (F := Ideal))) ⟨m, fun _ => 0, g⟩ (fun r => (∀ c : Dev Cert.OneRefIdeal.nD,
      r.2.mem ((c.tc : Thread Cert.OneRefIdeal.nD Cert.OneRefIdeal.τ).loc Cert.OneRefIdeal.main_arg0) = m ((c.tc : Thread Cert.OneRefIdeal.nD Cert.OneRefIdeal.τ).loc Cert.OneRefIdeal.main_arg0)
      ∧ r.2.mem ((c.tc : Thread Cert.OneRefIdeal.nD Cert.OneRefIdeal.τ).loc Cert.OneRefIdeal.main_arg1) = m ((c.tc : Thread Cert.OneRefIdeal.nD Cert.OneRefIdeal.τ).loc Cert.OneRefIdeal.main_arg1)
      ∧ r.2.mem ((c.tc : Thread Cert.OneRefIdeal.nD Cert.OneRefIdeal.τ).loc Cert.OneRefIdeal.main_arg2) = m ((c.tc : Thread Cert.OneRefIdeal.nD Cert.OneRefIdeal.τ).loc Cert.OneRefIdeal.main_arg2)
      ∧ r.2.mem ((c.tc : Thread Cert.OneRefIdeal.nD Cert.OneRefIdeal.τ).loc Cert.OneRefIdeal.main_arg3) = m ((c.tc : Thread Cert.OneRefIdeal.nD Cert.OneRefIdeal.τ).loc Cert.OneRefIdeal.main_arg3))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0))
      ∧ r.2.sem = fun _ => 0)

def preserves_Final_FinalIdeal : Prop :=
  True

def algebraic_FinalIdeal_FinalRefIdeal_pre_finite_final [hFinalIdeal : Cert.FinalIdeal.Facts] [hFinalRefIdeal : Cert.FinalRefIdeal.Facts] [hPre_finite_final : Cert.Pre_finite_final.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_finite_final m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)) (v2 : (c : Dev Cert.FinalIdeal.nD) → Buf (Elt Ideal) ((c.tc : Thread Cert.FinalIdeal.nD Cert.FinalIdeal.τ).loc Cert.FinalIdeal.main_v1_2)) (v3 : (c : Dev Cert.FinalIdeal.nD) → Buf (Elt Ideal) ((c.tc : Thread Cert.FinalIdeal.nD Cert.FinalIdeal.τ).loc Cert.FinalIdeal.main_v1_3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_v1_2) = v2 c
          ∧ r.2.mem ((c.tc : Thread Cert.FinalIdeal.nD Cert.FinalIdeal.τ).loc Cert.FinalIdeal.main_v1_3) = v3 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v51) = v0 c
          ∧ r.2.mem ((c.tc : Thread Cert.FinalRefIdeal.nD Cert.FinalRefIdeal.τ).loc Cert.FinalRefIdeal.main_v52) = v1 c
          ∧ r.2.mem ((c.tc : Thread Cert.FinalRefIdeal.nD Cert.FinalRefIdeal.τ).loc Cert.FinalRefIdeal.main_v50) = v2 c
          ∧ r.2.mem ((c.tc : Thread Cert.FinalRefIdeal.nD Cert.FinalRefIdeal.τ).loc Cert.FinalRefIdeal.main_v53) = v3 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v8) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v18_0)) (v1 : (c : Dev Cert.KvIdeal.nD) → Buf (Elt Ideal) ((c.tc : Thread Cert.KvIdeal.nD Cert.KvIdeal.τ).loc Cert.KvIdeal.main_v18_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v18_0) = v0 c
          ∧ r.2.mem ((c.tc : Thread Cert.KvIdeal.nD Cert.KvIdeal.τ).loc Cert.KvIdeal.main_v18_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v24) = v0 c
          ∧ r.2.mem ((c.tc : Thread Cert.KvRefIdeal.nD Cert.KvRefIdeal.τ).loc Cert.KvRefIdeal.main_v25) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v24_0)) (v1 : (c : Dev Cert.SwigluIdeal.nD) → Buf (Elt Ideal) ((c.tc : Thread Cert.SwigluIdeal.nD Cert.SwigluIdeal.τ).loc Cert.SwigluIdeal.main_v24_1)) (v2 : (c : Dev Cert.SwigluIdeal.nD) → Buf (Elt Ideal) ((c.tc : Thread Cert.SwigluIdeal.nD Cert.SwigluIdeal.τ).loc Cert.SwigluIdeal.main_v24_2)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v24_0) = v0 c
          ∧ r.2.mem ((c.tc : Thread Cert.SwigluIdeal.nD Cert.SwigluIdeal.τ).loc Cert.SwigluIdeal.main_v24_1) = v1 c
          ∧ r.2.mem ((c.tc : Thread Cert.SwigluIdeal.nD Cert.SwigluIdeal.τ).loc Cert.SwigluIdeal.main_v24_2) = v2 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v27) = v0 c
          ∧ r.2.mem ((c.tc : Thread Cert.SwigluRefIdeal.nD Cert.SwigluRefIdeal.τ).loc Cert.SwigluRefIdeal.main_v31) = v1 c
          ∧ r.2.mem ((c.tc : Thread Cert.SwigluRefIdeal.nD Cert.SwigluRefIdeal.τ).loc Cert.SwigluRefIdeal.main_v24) = v2 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)) →
    ∃ (v0 : (c : Dev Cert.AttnIdeal.nD) → Buf (Elt Ideal) ((c.tc : Thread Cert.AttnIdeal.nD Cert.AttnIdeal.τ).loc Cert.AttnIdeal.main_v61_0)) (v1 : (c : Dev Cert.AttnIdeal.nD) → Buf (Elt Ideal) ((c.tc : Thread Cert.AttnIdeal.nD Cert.AttnIdeal.τ).loc Cert.AttnIdeal.main_v61_1)) (v2 : (c : Dev Cert.AttnIdeal.nD) → Buf (Elt Ideal) ((c.tc : Thread Cert.AttnIdeal.nD Cert.AttnIdeal.τ).loc Cert.AttnIdeal.main_v61_2)) (v3 : (c : Dev Cert.AttnIdeal.nD) → Buf (Elt Ideal) ((c.tc : Thread Cert.AttnIdeal.nD Cert.AttnIdeal.τ).loc Cert.AttnIdeal.main_v61_3)) (v4 : (c : Dev Cert.AttnIdeal.nD) → Buf (Elt Ideal) ((c.tc : Thread Cert.AttnIdeal.nD Cert.AttnIdeal.τ).loc Cert.AttnIdeal.main_v61_4)) (v5 : (c : Dev Cert.AttnIdeal.nD) → Buf (Elt Ideal) ((c.tc : Thread Cert.AttnIdeal.nD Cert.AttnIdeal.τ).loc Cert.AttnIdeal.main_v61_5)) (v6 : (c : Dev Cert.AttnIdeal.nD) → Buf (Elt Ideal) ((c.tc : Thread Cert.AttnIdeal.nD Cert.AttnIdeal.τ).loc Cert.AttnIdeal.main_v61_6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v61_0) = v0 c
          ∧ r.2.mem ((c.tc : Thread Cert.AttnIdeal.nD Cert.AttnIdeal.τ).loc Cert.AttnIdeal.main_v61_1) = v1 c
          ∧ r.2.mem ((c.tc : Thread Cert.AttnIdeal.nD Cert.AttnIdeal.τ).loc Cert.AttnIdeal.main_v61_2) = v2 c
          ∧ r.2.mem ((c.tc : Thread Cert.AttnIdeal.nD Cert.AttnIdeal.τ).loc Cert.AttnIdeal.main_v61_3) = v3 c
          ∧ r.2.mem ((c.tc : Thread Cert.AttnIdeal.nD Cert.AttnIdeal.τ).loc Cert.AttnIdeal.main_v61_4) = v4 c
          ∧ r.2.mem ((c.tc : Thread Cert.AttnIdeal.nD Cert.AttnIdeal.τ).loc Cert.AttnIdeal.main_v61_5) = v5 c
          ∧ r.2.mem ((c.tc : Thread Cert.AttnIdeal.nD Cert.AttnIdeal.τ).loc Cert.AttnIdeal.main_v61_6) = v6 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v162) = v0 c
          ∧ r.2.mem ((c.tc : Thread Cert.AttnRefIdeal.nD Cert.AttnRefIdeal.τ).loc Cert.AttnRefIdeal.main_v163) = v1 c
          ∧ r.2.mem ((c.tc : Thread Cert.AttnRefIdeal.nD Cert.AttnRefIdeal.τ).loc Cert.AttnRefIdeal.main_v158) = v2 c
          ∧ r.2.mem ((c.tc : Thread Cert.AttnRefIdeal.nD Cert.AttnRefIdeal.τ).loc Cert.AttnRefIdeal.main_v164) = v3 c
          ∧ r.2.mem ((c.tc : Thread Cert.AttnRefIdeal.nD Cert.AttnRefIdeal.τ).loc Cert.AttnRefIdeal.main_v161) = v4 c
          ∧ r.2.mem ((c.tc : Thread Cert.AttnRefIdeal.nD Cert.AttnRefIdeal.τ).loc Cert.AttnRefIdeal.main_v165) = v5 c
          ∧ r.2.mem ((c.tc : Thread Cert.AttnRefIdeal.nD Cert.AttnRefIdeal.τ).loc Cert.AttnRefIdeal.main_v166) = v6 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9))

def preserves_Attend_AttendIdeal : Prop :=
  True

def algebraic_AttendIdeal_AttendRefIdeal_pre_finite_attend [hAttendIdeal : Cert.AttendIdeal.Facts] [hAttendRefIdeal : Cert.AttendRefIdeal.Facts] [hPre_finite_attend : Cert.Pre_finite_attend.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_finite_attend m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)
      ∧ m' ((c.tc : Thread Cert.AttendRefIdeal.nD Cert.AttendRefIdeal.τ).loc Cert.AttendRefIdeal.main_arg4) = m ((c.tc : Thread Cert.AttendIdeal.nD Cert.AttendIdeal.τ).loc Cert.AttendIdeal.main_arg4)
      ∧ m' ((c.tc : Thread Cert.AttendRefIdeal.nD Cert.AttendRefIdeal.τ).loc Cert.AttendRefIdeal.main_arg5) = m ((c.tc : Thread Cert.AttendIdeal.nD Cert.AttendIdeal.τ).loc Cert.AttendIdeal.main_arg5)
      ∧ m' ((c.tc : Thread Cert.AttendRefIdeal.nD Cert.AttendRefIdeal.τ).loc Cert.AttendRefIdeal.main_arg6) = m ((c.tc : Thread Cert.AttendIdeal.nD Cert.AttendIdeal.τ).loc Cert.AttendIdeal.main_arg6)) →
    ∃ (v0 : (c : Dev Cert.AttendIdeal.nD) → Buf (Elt Ideal) ((c.tc : Thread Cert.AttendIdeal.nD Cert.AttendIdeal.τ).loc Cert.AttendIdeal.main_v20_0)) (v1 : (c : Dev Cert.AttendIdeal.nD) → Buf (Elt Ideal) ((c.tc : Thread Cert.AttendIdeal.nD Cert.AttendIdeal.τ).loc Cert.AttendIdeal.main_v20_1)) (v2 : (c : Dev Cert.AttendIdeal.nD) → Buf (Elt Ideal) ((c.tc : Thread Cert.AttendIdeal.nD Cert.AttendIdeal.τ).loc Cert.AttendIdeal.main_v20_2)) (v3 : (c : Dev Cert.AttendIdeal.nD) → Buf (Elt Ideal) ((c.tc : Thread Cert.AttendIdeal.nD Cert.AttendIdeal.τ).loc Cert.AttendIdeal.main_v20_3)) (v4 : (c : Dev Cert.AttendIdeal.nD) → Buf (Elt Ideal) ((c.tc : Thread Cert.AttendIdeal.nD Cert.AttendIdeal.τ).loc Cert.AttendIdeal.main_v20_4)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v20_0) = v0 c
          ∧ r.2.mem ((c.tc : Thread Cert.AttendIdeal.nD Cert.AttendIdeal.τ).loc Cert.AttendIdeal.main_v20_1) = v1 c
          ∧ r.2.mem ((c.tc : Thread Cert.AttendIdeal.nD Cert.AttendIdeal.τ).loc Cert.AttendIdeal.main_v20_2) = v2 c
          ∧ r.2.mem ((c.tc : Thread Cert.AttendIdeal.nD Cert.AttendIdeal.τ).loc Cert.AttendIdeal.main_v20_3) = v3 c
          ∧ r.2.mem ((c.tc : Thread Cert.AttendIdeal.nD Cert.AttendIdeal.τ).loc Cert.AttendIdeal.main_v20_4) = v4 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v52) = v0 c
          ∧ r.2.mem ((c.tc : Thread Cert.AttendRefIdeal.nD Cert.AttendRefIdeal.τ).loc Cert.AttendRefIdeal.main_v54) = v1 c
          ∧ r.2.mem ((c.tc : Thread Cert.AttendRefIdeal.nD Cert.AttendRefIdeal.τ).loc Cert.AttendRefIdeal.main_v55) = v2 c
          ∧ r.2.mem ((c.tc : Thread Cert.AttendRefIdeal.nD Cert.AttendRefIdeal.τ).loc Cert.AttendRefIdeal.main_v56) = v3 c
          ∧ r.2.mem ((c.tc : Thread Cert.AttendRefIdeal.nD Cert.AttendRefIdeal.τ).loc Cert.AttendRefIdeal.main_v58) = v4 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3)
          ∧ r.2.mem ((c.tc : Thread Cert.AttendRefIdeal.nD Cert.AttendRefIdeal.τ).loc Cert.AttendRefIdeal.main_arg4) = m' ((c.tc : Thread Cert.AttendRefIdeal.nD Cert.AttendRefIdeal.τ).loc Cert.AttendRefIdeal.main_arg4)
          ∧ r.2.mem ((c.tc : Thread Cert.AttendRefIdeal.nD Cert.AttendRefIdeal.τ).loc Cert.AttendRefIdeal.main_arg5) = m' ((c.tc : Thread Cert.AttendRefIdeal.nD Cert.AttendRefIdeal.τ).loc Cert.AttendRefIdeal.main_arg5)
          ∧ r.2.mem ((c.tc : Thread Cert.AttendRefIdeal.nD Cert.AttendRefIdeal.τ).loc Cert.AttendRefIdeal.main_arg6) = m' ((c.tc : Thread Cert.AttendRefIdeal.nD Cert.AttendRefIdeal.τ).loc Cert.AttendRefIdeal.main_arg6))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v16) = v0 c
          ∧ r.2.mem ((c.tc : Thread Cert.MemoryRefIdeal.nD Cert.MemoryRefIdeal.τ).loc Cert.MemoryRefIdeal.main_v17) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v3_0)) (v1 : (c : Dev Cert.ProjectIdeal.nD) → Buf (Elt Ideal) ((c.tc : Thread Cert.ProjectIdeal.nD Cert.ProjectIdeal.τ).loc Cert.ProjectIdeal.main_v3_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3_0) = v0 c
          ∧ r.2.mem ((c.tc : Thread Cert.ProjectIdeal.nD Cert.ProjectIdeal.τ).loc Cert.ProjectIdeal.main_v3_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v13) = v0 c
          ∧ r.2.mem ((c.tc : Thread Cert.ProjectRefIdeal.nD Cert.ProjectRefIdeal.τ).loc Cert.ProjectRefIdeal.main_v14) = v1 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_MixForward_MixForwardIdeal : Prop :=
  True

def algebraic_MixForwardIdeal_MixForwardRefIdeal [hMixForwardIdeal : Cert.MixForwardIdeal.Facts] [hMixForwardRefIdeal : Cert.MixForwardRefIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg)
    (m' : (ℓ : Loc Cert.MixForwardRefIdeal.nD Cert.MixForwardRefIdeal.τ Cert.MixForwardRefIdeal.sig) → Buf (Elt Ideal) ℓ) (g' : Dev Cert.MixForwardRefIdeal.nD → PrngReg), Pre_MixForwardIdeal m →
    (∀ c : Dev Cert.MixForwardIdeal.nD,
      m' ((c.tc : Thread Cert.MixForwardRefIdeal.nD Cert.MixForwardRefIdeal.τ).loc Cert.MixForwardRefIdeal.main_arg0) = m ((c.tc : Thread Cert.MixForwardIdeal.nD Cert.MixForwardIdeal.τ).loc Cert.MixForwardIdeal.main_arg0)
      ∧ m' ((c.tc : Thread Cert.MixForwardRefIdeal.nD Cert.MixForwardRefIdeal.τ).loc Cert.MixForwardRefIdeal.main_arg1) = m ((c.tc : Thread Cert.MixForwardIdeal.nD Cert.MixForwardIdeal.τ).loc Cert.MixForwardIdeal.main_arg1)
      ∧ m' ((c.tc : Thread Cert.MixForwardRefIdeal.nD Cert.MixForwardRefIdeal.τ).loc Cert.MixForwardRefIdeal.main_arg2) = m ((c.tc : Thread Cert.MixForwardIdeal.nD Cert.MixForwardIdeal.τ).loc Cert.MixForwardIdeal.main_arg2)
      ∧ m' ((c.tc : Thread Cert.MixForwardRefIdeal.nD Cert.MixForwardRefIdeal.τ).loc Cert.MixForwardRefIdeal.main_arg3) = m ((c.tc : Thread Cert.MixForwardIdeal.nD Cert.MixForwardIdeal.τ).loc Cert.MixForwardIdeal.main_arg3)
      ∧ m' ((c.tc : Thread Cert.MixForwardRefIdeal.nD Cert.MixForwardRefIdeal.τ).loc Cert.MixForwardRefIdeal.main_arg4) = m ((c.tc : Thread Cert.MixForwardIdeal.nD Cert.MixForwardIdeal.τ).loc Cert.MixForwardIdeal.main_arg4)
      ∧ m' ((c.tc : Thread Cert.MixForwardRefIdeal.nD Cert.MixForwardRefIdeal.τ).loc Cert.MixForwardRefIdeal.main_arg5) = m ((c.tc : Thread Cert.MixForwardIdeal.nD Cert.MixForwardIdeal.τ).loc Cert.MixForwardIdeal.main_arg5)
      ∧ m' ((c.tc : Thread Cert.MixForwardRefIdeal.nD Cert.MixForwardRefIdeal.τ).loc Cert.MixForwardRefIdeal.main_arg6) = m ((c.tc : Thread Cert.MixForwardIdeal.nD Cert.MixForwardIdeal.τ).loc Cert.MixForwardIdeal.main_arg6)
      ∧ m' ((c.tc : Thread Cert.MixForwardRefIdeal.nD Cert.MixForwardRefIdeal.τ).loc Cert.MixForwardRefIdeal.main_arg7) = m ((c.tc : Thread Cert.MixForwardIdeal.nD Cert.MixForwardIdeal.τ).loc Cert.MixForwardIdeal.main_arg7)
      ∧ m' ((c.tc : Thread Cert.MixForwardRefIdeal.nD Cert.MixForwardRefIdeal.τ).loc Cert.MixForwardRefIdeal.main_arg8) = m ((c.tc : Thread Cert.MixForwardIdeal.nD Cert.MixForwardIdeal.τ).loc Cert.MixForwardIdeal.main_arg8)
      ∧ m' ((c.tc : Thread Cert.MixForwardRefIdeal.nD Cert.MixForwardRefIdeal.τ).loc Cert.MixForwardRefIdeal.main_arg9) = m ((c.tc : Thread Cert.MixForwardIdeal.nD Cert.MixForwardIdeal.τ).loc Cert.MixForwardIdeal.main_arg9)
      ∧ m' ((c.tc : Thread Cert.MixForwardRefIdeal.nD Cert.MixForwardRefIdeal.τ).loc Cert.MixForwardRefIdeal.main_arg10) = m ((c.tc : Thread Cert.MixForwardIdeal.nD Cert.MixForwardIdeal.τ).loc Cert.MixForwardIdeal.main_arg10)) →
    ∃ (v0 : (c : Dev Cert.MixForwardIdeal.nD) → Buf (Elt Ideal) ((c.tc : Thread Cert.MixForwardIdeal.nD Cert.MixForwardIdeal.τ).loc Cert.MixForwardIdeal.main_v20_0)) (v1 : (c : Dev Cert.MixForwardIdeal.nD) → Buf (Elt Ideal) ((c.tc : Thread Cert.MixForwardIdeal.nD Cert.MixForwardIdeal.τ).loc Cert.MixForwardIdeal.main_v20_1)),
      θ_run (Cert.MixForwardIdeal.defs (F := Ideal)) (onTc (τ := Cert.MixForwardIdeal.τ) (Cert.MixForwardIdeal.main (F := Ideal))) ⟨m, fun _ => 0, g⟩ (fun r => ∀ c : Dev Cert.MixForwardIdeal.nD,
          r.2.mem ((c.tc : Thread Cert.MixForwardIdeal.nD Cert.MixForwardIdeal.τ).loc Cert.MixForwardIdeal.main_v20_0) = v0 c
          ∧ r.2.mem ((c.tc : Thread Cert.MixForwardIdeal.nD Cert.MixForwardIdeal.τ).loc Cert.MixForwardIdeal.main_v20_1) = v1 c
          ∧ r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
          ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
          ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
          ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
          ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
          ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
          ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6)
          ∧ r.2.mem ((c.tc : Thread Cert.MixForwardIdeal.nD Cert.MixForwardIdeal.τ).loc Cert.MixForwardIdeal.main_arg7) = m ((c.tc : Thread Cert.MixForwardIdeal.nD Cert.MixForwardIdeal.τ).loc Cert.MixForwardIdeal.main_arg7)
          ∧ r.2.mem ((c.tc : Thread Cert.MixForwardIdeal.nD Cert.MixForwardIdeal.τ).loc Cert.MixForwardIdeal.main_arg8) = m ((c.tc : Thread Cert.MixForwardIdeal.nD Cert.MixForwardIdeal.τ).loc Cert.MixForwardIdeal.main_arg8)
          ∧ r.2.mem ((c.tc : Thread Cert.MixForwardIdeal.nD Cert.MixForwardIdeal.τ).loc Cert.MixForwardIdeal.main_arg9) = m ((c.tc : Thread Cert.MixForwardIdeal.nD Cert.MixForwardIdeal.τ).loc Cert.MixForwardIdeal.main_arg9)
          ∧ r.2.mem ((c.tc : Thread Cert.MixForwardIdeal.nD Cert.MixForwardIdeal.τ).loc Cert.MixForwardIdeal.main_arg10) = m ((c.tc : Thread Cert.MixForwardIdeal.nD Cert.MixForwardIdeal.τ).loc Cert.MixForwardIdeal.main_arg10))
      ∧ θ_run (Cert.MixForwardRefIdeal.defs (F := Ideal)) (onTc (τ := Cert.MixForwardRefIdeal.τ) (Cert.MixForwardRefIdeal.main (F := Ideal))) ⟨m', fun _ => 0, g'⟩ (fun r => ∀ c : Dev Cert.MixForwardRefIdeal.nD,
          r.2.mem ((c.tc : Thread Cert.MixForwardRefIdeal.nD Cert.MixForwardRefIdeal.τ).loc Cert.MixForwardRefIdeal.main_v125) = v0 c
          ∧ r.2.mem ((c.tc : Thread Cert.MixForwardRefIdeal.nD Cert.MixForwardRefIdeal.τ).loc Cert.MixForwardRefIdeal.main_v127) = v1 c
          ∧ r.2.mem ((c.tc : Thread Cert.MixForwardRefIdeal.nD Cert.MixForwardRefIdeal.τ).loc Cert.MixForwardRefIdeal.main_arg0) = m' ((c.tc : Thread Cert.MixForwardRefIdeal.nD Cert.MixForwardRefIdeal.τ).loc Cert.MixForwardRefIdeal.main_arg0)
          ∧ r.2.mem ((c.tc : Thread Cert.MixForwardRefIdeal.nD Cert.MixForwardRefIdeal.τ).loc Cert.MixForwardRefIdeal.main_arg1) = m' ((c.tc : Thread Cert.MixForwardRefIdeal.nD Cert.MixForwardRefIdeal.τ).loc Cert.MixForwardRefIdeal.main_arg1)
          ∧ r.2.mem ((c.tc : Thread Cert.MixForwardRefIdeal.nD Cert.MixForwardRefIdeal.τ).loc Cert.MixForwardRefIdeal.main_arg2) = m' ((c.tc : Thread Cert.MixForwardRefIdeal.nD Cert.MixForwardRefIdeal.τ).loc Cert.MixForwardRefIdeal.main_arg2)
          ∧ r.2.mem ((c.tc : Thread Cert.MixForwardRefIdeal.nD Cert.MixForwardRefIdeal.τ).loc Cert.MixForwardRefIdeal.main_arg3) = m' ((c.tc : Thread Cert.MixForwardRefIdeal.nD Cert.MixForwardRefIdeal.τ).loc Cert.MixForwardRefIdeal.main_arg3)
          ∧ r.2.mem ((c.tc : Thread Cert.MixForwardRefIdeal.nD Cert.MixForwardRefIdeal.τ).loc Cert.MixForwardRefIdeal.main_arg4) = m' ((c.tc : Thread Cert.MixForwardRefIdeal.nD Cert.MixForwardRefIdeal.τ).loc Cert.MixForwardRefIdeal.main_arg4)
          ∧ r.2.mem ((c.tc : Thread Cert.MixForwardRefIdeal.nD Cert.MixForwardRefIdeal.τ).loc Cert.MixForwardRefIdeal.main_arg5) = m' ((c.tc : Thread Cert.MixForwardRefIdeal.nD Cert.MixForwardRefIdeal.τ).loc Cert.MixForwardRefIdeal.main_arg5)
          ∧ r.2.mem ((c.tc : Thread Cert.MixForwardRefIdeal.nD Cert.MixForwardRefIdeal.τ).loc Cert.MixForwardRefIdeal.main_arg6) = m' ((c.tc : Thread Cert.MixForwardRefIdeal.nD Cert.MixForwardRefIdeal.τ).loc Cert.MixForwardRefIdeal.main_arg6)
          ∧ r.2.mem ((c.tc : Thread Cert.MixForwardRefIdeal.nD Cert.MixForwardRefIdeal.τ).loc Cert.MixForwardRefIdeal.main_arg7) = m' ((c.tc : Thread Cert.MixForwardRefIdeal.nD Cert.MixForwardRefIdeal.τ).loc Cert.MixForwardRefIdeal.main_arg7)
          ∧ r.2.mem ((c.tc : Thread Cert.MixForwardRefIdeal.nD Cert.MixForwardRefIdeal.τ).loc Cert.MixForwardRefIdeal.main_arg8) = m' ((c.tc : Thread Cert.MixForwardRefIdeal.nD Cert.MixForwardRefIdeal.τ).loc Cert.MixForwardRefIdeal.main_arg8)
          ∧ r.2.mem ((c.tc : Thread Cert.MixForwardRefIdeal.nD Cert.MixForwardRefIdeal.τ).loc Cert.MixForwardRefIdeal.main_arg9) = m' ((c.tc : Thread Cert.MixForwardRefIdeal.nD Cert.MixForwardRefIdeal.τ).loc Cert.MixForwardRefIdeal.main_arg9)
          ∧ r.2.mem ((c.tc : Thread Cert.MixForwardRefIdeal.nD Cert.MixForwardRefIdeal.τ).loc Cert.MixForwardRefIdeal.main_arg10) = m' ((c.tc : Thread Cert.MixForwardRefIdeal.nD Cert.MixForwardRefIdeal.τ).loc Cert.MixForwardRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_v23) = v1 c
          ∧ r.2.mem ((c.tc : Thread Cert.FfnRefIdeal.nD Cert.FfnRefIdeal.τ).loc Cert.FfnRefIdeal.main_v19) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Shard_ShardIdeal : Prop :=
  True

def algebraic_ShardIdeal_ShardRefIdeal [hShardIdeal : Cert.ShardIdeal.Facts] [hShardRefIdeal : Cert.ShardRefIdeal.Facts] : Prop :=
  ∀ (m : (ℓ : Loc Cert.ShardIdeal.nD Cert.ShardIdeal.τ Cert.ShardIdeal.sig) → Buf (Elt Ideal) ℓ) (g : Dev Cert.ShardIdeal.nD → PrngReg)
    (m' : (ℓ : Loc Cert.ShardRefIdeal.nD Cert.ShardRefIdeal.τ Cert.ShardRefIdeal.sig) → Buf (Elt Ideal) ℓ) (g' : Dev Cert.ShardRefIdeal.nD → PrngReg), Pre_ShardIdeal m →
    (∀ c : Dev Cert.ShardIdeal.nD,
      m' ((c.tc : Thread Cert.ShardRefIdeal.nD Cert.ShardRefIdeal.τ).loc Cert.ShardRefIdeal.main_arg0) = m ((c.tc : Thread Cert.ShardIdeal.nD Cert.ShardIdeal.τ).loc Cert.ShardIdeal.main_arg0)
      ∧ m' ((c.tc : Thread Cert.ShardRefIdeal.nD Cert.ShardRefIdeal.τ).loc Cert.ShardRefIdeal.main_arg1) = m ((c.tc : Thread Cert.ShardIdeal.nD Cert.ShardIdeal.τ).loc Cert.ShardIdeal.main_arg1)
      ∧ m' ((c.tc : Thread Cert.ShardRefIdeal.nD Cert.ShardRefIdeal.τ).loc Cert.ShardRefIdeal.main_arg2) = m ((c.tc : Thread Cert.ShardIdeal.nD Cert.ShardIdeal.τ).loc Cert.ShardIdeal.main_arg2)
      ∧ m' ((c.tc : Thread Cert.ShardRefIdeal.nD Cert.ShardRefIdeal.τ).loc Cert.ShardRefIdeal.main_arg3) = m ((c.tc : Thread Cert.ShardIdeal.nD Cert.ShardIdeal.τ).loc Cert.ShardIdeal.main_arg3)
      ∧ m' ((c.tc : Thread Cert.ShardRefIdeal.nD Cert.ShardRefIdeal.τ).loc Cert.ShardRefIdeal.main_arg4) = m ((c.tc : Thread Cert.ShardIdeal.nD Cert.ShardIdeal.τ).loc Cert.ShardIdeal.main_arg4)) →
    ∃ (v0 : (c : Dev Cert.ShardIdeal.nD) → Buf (Elt Ideal) ((c.tc : Thread Cert.ShardIdeal.nD Cert.ShardIdeal.τ).loc Cert.ShardIdeal.main_v3_0)) (v1 : (c : Dev Cert.ShardIdeal.nD) → Buf (Elt Ideal) ((c.tc : Thread Cert.ShardIdeal.nD Cert.ShardIdeal.τ).loc Cert.ShardIdeal.main_v3_1)) (v2 : (c : Dev Cert.ShardIdeal.nD) → Buf (Elt Ideal) ((c.tc : Thread Cert.ShardIdeal.nD Cert.ShardIdeal.τ).loc Cert.ShardIdeal.main_v3_2)) (v3 : (c : Dev Cert.ShardIdeal.nD) → Buf (Elt Ideal) ((c.tc : Thread Cert.ShardIdeal.nD Cert.ShardIdeal.τ).loc Cert.ShardIdeal.main_v3_3)),
      θ_run (Cert.ShardIdeal.defs (F := Ideal)) (onTc (τ := Cert.ShardIdeal.τ) (Cert.ShardIdeal.main (F := Ideal))) ⟨m, fun _ => 0, g⟩ (fun r => ∀ c : Dev Cert.ShardIdeal.nD,
          r.2.mem ((c.tc : Thread Cert.ShardIdeal.nD Cert.ShardIdeal.τ).loc Cert.ShardIdeal.main_v3_0) = v0 c
          ∧ r.2.mem ((c.tc : Thread Cert.ShardIdeal.nD Cert.ShardIdeal.τ).loc Cert.ShardIdeal.main_v3_1) = v1 c
          ∧ r.2.mem ((c.tc : Thread Cert.ShardIdeal.nD Cert.ShardIdeal.τ).loc Cert.ShardIdeal.main_v3_2) = v2 c
          ∧ r.2.mem ((c.tc : Thread Cert.ShardIdeal.nD Cert.ShardIdeal.τ).loc Cert.ShardIdeal.main_v3_3) = v3 c
          ∧ r.2.mem ((c.tc : Thread Cert.ShardIdeal.nD Cert.ShardIdeal.τ).loc Cert.ShardIdeal.main_arg0) = m ((c.tc : Thread Cert.ShardIdeal.nD Cert.ShardIdeal.τ).loc Cert.ShardIdeal.main_arg0)
          ∧ r.2.mem ((c.tc : Thread Cert.ShardIdeal.nD Cert.ShardIdeal.τ).loc Cert.ShardIdeal.main_arg1) = m ((c.tc : Thread Cert.ShardIdeal.nD Cert.ShardIdeal.τ).loc Cert.ShardIdeal.main_arg1)
          ∧ r.2.mem ((c.tc : Thread Cert.ShardIdeal.nD Cert.ShardIdeal.τ).loc Cert.ShardIdeal.main_arg2) = m ((c.tc : Thread Cert.ShardIdeal.nD Cert.ShardIdeal.τ).loc Cert.ShardIdeal.main_arg2)
          ∧ r.2.mem ((c.tc : Thread Cert.ShardIdeal.nD Cert.ShardIdeal.τ).loc Cert.ShardIdeal.main_arg3) = m ((c.tc : Thread Cert.ShardIdeal.nD Cert.ShardIdeal.τ).loc Cert.ShardIdeal.main_arg3)
          ∧ r.2.mem ((c.tc : Thread Cert.ShardIdeal.nD Cert.ShardIdeal.τ).loc Cert.ShardIdeal.main_arg4) = m ((c.tc : Thread Cert.ShardIdeal.nD Cert.ShardIdeal.τ).loc Cert.ShardIdeal.main_arg4))
      ∧ θ_run (Cert.ShardRefIdeal.defs (F := Ideal)) (onTc (τ := Cert.ShardRefIdeal.τ) (Cert.ShardRefIdeal.main (F := Ideal))) ⟨m', fun _ => 0, g'⟩ (fun r => ∀ c : Dev Cert.ShardRefIdeal.nD,
          r.2.mem ((c.tc : Thread Cert.ShardRefIdeal.nD Cert.ShardRefIdeal.τ).loc Cert.ShardRefIdeal.main_v28) = v0 c
          ∧ r.2.mem ((c.tc : Thread Cert.ShardRefIdeal.nD Cert.ShardRefIdeal.τ).loc Cert.ShardRefIdeal.main_v29) = v1 c
          ∧ r.2.mem ((c.tc : Thread Cert.ShardRefIdeal.nD Cert.ShardRefIdeal.τ).loc Cert.ShardRefIdeal.main_v30) = v2 c
          ∧ r.2.mem ((c.tc : Thread Cert.ShardRefIdeal.nD Cert.ShardRefIdeal.τ).loc Cert.ShardRefIdeal.main_v31) = v3 c
          ∧ r.2.mem ((c.tc : Thread Cert.ShardRefIdeal.nD Cert.ShardRefIdeal.τ).loc Cert.ShardRefIdeal.main_arg0) = m' ((c.tc : Thread Cert.ShardRefIdeal.nD Cert.ShardRefIdeal.τ).loc Cert.ShardRefIdeal.main_arg0)
          ∧ r.2.mem ((c.tc : Thread Cert.ShardRefIdeal.nD Cert.ShardRefIdeal.τ).loc Cert.ShardRefIdeal.main_arg1) = m' ((c.tc : Thread Cert.ShardRefIdeal.nD Cert.ShardRefIdeal.τ).loc Cert.ShardRefIdeal.main_arg1)
          ∧ r.2.mem ((c.tc : Thread Cert.ShardRefIdeal.nD Cert.ShardRefIdeal.τ).loc Cert.ShardRefIdeal.main_arg2) = m' ((c.tc : Thread Cert.ShardRefIdeal.nD Cert.ShardRefIdeal.τ).loc Cert.ShardRefIdeal.main_arg2)
          ∧ r.2.mem ((c.tc : Thread Cert.ShardRefIdeal.nD Cert.ShardRefIdeal.τ).loc Cert.ShardRefIdeal.main_arg3) = m' ((c.tc : Thread Cert.ShardRefIdeal.nD Cert.ShardRefIdeal.τ).loc Cert.ShardRefIdeal.main_arg3)
          ∧ r.2.mem ((c.tc : Thread Cert.ShardRefIdeal.nD Cert.ShardRefIdeal.τ).loc Cert.ShardRefIdeal.main_arg4) = m' ((c.tc : Thread Cert.ShardRefIdeal.nD Cert.ShardRefIdeal.τ).loc Cert.ShardRefIdeal.main_arg4))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v4)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v4) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v4) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_WeightIn_WeightInIdeal : Prop :=
  True

def algebraic_WeightInIdeal_WeightInRefIdeal [hWeightInIdeal : Cert.WeightInIdeal.Facts] [hWeightInRefIdeal : Cert.WeightInRefIdeal.Facts] : Prop :=
  ∀ (m : (ℓ : Loc Cert.WeightInIdeal.nD Cert.WeightInIdeal.τ Cert.WeightInIdeal.sig) → Buf (Elt Ideal) ℓ) (g : Dev Cert.WeightInIdeal.nD → PrngReg)
    (m' : (ℓ : Loc Cert.WeightInRefIdeal.nD Cert.WeightInRefIdeal.τ Cert.WeightInRefIdeal.sig) → Buf (Elt Ideal) ℓ) (g' : Dev Cert.WeightInRefIdeal.nD → PrngReg), Pre_WeightInIdeal m →
    (∀ c : Dev Cert.WeightInIdeal.nD,
      m' ((c.tc : Thread Cert.WeightInRefIdeal.nD Cert.WeightInRefIdeal.τ).loc Cert.WeightInRefIdeal.main_arg0) = m ((c.tc : Thread Cert.WeightInIdeal.nD Cert.WeightInIdeal.τ).loc Cert.WeightInIdeal.main_arg0)
      ∧ m' ((c.tc : Thread Cert.WeightInRefIdeal.nD Cert.WeightInRefIdeal.τ).loc Cert.WeightInRefIdeal.main_arg1) = m ((c.tc : Thread Cert.WeightInIdeal.nD Cert.WeightInIdeal.τ).loc Cert.WeightInIdeal.main_arg1)) →
    ∃ (v0 : (c : Dev Cert.WeightInIdeal.nD) → Buf (Elt Ideal) ((c.tc : Thread Cert.WeightInIdeal.nD Cert.WeightInIdeal.τ).loc Cert.WeightInIdeal.main_v2)),
      θ_run (Cert.WeightInIdeal.defs (F := Ideal)) (onTc (τ := Cert.WeightInIdeal.τ) (Cert.WeightInIdeal.main (F := Ideal))) ⟨m, fun _ => 0, g⟩ (fun r => ∀ c : Dev Cert.WeightInIdeal.nD,
          r.2.mem ((c.tc : Thread Cert.WeightInIdeal.nD Cert.WeightInIdeal.τ).loc Cert.WeightInIdeal.main_v2) = v0 c
          ∧ r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
          ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ θ_run (Cert.WeightInRefIdeal.defs (F := Ideal)) (onTc (τ := Cert.WeightInRefIdeal.τ) (Cert.WeightInRefIdeal.main (F := Ideal))) ⟨m', fun _ => 0, g'⟩ (fun r => ∀ c : Dev Cert.WeightInRefIdeal.nD,
          r.2.mem ((c.tc : Thread Cert.WeightInRefIdeal.nD Cert.WeightInRefIdeal.τ).loc Cert.WeightInRefIdeal.main_v4) = v0 c
          ∧ r.2.mem ((c.tc : Thread Cert.WeightInRefIdeal.nD Cert.WeightInRefIdeal.τ).loc Cert.WeightInRefIdeal.main_arg0) = m' ((c.tc : Thread Cert.WeightInRefIdeal.nD Cert.WeightInRefIdeal.τ).loc Cert.WeightInRefIdeal.main_arg0)
          ∧ r.2.mem ((c.tc : Thread Cert.WeightInRefIdeal.nD Cert.WeightInRefIdeal.τ).loc Cert.WeightInRefIdeal.main_arg1) = m' ((c.tc : Thread Cert.WeightInRefIdeal.nD Cert.WeightInRefIdeal.τ).loc Cert.WeightInRefIdeal.main_arg1))

def preserves_One_OneIdeal : Prop :=
  True

def algebraic_OneIdeal_OneRefIdeal [hOneIdeal : Cert.OneIdeal.Facts] [hOneRefIdeal : Cert.OneRefIdeal.Facts] : Prop :=
  ∀ (m : (ℓ : Loc Cert.OneIdeal.nD Cert.OneIdeal.τ Cert.OneIdeal.sig) → Buf (Elt Ideal) ℓ) (g : Dev Cert.OneIdeal.nD → PrngReg)
    (m' : (ℓ : Loc Cert.OneRefIdeal.nD Cert.OneRefIdeal.τ Cert.OneRefIdeal.sig) → Buf (Elt Ideal) ℓ) (g' : Dev Cert.OneRefIdeal.nD → PrngReg), Pre_OneIdeal m →
    (∀ c : Dev Cert.OneIdeal.nD,
      m' ((c.tc : Thread Cert.OneRefIdeal.nD Cert.OneRefIdeal.τ).loc Cert.OneRefIdeal.main_arg0) = m ((c.tc : Thread Cert.OneIdeal.nD Cert.OneIdeal.τ).loc Cert.OneIdeal.main_arg0)
      ∧ m' ((c.tc : Thread Cert.OneRefIdeal.nD Cert.OneRefIdeal.τ).loc Cert.OneRefIdeal.main_arg1) = m ((c.tc : Thread Cert.OneIdeal.nD Cert.OneIdeal.τ).loc Cert.OneIdeal.main_arg1)
      ∧ m' ((c.tc : Thread Cert.OneRefIdeal.nD Cert.OneRefIdeal.τ).loc Cert.OneRefIdeal.main_arg2) = m ((c.tc : Thread Cert.OneIdeal.nD Cert.OneIdeal.τ).loc Cert.OneIdeal.main_arg2)
      ∧ m' ((c.tc : Thread Cert.OneRefIdeal.nD Cert.OneRefIdeal.τ).loc Cert.OneRefIdeal.main_arg3) = m ((c.tc : Thread Cert.OneIdeal.nD Cert.OneIdeal.τ).loc Cert.OneIdeal.main_arg3)) →
    ∃ (v0 : (c : Dev Cert.OneIdeal.nD) → Buf (Elt Ideal) ((c.tc : Thread Cert.OneIdeal.nD Cert.OneIdeal.τ).loc Cert.OneIdeal.main_v0_0)) (v1 : (c : Dev Cert.OneIdeal.nD) → Buf (Elt Ideal) ((c.tc : Thread Cert.OneIdeal.nD Cert.OneIdeal.τ).loc Cert.OneIdeal.main_v0_1)) (v2 : (c : Dev Cert.OneIdeal.nD) → Buf (Elt Ideal) ((c.tc : Thread Cert.OneIdeal.nD Cert.OneIdeal.τ).loc Cert.OneIdeal.main_v0_2)),
      θ_run (Cert.OneIdeal.defs (F := Ideal)) (onTc (τ := Cert.OneIdeal.τ) (Cert.OneIdeal.main (F := Ideal))) ⟨m, fun _ => 0, g⟩ (fun r => ∀ c : Dev Cert.OneIdeal.nD,
          r.2.mem ((c.tc : Thread Cert.OneIdeal.nD Cert.OneIdeal.τ).loc Cert.OneIdeal.main_v0_0) = v0 c
          ∧ r.2.mem ((c.tc : Thread Cert.OneIdeal.nD Cert.OneIdeal.τ).loc Cert.OneIdeal.main_v0_1) = v1 c
          ∧ r.2.mem ((c.tc : Thread Cert.OneIdeal.nD Cert.OneIdeal.τ).loc Cert.OneIdeal.main_v0_2) = v2 c
          ∧ r.2.mem ((c.tc : Thread Cert.OneIdeal.nD Cert.OneIdeal.τ).loc Cert.OneIdeal.main_arg0) = m ((c.tc : Thread Cert.OneIdeal.nD Cert.OneIdeal.τ).loc Cert.OneIdeal.main_arg0)
          ∧ r.2.mem ((c.tc : Thread Cert.OneIdeal.nD Cert.OneIdeal.τ).loc Cert.OneIdeal.main_arg1) = m ((c.tc : Thread Cert.OneIdeal.nD Cert.OneIdeal.τ).loc Cert.OneIdeal.main_arg1)
          ∧ r.2.mem ((c.tc : Thread Cert.OneIdeal.nD Cert.OneIdeal.τ).loc Cert.OneIdeal.main_arg2) = m ((c.tc : Thread Cert.OneIdeal.nD Cert.OneIdeal.τ).loc Cert.OneIdeal.main_arg2)
          ∧ r.2.mem ((c.tc : Thread Cert.OneIdeal.nD Cert.OneIdeal.τ).loc Cert.OneIdeal.main_arg3) = m ((c.tc : Thread Cert.OneIdeal.nD Cert.OneIdeal.τ).loc Cert.OneIdeal.main_arg3))
      ∧ θ_run (Cert.OneRefIdeal.defs (F := Ideal)) (onTc (τ := Cert.OneRefIdeal.τ) (Cert.OneRefIdeal.main (F := Ideal))) ⟨m', fun _ => 0, g'⟩ (fun r => ∀ c : Dev Cert.OneRefIdeal.nD,
          r.2.mem ((c.tc : Thread Cert.OneRefIdeal.nD Cert.OneRefIdeal.τ).loc Cert.OneRefIdeal.main_v23) = v0 c
          ∧ r.2.mem ((c.tc : Thread Cert.OneRefIdeal.nD Cert.OneRefIdeal.τ).loc Cert.OneRefIdeal.main_v4) = v1 c
          ∧ r.2.mem ((c.tc : Thread Cert.OneRefIdeal.nD Cert.OneRefIdeal.τ).loc Cert.OneRefIdeal.main_v10) = v2 c
          ∧ r.2.mem ((c.tc : Thread Cert.OneRefIdeal.nD Cert.OneRefIdeal.τ).loc Cert.OneRefIdeal.main_arg0) = m' ((c.tc : Thread Cert.OneRefIdeal.nD Cert.OneRefIdeal.τ).loc Cert.OneRefIdeal.main_arg0)
          ∧ r.2.mem ((c.tc : Thread Cert.OneRefIdeal.nD Cert.OneRefIdeal.τ).loc Cert.OneRefIdeal.main_arg1) = m' ((c.tc : Thread Cert.OneRefIdeal.nD Cert.OneRefIdeal.τ).loc Cert.OneRefIdeal.main_arg1)
          ∧ r.2.mem ((c.tc : Thread Cert.OneRefIdeal.nD Cert.OneRefIdeal.τ).loc Cert.OneRefIdeal.main_arg2) = m' ((c.tc : Thread Cert.OneRefIdeal.nD Cert.OneRefIdeal.τ).loc Cert.OneRefIdeal.main_arg2)
          ∧ r.2.mem ((c.tc : Thread Cert.OneRefIdeal.nD Cert.OneRefIdeal.τ).loc Cert.OneRefIdeal.main_arg3) = m' ((c.tc : Thread Cert.OneRefIdeal.nD Cert.OneRefIdeal.τ).loc Cert.OneRefIdeal.main_arg3))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.blockN ⟨3, ![8, 704, 1024]⟩ ⟨3, ![16, 704, 1024]⟩ (Layout.meshBlock [1, 1, 2] ![[2], [], []] c) (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v5)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.blockN ⟨3, ![4, 704, 1024]⟩ ⟨3, ![8, 704, 1024]⟩ (Layout.meshBlock [1, 1, 2] ![[2], [], []] c) v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v5) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.blockN ⟨3, ![8, 704, 1024]⟩ ⟨3, ![16, 704, 1024]⟩ (Layout.meshBlock [1, 1, 2] ![[2], [], []] c) (m' (((0 : Dev Cert.ExchangeRef.nD).tc : Thread Cert.ExchangeRef.nD Cert.ExchangeRef.τ).loc Cert.ExchangeRef.main_arg0))) →
    ∃ (v0 : Buf (Elt Bits) (((0 : Dev Cert.ExchangeRef.nD).tc : Thread Cert.ExchangeRef.nD Cert.ExchangeRef.τ).loc Cert.ExchangeRef.main_v5)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1) = Layout.blockN ⟨3, ![4, 704, 1024]⟩ ⟨3, ![8, 704, 1024]⟩ (Layout.meshBlock [1, 1, 2] ![[2], [], []] c) v0
          ∧ r.2.mem ((c.tc : Thread Cert.Exchange.nD Cert.Exchange.τ).loc Cert.Exchange.main_arg0) = m ((c.tc : Thread Cert.Exchange.nD Cert.Exchange.τ).loc Cert.Exchange.main_arg0))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v5) = v0
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0))

def Claim : Prop :=
  ∃ (hFinal : Cert.Final.Facts) (hFinalIdeal : Cert.FinalIdeal.Facts) (hFinalRefIdeal : Cert.FinalRefIdeal.Facts) (hBias : Cert.Bias.Facts) (hBiasIdeal : Cert.BiasIdeal.Facts) (hBiasRefIdeal : Cert.BiasRefIdeal.Facts) (hKv : Cert.Kv.Facts) (hKvIdeal : Cert.KvIdeal.Facts) (hKvRefIdeal : Cert.KvRefIdeal.Facts) (hSwiglu : Cert.Swiglu.Facts) (hSwigluIdeal : Cert.SwigluIdeal.Facts) (hSwigluRefIdeal : Cert.SwigluRefIdeal.Facts) (hAttn : Cert.Attn.Facts) (hAttnIdeal : Cert.AttnIdeal.Facts) (hAttnRefIdeal : Cert.AttnRefIdeal.Facts) (hAttend : Cert.Attend.Facts) (hAttendIdeal : Cert.AttendIdeal.Facts) (hAttendRefIdeal : Cert.AttendRefIdeal.Facts) (hMemory : Cert.Memory.Facts) (hMemoryIdeal : Cert.MemoryIdeal.Facts) (hMemoryRefIdeal : Cert.MemoryRefIdeal.Facts) (hProject : Cert.Project.Facts) (hProjectIdeal : Cert.ProjectIdeal.Facts) (hProjectRefIdeal : Cert.ProjectRefIdeal.Facts) (hMixForward : Cert.MixForward.Facts) (hMixForwardIdeal : Cert.MixForwardIdeal.Facts) (hMixForwardRefIdeal : Cert.MixForwardRefIdeal.Facts) (hFfn : Cert.Ffn.Facts) (hFfnIdeal : Cert.FfnIdeal.Facts) (hFfnRefIdeal : Cert.FfnRefIdeal.Facts) (hShard : Cert.Shard.Facts) (hShardIdeal : Cert.ShardIdeal.Facts) (hShardRefIdeal : Cert.ShardRefIdeal.Facts) (hWeight : Cert.Weight.Facts) (hWeightIdeal : Cert.WeightIdeal.Facts) (hWeightRefIdeal : Cert.WeightRefIdeal.Facts) (hWeightIn : Cert.WeightIn.Facts) (hWeightInIdeal : Cert.WeightInIdeal.Facts) (hWeightInRefIdeal : Cert.WeightInRefIdeal.Facts) (hOne : Cert.One.Facts) (hOneIdeal : Cert.OneIdeal.Facts) (hOneRefIdeal : Cert.OneRefIdeal.Facts) (hExchange : Cert.Exchange.Facts) (hExchangeIdeal : Cert.ExchangeIdeal.Facts) (hExchangeRefIdeal : Cert.ExchangeRefIdeal.Facts) (hExchangeRef : Cert.ExchangeRef.Facts) (hPre_finite_final : Cert.Pre_finite_final.Facts) (hPre_finite_swiglu : Cert.Pre_finite_swiglu.Facts) (hPre_finite_attn : Cert.Pre_finite_attn.Facts) (hPre_finite_attend : Cert.Pre_finite_attend.Facts),
    quiescent_Final (hFinal := hFinal)
    ∧ quiescent_FinalIdeal (hFinalIdeal := hFinalIdeal)
    ∧ quiescent_FinalIdeal_pre_finite_final (hFinalIdeal := hFinalIdeal) (hPre_finite_final := hPre_finite_final)
    ∧ quiescent_FinalRefIdeal (hFinalRefIdeal := hFinalRefIdeal)
    ∧ quiescent_FinalRefIdeal_pre_finite_final (hFinalRefIdeal := hFinalRefIdeal) (hPre_finite_final := hPre_finite_final)
    ∧ quiescent_Bias (hBias := hBias)
    ∧ quiescent_BiasIdeal (hBiasIdeal := hBiasIdeal)
    ∧ quiescent_BiasRefIdeal (hBiasRefIdeal := hBiasRefIdeal)
    ∧ quiescent_Kv (hKv := hKv)
    ∧ quiescent_KvIdeal (hKvIdeal := hKvIdeal)
    ∧ quiescent_KvRefIdeal (hKvRefIdeal := hKvRefIdeal)
    ∧ quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Attend (hAttend := hAttend)
    ∧ quiescent_AttendIdeal (hAttendIdeal := hAttendIdeal)
    ∧ quiescent_AttendIdeal_pre_finite_attend (hAttendIdeal := hAttendIdeal) (hPre_finite_attend := hPre_finite_attend)
    ∧ quiescent_AttendRefIdeal (hAttendRefIdeal := hAttendRefIdeal)
    ∧ quiescent_AttendRefIdeal_pre_finite_attend (hAttendRefIdeal := hAttendRefIdeal) (hPre_finite_attend := hPre_finite_attend)
    ∧ quiescent_Memory (hMemory := hMemory)
    ∧ quiescent_MemoryIdeal (hMemoryIdeal := hMemoryIdeal)
    ∧ quiescent_MemoryRefIdeal (hMemoryRefIdeal := hMemoryRefIdeal)
    ∧ quiescent_Project (hProject := hProject)
    ∧ quiescent_ProjectIdeal (hProjectIdeal := hProjectIdeal)
    ∧ quiescent_ProjectRefIdeal (hProjectRefIdeal := hProjectRefIdeal)
    ∧ quiescent_MixForward (hMixForward := hMixForward)
    ∧ quiescent_MixForwardIdeal (hMixForwardIdeal := hMixForwardIdeal)
    ∧ quiescent_MixForwardRefIdeal (hMixForwardRefIdeal := hMixForwardRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Shard (hShard := hShard)
    ∧ quiescent_ShardIdeal (hShardIdeal := hShardIdeal)
    ∧ quiescent_ShardRefIdeal (hShardRefIdeal := hShardRefIdeal)
    ∧ quiescent_Weight (hWeight := hWeight)
    ∧ quiescent_WeightIdeal (hWeightIdeal := hWeightIdeal)
    ∧ quiescent_WeightRefIdeal (hWeightRefIdeal := hWeightRefIdeal)
    ∧ quiescent_WeightIn (hWeightIn := hWeightIn)
    ∧ quiescent_WeightInIdeal (hWeightInIdeal := hWeightInIdeal)
    ∧ quiescent_WeightInRefIdeal (hWeightInRefIdeal := hWeightInRefIdeal)
    ∧ quiescent_One (hOne := hOne)
    ∧ quiescent_OneIdeal (hOneIdeal := hOneIdeal)
    ∧ quiescent_OneRefIdeal (hOneRefIdeal := hOneRefIdeal)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ preserves_Final_FinalIdeal
    ∧ algebraic_FinalIdeal_FinalRefIdeal_pre_finite_final (hFinalIdeal := hFinalIdeal) (hFinalRefIdeal := hFinalRefIdeal) (hPre_finite_final := hPre_finite_final)
    ∧ preserves_Bias_BiasIdeal
    ∧ algebraic_BiasIdeal_BiasRefIdeal (hBiasIdeal := hBiasIdeal) (hBiasRefIdeal := hBiasRefIdeal)
    ∧ preserves_Kv_KvIdeal
    ∧ algebraic_KvIdeal_KvRefIdeal (hKvIdeal := hKvIdeal) (hKvRefIdeal := hKvRefIdeal)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Attend_AttendIdeal
    ∧ algebraic_AttendIdeal_AttendRefIdeal_pre_finite_attend (hAttendIdeal := hAttendIdeal) (hAttendRefIdeal := hAttendRefIdeal) (hPre_finite_attend := hPre_finite_attend)
    ∧ preserves_Memory_MemoryIdeal
    ∧ algebraic_MemoryIdeal_MemoryRefIdeal (hMemoryIdeal := hMemoryIdeal) (hMemoryRefIdeal := hMemoryRefIdeal)
    ∧ preserves_Project_ProjectIdeal
    ∧ algebraic_ProjectIdeal_ProjectRefIdeal (hProjectIdeal := hProjectIdeal) (hProjectRefIdeal := hProjectRefIdeal)
    ∧ preserves_MixForward_MixForwardIdeal
    ∧ algebraic_MixForwardIdeal_MixForwardRefIdeal (hMixForwardIdeal := hMixForwardIdeal) (hMixForwardRefIdeal := hMixForwardRefIdeal)
    ∧ preserves_Ffn_FfnIdeal
    ∧ algebraic_FfnIdeal_FfnRefIdeal (hFfnIdeal := hFfnIdeal) (hFfnRefIdeal := hFfnRefIdeal)
    ∧ preserves_Shard_ShardIdeal
    ∧ algebraic_ShardIdeal_ShardRefIdeal (hShardIdeal := hShardIdeal) (hShardRefIdeal := hShardRefIdeal)
    ∧ preserves_Weight_WeightIdeal
    ∧ algebraic_WeightIdeal_WeightRefIdeal (hWeightIdeal := hWeightIdeal) (hWeightRefIdeal := hWeightRefIdeal)
    ∧ preserves_WeightIn_WeightInIdeal
    ∧ algebraic_WeightInIdeal_WeightInRefIdeal (hWeightInIdeal := hWeightInIdeal) (hWeightInRefIdeal := hWeightInRefIdeal)
    ∧ preserves_One_OneIdeal
    ∧ algebraic_OneIdeal_OneRefIdeal (hOneIdeal := hOneIdeal) (hOneRefIdeal := hOneRefIdeal)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
-- ==== Pre_finite_attend.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  bcast_S_S256x1024 : S_.BroadcastsInDim S256x1024 (![] : Fin 0 → Fin S256x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x2048 : S_.BroadcastsInDim S1024x2048 (![] : Fin 0 → Fin S1024x2048.rank)

variable [Facts]

def fn_part1 {F : FTy → Type} [FloatOps F] (main_arg6 : FVec F S1024x1024 .f32) (main_v2 : IVec S4096x1024 1) (main_v5 : IVec S256x1024 1) (main_v8 : IVec S1024 1) (main_v11 : IVec S1024 1) (main_v14 : IVec S1024x1024 1) (main_v17 : IVec S1024x2048 1) : IVec S4096x1024 1 × IVec S256x1024 1 × IVec S1024 1 × IVec S1024 1 × IVec S1024x1024 1 × IVec S1024x2048 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S256x1024 .f32) (main_arg2 : FVec F S1024 .f32) (main_arg3 : FVec F S1024 .f32) (main_arg4 : FVec F S1024x1024 .f32) (main_arg5 : FVec F S1024x2048 .f32) (main_arg6 : FVec F S1024x1024 .f32) : IVec S4096x1024 1 × IVec S256x1024 1 × IVec S1024 1 × IVec S1024 1 × IVec S1024x1024 1 × IVec S1024x2048 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x2048 .f32 := Host.absf main_arg5
  let main_cst_4 : FVec F S_ .f32 := constant S_ .f32 0x7F800000#32
  let main_v16 : FVec F S1024x2048 .f32 := broadcastInDim S1024x2048 ![] bcast_S_S1024x2048 main_cst_4
  let main_v17 : IVec S1024x2048 1 := cmpf .olt main_v15 main_v16
  fn_part1 (F := F) main_arg6 main_v2 main_v5 main_v8 main_v11 main_v14 main_v17
-- ==== Pre_finite_attn.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  bcast_S_S256x1024 : S_.BroadcastsInDim S256x1024 (![] : Fin 0 → Fin S256x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x2048 : S_.BroadcastsInDim S1024x2048 (![] : Fin 0 → Fin S1024x2048.rank)

variable [Facts]

def fn_part1 {F : FTy → Type} [FloatOps F] (main_arg6 : FVec F S1024x1024 .f32) (main_arg7 : FVec F S1024 .f32) (main_arg8 : FVec F S4096x1024 .f32) (main_arg9 : FVec F S4096x1024 .f32) (main_v2 : IVec S4096x1024 1) (main_v5 : IVec S256x1024 1) (main_v8 : IVec S1024 1) (main_v11 : IVec S1024 1) (main_v14 : IVec S1024x1024 1) (main_v17 : IVec S1024x2048 1) : IVec S4096x1024 1 × IVec S256x1024 1 × IVec S1024 1 × IVec S1024 1 × IVec S1024x1024 1 × IVec S1024x2048 1 × IVec S1024x1024 1 × IVec S1024 1 × IVec S4096x1024 1 × IVec S4096x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S256x1024 .f32) (main_arg2 : FVec F S1024 .f32) (main_arg3 : FVec F S1024 .f32) (main_arg4 : FVec F S1024x1024 .f32) (main_arg5 : FVec F S1024x2048 .f32) (main_arg6 : FVec F S1024x1024 .f32) (main_arg7 : FVec F S1024 .f32) (main_arg8 : FVec F S4096x1024 .f32) (main_arg9 : FVec F S4096x1024 .f32) : IVec S4096x1024 1 × IVec S256x1024 1 × IVec S1024 1 × IVec S1024 1 × IVec S1024x1024 1 × IVec S1024x2048 1 × IVec S1024x1024 1 × IVec S1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x2048 .f32 := Host.absf main_arg5
  let main_cst_4 : FVec F S_ .f32 := constant S_ .f32 0x7F800000#32
  let main_v16 : FVec F S1024x2048 .f32 := broadcastInDim S1024x2048 ![] bcast_S_S1024x2048 main_cst_4
  let main_v17 : IVec S1024x2048 1 := cmpf .olt main_v15 main_v16
  fn_part1 (F := F) main_arg6 main_arg7 main_arg8 main_arg9 main_v2 main_v5 main_v8 main_v11 main_v14 main_v17
-- ==== Pre_finite_final.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_swiglu.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S4096x1024 1 × IVec S1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Final.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S8x128, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S8x128, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinalRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S1x1024, .f32⟩
  | .hbm, ⟨73, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Bias.lean ====
abbrev S128x512 : Shape := ⟨2, ![128, 512]⟩
abbrev S4x128 : Shape := ⟨2, ![4, 128]⟩
abbrev S8x128 : Shape := ⟨2, ![8, 128]⟩
abbrev S128x128 : Shape := ⟨2, ![128, 128]⟩
abbrev S1x128 : Shape := ⟨2, ![1, 128]⟩

abbrev nBuf : Space → Nat
  | .hbm => 2
  | .vmem => 2
  | .smem => 0
  | _ => 0

abbrev bufTy : (tb : Table) → Fin (tcTables nBuf tb) → BufTy
  | .hbm, ⟨0, _⟩ => ⟨S128x512, .f32⟩
  | .hbm, ⟨1, _⟩ => ⟨S4x128, .f32⟩
  | .local _ .vmem, ⟨0, _⟩ => ⟨S128x512, .f32⟩
  | .local _ .vmem, ⟨1, _⟩ => ⟨S4x128, .f32⟩
  | _, _ => ⟨S128x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BiasRefIdeal.lean ====
abbrev S128x512 : Shape := ⟨2, ![128, 512]⟩
abbrev S_ : Shape := ⟨0, ![]⟩
abbrev S4x128 : Shape := ⟨2, ![4, 128]⟩
abbrev S128x4 : Shape := ⟨2, ![128, 4]⟩
abbrev S128x4x1 : Shape := ⟨3, ![128, 4, 1]⟩
abbrev S128x4x128 : Shape := ⟨3, ![128, 4, 128]⟩

abbrev nBuf : Space → Nat
  | .hbm => 13
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S_, .f32⟩
  | .hbm, ⟨2, _⟩ => ⟨S4x128, .f32⟩
  | .hbm, ⟨3, _⟩ => ⟨S128x4, .f32⟩
  | .hbm, ⟨4, _⟩ => ⟨S128x4x1, .f32⟩
  | .hbm, ⟨5, _⟩ => ⟨S128x4x128, .f32⟩
  | .hbm, ⟨6, _⟩ => ⟨S128x4x128, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4, .f32⟩
  | .hbm, ⟨12, _⟩ => ⟨S4x128, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kv.lean ====
abbrev S256x1024 : Shape := ⟨2, ![256, 1024]⟩
abbrev S1024 : Shape := ⟨1, ![1024]⟩
abbrev S1024x2048 : Shape := ⟨2, ![1024, 2048]⟩
abbrev S8x256x256 : Shape := ⟨3, ![8, 256, 256]⟩
abbrev S1024x8x256 : Shape := ⟨3, ![1024, 8, 256]⟩
abbrev S8x1024x256 : Shape := ⟨3, ![8, 1024, 256]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1x256x256 : Shape := ⟨3, ![1, 256, 256]⟩
abbrev S256x256 : Shape := ⟨2, ![256, 256]⟩
abbrev S1024x256 : Shape := ⟨2, ![1024, 256]⟩
abbrev S1x1024x256 : Shape := ⟨3, ![1, 1024, 256]⟩

abbrev nBuf : Space → Nat
  | .hbm => 27
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S8x256x256, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S1x1024, .f32⟩
  | .hbm, ⟨25, _⟩ => ⟨S8x1024x256, .f32⟩
  | .hbm, ⟨26, _⟩ => ⟨S1x1024, .f32⟩
  | .local _ .vmem, ⟨0, _⟩ => ⟨S8x256x256, .f32⟩
  | .local _ .vmem, ⟨1, _⟩ => ⟨S256x1024, .bf16⟩
  | .local _ .vmem, ⟨2, _⟩ => ⟨S256x1024, .f32⟩
  | .local _ .vmem, ⟨3, _⟩ => ⟨S1x1024, .f32⟩
  | .local _ .vmem, ⟨4, _⟩ => ⟨S8x1024x256, .bf16⟩
  | .local _ .vmem, ⟨5, _⟩ => ⟨S8x1024x256, .f32⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KvRefIdeal.lean ====
abbrev S256x1024 : Shape := ⟨2, ![256, 1024]⟩
abbrev S1024 : Shape := ⟨1, ![1024]⟩
abbrev S1024x2048 : Shape := ⟨2, ![1024, 2048]⟩
abbrev S8x256x256 : Shape := ⟨3, ![8, 256, 256]⟩
abbrev S256x8x256 : Shape := ⟨3, ![256, 8, 256]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 35
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S8x256x256, .f32⟩
  | .hbm, ⟨4, _⟩ => ⟨S256x8x256, .f32⟩
  | .hbm, ⟨5, _⟩ => ⟨S256x2048, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x2048, .f32⟩
  | .hbm, ⟨23, _⟩ => ⟨S2048x1024, .f32⟩
  | .hbm, ⟨24, _⟩ => ⟨S1024x2048, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1024, .f32⟩
  | .hbm, ⟨32, _⟩ => ⟨S1024x8x256, .f32⟩
  | .hbm, ⟨33, _⟩ => ⟨S8x1024x256, .f32⟩
  | .hbm, ⟨34, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Swiglu.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S2x1x1024x704 : Shape := ⟨4, ![2, 1, 1024, 704]⟩
abbrev S2x1x704x1024 : Shape := ⟨4, ![2, 1, 704, 1024]⟩
abbrev S704x1024 : Shape := ⟨2, ![704, 1024]⟩
abbrev S1x1024x704 : Shape := ⟨3, ![1, 1024, 704]⟩
abbrev S256x1024 : Shape := ⟨2, ![256, 1024]⟩
abbrev S256x704 : Shape := ⟨2, ![256, 704]⟩
abbrev S1x1x256x704 : Shape := ⟨4, ![1, 1, 256, 704]⟩
abbrev S1x256x704 : Shape := ⟨3, ![1, 256, 704]⟩
abbrev S1x1x704x1024 : Shape := ⟨4, ![1, 1, 704, 1024]⟩

abbrev nBuf : Space → Nat
  | .hbm => 35
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S5632x1024, .f32⟩
  | .hbm, ⟨6, _⟩ => ⟨S5632x1024, .bf16⟩
  | .hbm, ⟨7, _⟩ => ⟨S2x4x704x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1024x5632, .bf16⟩
  | .hbm, ⟨26, _⟩ => ⟨S4096x5632, .f32⟩
  | .hbm, ⟨27, _⟩ => ⟨S4096x5632, .bf16⟩
  | .hbm, ⟨28, _⟩ => ⟨S4096x2x4x704, .bf16⟩
  | .hbm, ⟨29, _⟩ => ⟨S2x4x4096x704, .bf16⟩
  | .hbm, ⟨30, _⟩ => ⟨S4096x1024, .bf16⟩
  | .hbm, ⟨31, _⟩ => ⟨S2816x1024, .bf16⟩
  | .hbm, ⟨32, _⟩ => ⟨S4x4096x704, .bf16⟩
  | .hbm, ⟨33, _⟩ => ⟨S2x4x4096x704, .bf16⟩
  | .hbm, ⟨34, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1x1024x704, .bf16⟩
  | .local _ .vmem, ⟨3, _⟩ => ⟨S2x1x1024x704, .bf16⟩
  | .local _ .vmem, ⟨4, _⟩ => ⟨S2x1x704x1024, .bf16⟩
  | .local _ .vmem, ⟨5, _⟩ => ⟨S2x1x704x1024, .bf16⟩
  | .local _ .vmem, ⟨6, _⟩ => ⟨S704x1024, .bf16⟩
  | .local _ .vmem, ⟨7, _⟩ => ⟨S704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S2x1x1024x704, .bf16⟩
  | .local _ .vmem, ⟨11, _⟩ => ⟨S2x1x1024x704, .bf16⟩
  | .local _ .vmem, ⟨12, _⟩ => ⟨S1024x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SwigluRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4096x8x704 : Shape := ⟨3, ![4096, 8, 704]⟩
abbrev S8x4096x704 : Shape := ⟨3, ![8, 4096, 704]⟩
abbrev S2x4x4096x704 : Shape := ⟨4, ![2, 4, 4096, 704]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x5632, .f32⟩
  | .hbm, ⟨47, _⟩ => ⟨S4096x1024, .f32⟩
  | .hbm, ⟨48, _⟩ => ⟨S4096x2816, .bf16⟩
  | .hbm, ⟨49, _⟩ => ⟨S4096x4x704, .bf16⟩
  | .hbm, ⟨50, _⟩ => ⟨S4x4096x704, .bf16⟩
  | .hbm, ⟨51, _⟩ => ⟨S4096x5632, .bf16⟩
  | .hbm, ⟨52, _⟩ => ⟨S4096x8x704, .bf16⟩
  | .hbm, ⟨53, _⟩ => ⟨S8x4096x704, .bf16⟩
  | .hbm, ⟨54, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== Attn.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S256x8x256 : Shape := ⟨3, ![256, 8, 256]⟩
abbrev S8x256x256 : Shape := ⟨3, ![8, 256, 256]⟩
abbrev S4096 : Shape := ⟨1, ![4096]⟩
abbrev S4096x1 : Shape := ⟨2, ![4096, 1]⟩
abbrev S4x256x256 : Shape := ⟨3, ![4, 256, 256]⟩
abbrev S4096x4x256 : Shape := ⟨3, ![4096, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 88
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x2048, .f32⟩
  | .hbm, ⟨27, _⟩ => ⟨S256x8x256, .f32⟩
  | .hbm, ⟨28, _⟩ => ⟨S8x256x256, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4x256x256, .f32⟩
  | .hbm, ⟨47, _⟩ => ⟨S4x256x256, .f32⟩
  | .hbm, ⟨48, _⟩ => ⟨S4096x4x256, .f32⟩
  | .hbm, ⟨49, _⟩ => ⟨S4x4096x256, .f32⟩
  | .hbm, ⟨50, _⟩ => ⟨S_, .f32⟩
  | .hbm, ⟨51, _⟩ => ⟨S4x4096x256, .f32⟩
  | .hbm, ⟨52, _⟩ => ⟨S4x4096x256, .f32⟩
  | .hbm, ⟨53, _⟩ => ⟨S_, .f32⟩
  | .hbm, ⟨54, _⟩ => ⟨S4x4096, .f32⟩
  | .hbm, ⟨55, _⟩ => ⟨S_, .f32⟩
  | .hbm, ⟨56, _⟩ => ⟨S4x4096, .f32⟩
  | .hbm, ⟨57, _⟩ => ⟨S4x4096, .f32⟩
  | .hbm, ⟨58, _⟩ => ⟨S4x4096x1, .f32⟩
  | .hbm, ⟨59, _⟩ => ⟨S4x4096x256, .f32⟩
  | .hbm, ⟨60, _⟩ => ⟨S4x4096x256, .f32⟩
  | .hbm, ⟨61, _⟩ => ⟨S4x4096x256, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x256, .f32⟩
  | .hbm, ⟨66, _⟩ => ⟨S4x4096x256, .f32⟩
  | .hbm, ⟨67, _⟩ => ⟨S4x256x4096, .f32⟩
  | .hbm, ⟨68, _⟩ => ⟨S4096x4x256, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x4x256, .f32⟩
  | .hbm, ⟨73, _⟩ => ⟨S4096x1024, .f32⟩
  | .hbm, ⟨74, _⟩ => ⟨S1x1024, .f32⟩
  | .hbm, ⟨75, _⟩ => ⟨S1x1024, .f32⟩
  | .hbm, ⟨76, _⟩ => ⟨S4096x1024, .bf16⟩
  | .hbm, ⟨77, _⟩ => ⟨S4096x1024, .bf16⟩
  | .hbm, ⟨78, _⟩ => ⟨S8x256x256, .bf16⟩
  | .hbm, ⟨79, _⟩ => ⟨S1024x1024, .bf16⟩
  | .hbm, ⟨80, _⟩ => ⟨S1024x1024, .bf16⟩
  | .hbm, ⟨81, _⟩ => ⟨S4096x1024, .bf16⟩
  | .hbm, ⟨82, _⟩ => ⟨S4096x1024, .bf16⟩
  | .hbm, ⟨83, _⟩ => ⟨S4096x1024, .f32⟩
  | .hbm, ⟨84, _⟩ => ⟨S4096x1024, .bf16⟩
  | .hbm, ⟨85, _⟩ => ⟨S8x256x256, .f32⟩
  | .hbm, ⟨86, _⟩ => ⟨S1x1024, .f32⟩
  | .hbm, ⟨87, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x256x256, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S8x256x256, .f32⟩
  | .local _ .vmem, ⟨26, _⟩ => ⟨S1x1024, .f32⟩
  | .local _ .vmem, ⟨27, _⟩ => ⟨S1x1024, .f32⟩
  | .local _ .vmem, ⟨28, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev main_v61_4 : Ref sig .tc := ⟨.hbm, 85, rfl⟩
abbrev main_v61_5 : Ref sig .tc := ⟨.hbm, 86, rfl⟩
abbrev main_v61_6 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== AttnRefIdeal.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S4096 : Shape := ⟨1, ![4096]⟩
abbrev S4096x1 : Shape := ⟨2, ![4096, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S256x8x256 : Shape := ⟨3, ![256, 8, 256]⟩
abbrev S8x256x256 : Shape := ⟨3, ![8, 256, 256]⟩

abbrev nBuf : Space → Nat
  | .hbm => 212
  | .vmem => 0
  | .smem => 0
  | _ => 0

abbrev hbmTy0_0 (i : Nat) : BufTy := match i % 128 with
  | 0 => ⟨S4096x1024, .f32⟩
  | 1 => ⟨S256x1024, .f32⟩
  | 2 => ⟨S1024, .f32⟩
  | 3 => ⟨S1024, .f32⟩
  | 4 => ⟨S1024x1024, .f32⟩
  | 5 => ⟨S1024x2048, .f32⟩
  | 6 => ⟨S1024x1024, .f32⟩
  | 7 => ⟨S1024, .f32⟩
  | 8 => ⟨S4096x1024, .f32⟩
  | 9 => ⟨S4096x1024, .f32⟩
  | 10 => ⟨S256x1024, .f32⟩
  | 11 => ⟨S_, .f32⟩
  | 12 => ⟨S256, .f32⟩
  | 13 => ⟨S256x1, .f32⟩
  | 14 => ⟨S_, .f32⟩
  | 15 => ⟨S256x1, .f32⟩
  | 16 => ⟨S256x1, .f32⟩
  | 17 => ⟨S_, .f32⟩
  | 18 => ⟨S256x1, .f32⟩
  | 19 => ⟨S256x1, .f32⟩
  | 20 => ⟨S256x1, .f32⟩
  | 21 => ⟨S256x1024, .f32⟩
  | 22 => ⟨S256x1024, .f32⟩
  | 23 => ⟨S1x1024, .f32⟩
  | 24 => ⟨S256x1024, .f32⟩
  | 25 => ⟨S256x1024, .f32⟩
  | 26 => ⟨S256x2048, .f32⟩
  | 27 => ⟨S256x1024, .f32⟩
  | 28 => ⟨S256x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S4096x1024, .f32⟩
  | 50 => ⟨S4096x4x256, .f32⟩
  | 51 => ⟨S256x4x256, .f32⟩
  | 52 => ⟨S256x4x256, .f32⟩
  | 53 => ⟨S4x4096x256, .f32⟩
  | 54 => ⟨S_, .f32⟩
  | 55 => ⟨S4x4096x256, .f32⟩
  | 56 => ⟨S4x4096x256, .f32⟩
  | 57 => ⟨S_, .f32⟩
  | 58 => ⟨S4x4096, .f32⟩
  | 59 => ⟨S4x4096x1, .f32⟩
  | 60 => ⟨S4x4096x256, .f32⟩
  | 61 => ⟨S4x4096x256, .i1⟩
  | 62 => ⟨S4x4096x256, .f32⟩
  | 63 => ⟨S_, .f32⟩
  | 64 => ⟨S4x4096, .f32⟩
  | 65 => ⟨S_, .f32⟩
  | 66 => ⟨S4x4096, .f32⟩
  | 67 => ⟨S4x4096, .f32⟩
  | 68 => ⟨S_, .f32⟩
  | 69 => ⟨S4x4096, .f32⟩
  | 70 => ⟨S4x4096, .i1⟩
  | 71 => ⟨S_, .f32⟩
  | 72 => ⟨S4x4096, .f32⟩
  | 73 => ⟨S4x4096, .i1⟩
  | 74 => ⟨S_, .f32⟩
  | 75 => ⟨S4x4096, .f32⟩
  | 76 => ⟨S_, .f32⟩
  | 77 => ⟨S4x4096, .f32⟩
  | 78 => ⟨S_, .f32⟩
  | 79 => ⟨S4x4096, .f32⟩
  | 80 => ⟨S4x4096, .f32⟩
  | 81 => ⟨S4x4096, .f32⟩
  | 82 => ⟨S4x4096x1, .f32⟩
  | 83 => ⟨S4x4096x256, .f32⟩
  | 84 => ⟨S4x4096x256, .f32⟩
  | 85 => ⟨S4x4096x256, .f32⟩
  | 86 => ⟨S_, .f32⟩
  | 87 => ⟨S4x4096, .f32⟩
  | 88 => ⟨S4x4096x1, .f32⟩
  | 89 => ⟨S4x4096x256, .f32⟩
  | 90 => ⟨S4x4096x256, .f32⟩
  | 91 => ⟨S4x4096x1, .f32⟩
  | 92 => ⟨S_, .f32⟩
  | 93 => ⟨S4x4096x1, .f32⟩
  | 94 => ⟨S4x4096x1, .f32⟩
  | 95 => ⟨S4x256x4096, .f32⟩
  | 96 => ⟨S4096x4x256, .f32⟩
  | 97 => ⟨S4096x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x1, .f32⟩
  | 111 => ⟨S4096x1, .f32⟩
  | 112 => ⟨S_, .f32⟩
  | 113 => ⟨S4096x1, .f32⟩
  | 114 => ⟨S4096x1, .f32⟩
  | 115 => ⟨S4096x1024, .f32⟩
  | 116 => ⟨S4096x1024, .f32⟩
  | 117 => ⟨S1x1024, .f32⟩
  | 118 => ⟨S4096x1024, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1024, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x4x256, .f32⟩
  | 21 => ⟨S4x256x4096, .f32⟩
  | 22 => ⟨S4x4096x256, .f32⟩
  | 23 => ⟨S4x256x256, .f32⟩
  | 24 => ⟨S256x4x256, .f32⟩
  | 25 => ⟨S4x4096x256, .f32⟩
  | 26 => ⟨S4x4096x256, .f32⟩
  | 27 => ⟨S4x4096x256, .f32⟩
  | 28 => ⟨S_, .f32⟩
  | 29 => ⟨S4x4096, .f32⟩
  | 30 => ⟨S4x4096x1, .f32⟩
  | 31 => ⟨S4x4096x1, .f32⟩
  | 32 => ⟨S4x4096x256, .f32⟩
  | 33 => ⟨S4x4096x256, .f32⟩
  | 34 => ⟨S_, .f32⟩
  | 35 => ⟨S4x4096, .f32⟩
  | 36 => ⟨S4x4096x256, .f32⟩
  | 37 => ⟨S4x4096x256, .f32⟩
  | 38 => ⟨S4x4096x256, .f32⟩
  | 39 => ⟨S_, .f32⟩
  | 40 => ⟨S4x4096x256, .f32⟩
  | 41 => ⟨S4x4096x256, .f32⟩
  | 42 => ⟨S4x256x256, .f32⟩
  | 43 => ⟨S256x4x256, .f32⟩
  | 44 => ⟨S4x4096x256, .f32⟩
  | 45 => ⟨S4096x4x256, .f32⟩
  | 46 => ⟨S256x1024, .f32⟩
  | 47 => ⟨S256x1024, .f32⟩
  | 48 => ⟨S4096x1024, .f32⟩
  | 49 => ⟨S4096x1024, .f32⟩
  | 50 => ⟨S4096x1024, .f32⟩
  | 51 => ⟨S_, .f32⟩
  | 52 => ⟨S1024, .f32⟩
  | 53 => ⟨S1x1024, .f32⟩
  | 54 => ⟨S4096x1024, .f32⟩
  | 55 => ⟨S4096x1024, .f32⟩
  | 56 => ⟨S_, .f32⟩
  | 57 => ⟨S1024, .f32⟩
  | 58 => ⟨S4096x1024, .f32⟩
  | 59 => ⟨S_, .f32⟩
  | 60 => ⟨S4096, .f32⟩
  | 61 => ⟨S4096x1, .f32⟩
  | 62 => ⟨S4096x1024, .f32⟩
  | 63 => ⟨S4096x1024, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S256x2048, .f32⟩
  | 77 => ⟨S256x8x256, .f32⟩
  | 78 => ⟨S8x256x256, .f32⟩
  | 79 => ⟨S4096x1024, .bf16⟩
  | 80 => ⟨S4096x1024, .bf16⟩
  | 81 => ⟨S4096x1024, .bf16⟩
  | 82 => ⟨S1x1024, .f32⟩
  | 83 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_17 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_21 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_22 : Ref sig .tc := ⟨.hbm, 126, rfl⟩
abbrev main_v93 : Ref sig .tc := ⟨.hbm, 127, rfl⟩
abbrev main_v94 : Ref sig .tc := ⟨.hbm, 128, rfl⟩
abbrev main_cst_23 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_24 : Ref sig .tc := ⟨.hbm, 136, rfl⟩
abbrev main_v101 : Ref sig .tc := ⟨.hbm, 137, rfl⟩
abbrev main_v102 : Ref sig .tc := ⟨.hbm, 138, rfl⟩
abbrev main_cst_25 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_26 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_27 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_28 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_29 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_30 : Ref sig .tc := ⟨.hbm, 184, rfl⟩
abbrev main_v143 : Ref sig .tc := ⟨.hbm, 185, rfl⟩
abbrev main_v144 : Ref sig .tc := ⟨.hbm, 186, rfl⟩
abbrev main_cst_31 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_32 : Ref sig .tc := ⟨.hbm, 193, rfl⟩
abbrev main_v150 : Ref sig .tc := ⟨.hbm, 194, rfl⟩
abbrev main_v151 : Ref sig .tc := ⟨.hbm, 195, rfl⟩
abbrev main_cst_33 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩

abbrev nD : Nat := 1
abbrev τ : Topo := Topo.v7x

variable {F : FTy → Type} [FloatOps F]
-- ==== Attend.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S256x8x256 : Shape := ⟨3, ![256, 8, 256]⟩
abbrev S8x256x256 : Shape := ⟨3, ![8, 256, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 35
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x2048, .f32⟩
  | .hbm, ⟨24, _⟩ => ⟨S256x8x256, .f32⟩
  | .hbm, ⟨25, _⟩ => ⟨S8x256x256, .f32⟩
  | .hbm, ⟨26, _⟩ => ⟨S1x1024, .f32⟩
  | .hbm, ⟨27, _⟩ => ⟨S1024x1024, .bf16⟩
  | .hbm, ⟨28, _⟩ => ⟨S8x256x256, .bf16⟩
  | .hbm, ⟨29, _⟩ => ⟨S1024x1024, .bf16⟩
  | .hbm, ⟨30, _⟩ => ⟨S4096x1024, .bf16⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S8x256x256, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttendRefIdeal.lean ====
abbrev S4096x1024 : Shape := ⟨2, ![4096, 1024]⟩
abbrev S256x1024 : Shape := ⟨2, ![256, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S4096 : Shape := ⟨1, ![4096]⟩
abbrev S4096x1 : Shape := ⟨2, ![4096, 1]⟩
abbrev S4096x4x256 : Shape := ⟨3, ![4096, 4, 256]⟩
abbrev S256x2048 : Shape := ⟨2, ![256, 2048]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x2048, .f32⟩
  | .hbm, ⟨6, _⟩ => ⟨S1024x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x4x256, .f32⟩
  | .hbm, ⟨41, _⟩ => ⟨S256x2048, .f32⟩
  | .hbm, ⟨42, _⟩ => ⟨S256x1024, .f32⟩
  | .hbm, ⟨43, _⟩ => ⟨S256x1024, .f32⟩
  | .hbm, ⟨44, _⟩ => ⟨S256x4x256, .f32⟩
  | .hbm, ⟨45, _⟩ => ⟨S256x4x256, .f32⟩
  | .hbm, ⟨46, _⟩ => ⟨S4x4096x256, .f32⟩
  | .hbm, ⟨47, _⟩ => ⟨S_, .f32⟩
  | .hbm, ⟨48, _⟩ => ⟨S4x4096x256, .f32⟩
  | .hbm, ⟨49, _⟩ => ⟨S4x4096x256, .f32⟩
  | .hbm, ⟨50, _⟩ => ⟨S_, .f32⟩
  | .hbm, ⟨51, _⟩ => ⟨S4x4096, .f32⟩
  | .hbm, ⟨52, _⟩ => ⟨S_, .f32⟩
  | .hbm, ⟨53, _⟩ => ⟨S4x4096, .f32⟩
  | .hbm, ⟨54, _⟩ => ⟨S4x4096, .f32⟩
  | .hbm, ⟨55, _⟩ => ⟨S4x4096x1, .f32⟩
  | .hbm, ⟨56, _⟩ => ⟨S4x4096x256, .f32⟩
  | .hbm, ⟨57, _⟩ => ⟨S4x4096x256, .f32⟩
  | .hbm, ⟨58, _⟩ => ⟨S4x4096x256, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x256, .f32⟩
  | .hbm, ⟨63, _⟩ => ⟨S4x4096x256, .f32⟩
  | .hbm, ⟨64, _⟩ => ⟨S4x256x4096, .f32⟩
  | .hbm, ⟨65, _⟩ => ⟨S4096x4x256, .f32⟩
  | .hbm, ⟨66, _⟩ => ⟨S4096x1024, .f32⟩
  | .hbm, ⟨67, _⟩ => ⟨S4096x4x256, .f32⟩
  | .hbm, ⟨68, _⟩ => ⟨S4096x1024, .f32⟩
  | .hbm, ⟨69, _⟩ => ⟨S4096x1024, .bf16⟩
  | .hbm, ⟨70, _⟩ => ⟨S4096x1024, .f32⟩
  | .hbm, ⟨71, _⟩ => ⟨S4096x1024, .bf16⟩
  | .hbm, ⟨72, _⟩ => ⟨S4096x1024, .bf16⟩
  | .hbm, ⟨73, _⟩ => ⟨S4096x1024, .bf16⟩
  | .hbm, ⟨74, _⟩ => ⟨S4096x1024, .f32⟩
  | .hbm, ⟨75, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Memory.lean ====
abbrev S256x1024 : Shape := ⟨2, ![256, 1024]⟩
abbrev S1024 : Shape := ⟨1, ![1024]⟩
abbrev S1024x2048 : Shape := ⟨2, ![1024, 2048]⟩
abbrev S1024x8x256 : Shape := ⟨3, ![1024, 8, 256]⟩
abbrev S8x1024x256 : Shape := ⟨3, ![8, 1024, 256]⟩
abbrev S1x1024 : Shape := ⟨2, ![1, 1024]⟩
abbrev S8x256x256 : Shape := ⟨3, ![8, 256, 256]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 9
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S1x1024, .f32⟩
  | .hbm, ⟨7, _⟩ => ⟨S256x1024, .bf16⟩
  | .hbm, ⟨8, _⟩ => ⟨S8x256x256, .bf16⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S256x1024, .bf16⟩
  | .local _ .vmem, ⟨4, _⟩ => ⟨S8x256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemoryRefIdeal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S256x8x256 : Shape := ⟨3, ![256, 8, 256]⟩
abbrev S8x256x256 : Shape := ⟨3, ![8, 256, 256]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x8x256, .f32⟩
  | .hbm, ⟨21, _⟩ => ⟨S8x256x256, .f32⟩
  | .hbm, ⟨22, _⟩ => ⟨S256x1024, .bf16⟩
  | .hbm, ⟨23, _⟩ => ⟨S8x256x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Project.lean ====
abbrev S4096x1024 : Shape := ⟨2, ![4096, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S2560x1024, .f32⟩
  | .hbm, ⟨5, _⟩ => ⟨S2560x1024, .bf16⟩
  | .hbm, ⟨6, _⟩ => ⟨S4096x1024, .bf16⟩
  | .hbm, ⟨7, _⟩ => ⟨S4096x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2560, .f32⟩
  | .local _ .vmem, ⟨7, _⟩ => ⟨S512x2560, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectRefIdeal.lean ====
abbrev S4096x1024 : Shape := ⟨2, ![4096, 1024]⟩
abbrev S1024 : Shape := ⟨1, ![1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MixForward.lean ====
abbrev S4096x1024 : Shape := ⟨2, ![4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S1x512 : Shape := ⟨2, ![1, 512]⟩
abbrev S128x4 : Shape := ⟨2, ![128, 4]⟩
abbrev S512x2560 : Shape := ⟨2, ![512, 2560]⟩
abbrev S16x2560 : Shape := ⟨2, ![16, 2560]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S512x1 : Shape := ⟨2, ![512, 1]⟩
abbrev S128x1 : Shape := ⟨2, ![128, 1]⟩
abbrev S16x512 : Shape := ⟨2, ![16, 512]⟩
abbrev S528x512 : Shape := ⟨2, ![528, 512]⟩

abbrev nBuf : Space → Nat
  | .hbm => 36
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S3x512, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2560, .f32⟩
  | .hbm, ⟨28, _⟩ => ⟨S1x512, .f32⟩
  | .hbm, ⟨29, _⟩ => ⟨S1x512, .f32⟩
  | .hbm, ⟨30, _⟩ => ⟨S128x4, .f32⟩
  | .hbm, ⟨31, _⟩ => ⟨S1x512, .f32⟩
  | .hbm, ⟨32, _⟩ => ⟨S1x512, .f32⟩
  | .hbm, ⟨33, _⟩ => ⟨S1024x1024, .bf16⟩
  | .hbm, ⟨34, _⟩ => ⟨S4096x1024, .bf16⟩
  | .hbm, ⟨35, _⟩ => ⟨S4096x1024, .f32⟩
  | .local _ .vmem, ⟨0, _⟩ => ⟨S512x2560, .f32⟩
  | .local _ .vmem, ⟨1, _⟩ => ⟨S512x2560, .f32⟩
  | .local _ .vmem, ⟨2, _⟩ => ⟨S16x2560, .f32⟩
  | .local _ .vmem, ⟨3, _⟩ => ⟨S16x2560, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixForwardRefIdeal.lean ====
abbrev S4096x1024 : Shape := ⟨2, ![4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S4096x1536 : Shape := ⟨2, ![4096, 1536]⟩
abbrev S128x4 : Shape := ⟨2, ![128, 4]⟩
abbrev S128x4x1 : Shape := ⟨3, ![128, 4, 1]⟩
abbrev S128x4x128 : Shape := ⟨3, ![128, 4, 128]⟩
abbrev S4096x512 : Shape := ⟨2, ![4096, 512]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S1x128x4x128 : Shape := ⟨4, ![1, 128, 4, 128]⟩
abbrev S2x512 : Shape := ⟨2, ![2, 512]⟩
abbrev S4098x512 : Shape := ⟨2, ![4098, 512]⟩

abbrev nBuf : Space → Nat
  | .hbm => 167
  | .vmem => 0
  | .smem => 0
  | _ => 0

abbrev hbmTy0_0 (i : Nat) : BufTy := match i % 128 with
  | 0 => ⟨S4096x1024, .f32⟩
  | 1 => ⟨S1024, .f32⟩
  | 2 => ⟨S1024x2560, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S512, .f32⟩
  | 9 => ⟨S512, .f32⟩
  | 10 => ⟨S1024x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x2560, .f32⟩
  | 28 => ⟨S4096x1024, .f32⟩
  | 29 => ⟨S4096x1536, .f32⟩
  | 30 => ⟨S128x4, .f32⟩
  | 31 => ⟨S128x4x1, .f32⟩
  | 32 => ⟨S128x4x128, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S4096x512, .f32⟩
  | 51 => ⟨S4096x512, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S4096x512, .f32⟩
  | 59 => ⟨S4096x512, .f32⟩
  | 60 => ⟨S4096x512, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S4096x512, .f32⟩
  | 68 => ⟨S4096x512, .f32⟩
  | 69 => ⟨S_, .f32⟩
  | 70 => ⟨S4096x1, .f32⟩
  | 71 => ⟨S4096x1, .f32⟩
  | 72 => ⟨S4096x1, .f32⟩
  | 73 => ⟨S4096x512, .f32⟩
  | 74 => ⟨S4096x512, .f32⟩
  | 75 => ⟨S1x512, .f32⟩
  | 76 => ⟨S4096x512, .f32⟩
  | 77 => ⟨S4096x512, .f32⟩
  | 78 => ⟨S1x512, .f32⟩
  | 79 => ⟨S4096x512, .f32⟩
  | 80 => ⟨S4096x512, .f32⟩
  | 81 => ⟨S32x128x4x128, .f32⟩
  | 82 => ⟨S_, .f32⟩
  | 83 => ⟨S128x128, .f32⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .f32⟩
  | 91 => ⟨S128x128, .f32⟩
  | 92 => ⟨S128x128, .f32⟩
  | 93 => ⟨S1x128x128, .f32⟩
  | 94 => ⟨S4x128x128, .f32⟩
  | 95 => ⟨S4x128x128, .f32⟩
  | 96 => ⟨S4x32x128x128, .f32⟩
  | 97 => ⟨S32x128x4x128, .f32⟩
  | 98 => ⟨S1x128x4x128, .f32⟩
  | 99 => ⟨S32x128x4x128, .f32⟩
  | 100 => ⟨S32x128x4x128, .f32⟩
  | 101 => ⟨S4096x512, .f32⟩
  | 102 => ⟨S4096x512, .f32⟩
  | 103 => ⟨S4096x512, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x1, .f32⟩
  | 114 => ⟨S4096x512, .f32⟩
  | 115 => ⟨S4096x512, .f32⟩
  | 116 => ⟨S1x512, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S_, .f32⟩
  | 124 => ⟨S2x512, .f32⟩
  | 125 => ⟨S4098x512, .f32⟩
  | 126 => ⟨S1x512, .f32⟩
  | 127 => ⟨S512, .f32⟩
  | _ => ⟨S4096x1024, .f32⟩

abbrev hbmTy0_1 (i : Nat) : BufTy := match i % 128 with
  | 0 => ⟨S4096x512, .f32⟩
  | 1 => ⟨S1x512, .f32⟩
  | 2 => ⟨S4096x512, .f32⟩
  | 3 => ⟨S4096x512, .f32⟩
  | 4 => ⟨S1x512, .f32⟩
  | 5 => ⟨S512, .f32⟩
  | 6 => ⟨S4096x512, .f32⟩
  | 7 => ⟨S1x512, .f32⟩
  | 8 => ⟨S4096x512, .f32⟩
  | 9 => ⟨S4096x512, .f32⟩
  | 10 => ⟨S4096x512, .f32⟩
  | 11 => ⟨S1x512, .f32⟩
  | 12 => ⟨S512, .f32⟩
  | 13 => ⟨S4096x512, .f32⟩
  | 14 => ⟨S1x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x512, .f32⟩
  | 31 => ⟨S4096x512, .f32⟩
  | 32 => ⟨S1x512, .f32⟩
  | 33 => ⟨S4096x512, .f32⟩
  | 34 => ⟨S4096x512, .f32⟩
  | 35 => ⟨S4096x1024, .f32⟩
  | 36 => ⟨S4096x1024, .bf16⟩
  | 37 => ⟨S4096x1024, .f32⟩
  | 38 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_call0_v0 : Ref sig .tc := ⟨.hbm, 84, rfl⟩
abbrev main_call0_c : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_cst : Ref sig .tc := ⟨.hbm, 90, rfl⟩
abbrev main_call0_v5 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_16 : Ref sig .tc := ⟨.hbm, 148, rfl⟩
abbrev main_v112 : Ref sig .tc := ⟨.hbm, 149, rfl⟩
abbrev main_v113 : Ref sig .tc := ⟨.hbm, 150, rfl⟩
abbrev main_cst_17 : Ref sig .tc := ⟨.hbm, 151, rfl⟩
abbrev main_v114 : Ref sig .tc := ⟨.hbm, 152, rfl⟩
abbrev main_v115 : Ref sig .tc := ⟨.hbm, 153, rfl⟩
abbrev main_cst_18 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S1x1024 : Shape := ⟨2, ![1, 1024]⟩
abbrev S2x4x4096x704 : Shape := ⟨4, ![2, 4, 4096, 704]⟩
abbrev S1024x1024 : Shape := ⟨2, ![1024, 1024]⟩
abbrev S2x1x704x1024 : Shape := ⟨4, ![2, 1, 704, 1024]⟩
abbrev S704x1024 : Shape := ⟨2, ![704, 1024]⟩
abbrev S2x1x1024x704 : Shape := ⟨4, ![2, 1, 1024, 704]⟩
abbrev S1024x1 : Shape := ⟨2, ![1024, 1]⟩
abbrev S1x1x704x1024 : Shape := ⟨4, ![1, 1, 704, 1024]⟩
abbrev S1024x704 : Shape := ⟨2, ![1024, 704]⟩
abbrev S1x1x1024x704 : Shape := ⟨4, ![1, 1, 1024, 704]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2x4x704x1024, .bf16⟩
  | .hbm, ⟨7, _⟩ => ⟨S1x1024, .f32⟩
  | .hbm, ⟨8, _⟩ => ⟨S2816x1024, .bf16⟩
  | .hbm, ⟨9, _⟩ => ⟨S4096x1024, .bf16⟩
  | .hbm, ⟨10, _⟩ => ⟨S2x4x4096x704, .bf16⟩
  | .hbm, ⟨11, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1x704x1024, .bf16⟩
  | .local _ .vmem, ⟨4, _⟩ => ⟨S2x1x704x1024, .bf16⟩
  | .local _ .vmem, ⟨5, _⟩ => ⟨S704x1024, .bf16⟩
  | .local _ .vmem, ⟨6, _⟩ => ⟨S704x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2x1x1024x704, .bf16⟩
  | .local _ .vmem, ⟨10, _⟩ => ⟨S2x1x1024x704, .bf16⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x5632, .bf16⟩
  | .hbm, ⟨37, _⟩ => ⟨S4096x2x4x704, .bf16⟩
  | .hbm, ⟨38, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Shard.lean ====
abbrev S704x1024 : Shape := ⟨2, ![704, 1024]⟩
abbrev S3x704x1024 : Shape := ⟨3, ![3, 704, 1024]⟩
abbrev S1024x704 : Shape := ⟨2, ![1024, 704]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ShardRefIdeal.lean ====
abbrev S704x1024 : Shape := ⟨2, ![704, 1024]⟩
abbrev S3x704x1024 : Shape := ⟨3, ![3, 704, 1024]⟩
abbrev S1024x704 : Shape := ⟨2, ![1024, 704]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S3x704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | .hbm, ⟨39, _⟩ => ⟨S1024x704, .f32⟩
  | .hbm, ⟨40, _⟩ => ⟨S_, .f32⟩
  | .hbm, ⟨41, _⟩ => ⟨S1024x704, .f32⟩
  | .hbm, ⟨42, _⟩ => ⟨S1024x704, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Weight.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S5632x1024 : Shape := ⟨2, ![5632, 1024]⟩
abbrev S1x4096x704 : Shape := ⟨3, ![1, 4096, 704]⟩
abbrev S704x1024 : Shape := ⟨2, ![704, 1024]⟩
abbrev S4096x704 : Shape := ⟨2, ![4096, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x8x704, .f32⟩
  | .hbm, ⟨3, _⟩ => ⟨S8x4096x704, .f32⟩
  | .hbm, ⟨4, _⟩ => ⟨S8x4096x704, .bf16⟩
  | .hbm, ⟨5, _⟩ => ⟨S4096x1024, .bf16⟩
  | .hbm, ⟨6, _⟩ => ⟨S5632x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S704x1024, .f32⟩
  | .local _ .vmem, ⟨4, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WeightIn.lean ====
abbrev S4096x1024 : Shape := ⟨2, ![4096, 1024]⟩
abbrev S4096x2560 : Shape := ⟨2, ![4096, 2560]⟩
abbrev S2560x1024 : Shape := ⟨2, ![2560, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x2560, .bf16⟩
  | .hbm, ⟨3, _⟩ => ⟨S4096x1024, .bf16⟩
  | .hbm, ⟨4, _⟩ => ⟨S2560x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WeightInRefIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S2560x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== One.lean ====
abbrev S3x64 : Shape := ⟨2, ![3, 64]⟩

abbrev nBuf : Space → Nat
  | .hbm => 7
  | .vmem => 7
  | .smem => 0
  | _ => 0

abbrev bufTy : (tb : Table) → Fin (tcTables nBuf tb) → BufTy
  | .hbm, ⟨0, _⟩ => ⟨S3x64, .f32⟩
  | .hbm, ⟨1, _⟩ => ⟨S3x64, .f32⟩
  | .hbm, ⟨2, _⟩ => ⟨S3x64, .f32⟩
  | .hbm, ⟨3, _⟩ => ⟨S3x64, .f32⟩
  | .hbm, ⟨4, _⟩ => ⟨S3x64, .f32⟩
  | .hbm, ⟨5, _⟩ => ⟨S3x64, .f32⟩
  | .hbm, ⟨6, _⟩ => ⟨S3x64, .f32⟩
  | .local _ .vmem, ⟨0, _⟩ => ⟨S3x64, .f32⟩
  | .local _ .vmem, ⟨1, _⟩ => ⟨S3x64, .f32⟩
  | .local _ .vmem, ⟨2, _⟩ => ⟨S3x64, .f32⟩
  | .local _ .vmem, ⟨3, _⟩ => ⟨S3x64, .f32⟩
  | .local _ .vmem, ⟨4, _⟩ => ⟨S3x64, .f32⟩
  | .local _ .vmem, ⟨5, _⟩ => ⟨S3x64, .f32⟩
  | .local _ .vmem, ⟨6, _⟩ => ⟨S3x64, .f32⟩
  | _, _ => ⟨S3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OneRefIdeal.lean ====
abbrev S3x64 : Shape := ⟨2, ![3, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x64, .f32⟩
  | .hbm, ⟨1, _⟩ => ⟨S3x64, .f32⟩
  | .hbm, ⟨2, _⟩ => ⟨S3x64, .f32⟩
  | .hbm, ⟨3, _⟩ => ⟨S3x64, .f32⟩
  | .hbm, ⟨4, _⟩ => ⟨S_, .f32⟩
  | .hbm, ⟨5, _⟩ => ⟨S3x64, .f32⟩
  | .hbm, ⟨6, _⟩ => ⟨S3x64, .f32⟩
  | .hbm, ⟨7, _⟩ => ⟨S_, .f32⟩
  | .hbm, ⟨8, _⟩ => ⟨S3x64, .f32⟩
  | .hbm, ⟨9, _⟩ => ⟨S3x64, .f32⟩
  | .hbm, ⟨10, _⟩ => ⟨S3x64, .f32⟩
  | .hbm, ⟨11, _⟩ => ⟨S_, .f32⟩
  | .hbm, ⟨12, _⟩ => ⟨S3x64, .f32⟩
  | .hbm, ⟨13, _⟩ => ⟨S3x64, .f32⟩
  | .hbm, ⟨14, _⟩ => ⟨S3x64, .f32⟩
  | .hbm, ⟨15, _⟩ => ⟨S_, .f32⟩
  | .hbm, ⟨16, _⟩ => ⟨S3x64, .f32⟩
  | .hbm, ⟨17, _⟩ => ⟨S3x64, .f32⟩
  | .hbm, ⟨18, _⟩ => ⟨S3x64, .f32⟩
  | .hbm, ⟨19, _⟩ => ⟨S_, .f32⟩
  | .hbm, ⟨20, _⟩ => ⟨S3x64, .f32⟩
  | .hbm, ⟨21, _⟩ => ⟨S3x64, .f32⟩
  | .hbm, ⟨22, _⟩ => ⟨S_, .f32⟩
  | .hbm, ⟨23, _⟩ => ⟨S3x64, .f32⟩
  | .hbm, ⟨24, _⟩ => ⟨S3x64, .f32⟩
  | .hbm, ⟨25, _⟩ => ⟨S3x64, .f32⟩
  | .hbm, ⟨26, _⟩ => ⟨S_, .f32⟩
  | .hbm, ⟨27, _⟩ => ⟨S3x64, .f32⟩
  | .hbm, ⟨28, _⟩ => ⟨S3x64, .f32⟩
  | .hbm, ⟨29, _⟩ => ⟨S3x64, .f32⟩
  | .hbm, ⟨30, _⟩ => ⟨S_, .f32⟩
  | .hbm, ⟨31, _⟩ => ⟨S3x64, .f32⟩
  | .hbm, ⟨32, _⟩ => ⟨S3x64, .f32⟩
  | .hbm, ⟨33, _⟩ => ⟨S3x64, .f32⟩
  | .hbm, ⟨34, _⟩ => ⟨S_, .f32⟩
  | .hbm, ⟨35, _⟩ => ⟨S3x64, .f32⟩
  | .hbm, ⟨36, _⟩ => ⟨S3x64, .f32⟩
  | _, _ => ⟨S3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Exchange.lean ====
abbrev S8x704x1024 : Shape := ⟨3, ![8, 704, 1024]⟩
abbrev S4x704x1024 : Shape := ⟨3, ![4, 704, 1024]⟩
abbrev S4 : Shape := ⟨1, ![4]⟩
abbrev S_ : Shape := ⟨0, ![]⟩
abbrev S1 : Shape := ⟨1, ![1]⟩
abbrev S1x704x1024 : Shape := ⟨3, ![1, 704, 1024]⟩
abbrev S704x1024 : Shape := ⟨2, ![704, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S4x704x1024, .f32⟩
  | _, _ => ⟨S8x704x1024, .f32⟩

abbrev bufScoped : (cs : CoreSpace) → Fin (nBuf (.core cs)) → Bool
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(1, 0)]

abbrev main_arg0 : Ref sig .tc := ⟨.hbm, 0, rfl⟩
abbrev main_v1 : Ref sig .tc := ⟨.hbm, 1, rfl⟩
abbrev barrier1 : Sem sig := 0

abbrev nD : Nat := 2
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_6 : BitVec 32 := 2#32
  let v11 : BitVec 32 := Scalar.muli v2 c2_i32_6
  let v12 : BitVec 32 := Scalar.addi c0_i32 v11
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_7 : BitVec 32 := 2#32
  let v13 : BitVec 32 := Scalar.muli v5 c2_i32_7
  let v14 : BitVec 32 := Scalar.addi v12 v13
  let c1_i32_4 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v9 : BitVec 32 := Scalar.subi c1_i32_4 v8
  let c1_i32_8 : BitVec 32 := 1#32
  let v15 : BitVec 32 := Scalar.muli v9 c1_i32_8
  let v16 : BitVec 32 := Scalar.addi v14 v15
  v16.toNat
def k0_off1 (d0 : Dev nD) (c1_i32_16 : BitVec 32) : Fin 3 → Nat :=
  let v23 : BitVec 32 := Dev.word d0
  let c1_i32_15 : BitVec 32 := 1#32
  let v24 : BitVec 32 := Scalar.divsi v23 c1_i32_15
  let c2_i32_14 : BitVec 32 := 2#32
  let v25 : BitVec 32 := Scalar.remsi v24 c2_i32_14
  let v26 : BitVec 32 := Scalar.subi c1_i32_16 v25
  let c0_i32_30 : BitVec 32 := 0#32
  let c0_i32_31 : BitVec 32 := 0#32
  ![v26.toNat, 0, 0]
def k0_dev2 (d0 : Dev nD) : Nat :=
  let c0_i32_25 : BitVec 32 := 0#32
  let v17 : BitVec 32 := Dev.word d0
  let c2_i32_11 : BitVec 32 := 2#32
  let v18 : BitVec 32 := Scalar.divsi v17 c2_i32_11
  let c1_i32_10 : BitVec 32 := 1#32
  let v19 : BitVec 32 := Scalar.remsi v18 c1_i32_10
  let c2_i32_24 : BitVec 32 := 2#32
  let v34 : BitVec 32 := Scalar.muli v19 c2_i32_24
  let v35 : BitVec 32 := Scalar.addi c0_i32_25 v34
  let v20 : BitVec 32 := Dev.word d0
  let c2_i32_13 : BitVec 32 := 2#32
  let v21 : BitVec 32 := Scalar.divsi v20 c2_i32_13
  let c1_i32_12 : BitVec 32 := 1#32
  let v22 : BitVec 32 := Scalar.remsi v21 c1_i32_12
  let c2_i32_26 : BitVec 32 := 2#32
  let v36 : BitVec 32 := Scalar.muli v22 c2_i32_26
  let v37 : BitVec 32 := Scalar.addi v35 v36
  let c1_i32_17 : BitVec 32 := 1#32
  let v23 : BitVec 32 := Dev.word d0
  let c1_i32_15 : BitVec 32 := 1#32
  let v24 : BitVec 32 := Scalar.divsi v23 c1_i32_15
  let c2_i32_14 : BitVec 32 := 2#32
  let v25 : BitVec 32 := Scalar.remsi v24 c2_i32_14
  let v27 : BitVec 32 := Scalar.subi c1_i32_17 v25
  let c1_i32_27 : BitVec 32 := 1#32
  let v38 : BitVec 32 := Scalar.muli v27 c1_i32_27
  let v39 : BitVec 32 := Scalar.addi v37 v38
  v39.toNat
def k0_dev3 (d0 : Dev nD) : Nat :=
  let c0_i32_36 : BitVec 32 := 0#32
  let v17 : BitVec 32 := Dev.word d0
  let c2_i32_11 : BitVec 32 := 2#32
  let v18 : BitVec 32 := Scalar.divsi v17 c2_i32_11
  let c1_i32_10 : BitVec 32 := 1#32
  let v19 : BitVec 32 := Scalar.remsi v18 c1_i32_10
  let c2_i32_35 : BitVec 32 := 2#32
  let v48 : BitVec 32 := Scalar.muli v19 c2_i32_35
  let v49 : BitVec 32 := Scalar.addi c0_i32_36 v48
  let v20 : BitVec 32 := Dev.word d0
  let c2_i32_13 : BitVec 32 := 2#32
  let v21 : BitVec 32 := Scalar.divsi v20 c2_i32_13
  let c1_i32_12 : BitVec 32 := 1#32
  let v22 : BitVec 32 := Scalar.remsi v21 c1_i32_12
  let c2_i32_37 : BitVec 32 := 2#32
  let v50 : BitVec 32 := Scalar.muli v22 c2_i32_37
  let v51 : BitVec 32 := Scalar.addi v49 v50
  let c1_i32_18 : BitVec 32 := 1#32
  let v23 : BitVec 32 := Dev.word d0
  let c1_i32_15 : BitVec 32 := 1#32
  let v24 : BitVec 32 := Scalar.divsi v23 c1_i32_15
  let c2_i32_14 : BitVec 32 := 2#32
  let v25 : BitVec 32 := Scalar.remsi v24 c2_i32_14
  let v29 : BitVec 32 := Scalar.subi c1_i32_18 v25
  let c1_i32_38 : BitVec 32 := 1#32
  let v52 : BitVec 32 := Scalar.muli v29 c1_i32_38
  let v53 : BitVec 32 := Scalar.addi v51 v52
  v53.toNat
def k0_dev4 (d0 : Dev nD) : Nat :=
  let c0_i32_47 : BitVec 32 := 0#32
  let v17 : BitVec 32 := Dev.word d0
  let c2_i32_11 : BitVec 32 := 2#32
  let v18 : BitVec 32 := Scalar.divsi v17 c2_i32_11
  let c1_i32_10 : BitVec 32 := 1#32
  let v19 : BitVec 32 := Scalar.remsi v18 c1_i32_10
  let c2_i32_46 : BitVec 32 := 2#32
  let v62 : BitVec 32 := Scalar.muli v19 c2_i32_46
  let v63 : BitVec 32 := Scalar.addi c0_i32_47 v62
  let v20 : BitVec 32 := Dev.word d0
  let c2_i32_13 : BitVec 32 := 2#32
  let v21 : BitVec 32 := Scalar.divsi v20 c2_i32_13
  let c1_i32_12 : BitVec 32 := 1#32
  let v22 : BitVec 32 := Scalar.remsi v21 c1_i32_12
  let c2_i32_48 : BitVec 32 := 2#32
  let v64 : BitVec 32 := Scalar.muli v22 c2_i32_48
  let v65 : BitVec 32 := Scalar.addi v63 v64
  let c1_i32_19 : BitVec 32 := 1#32
  let v23 : BitVec 32 := Dev.word d0
  let c1_i32_15 : BitVec 32 := 1#32
  let v24 : BitVec 32 := Scalar.divsi v23 c1_i32_15
  let c2_i32_14 : BitVec 32 := 2#32
  let v25 : BitVec 32 := Scalar.remsi v24 c2_i32_14
  let v31 : BitVec 32 := Scalar.subi c1_i32_19 v25
  let c1_i32_49 : BitVec 32 := 1#32
  let v66 : BitVec 32 := Scalar.muli v31 c1_i32_49
  let v67 : BitVec 32 := Scalar.addi v65 v66
  v67.toNat
def k0_dev5 (d0 : Dev nD) : Nat :=
  let c0_i32_58 : BitVec 32 := 0#32
  let v17 : BitVec 32 := Dev.word d0
  let c2_i32_11 : BitVec 32 := 2#32
  let v18 : BitVec 32 := Scalar.divsi v17 c2_i32_11
  let c1_i32_10 : BitVec 32 := 1#32
  let v19 : BitVec 32 := Scalar.remsi v18 c1_i32_10
  let c2_i32_57 : BitVec 32 := 2#32
  let v76 : BitVec 32 := Scalar.muli v19 c2_i32_57
  let v77 : BitVec 32 := Scalar.addi c0_i32_58 v76
  let v20 : BitVec 32 := Dev.word d0
  let c2_i32_13 : BitVec 32 := 2#32
  let v21 : BitVec 32 := Scalar.divsi v20 c2_i32_13
  let c1_i32_12 : BitVec 32 := 1#32
  let v22 : BitVec 32 := Scalar.remsi v21 c1_i32_12
  let c2_i32_59 : BitVec 32 := 2#32
  let v78 : BitVec 32 := Scalar.muli v22 c2_i32_59
  let v79 : BitVec 32 := Scalar.addi v77 v78
  let c1_i32_20 : BitVec 32 := 1#32
  let v23 : BitVec 32 := Dev.word d0
  let c1_i32_15 : BitVec 32 := 1#32
  let v24 : BitVec 32 := Scalar.divsi v23 c1_i32_15
  let c2_i32_14 : BitVec 32 := 2#32
  let v25 : BitVec 32 := Scalar.remsi v24 c2_i32_14
  let v33 : BitVec 32 := Scalar.subi c1_i32_20 v25
  let c1_i32_60 : BitVec 32 := 1#32
  let v80 : BitVec 32 := Scalar.muli v33 c1_i32_60
  let v81 : BitVec 32 := Scalar.addi v79 v80
  v81.toNat
-- ==== ExchangeRef.lean ====
abbrev S16x704x1024 : Shape := ⟨3, ![16, 704, 1024]⟩
abbrev S2x4x2x704x1024 : Shape := ⟨5, ![2, 4, 2, 704, 1024]⟩
abbrev S1x4x1x704x1024 : Shape := ⟨5, ![1, 4, 1, 704, 1024]⟩
abbrev S4x704x1024 : Shape := ⟨3, ![4, 704, 1024]⟩
abbrev S8x704x1024 : Shape := ⟨3, ![8, 704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x704x1024, .f32⟩
  | .hbm, ⟨1, _⟩ => ⟨S2x4x2x704x1024, .f32⟩
  | .hbm, ⟨2, _⟩ => ⟨S1x4x1x704x1024, .f32⟩
  | .hbm, ⟨3, _⟩ => ⟨S4x704x1024, .f32⟩
  | .hbm, ⟨4, _⟩ => ⟨S1x4x1x704x1024, .f32⟩
  | .hbm, ⟨5, _⟩ => ⟨S4x704x1024, .f32⟩
  | .hbm, ⟨6, _⟩ => ⟨S8x704x1024, .f32⟩
  | _, _ => ⟨S16x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Proof.Reals.lean ====
module

public import Idealize.ShloMosaic.Lib.Pointwise
public import Idealize.ShloMosaic.Lib.Pipeline.ValueKit
public import Idealize.ShloMosaic.PureOps.Ideal.Laws

@[expose] public section

noncomputable section

/-! Real numbers inside the extended reals: the operations of the two programs at real operands, the literals both programs use,
and the algebra of a root-mean-square normalisation and its derivative. -/

namespace Cert.Reals

open Idealize.ShloMosaic

/-! ## Operations at real operands -/

/-- A finite sum of real numbers, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Sums of reals. -/
theorem coe_add (a b : ℝ) : (a : EReal) + (b : EReal) = ((a + b : ℝ) : EReal) := (EReal.coe_add a b).symm
/-- Differences of reals. -/
theorem coe_sub (a b : ℝ) : (a : EReal) - (b : EReal) = ((a - b : ℝ) : EReal) := (EReal.coe_sub a b).symm
/-- Products of reals. -/
theorem coe_mul (a b : ℝ) : (a : EReal) * (b : EReal) = ((a * b : ℝ) : EReal) := (EReal.coe_mul a b).symm
/-- The opposite of a real. -/
theorem coe_neg (a : ℝ) : -(a : EReal) = ((-a : ℝ) : EReal) := (EReal.coe_neg a).symm
/-- Zero as a real. -/
theorem coe_zero : (0 : EReal) = ((0 : ℝ) : EReal) := rfl
/-- One as a real. -/
theorem coe_one : (1 : EReal) = ((1 : ℝ) : EReal) := rfl

/-- Division by a nonzero real. -/
theorem coe_div (a : ℝ) {b : ℝ} (h : b ≠ 0) : Ideal.div (a : EReal) (b : EReal) = ((a / b : ℝ) : EReal) := by
  rw [Ideal.div_coe h, coe_mul, mul_one_div]

/-- The reciprocal square root of a positive real. -/
theorem coe_rsqrt {a : ℝ} (h : 0 < a) : Ideal.rsqrt (a : EReal) = (((Real.sqrt a)⁻¹ : ℝ) : EReal) := by
  rw [Ideal.rsqrt_coe, if_neg (not_lt.2 h.le), if_neg h.ne']

/-- The exponential of a real. -/
theorem coe_exp (a : ℝ) : Ideal.exp (a : EReal) = ((Real.exp a : ℝ) : EReal) := rfl

/-- The logistic function. -/
def logistic (a : ℝ) : ℝ := 1 / (1 + Real.exp (-a))

/-- One over one plus the exponential of the negation is the logistic function. -/
theorem coe_logistic (a : ℝ) : Ideal.div 1 (1 + Ideal.exp ((-a : ℝ) : EReal)) = ((logistic a : ℝ) : EReal) := by
  rw [coe_exp, coe_one, coe_add, coe_div _ (by positivity), logistic]

/-- An extended real whose absolute value compares below infinity is a real number. -/
theorem eq_coe_toReal {x : EReal} (h : Ideal.cmp .olt (max x (-x)) (Ideal.ofBits .f32 0x7F800000#32) = 1#1) :
    x = ((x.toReal : ℝ) : EReal) := by
  have hT : Ideal.ofBits .f32 0x7F800000#32 = ⊤ := by simp [Ideal.ofBits, Ideal.ieee]
  rw [hT] at h
  have h1 : max x (-x) < ⊤ := by
    by_contra hn
    simp [Ideal.cmp, hn] at h
  rw [max_lt_iff] at h1
  refine (EReal.coe_toReal h1.1.ne ?_).symm
  rintro rfl
  simp at h1

/-! ## Literals -/

theorem lit_1024 : Ideal.ofBits .f32 0x44800000#32 = ((1024 : ℝ) : EReal) := by
  simp [Ideal.ofBits, Ideal.ieee, -EReal.coe_mul]; norm_num
/-- The literal 1/1024. -/
theorem lit_inv1024 : Ideal.ofBits .f32 0x3A800000#32 = ((1 / 1024 : ℝ) : EReal) := by
  simp [Ideal.ofBits, Ideal.ieee, -EReal.coe_mul]; norm_num
/-- The literal 1/2. -/
theorem lit_half : Ideal.ofBits .f32 0x3F000000#32 = ((1 / 2 : ℝ) : EReal) := by
  simp [Ideal.ofBits, Ideal.ieee, -EReal.coe_mul]; norm_num
/-- The literal -1/2. -/
theorem lit_neg_half : Ideal.ofBits .f32 0xBF000000#32 = ((-(1 / 2) : ℝ) : EReal) := by
  simp [Ideal.ofBits, Ideal.ieee, -EReal.coe_mul]; norm_num
/-- The literal 1/16. -/
theorem lit_inv16 : Ideal.ofBits .f32 0x3D800000#32 = ((1 / 16 : ℝ) : EReal) := by
  simp [Ideal.ofBits, Ideal.ieee, -EReal.coe_mul]; norm_num
/-- The literal minus infinity. -/
theorem lit_neg_inf : Ideal.ofBits .f32 0xFF800000#32 = (⊥ : EReal) := by
  simp [Ideal.ofBits, Ideal.ieee]
/-- The literal 2. -/
theorem lit_two : Ideal.ofBits .f32 0x40000000#32 = ((2 : ℝ) : EReal) := by
  simp [Ideal.ofBits, Ideal.ieee, -EReal.coe_mul]; norm_num

/-- The small constant under the root, as the real number its literal denotes. -/
def eps : ℝ := 8796093 / 8796093022208

/-- The literal of the norm's small constant. -/
theorem lit_eps : Ideal.ofBits .f32 0x358637BD#32 = ((eps : ℝ) : EReal) := by
  simp [Ideal.ofBits, Ideal.ieee, -EReal.coe_mul, eps]; norm_num

/-- The small constant is positive. -/
theorem eps_pos : 0 < eps := by unfold eps; norm_num

/-! ## Root-mean-square normalisation of a row -/

/-- The mean square of a row plus the small constant. -/
def ms {n : ℕ} (a : Fin n → ℝ) : ℝ := (∑ j, a j * a j) / n + eps
/-- Its reciprocal root. -/
def rs {n : ℕ} (a : Fin n → ℝ) : ℝ := (Real.sqrt (ms a))⁻¹

/-- The mean square with its small constant is positive. -/
theorem ms_pos {n : ℕ} (a : Fin n → ℝ) : 0 < ms a := by
  unfold ms
  have : 0 ≤ (∑ j, a j * a j) / (n : ℝ) := div_nonneg (Finset.sum_nonneg fun j _ => mul_self_nonneg _) (Nat.cast_nonneg _)
  linarith [eps_pos]

/-- The reciprocal root over its radicand is its cube. -/
theorem rs_div_ms {n : ℕ} (a : Fin n → ℝ) : rs a / ms a = rs a * rs a * rs a := by
  have h := ms_pos a
  have h2 : Real.sqrt (ms a) * Real.sqrt (ms a) = ms a := Real.mul_self_sqrt h.le
  have h3 : Real.sqrt (ms a) ≠ 0 := (Real.sqrt_pos.2 h).ne'
  unfold rs
  generalize Real.sqrt (ms a) = q at *
  rw [← h2]
  field_simp

/-- The gradient of a normalised row with respect to the row: `b` is the cotangent times the gain. -/
def rmsDx {n : ℕ} (a b : Fin n → ℝ) (j : Fin n) : ℝ :=
  rs a * b j - a j * (rs a * rs a * rs a) * ((∑ k, b k * a k) * (1 / n))

/-- The form in which differentiating the reference's line leaves that gradient: the two factors of the square each contribute. -/
theorem rmsDx_of_ref {n : ℕ} (a b : Fin n → ℝ) (j : Fin n) :
    b j * rs a + a j * ((∑ k, a k * b k) * (-(1 / 2) * (rs a / ms a)) / n) + (∑ k, a k * b k) * (-(1 / 2) * (rs a / ms a)) / n * a j
      = rmsDx a b j := by
  unfold rmsDx
  rw [rs_div_ms, Finset.sum_congr rfl fun k _ => mul_comm (a k) (b k)]
  ring

/-! ## The largest of finitely many real numbers -/

/-- The largest of the values of `f`. -/
def mx {n : ℕ} (f : Fin n → ℝ) : ℝ := (Finset.univ.fold max (⊥ : EReal) fun k => ((f k : ℝ) : EReal)).toReal

/-- The maximum of a nonempty family of real numbers, taken in the extended reals from minus infinity, is a real number. -/
theorem fold_max {n : ℕ} [NeZero n] (f : Fin n → ℝ) :
    (Finset.univ.fold max (⊥ : EReal) fun k => ((f k : ℝ) : EReal)) = ((mx f : ℝ) : EReal) := by
  have h : ∀ s : Finset (Fin n), (s.fold max (⊥ : EReal) fun k => ((f k : ℝ) : EReal)) ≠ ⊤ ∧
      (s.Nonempty → (s.fold max (⊥ : EReal) fun k => ((f k : ℝ) : EReal)) ≠ ⊥) := by
    intro s
    induction s using Finset.induction_on with
    | empty => simp
    | insert a s ha ih =>
      rw [Finset.fold_insert ha]
      refine ⟨?_, fun _ => ?_⟩
      · rcases max_choice ((f a : ℝ) : EReal) (s.fold max (⊥ : EReal) fun k => ((f k : ℝ) : EReal)) with e | e <;> rw [e]
        · exact EReal.coe_ne_top _
        · exact ih.1
      · exact fun e => EReal.coe_ne_bot (f a) (le_bot_iff.mp ((le_max_left _ _).trans e.le))
  exact (EReal.coe_toReal (h _).1 ((h _).2 Finset.univ_nonempty)).symm

end Cert.Reals

end
-- ==== Proof.FinalRefVal.lean ====
module

public import proofs.«01_k».proof.Proof.Reals
public import proofs.«01_k».proof.Proof.Gen.FinalRefIdeal.Read

@[expose] public section

set_option maxRecDepth 16384

noncomputable section

namespace Cert.FinalRefIdeal.Hand

open Cert.FinalRefIdeal Cert.FinalRefIdeal.Read Cert.Reals Idealize.ShloMosaic

/-- The difference of the normalised row and the target. -/
def err (X T : Fin 4096 → Fin 1024 → ℝ) (G : Fin 1024 → ℝ) (i : Fin 4096) (j : Fin 1024) : ℝ := X i j * rs (X i) * G j - T i j
/-- The loss. -/
def loss (X T : Fin 4096 → Fin 1024 → ℝ) (G : Fin 1024 → ℝ) : ℝ := 1 / 2 * ∑ i, (∑ j, err X T G i j * err X T G i j) / 1024
/-- The gradient of the gain. -/
def dgain (X T : Fin 4096 → Fin 1024 → ℝ) (G : Fin 1024 → ℝ) (j : Fin 1024) : ℝ :=
  ∑ i, err X T G i j * (1 / 1024) * (X i j * rs (X i))
/-- The gradient of the layer's output. -/
def dx (X T : Fin 4096 → Fin 1024 → ℝ) (G : Fin 1024 → ℝ) (i : Fin 4096) (j : Fin 1024) : ℝ :=
  rmsDx (X i) (fun k => err X T G i k * (1 / 1024) * G k) j

section
variable (x0 x1 : FVec Ideal S4096x1024 .f32) (x2 : FVec Ideal S1024 .f32)
variable (X T : Fin 4096 → Fin 1024 → ℝ) (G : Fin 1024 → ℝ)
variable (h0 : ∀ i j, x0 (ix2 i j) = ((X i j : ℝ) : EReal)) (h1 : ∀ i j, x1 (ix2 i j) = ((T i j : ℝ) : EReal))
  (h2 : ∀ j, x2 (ix1 j) = ((G j : ℝ) : EReal))
include h0

/-- The mean square of a row, with its small constant. -/
theorem v6 (i : Fin 4096) (z : Fin 1) : val_main_v6 (F := Ideal) x0 (ix2 i z) = ((ms (X i) : ℝ) : EReal) := by
  pointwise [val_main_v6, val_main_v5, val_main_v4, val_main_v3, val_main_v2, val_main_v1, val_main_v0, val_main_cst, val_main_cst_0,
    val_main_cst_1]
  simp only [h0, lit_1024, lit_eps, coe_mul, coe_sum, coe_add, coe_div, ne_eq, OfNat.ofNat_ne_zero, not_false_eq_true]
  simp [ms]

/-- The reciprocal root of the mean square of a row. -/
theorem v7 (i : Fin 4096) (z : Fin 1) : val_main_v7 (F := Ideal) x0 (ix2 i z) = ((rs (X i) : ℝ) : EReal) := by
  pointwise [val_main_v7]
  rw [v6 x0 X h0, coe_rsqrt (ms_pos _), rs]

/-- The derivative of the reciprocal root. -/
theorem v10 (i : Fin 4096) (z : Fin 1) :
    val_main_v10 (F := Ideal) x0 (ix2 i z) = ((-(1 / 2) * (rs (X i) / ms (X i)) : ℝ) : EReal) := by
  pointwise [val_main_v10, val_main_v9, val_main_v8, val_main_cst_2]
  rw [v6 x0 X h0, v7 x0 X h0, coe_div _ (ms_pos _).ne', lit_neg_half, coe_mul]

/-- The normalised row. -/
theorem v12 (i : Fin 4096) (j : Fin 1024) :
    val_main_v12 (F := Ideal) x0 (ix2 i j) = ((X i j * rs (X i) : ℝ) : EReal) := by
  pointwise [val_main_v12, val_main_v11]
  rw [v7 x0 X h0, h0, coe_mul]

include h1 h2

/-- The output less the target. -/
theorem v16 (i : Fin 4096) (j : Fin 1024) :
    val_main_v16 (F := Ideal) x0 x1 x2 (ix2 i j) = ((err X T G i j : ℝ) : EReal) := by
  pointwise [val_main_v16, val_main_v15, val_main_v14, val_main_v13]
  rw [v12 x0 X h0, h1, h2, coe_mul, coe_sub, err]

/-- The loss, in each place of its tile. -/
theorem v51 (a : Fin 8) (b : Fin 128) :
    val_main_v51 (F := Ideal) x0 x1 x2 (ix2 a b) = ((loss X T G : ℝ) : EReal) := by
  pointwise [val_main_v51, val_main_v24, val_main_v23, val_main_v22, val_main_v21, val_main_v20, val_main_v17, val_main_cst_7,
    val_main_cst_6, val_main_cst_5, val_main_cst_4]
  simp only [v16 x0 x1 x2 X T G h0 h1 h2, lit_1024, lit_half, coe_mul, coe_sum, coe_add, coe_div, ne_eq, OfNat.ofNat_ne_zero,
    not_false_eq_true]
  rfl

/-- The cotangent of the output. -/
theorem v30 (i : Fin 4096) (j : Fin 1024) :
    val_main_v30 (F := Ideal) x0 x1 x2 (ix2 i j) = ((err X T G i j * (1 / 1024) : ℝ) : EReal) := by
  pointwise [val_main_v30, val_main_v29, val_main_v28, val_main_v27, val_main_v26, val_main_v25, val_main_v19, val_main_v18,
    val_main_cst_10, val_main_cst_9, val_main_cst_8, val_main_cst_3]
  simp only [v16 x0 x1 x2 X T G h0 h1 h2, lit_1024, lit_half, lit_two, coe_mul, coe_one, coe_sum, coe_add, coe_div, ne_eq,
    OfNat.ofNat_ne_zero, not_false_eq_true]
  congr 1
  ring

/-- The gain's gradient. -/
theorem v52 (z : Fin 1) (j : Fin 1024) :
    val_main_v52 (F := Ideal) x0 x1 x2 (ix2 z j) = ((dgain X T G j : ℝ) : EReal) := by
  pointwise [val_main_v52, val_main_v36, val_main_v33, val_main_v32, val_main_v31, val_main_cst_11, val_main_cst_12]
  simp only [v30 x0 x1 x2 X T G h0 h1 h2, v12 x0 X h0, coe_mul, coe_sum]
  simp [dgain, mul_comm]

/-- The cotangent of the normalised row. -/
theorem v35 (i : Fin 4096) (j : Fin 1024) :
    val_main_v35 (F := Ideal) x0 x1 x2 (ix2 i j) = ((err X T G i j * (1 / 1024) * G j : ℝ) : EReal) := by
  pointwise [val_main_v35, val_main_v34, val_main_v13]
  rw [v30 x0 x1 x2 X T G h0 h1 h2, h2, coe_mul]

/-- The cotangent of the row. -/
theorem v50 (i : Fin 4096) (j : Fin 1024) :
    val_main_v50 (F := Ideal) x0 x1 x2 (ix2 i j) = ((dx X T G i j : ℝ) : EReal) := by
  pointwise [val_main_v50, val_main_v49, val_main_v48, val_main_v47, val_main_v46, val_main_v45, val_main_v44, val_main_v43,
    val_main_v42, val_main_v41, val_main_v40, val_main_v39, val_main_v38, val_main_v37, val_main_cst_13, val_main_cst_14,
    val_main_cst_15]
  simp only [v35 x0 x1 x2 X T G h0 h1 h2, v7 x0 X h0, v10 x0 X h0, h0, lit_1024, coe_mul, coe_sum, coe_add, coe_div, ne_eq,
    OfNat.ofNat_ne_zero, not_false_eq_true]
  rw [dx, ← rmsDx_of_ref]
  simp

/-- The cotangent of the row, as bf16 is read in the extended reals. -/
theorem v53 (i : Fin 4096) (j : Fin 1024) :
    val_main_v53 (F := Ideal) x0 x1 x2 (ix2 i j) = ((dx X T G i j : ℝ) : EReal) := by
  pointwise [val_main_v53]
  exact v50 x0 x1 x2 X T G h0 h1 h2 i j

end

end Cert.FinalRefIdeal.Hand

end
-- ==== Proof.FinalVal.lean ====
module

public import proofs.«01_k».proof.Proof.FinalRefVal
public import proofs.«01_k».proof.Proof.Gen.FinalIdeal.Value

@[expose] public section

set_option maxRecDepth 16384

noncomputable section

namespace Cert.FinalIdeal.Hand

open Cert.FinalIdeal Cert.FinalIdeal.Gen Cert.Reals Idealize.ShloMosaic Idealize.ShloMosaic.TcCoe Idealize.SL.Sem
open Idealize.ShloMosaic.Pipeline (Dat)
open Cert.FinalRefIdeal.Hand (err loss dgain dx)

section
variable (v3 v18 : FVec Ideal S1024x1024 .f32) (v14 : FVec Ideal S1x1024 .f32)
variable (X T : Fin 1024 → Fin 1024 → ℝ) (G : Fin 1024 → ℝ)
variable (h3 : ∀ i j, v3 (ix2 i j) = ((X i j : ℝ) : EReal)) (h18 : ∀ i j, v18 (ix2 i j) = ((T i j : ℝ) : EReal))
  (h14 : ∀ z j, v14 (ix2 z j) = ((G j : ℝ) : EReal))
include h3

/-- The reciprocal root of the mean square of a row of the tile. -/
theorem pay6 (i : Fin 1024) (z : Fin 1) : k0_pay6 (F := Ideal) v3 (ix2 i z) = ((rs (X i) : ℝ) : EReal) := by
  pointwise [k0_pay6]
  simp only [h3, lit_1024, lit_eps, coe_mul, coe_sum, coe_add, coe_div, ne_eq, OfNat.ofNat_ne_zero, not_false_eq_true]
  rw [show (∑ k, X i k * X i k) / 1024 + eps = ms (X i) by simp [ms], coe_rsqrt (ms_pos _), rs]

include h18 h14

/-- The output less the target, in the tile. -/
theorem pay7 (i j : Fin 1024) : k0_pay7 (F := Ideal) v3 v14 v18 (ix2 i j) = ((X i j * rs (X i) * G j - T i j : ℝ) : EReal) := by
  pointwise [k0_pay7]
  simp only [pay6 v3 X h3, h3, h14, h18, coe_mul, coe_sub]

/-- The cotangent of the output, in the tile. -/
theorem pay9 (i j : Fin 1024) :
    k0_pay9 (F := Ideal) v3 v14 v18 (ix2 i j) = (((X i j * rs (X i) * G j - T i j) * (1 / 1024) : ℝ) : EReal) := by
  pointwise [k0_pay9]
  simp only [pay7 v3 v18 v14 X T G h3 h18 h14, lit_inv1024, coe_mul]

/-- The cotangent of a row of the tile. -/
theorem pay1 (i j : Fin 1024) :
    k0_pay1 (F := Ideal) v3 (k0_pay6 v3) (k0_pay9 v3 v14 v18) v14 (ix2 i j)
      = ((rmsDx (X i) (fun k => (X i k * rs (X i) * G k - T i k) * (1 / 1024) * G k) j : ℝ) : EReal) := by
  pointwise [k0_pay1]
  simp only [pay9 v3 v18 v14 X T G h3 h18 h14, pay6 v3 X h3, h3, h14, lit_inv1024, coe_mul, coe_sum, coe_sub]
  simp [rmsDx]

/-- The tile's part of the gain's gradient, added to what was there. -/
theorem pay2 (v59 : FVec Ideal S1x1024 .f32) (z : Fin 1) (j : Fin 1024) :
    k0_pay2 (F := Ideal) v3 (k0_pay6 v3) (k0_pay9 v3 v14 v18) v59 (ix2 z j)
      = v59 (ix2 z j) + ((∑ i, (X i j * rs (X i) * G j - T i j) * (1 / 1024) * (X i j * rs (X i)) : ℝ) : EReal) := by
  pointwise [k0_pay2]
  simp only [pay9 v3 v18 v14 X T G h3 h18 h14, pay6 v3 X h3, h3, h14, coe_mul, coe_sum]

/-- The tile's part of the loss, added to what was there. -/
theorem pay8 (v20 : FVec Ideal S8x128 .f32) (a : Fin 8) (b : Fin 128) :
    k0_pay8 (F := Ideal) v3 v14 v18 v20 (ix2 a b)
      = v20 (ix2 a b) + ((1 / 2 * (∑ i, ∑ j, (X i j * rs (X i) * G j - T i j) * (X i j * rs (X i) * G j - T i j)) * (1 / 1024) : ℝ) : EReal) := by
  pointwise [k0_pay8]
  simp only [pay7 v3 v18 v14 X T G h3 h18 h14, lit_half, lit_inv1024, coe_mul, coe_sum]

end

variable (m : (ℓ : Loc nD τ sig) → Buf (Elt Ideal) ℓ)
variable (c : Dev nD)
variable (X T : Fin 4096 → Fin 1024 → ℝ) (G : Fin 1024 → ℝ)
variable (h0 : ∀ i j, (m ((c : Thread nD τ).loc main_arg0) : FVec Ideal S4096x1024 .f32) (ix2 i j) = ((X i j : ℝ) : EReal))
  (h1 : ∀ i j, (m ((c : Thread nD τ).loc main_arg1) : FVec Ideal S4096x1024 .f32) (ix2 i j) = ((T i j : ℝ) : EReal))
  (h2 : ∀ j, (m ((c : Thread nD τ).loc main_arg2) : FVec Ideal S1024 .f32) (ix1 j) = ((G j : ℝ) : EReal))

/-- The blocks that each window takes at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] ∧ t.val < 4 :=
  (by decide +kernel : ∀ t : Fin grid0.N, _)

/-- Row `i` of tile `t`, as a row of the whole array. -/
def row (t : Fin cfg0.N) (i : Fin 1024) : Fin 4096 := ⟨t.val * 1024 + i.val, by have := (idx t).2.2.2.2.2.2.2; omega⟩

include h0 in
/-- The block of rows at a grid point. -/
theorem blk0 (t : Fin cfg0.N) (i j : Fin 1024) : (iblk m c 0 t : FVec Ideal S1024x1024 .f32) (ix2 i j) = ((X (row t i) j : ℝ) : EReal) := by
  rw [← h0]
  blk_point [iblk, V, idx t, row]

include h1 in
/-- The block of targets at a grid point. -/
theorem blk1 (t : Fin cfg0.N) (i j : Fin 1024) : (iblk m c 1 t : FVec Ideal S1024x1024 .f32) (ix2 i j) = ((T (row t i) j : ℝ) : EReal) := by
  rw [← h1]
  blk_point [iblk, V, idx t, row]

include h2 in
/-- The gain at a grid point. -/
theorem blk2 (t : Fin cfg0.N) (z : Fin 1) (j : Fin 1024) : (iblk m c 2 t : FVec Ideal S1x1024 .f32) (ix2 z j) = ((G j : ℝ) : EReal) := by
  rw [← h2]
  blk_point [iblk, idx t]

include h0 h1 h2 in
/-- What every point stores in its rows of the gradient: `k` is the place in the whole array. -/
theorem tile (t : Fin cfg0.N) (y : S1024x1024.Idx) (k : S4096x1024.Idx) (hk0 : (k 0 : ℕ) = t.val * 1024 + y 0) (hk1 : (k 1 : ℕ) = y 1) :
    k0_pay1 (F := Ideal) (iblk m c 0 t) (k0_pay6 (iblk m c 0 t)) (k0_pay9 (iblk m c 0 t) (iblk m c 2 t) (iblk m c 1 t)) (iblk m c 2 t) y
      = ((dx X T G (k 0) (k 1) : ℝ) : EReal) := by
  idx_vars y
  rw [show k 0 = row t y0 from Fin.ext hk0, show k 1 = y1 from Fin.ext hk1]
  exact pay1 _ _ _ _ _ _ (blk0 m c X h0 t) (blk1 m c T h1 t) (blk2 m c G h2 t) y0 y1

include h0 h1 h2 in
/-- The cotangent of the rows after the last grid point. -/
theorem final5 : (dats m 0 c).arrAt 5 (cfgs 0).N = (fun y => ((dx X T G (y 0) (y 1) : ℝ) : EReal) : FVec Ideal S4096x1024 .f32) := by
  refine (dats m 0 c).arrAt_eq_of_covers 5 _ (by decide +kernel) fun t _ y => ?_
  blk_simp [idx t]
  rw [after0_5]
  by_cases h : t.val % 4 = 0
  · rw [outsAt0_A m c t h]; frame_out
    refine tile m c X T G h0 h1 h2 t y _ ?_ ?_ <;> blk_simp [idx t]
  · rw [outsAt0_B m c t h]; frame_out
    refine tile m c X T G h0 h1 h2 t y _ ?_ ?_ <;> blk_simp [idx t]

include h0 h1 h2 in
/-- Its bf16 copy after the last grid point. -/
theorem final6 : (dats m 0 c).arrAt 6 (cfgs 0).N = (fun y => ((dx X T G (y 0) (y 1) : ℝ) : EReal) : FVec Ideal S4096x1024 .bf16) := by
  refine (dats m 0 c).arrAt_eq_of_covers 6 _ (by decide +kernel) fun t _ y => ?_
  blk_simp [idx t]
  rw [after0_6]
  by_cases h : t.val % 4 = 0
  · rw [outsAt0_A m c t h]; frame_out
    refine tile m c X T G h0 h1 h2 t y _ ?_ ?_ <;> blk_simp [idx t]
  · rw [outsAt0_B m c t h]; frame_out
    refine tile m c X T G h0 h1 h2 t y _ ?_ ?_ <;> blk_simp [idx t]

/-- A sum over the rows is the sum over the tiles of the sums over their rows. -/
theorem sum_tiles (f : Fin 4096 → ℝ) : ∑ t : Fin cfg0.N, ∑ i : Fin 1024, f (row t i) = ∑ i, f i :=
  (Fin.sum_univ_tiles 4 1024 rfl f).symm

/-- The loss's tile starts at zero. -/
theorem pay4 (j) : k0_pay4 (F := Ideal) j = 0 := by pointwise [k0_pay4]
/-- The gain's gradient starts at zero. -/
theorem pay5 (j) : k0_pay5 (F := Ideal) j = 0 := by pointwise [k0_pay5]

include h0 h1 h2 in
/-- The gain's gradient after the last grid point. -/
theorem final4 : (dats m 0 c).arrAt 4 (cfgs 0).N = (fun y => ((dgain X T G (y 1) : ℝ) : EReal) : FVec Ideal S1x1024 .f32) := by
  refine (dats m 0 c).arrAt_eq_of_after_last 4 t0_3 (by decide +kernel) _ fun j => ?_
  blk_simp
  rw [after0_4, Pipeline.eq_sum_fin_of_reset_step_apply_last (fun n h => (outsAt0 m c n h).2.1) 4 (fun _ => 0)
    (fun t j => ((∑ i, err X T G (row t i) (j 1) * (1 / 1024) * (X (row t i) (j 1) * rs (X (row t i))) : ℝ) : EReal))
    (fun t h j => by
      rw [outsAt0_A m c t h]; frame_out; idx_vars j
      exact (pay2 _ _ _ _ _ _ (blk0 m c X h0 t) (blk1 m c T h1 t) (blk2 m c G h2 t) _ j0 j1).trans (congrArg (· + _) (pay5 _)))
    (fun t h j => by
      rw [outsAt0_B m c t h]; frame_out; idx_vars j
      exact pay2 _ _ _ _ _ _ (blk0 m c X h0 t) (blk1 m c T h1 t) (blk2 m c G h2 t) _ j0 j1)
    (le_of_eq N_0) t0_3 rfl j, zero_add, coe_sum]
  congr 1
  unfold dgain
  exact sum_tiles (fun i => err X T G i (j 1) * (1 / 1024) * (X i (j 1) * rs (X i)))

include h0 h1 h2 in
/-- The loss after the last grid point. -/
theorem final3 : (dats m 0 c).arrAt 3 (cfgs 0).N = (fun y => ((loss X T G : ℝ) : EReal) : FVec Ideal S8x128 .f32) := by
  refine (dats m 0 c).arrAt_eq_of_after_last 3 t0_3 (by decide +kernel) _ fun j => ?_
  blk_simp
  rw [after0_3, Pipeline.eq_sum_fin_of_reset_step_apply_last (fun n h => (outsAt0 m c n h).1) 4 (fun _ => 0)
    (fun t j => ((1 / 2 * (∑ i, ∑ k, err X T G (row t i) k * err X T G (row t i) k) * (1 / 1024) : ℝ) : EReal))
    (fun t h j => by
      rw [outsAt0_A m c t h]; frame_out; idx_vars j
      exact (pay8 _ _ _ _ _ _ (blk0 m c X h0 t) (blk1 m c T h1 t) (blk2 m c G h2 t) _ j0 j1).trans (congrArg (· + _) (pay4 _)))
    (fun t h j => by
      rw [outsAt0_B m c t h]; frame_out; idx_vars j
      exact pay8 _ _ _ _ _ _ (blk0 m c X h0 t) (blk1 m c T h1 t) (blk2 m c G h2 t) _ j0 j1)
    (le_of_eq N_0) t0_3 rfl j, zero_add, coe_sum]
  congr 1
  rw [loss, ← sum_tiles, Finset.mul_sum]
  refine Finset.sum_congr rfl fun t _ => ?_
  rw [← Finset.sum_div]
  ring

end Cert.FinalIdeal.Hand

end
-- ==== Proof.FinalClaim.lean ====
module

public import proofs.«01_k».proof.Defs
public import proofs.«01_k».proof.Proof.FinalVal
public import proofs.«01_k».proof.Proof.Gen.Final.Frame
public import proofs.«01_k».proof.Proof.Gen.FinalIdeal.Frame
public import proofs.«01_k».proof.Proof.Gen.FinalRefIdeal.Run
public import proofs.«01_k».proof.Proof.Gen.Pre_finite_final
public import Idealize.ShloMosaic.Lib.Quiescent

@[expose] public section

set_option maxRecDepth 16384

noncomputable section

namespace Cert.FinalClaim

open Idealize.ShloMosaic Idealize.SL.Sem Cert.Reals

/-- The kernel runs and leaves its arguments and its counters as they were. -/
theorem frame_kernel : Cert.quiescent_Final := fun m ρ _ => Cert.Final.Gen.frame m ρ

/-- So does its idealization. -/
theorem frame_ideal : Cert.quiescent_FinalIdeal := fun m ρ _ => Cert.FinalIdeal.Gen.frame m ρ

/-- So does the reference: it has no counters at all, and its run leaves the arguments. -/
theorem frame_ref : Cert.quiescent_FinalRefIdeal := fun m ρ _ =>
  (θ_run Cert.FinalRefIdeal.defs _ _).mono (fun r h => ⟨fun c => (h c).2.2.2.2, sem_eq_zero_of_no_sems rfl r.2⟩)
    (Cert.FinalRefIdeal.Value.run (F := Ideal) m ρ)

/-- The precondition says that every element of the three arguments is a real number. -/
theorem finite (x t : FVec Ideal Cert.Pre_finite_final.S4096x1024 .f32) (g : FVec Ideal Cert.Pre_finite_final.S1024 .f32)
    (h : (Cert.Pre_finite_final.fn (F := Ideal) x t g).1 = (fun _ => 1#1)
      ∧ (Cert.Pre_finite_final.fn (F := Ideal) x t g).2.1 = (fun _ => 1#1)
      ∧ (Cert.Pre_finite_final.fn (F := Ideal) x t g).2.2 = (fun _ => 1#1)) :
    (∀ i j, x (ix2 i j) = (((x (ix2 i j)).toReal : ℝ) : EReal)) ∧ (∀ i j, t (ix2 i j) = (((t (ix2 i j)).toReal : ℝ) : EReal))
      ∧ (∀ j, g (ix1 j) = (((g (ix1 j)).toReal : ℝ) : EReal)) :=
  ⟨fun i j => eq_coe_toReal (congrFun h.1 (ix2 i j)), fun i j => eq_coe_toReal (congrFun h.2.1 (ix2 i j)),
    fun j => eq_coe_toReal (congrFun h.2.2 (ix1 j))⟩

/-- The kernel and the derivative of the loss end with equal results: the loss, the gradient of the gain, and the gradient
    of the input twice over. -/
theorem algebraic : Cert.algebraic_FinalIdeal_FinalRefIdeal_pre_finite_final := by
  intro m g m' g' hpre hag
  have hf := fun c => finite _ _ _ (hpre c)
  have k3 := fun c => Cert.FinalIdeal.Hand.final3 m c _ _ _ (hf c).1 (hf c).2.1 (hf c).2.2
  have k4 := fun c => Cert.FinalIdeal.Hand.final4 m c _ _ _ (hf c).1 (hf c).2.1 (hf c).2.2
  have k5 := fun c => Cert.FinalIdeal.Hand.final5 m c _ _ _ (hf c).1 (hf c).2.1 (hf c).2.2
  have k6 := fun c => Cert.FinalIdeal.Hand.final6 m c _ _ _ (hf c).1 (hf c).2.1 (hf c).2.2
  refine ⟨fun c => (Cert.FinalIdeal.Gen.dats m 0 c).arrAt 3 (Cert.FinalIdeal.cfgs 0).N,
    fun c => (Cert.FinalIdeal.Gen.dats m 0 c).arrAt 4 (Cert.FinalIdeal.cfgs 0).N,
    fun c => (Cert.FinalIdeal.Gen.dats m 0 c).arrAt 5 (Cert.FinalIdeal.cfgs 0).N,
    fun c => (Cert.FinalIdeal.Gen.dats m 0 c).arrAt 6 (Cert.FinalIdeal.cfgs 0).N,
    Cert.FinalIdeal.Value.run_blocks m g,
    (θ_run Cert.FinalRefIdeal.defs _ _).mono (fun r h c => ?_) (Cert.FinalRefIdeal.Value.run (F := Ideal) m' g')⟩
  · obtain ⟨r0, r1, r2, r3, ra⟩ := h c
    obtain ⟨e0, e1, e2⟩ := hag c
    refine ⟨(r0.trans ?_).trans (k3 c).symm, (r1.trans ?_).trans (k4 c).symm, (r2.trans ?_).trans (k5 c).symm,
      (r3.trans ?_).trans (k6 c).symm, ra⟩
    · rw [Cert.FinalRefIdeal.Read.val_main_v51_eq, e0, e1, e2]
      funext y; idx_vars y
      exact Cert.FinalRefIdeal.Hand.v51 _ _ _ _ _ _ (hf c).1 (hf c).2.1 (hf c).2.2 _ _
    · rw [Cert.FinalRefIdeal.Read.val_main_v52_eq, e0, e1, e2]
      funext y; idx_vars y
      exact Cert.FinalRefIdeal.Hand.v52 _ _ _ _ _ _ (hf c).1 (hf c).2.1 (hf c).2.2 _ _
    · rw [Cert.FinalRefIdeal.Read.val_main_v50_eq, e0, e1, e2]
      funext y; idx_vars y
      exact Cert.FinalRefIdeal.Hand.v50 _ _ _ _ _ _ (hf c).1 (hf c).2.1 (hf c).2.2 _ _
    · rw [Cert.FinalRefIdeal.Read.val_main_v53_eq, e0, e1, e2]
      funext y; idx_vars y
      exact Cert.FinalRefIdeal.Hand.v53 _ _ _ _ _ _ (hf c).1 (hf c).2.1 (hf c).2.2 _ _

end Cert.FinalClaim

end
-- ==== Proof.BiasClaim.lean ====
module

public import proofs.«01_k».proof.Defs
public import proofs.«01_k».proof.Proof.Reals
public import proofs.«01_k».proof.Proof.Gen.Bias.Frame
public import proofs.«01_k».proof.Proof.Gen.BiasIdeal.Value
public import proofs.«01_k».proof.Proof.Gen.BiasRefIdeal.Run
public import proofs.«01_k».proof.Proof.Gen.BiasRefIdeal.Read
public import Idealize.ShloMosaic.Lib.Quiescent

@[expose] public section

set_option maxRecDepth 16384

noncomputable section

namespace Cert.BiasClaim

open Idealize.ShloMosaic Idealize.SL.Sem Cert.Reals Cert.BiasIdeal Cert.BiasIdeal.Gen Cert.BiasRefIdeal.Read

/-- The kernel runs and leaves its argument and its counters as they were. -/
theorem frame_kernel : Cert.quiescent_Bias := fun m ρ _ => Cert.Bias.Gen.frame m ρ

/-- So does its idealization. -/
theorem frame_ideal : Cert.quiescent_BiasIdeal := fun m ρ _ => Cert.BiasIdeal.Gen.frame m ρ

/-- So does the reference: it has no counters at all, and its run leaves the argument. -/
theorem frame_ref : Cert.quiescent_BiasRefIdeal := fun m ρ _ =>
  (θ_run Cert.BiasRefIdeal.defs _ _).mono (fun r h => ⟨fun c => (h c).2, sem_eq_zero_of_no_sems rfl r.2⟩)
    (Cert.BiasRefIdeal.Value.run (F := Ideal) m ρ)

/-- The reference sums each head's channels. -/
theorem ref (x : FVec Ideal S128x512 .f32) (h : Fin 4) (t : Fin 128) :
    val_main_v8 (F := Ideal) x (ix2 h t) = ∑ k : Fin 128, x (ix2 t ⟨h.val * 128 + k.val, by omega⟩) := by
  pointwise [val_main_v8, val_main_v7, val_main_v6, val_main_v5, val_main_v4, val_main_cst_0, val_main_cst_1]
  simp

/-- So does the kernel, as the product of the channels with ones. -/
theorem kernel (x : FVec Ideal S128x512 .f32) : Cert.BiasIdeal.Value.G1 (F := Ideal) x = val_main_v8 (F := Ideal) x := by
  funext y
  idx_vars y
  rw [ref]
  canon_tiles x h
  all_goals (open_payloads; pointwise [k0_pay1])
  all_goals refine Finset.sum_congr rfl fun k _ => ?_
  all_goals (change (y0 : ℕ) = _ at h0; change (y1 : ℕ) = _ at h1; blk_ext <;> omega)

/-- On every run the kernel and the reference leave the same gradient of the bias. -/
theorem algebraic : Cert.algebraic_BiasIdeal_BiasRefIdeal := by
  intro m g m' g' _ hag
  refine ⟨fun c => Cert.BiasIdeal.Value.G1 (m (c.tc.loc main_arg0)), Cert.BiasIdeal.Value.run m g,
    (θ_run Cert.BiasRefIdeal.defs _ _).mono (fun r h c => ?_) (Cert.BiasRefIdeal.Value.run (F := Ideal) m' g')⟩
  refine ⟨(h c).1.trans ?_, (h c).2⟩
  rw [val_main_v8_eq, hag c]
  exact (kernel _).symm

end Cert.BiasClaim

end
-- ==== Proof.KvClaim.lean ====
module

public import proofs.«01_k».proof.Defs
public import proofs.«01_k».proof.Proof.Reals
public import proofs.«01_k».proof.Proof.Gen.Kv.Frame
public import proofs.«01_k».proof.Proof.Gen.KvIdeal.Value
public import proofs.«01_k».proof.Proof.Gen.KvRefIdeal.Run
public import proofs.«01_k».proof.Proof.Gen.KvRefIdeal.Read
public import Idealize.ShloMosaic.Lib.Quiescent

@[expose] public section

set_option maxRecDepth 16384

noncomputable section

/-! The gradients of the key and value projection: both programs compute the same sums of products, the kernel one head at a
    time, the reference over all heads at once. No finiteness is needed. -/

namespace Cert.KvClaim

open Idealize.ShloMosaic Idealize.SL.Sem Cert.Reals Cert.KvIdeal Cert.KvIdeal.Gen Cert.KvRefIdeal.Read

/-- The kernel runs and leaves its arguments and its counters as they were. -/
theorem frame_kernel : Cert.quiescent_Kv := fun m ρ _ => Cert.Kv.Gen.frame m ρ

/-- So does its idealization. -/
theorem frame_ideal : Cert.quiescent_KvIdeal := fun m ρ _ => Cert.KvIdeal.Gen.frame m ρ

/-- So does the reference: it has no counters at all, and its run leaves the arguments. -/
theorem frame_ref : Cert.quiescent_KvRefIdeal := fun m ρ _ =>
  (θ_run Cert.KvRefIdeal.defs _ _).mono (fun r h => ⟨fun c => (h c).2.2, sem_eq_zero_of_no_sems rfl r.2⟩)
    (Cert.KvRefIdeal.Value.run (F := Ideal) m ρ)

section
variable (x0 : FVec Ideal S256x1024 .f32) (x1 : FVec Ideal S1024 .f32) (x2 : FVec Ideal S1024x2048 .f32)
  (x3 : FVec Ideal S8x256x256 .f32)

/-- Column `e` of head `j`, as a column of all heads. -/
def col (j : Fin 8) (e : Fin 256) : Fin 2048 := ⟨j.val * 256 + e.val, by omega⟩

/-- The cotangent of all heads side by side. -/
theorem ref1 (i : Fin 256) (j : Fin 8) (e : Fin 256) : val_main_v1 (F := Ideal) x3 (ix2 i (col j e)) = x3 (ix3 j i e) := by
  pointwise [val_main_v1, val_main_v0, col]

/-- The reference's gradient of the weight. -/
theorem ref24 (j : Fin 8) (d : Fin 1024) (e : Fin 256) :
    val_main_v24 (F := Ideal) x0 x1 x3 (ix3 j d e) = ∑ i : Fin 256, val_main_v14 (F := Ideal) x0 x1 (ix2 i d) * x3 (ix3 j i e) := by
  pointwise [val_main_v24, val_main_v23, val_main_v17, val_main_v16]
  refine Finset.sum_congr rfl fun i _ => ?_
  rw [mul_comm, ← ref1 x3 i j e]
  congr 1

/-- The gradient of the normalised memory. -/
def dmemn (i : Fin 256) (k : Fin 1024) : EReal := ∑ j : Fin 8, ∑ e : Fin 256, x3 (ix3 j i e) * x2 (ix2 k (col j e))

/-- The reference's gradient of the normalised memory. -/
theorem ref18 (i : Fin 256) (k : Fin 1024) : val_main_v18 (F := Ideal) x2 x3 (ix2 i k) = dmemn x2 x3 i k := by
  pointwise [val_main_v18]
  refine (Fin.sum_univ_tiles 8 256 rfl _).trans ?_
  refine Finset.sum_congr rfl fun j _ => Finset.sum_congr rfl fun e _ => ?_
  rw [← ref1 x3 i j e]
  rfl

/-- The reference's gradient of the gain. -/
theorem ref25 (z : Fin 1) (k : Fin 1024) :
    val_main_v25 (F := Ideal) x0 x2 x3 (ix2 z k) = ∑ i : Fin 256, val_main_v11 (F := Ideal) x0 (ix2 i k) * dmemn x2 x3 i k := by
  pointwise [val_main_v25, val_main_v22, val_main_v21, val_main_v20, val_main_v19, val_main_cst_2, val_main_cst_3]
  simp [ref18]

/-- The kernel's gradient of the weight, of any blocks. -/
theorem out5 (a : FVec Ideal S8x256x256 .f32) (b : FVec Ideal S256x1024 .bf16) (x : FVec Ideal S256x1024 .f32)
    (g : FVec Ideal S1x1024 .f32) (w : FVec Ideal S8x1024x256 .bf16) (j : Fin 8) (d : Fin 1024) (e : Fin 256) :
    out0_5 (F := Ideal) a b x g w (ix3 j d e) = ∑ i : Fin 256, b (ix2 i d) * a (ix3 j i e) := by
  unfold_out out0_5
  canon_tiles x h
  all_goals (open_payloads; pointwise)
  all_goals refine Finset.sum_congr rfl fun i _ => ?_
  all_goals (change (j : ℕ) = _ at h0; change (d : ℕ) = _ at h1; change (e : ℕ) = _ at h2)
  all_goals (refine congrArg₂ (· * ·) ?_ ?_ <;> blk_ext <;> omega)

/-- The kernel's gradient of the gain, of any blocks. -/
theorem out6 (a : FVec Ideal S8x256x256 .f32) (b : FVec Ideal S256x1024 .bf16) (x : FVec Ideal S256x1024 .f32)
    (g : FVec Ideal S1x1024 .f32) (w : FVec Ideal S8x1024x256 .bf16) (z : Fin 1) (k : Fin 1024) :
    out0_6 (F := Ideal) a b x g w (ix2 z k)
      = ∑ i : Fin 256, (∑ j : Fin 8, ∑ e : Fin 256, a (ix3 j i e) * w (ix3 j k e)) * val_main_v11 (F := Ideal) x (ix2 i k) := by
  unfold_out out0_6
  frame_out
  open_payloads
  pointwise
  refine Finset.sum_congr rfl fun i _ => ?_
  rw [Fin.sum_univ_eight]
  congr 1
  pointwise [val_main_v11, val_main_v10, val_main_v9, val_main_v8, val_main_v7, val_main_v6, val_main_v5, val_main_v4, val_main_v3,
    val_main_v2, val_main_cst, val_main_cst_0, val_main_cst_1]
end

section
variable (m : (ℓ : Loc nD τ sig) → Buf (Elt Ideal) ℓ) (c : Dev nD)

/-- The windows' blocks at the one point of the grid. -/
theorem idx : ∀ t : Fin cfg0.N, win0_0.index t = ![0, 0, 0] ∧ win0_1.index t = ![0, 0] ∧ win0_2.index t = ![0, 0]
    ∧ win0_4.index t = ![0, 0, 0] ∧ win0_5.index t = ![0, 0, 0] ∧ win0_6.index t = ![0, 0] :=
  (by decide +kernel : ∀ t : Fin grid0.N, _)

/-- The staged cotangent. -/
theorem blk0 (t : Fin cfg0.N) (j : Fin 8) (i e : Fin 256) :
    (iblk m c 0 t : FVec Ideal S8x256x256 .f32) (ix3 j i e) = (m (c.tc.loc main_arg3) : FVec Ideal S8x256x256 .f32) (ix3 j i e) := by
  blk_point [iblk, V, idx t]

/-- The staged normalised memory. -/
theorem blk1 (t : Fin cfg0.N) (i : Fin 256) (d : Fin 1024) :
    (iblk m c 1 t : FVec Ideal S256x1024 .bf16) (ix2 i d)
      = val_main_v14 (F := Ideal) (m (c.tc.loc main_arg0)) (m (c.tc.loc main_arg1)) (ix2 i d) := by
  have e : (win0_1.blk t).view.emb (ix2 i d) = (ix2 i d : S256x1024.Idx) := by
    funext a; fin_cases a <;> (apply Fin.ext; blk_simp [idx t])
  change (V m c main_v16 : FVec Ideal S256x1024 .bf16) ((win0_1.blk t).view.emb (ix2 i d)) = _
  rw [e]
  rfl

/-- The staged memory. -/
theorem blk2 (t : Fin cfg0.N) (i : Fin 256) (d : Fin 1024) :
    (iblk m c 2 t : FVec Ideal S256x1024 .f32) (ix2 i d) = (m (c.tc.loc main_arg0) : FVec Ideal S256x1024 .f32) (ix2 i d) := by
  blk_point [iblk, V, idx t]

/-- The staged weight, one head at a time. -/
theorem blk4 (t : Fin cfg0.N) (j : Fin 8) (d : Fin 1024) (e : Fin 256) :
    (iblk m c 4 t : FVec Ideal S8x1024x256 .bf16) (ix3 j d e)
      = (m (c.tc.loc main_arg2) : FVec Ideal S1024x2048 .f32) (ix2 d (col j e)) := by
  blk_point [iblk, idx t, col]

/-- An index of three axes is its coordinates. -/
theorem ix3_of (k : S8x1024x256.Idx) (j : Fin 8) (d : Fin 1024) (e : Fin 256) (h0 : (k 0 : ℕ) = j) (h1 : (k 1 : ℕ) = d)
    (h2 : (k 2 : ℕ) = e) : k = ix3 j d e := by
  funext a; fin_cases a
  exacts [Fin.ext h0, Fin.ext h1, Fin.ext h2]

/-- An index of two axes is its coordinates. -/
theorem ix2_of (k : S1x1024.Idx) (j : Fin 1) (d : Fin 1024) (h0 : (k 0 : ℕ) = j) (h1 : (k 1 : ℕ) = d) : k = ix2 j d := by
  funext a; fin_cases a
  exacts [Fin.ext h0, Fin.ext h1]

/-- The kernel's gradient of the weight, an entry. -/
theorem point5 (t : Fin cfg0.N) (j : Fin 8) (d : Fin 1024) (e : Fin 256) :
    out0_5 (F := Ideal) (iblk m c 0 t) (iblk m c 1 t) (iblk m c 2 t) (iblk m c 3 t) (iblk m c 4 t) (ix3 j d e)
      = val_main_v24 (F := Ideal) (m (c.tc.loc main_arg0)) (m (c.tc.loc main_arg1)) (m (c.tc.loc main_arg3)) (ix3 j d e) :=
  (out5 _ _ _ _ _ _ _ _).trans (Eq.trans
    (Finset.sum_congr rfl fun i _ => congrArg₂ (fun a b : EReal => a * b) (blk1 m c t _ _) (blk0 m c t _ _ _)) (ref24 _ _ _ _ _ _).symm)

/-- The kernel's gradient of the gain, an entry. -/
theorem point6 (t : Fin cfg0.N) (z : Fin 1) (k : Fin 1024) :
    out0_6 (F := Ideal) (iblk m c 0 t) (iblk m c 1 t) (iblk m c 2 t) (iblk m c 3 t) (iblk m c 4 t) (ix2 z k)
      = val_main_v25 (F := Ideal) (m (c.tc.loc main_arg0)) (m (c.tc.loc main_arg2)) (m (c.tc.loc main_arg3)) (ix2 z k) := by
  have e : iblk m c 2 t = (m (c.tc.loc main_arg0) : FVec Ideal S256x1024 .f32) := by funext k; idx_vars k; exact blk2 m c t _ _
  refine (out6 _ _ _ _ _ _ _).trans (Eq.trans ?_ (ref25 _ _ _ _ _).symm)
  rw [e]
  refine Finset.sum_congr rfl fun i _ => (mul_comm _ _).trans (congrArg (fun a : EReal => val_main_v11 (F := Ideal) (m (c.tc.loc main_arg0)) (ix2 i k) * a) ?_)
  exact Finset.sum_congr rfl fun j _ => Finset.sum_congr rfl fun k _ =>
    congrArg₂ (fun a b : EReal => a * b) (blk0 m c t _ _ _) (blk4 m c t _ _ _)

/-- The kernel's gradient of the weight is the reference's. -/
theorem final5 : (dats m 0 c).arrAt 5 (cfgs 0).N
    = val_main_v24 (F := Ideal) (m (c.tc.loc main_arg0)) (m (c.tc.loc main_arg1)) (m (c.tc.loc main_arg3)) := by
  refine (dats m 0 c).arrAt_eq_of_covers 5 _ (by decide +kernel) fun t _ y => ?_
  blk_simp [idx t]
  rw [after0_5]
  idx_vars y
  refine Eq.trans ?_ (congrArg (val_main_v24 (F := Ideal) _ _ _)
    (ix3_of _ y0 y1 y2 (by blk_simp [idx t]) (by blk_simp [idx t]) (by blk_simp [idx t]))).symm
  exact point5 m c t y0 y1 y2

/-- The kernel's gradient of the gain is the reference's. -/
theorem final6 : (dats m 0 c).arrAt 6 (cfgs 0).N
    = val_main_v25 (F := Ideal) (m (c.tc.loc main_arg0)) (m (c.tc.loc main_arg2)) (m (c.tc.loc main_arg3)) := by
  refine (dats m 0 c).arrAt_eq_of_covers 6 _ (by decide +kernel) fun t _ y => ?_
  blk_simp [idx t]
  rw [after0_6]
  idx_vars y
  refine Eq.trans ?_ (congrArg (val_main_v25 (F := Ideal) _ _ _) (ix2_of _ y0 y1 (by blk_simp [idx t]) (by blk_simp [idx t]))).symm
  exact point6 m c t y0 y1
end

/-- On every run the kernel and the reference leave the same two gradients. -/
theorem algebraic : Cert.algebraic_KvIdeal_KvRefIdeal := by
  intro m g m' g' _ hag
  refine ⟨fun c => (dats m 0 c).arrAt 5 (cfgs 0).N, fun c => (dats m 0 c).arrAt 6 (cfgs 0).N, Cert.KvIdeal.Value.run_blocks m g,
    (θ_run Cert.KvRefIdeal.defs _ _).mono (fun r h c => ?_) (Cert.KvRefIdeal.Value.run (F := Ideal) m' g')⟩
  obtain ⟨r0, r1, ra⟩ := h c
  obtain ⟨e0, e1, e2, e3⟩ := hag c
  refine ⟨(r0.trans ?_).trans (final5 m c).symm, (r1.trans ?_).trans (final6 m c).symm, ra⟩
  · rw [val_main_v24_eq, e0, e1, e3]
  · rw [val_main_v25_eq, e0, e2, e3]

end Cert.KvClaim

end
-- ==== Proof.SwigluRefVal.lean ====
module

public import proofs.«01_k».proof.Proof.Reals
public import proofs.«01_k».proof.Proof.Gen.SwigluRefIdeal.Read

@[expose] public section

set_option maxRecDepth 16384

noncomputable section

/-! The reference of the gated unit's gradients, in real numbers. -/

namespace Cert.SwigluRefIdeal.Hand

open Cert.SwigluRefIdeal Cert.SwigluRefIdeal.Read Cert.Reals Idealize.ShloMosaic

/-- The normalised row. -/
def xn (X : Fin 4096 → Fin 1024 → ℝ) (G : Fin 1024 → ℝ) (i : Fin 4096) (k : Fin 1024) : ℝ := X i k * rs (X i) * G k

section
variable (X : Fin 4096 → Fin 1024 → ℝ) (G : Fin 1024 → ℝ) (W : Fin 1024 → Fin 5632 → ℝ) (D : Fin 2816 → Fin 1024 → ℝ)
  (Y : Fin 4096 → Fin 1024 → ℝ)

/-- Both halves of the up projection, side by side. -/
def gu (i : Fin 4096) (j : Fin 5632) : ℝ := ∑ k, xn X G i k * W k j
/-- The gate's half. -/
def gate (i : Fin 4096) (f : Fin 2816) : ℝ := gu X G W i ⟨f.val, by omega⟩
/-- The other half. -/
def up (i : Fin 4096) (f : Fin 2816) : ℝ := gu X G W i ⟨2816 + f.val, by omega⟩
/-- The gated unit. -/
def act (i : Fin 4096) (f : Fin 2816) : ℝ := gate X G W i f * logistic (gate X G W i f) * up X G W i f
/-- The cotangent of the gated unit. -/
def dact (i : Fin 4096) (f : Fin 2816) : ℝ := ∑ d, Y i d * D f d
/-- The gradient of the gate's half. -/
def dgate (i : Fin 4096) (f : Fin 2816) : ℝ :=
  dact D Y i f * up X G W i f * (logistic (gate X G W i f) * (1 + gate X G W i f * (1 - logistic (gate X G W i f))))
/-- The gradient of the other half. -/
def dup (i : Fin 4096) (f : Fin 2816) : ℝ := dact D Y i f * (gate X G W i f * logistic (gate X G W i f))
/-- Both gradients, side by side. -/
def dgu (i : Fin 4096) (j : Fin 5632) : ℝ :=
  if h : j.val < 2816 then dgate X G W D Y i ⟨j.val, h⟩ else dup X G W D Y i ⟨j.val - 2816, by omega⟩
/-- The gradient of the normalised row. -/
def dxn (i : Fin 4096) (k : Fin 1024) : ℝ := ∑ j, dgu X G W D Y i j * W k j
end

section
variable (x0 : FVec Ideal S4096x1024 .f32) (x1 : FVec Ideal S1024 .f32) (x2 : FVec Ideal S1024x5632 .f32)
  (x3 : FVec Ideal S2816x1024 .f32) (x4 : FVec Ideal S4096x1024 .f32)
variable (X : Fin 4096 → Fin 1024 → ℝ) (G : Fin 1024 → ℝ) (W : Fin 1024 → Fin 5632 → ℝ) (D : Fin 2816 → Fin 1024 → ℝ)
  (Y : Fin 4096 → Fin 1024 → ℝ)
variable (h0 : ∀ i j, x0 (ix2 i j) = ((X i j : ℝ) : EReal)) (h1 : ∀ j, x1 (ix1 j) = ((G j : ℝ) : EReal))
  (h2 : ∀ i j, x2 (ix2 i j) = ((W i j : ℝ) : EReal)) (h3 : ∀ i j, x3 (ix2 i j) = ((D i j : ℝ) : EReal))
  (h4 : ∀ i j, x4 (ix2 i j) = ((Y i j : ℝ) : EReal))

include h0 in
/-- The reciprocal root. -/
theorem v7 (i : Fin 4096) (z : Fin 1) : val_main_v7 (F := Ideal) x0 (ix2 i z) = ((rs (X i) : ℝ) : EReal) := by
  pointwise [val_main_v7, val_main_v6, val_main_v5, val_main_v4, val_main_v3, val_main_v2, val_main_v1, val_main_v0, val_main_cst,
    val_main_cst_0, val_main_cst_1]
  simp only [h0, lit_1024, lit_eps, coe_mul, coe_sum, coe_add, coe_div, ne_eq, OfNat.ofNat_ne_zero, not_false_eq_true, zero_add]
  rw [show (∑ k, X i k * X i k) / 1024 + eps = ms (X i) by simp [ms], coe_rsqrt (ms_pos _), rs]

include h0 h1 in
/-- The normalised row. -/
theorem v12 (i : Fin 4096) (k : Fin 1024) : val_main_v12 (F := Ideal) x0 x1 (ix2 i k) = ((xn X G i k : ℝ) : EReal) := by
  pointwise [val_main_v12, val_main_v11, val_main_v10, val_main_v9, val_main_v8]
  simp only [v7 x0 X h0, h0, h1, coe_mul]
  rfl

include h0 h1 h2 in
/-- Both halves of the up projection. -/
theorem v13 (i : Fin 4096) (j : Fin 5632) : val_main_v13 (F := Ideal) x0 x1 x2 (ix2 i j) = ((gu X G W i j : ℝ) : EReal) := by
  pointwise [val_main_v13]
  simp only [v12 x0 x1 X G h0 h1, h2, coe_mul, coe_sum]
  rfl

include h0 h1 h2 in
/-- The gate's half. -/
theorem v14 (i : Fin 4096) (f : Fin 2816) : val_main_v14 (F := Ideal) x0 x1 x2 (ix2 i f) = ((gate X G W i f : ℝ) : EReal) := by
  pointwise [val_main_v14]
  exact v13 x0 x1 x2 X G W h0 h1 h2 _ _

include h0 h1 h2 in
/-- The other half. -/
theorem v15 (i : Fin 4096) (f : Fin 2816) : val_main_v15 (F := Ideal) x0 x1 x2 (ix2 i f) = ((up X G W i f : ℝ) : EReal) := by
  pointwise [val_main_v15]
  exact v13 x0 x1 x2 X G W h0 h1 h2 _ _

include h0 h1 h2 in
/-- The logistic function of the gate. -/
theorem v16_2 (i : Fin 4096) (f : Fin 2816) :
    val_main_v16_2 (F := Ideal) x0 x1 x2 (ix2 i f) = ((logistic (gate X G W i f) : ℝ) : EReal) := by
  pointwise [val_main_v16_2, val_main_call0_v4, val_main_call0_v3, val_main_call0_v2, val_main_call0_v1, val_main_call0_v0,
    val_main_call0_cst, val_main_call0_cst_0]
  rw [v14 x0 x1 x2 X G W h0 h1 h2, coe_neg, coe_logistic]

include h0 h1 h2 in
/-- The gated unit. -/
theorem v17 (i : Fin 4096) (f : Fin 2816) : val_main_v17 (F := Ideal) x0 x1 x2 (ix2 i f) = ((act X G W i f : ℝ) : EReal) := by
  pointwise [val_main_v17, val_main_v16_0]
  rw [v14 x0 x1 x2 X G W h0 h1 h2, v15 x0 x1 x2 X G W h0 h1 h2, v16_2 x0 x1 x2 X G W h0 h1 h2, coe_mul, coe_mul, act]

include h3 h4 in
/-- The cotangent of the gated unit. -/
theorem v19 (i : Fin 4096) (f : Fin 2816) : val_main_v19 (F := Ideal) x3 x4 (ix2 i f) = ((dact D Y i f : ℝ) : EReal) := by
  pointwise [val_main_v19]
  simp only [h3, h4, coe_mul, coe_sum]
  rfl

include h0 h1 h2 h3 h4 in
/-- The gradient of the other half. -/
theorem v20 (i : Fin 4096) (f : Fin 2816) :
    val_main_v20 (F := Ideal) x0 x1 x2 x3 x4 (ix2 i f) = ((dup X G W D Y i f : ℝ) : EReal) := by
  pointwise [val_main_v20, val_main_v16_0]
  rw [v14 x0 x1 x2 X G W h0 h1 h2, v16_2 x0 x1 x2 X G W h0 h1 h2, v19 x3 x4 D Y h3 h4, coe_mul, coe_mul, dup]
  congr 1
  ring

include h0 h1 h2 h3 h4 in
/-- The gradient of the gate's half. -/
theorem v22 (i : Fin 4096) (f : Fin 2816) :
    val_main_v22 (F := Ideal) x0 x1 x2 x3 x4 (ix2 i f) = ((dgate X G W D Y i f : ℝ) : EReal) := by
  pointwise [val_main_v22, val_main_call1_v1, val_main_call1_v2, val_main_call1_v0, val_main_v21, val_main_v16_1, val_main_call0_v7,
    val_main_call0_v6, val_main_call0_cst_1]
  rw [v14 x0 x1 x2 X G W h0 h1 h2, v16_2 x0 x1 x2 X G W h0 h1 h2, v15 x0 x1 x2 X G W h0 h1 h2, v19 x3 x4 D Y h3 h4]
  simp only [coe_one, coe_sub, coe_mul, coe_add]
  rw [dgate]
  congr 1
  ring

include h0 h1 h2 h3 h4 in
/-- Both gradients, side by side. -/
theorem v23 (i : Fin 4096) (j : Fin 5632) :
    val_main_v23 (F := Ideal) x0 x1 x2 x3 x4 (ix2 i j) = ((dgu X G W D Y i j : ℝ) : EReal) := by
  pointwise [val_main_v23]
  unfold dgu
  split
  · exact v22 x0 x1 x2 x3 x4 X G W D Y h0 h1 h2 h3 h4 _ _
  · exact v20 x0 x1 x2 x3 x4 X G W D Y h0 h1 h2 h3 h4 _ _

include h0 h1 h2 h3 h4 in
/-- The gradient of the normalised row. -/
theorem v24 (i : Fin 4096) (k : Fin 1024) :
    val_main_v24 (F := Ideal) x0 x1 x2 x3 x4 (ix2 i k) = ((dxn X G W D Y i k : ℝ) : EReal) := by
  pointwise [val_main_v24]
  simp only [v23 x0 x1 x2 x3 x4 X G W D Y h0 h1 h2 h3 h4, h2, coe_mul, coe_sum]
  rfl

include h0 h1 h2 in
/-- The gated unit in blocks of 704 columns. -/
theorem v27 (f : Fin 4) (i : Fin 4096) (k : Fin 704) :
    val_main_v27 (F := Ideal) x0 x1 x2 (ix3 f i k) = ((act X G W i ⟨f.val * 704 + k.val, by omega⟩ : ℝ) : EReal) := by
  rw [← v17 x0 x1 x2 X G W h0 h1 h2]
  pointwise [val_main_v27, val_main_v26, val_main_v25]

include h0 h1 h2 h3 h4 in
/-- Both gradients in blocks of 704 columns. -/
theorem v31 (p : Fin 2) (f : Fin 4) (i : Fin 4096) (k : Fin 704) :
    val_main_v31 (F := Ideal) x0 x1 x2 x3 x4 (ix4 p f i k)
      = ((dgu X G W D Y i ⟨(p.val * 4 + f.val) * 704 + k.val, by omega⟩ : ℝ) : EReal) := by
  rw [← v23 x0 x1 x2 x3 x4 X G W D Y h0 h1 h2 h3 h4]
  pointwise [val_main_v31, val_main_v30, val_main_v29, val_main_v28]

end

end Cert.SwigluRefIdeal.Hand

end
-- ==== Proof.SwigluVal.lean ====
module

public import proofs.«01_k».proof.Proof.Reals
public import proofs.«01_k».proof.Proof.SwigluRefVal
public import proofs.«01_k».proof.Proof.Gen.SwigluIdeal.Value

public import Idealize.ShloMosaic.Lib.Pipeline.CanonAppend

@[expose] public section

set_option maxHeartbeats 600000
set_option maxRecDepth 16384

noncomputable section

/-! The kernel of the gated unit's gradients, in real numbers. -/

namespace Cert.SwigluIdeal.Hand

open Cert.SwigluIdeal Cert.SwigluIdeal.Gen Cert.Reals Idealize.ShloMosaic Idealize.SL.Sem
open Cert.SwigluRefIdeal.Hand (xn gu gate up act dact dgate dup dgu dxn)

section
variable (y : FVec Ideal S256x1024 .bf16) (d : FVec Ideal S704x1024 .bf16) (a b : FVec Ideal S1x1x256x704 .bf16)
  (p q : FVec Ideal S1x1x704x1024 .bf16) (o : FVec Ideal S256x1024 .f32)
variable (Y : Fin 256 → Fin 1024 → ℝ) (D : Fin 704 → Fin 1024 → ℝ) (A B : Fin 256 → Fin 704 → ℝ) (P Q : Fin 704 → Fin 1024 → ℝ)
variable (hy : ∀ r k, y (ix2 r k) = ((Y r k : ℝ) : EReal)) (hd : ∀ f k, d (ix2 f k) = ((D f k : ℝ) : EReal))
  (ha : ∀ z z' r f, a (ix4 z z' r f) = ((A r f : ℝ) : EReal)) (hb : ∀ z z' r f, b (ix4 z z' r f) = ((B r f : ℝ) : EReal))
  (hp : ∀ z z' f k, p (ix4 z z' f k) = ((P f k : ℝ) : EReal)) (hq : ∀ z z' f k, q (ix4 z z' f k) = ((Q f k : ℝ) : EReal))

include hy hd in
/-- The cotangent of the gated unit. -/
theorem pay6 (r : Fin 256) (f : Fin 704) : k0_pay6 (F := Ideal) y d (ix2 r f) = ((∑ k, Y r k * D f k : ℝ) : EReal) := by
  pointwise [k0_pay6]
  simp only [hy, hd, coe_mul, coe_sum]

include ha in
/-- The gate. -/
theorem pay7 (r : Fin 256) (f : Fin 704) : k0_pay7 (F := Ideal) a (ix2 r f) = ((A r f : ℝ) : EReal) := by
  pointwise [k0_pay7]
  exact ha _ _ _ _

include hb in
/-- The other half. -/
theorem pay8 (r : Fin 256) (f : Fin 704) : k0_pay8 (F := Ideal) b (ix2 r f) = ((B r f : ℝ) : EReal) := by
  pointwise [k0_pay8]
  exact hb _ _ _ _

include ha in
/-- The logistic function of the gate. -/
theorem pay9 (r : Fin 256) (f : Fin 704) : k0_pay9 (F := Ideal) a (ix2 r f) = ((logistic (A r f) : ℝ) : EReal) := by
  pointwise [k0_pay9]
  rw [pay7 a A ha, ← coe_logistic, ← coe_neg, zero_sub]

include ha in
/-- The gate times its logistic function. -/
theorem pay10 (r : Fin 256) (f : Fin 704) : k0_pay10 (F := Ideal) a (ix2 r f) = ((A r f * logistic (A r f) : ℝ) : EReal) := by
  pointwise [k0_pay10]
  rw [pay7 a A ha, pay9 a A ha, coe_mul]

include ha hb in
/-- The gated unit. -/
theorem pay11 (z : Fin 1) (r : Fin 256) (f : Fin 704) :
    k0_pay11 (F := Ideal) a b (ix3 z r f) = ((A r f * logistic (A r f) * B r f : ℝ) : EReal) := by
  pointwise [k0_pay11]
  rw [pay8 b B hb, pay10 a A ha, coe_mul]

include hy hd ha hb in
/-- The gradient of the gate. -/
theorem pay14 (r : Fin 256) (f : Fin 704) :
    k0_pay14 (F := Ideal) (k0_pay9 a) (k0_pay12 y d b) (k0_pay13 a) (ix2 r f)
      = (((∑ k, Y r k * D f k) * B r f * (logistic (A r f) * (1 + A r f * (1 - logistic (A r f)))) : ℝ) : EReal) := by
  pointwise [k0_pay14, k0_pay12, k0_pay13]
  rw [pay6 y d Y D hy hd, pay8 b B hb, pay7 a A ha, pay9 a A ha]
  simp only [coe_one, coe_sub, coe_mul, coe_add]

include hy hd ha in
/-- The gradient of the other half. -/
theorem pay15 (r : Fin 256) (f : Fin 704) :
    k0_pay15 (F := Ideal) (k0_pay6 y d) (k0_pay10 a) (ix2 r f)
      = (((∑ k, Y r k * D f k) * (A r f * logistic (A r f)) : ℝ) : EReal) := by
  pointwise [k0_pay15]
  rw [pay6 y d Y D hy hd, pay10 a A ha, coe_mul]

include hy hd ha hb hp hq in
/-- One block's part of the gradient of the normalised row, added to what is there. -/
theorem pay18 (r : Fin 256) (k : Fin 1024) :
    k0_pay18 (F := Ideal) (k0_pay6 y d) (k0_pay9 a) (k0_pay10 a) (k0_pay12 y d b) (k0_pay13 a) p q o (ix2 r k)
      = o (ix2 r k) + (((∑ f, (∑ k, Y r k * D f k) * B r f * (logistic (A r f) * (1 + A r f * (1 - logistic (A r f)))) * P f k)
        + ∑ f, (∑ k, Y r k * D f k) * (A r f * logistic (A r f)) * Q f k : ℝ) : EReal) := by
  pointwise [k0_pay18]
  simp only [pay14 y d a b Y D A B hy hd ha hb, pay15 y d a Y D A hy hd ha, hp, hq, coe_mul, coe_sum, coe_add]

end

section
variable (m : (ℓ : Loc nD τ sig) → Buf (Elt Ideal) ℓ) (c : Dev nD)
variable (X : Fin 4096 → Fin 1024 → ℝ) (G : Fin 1024 → ℝ) (W : Fin 1024 → Fin 5632 → ℝ) (D : Fin 2816 → Fin 1024 → ℝ)
  (Y : Fin 4096 → Fin 1024 → ℝ)
variable (hX : ∀ i j, (m (c.tc.loc main_arg0) : FVec Ideal S4096x1024 .f32) (ix2 i j) = ((X i j : ℝ) : EReal))
  (hG : ∀ j, (m (c.tc.loc main_arg1) : FVec Ideal S1024 .f32) (ix1 j) = ((G j : ℝ) : EReal))
  (hW : ∀ i j, (m (c.tc.loc main_arg2) : FVec Ideal S1024x5632 .f32) (ix2 i j) = ((W i j : ℝ) : EReal))
  (hD : ∀ i j, (m (c.tc.loc main_arg3) : FVec Ideal S2816x1024 .f32) (ix2 i j) = ((D i j : ℝ) : EReal))
  (hY : ∀ i j, (m (c.tc.loc main_arg4) : FVec Ideal S4096x1024 .f32) (ix2 i j) = ((Y i j : ℝ) : EReal))

/-- The windows' blocks: point `t` is row block `t / 4` and column block `t % 4`. -/
theorem idx : ∀ t : Fin cfg0.N, win0_0.index t = ![t.val / 4, 0] ∧ win0_1.index t = ![0, t.val % 4, t.val / 4, 0]
    ∧ win0_2.index t = ![0, t.val % 4, 0, 0] ∧ win0_3.index t = ![t.val % 4, 0] ∧ win0_4.index t = ![t.val % 4, t.val / 4, 0]
    ∧ win0_5.index t = ![0, t.val % 4, t.val / 4, 0] ∧ win0_6.index t = ![t.val / 4, 0] ∧ t.val < 16 :=
  (by decide +kernel : ∀ t : Fin grid0.N, _)

/-- Row `i` of point `t`'s block, as a row of the whole array. -/
def row (t : Fin cfg0.N) (i : Fin 1024) : Fin 4096 := ⟨t.val / 4 * 1024 + i.val, by have := (idx t).2.2.2.2.2.2.2; omega⟩
/-- Column `f` of point `t`'s block, as a column of the whole array. -/
def col (t : Fin cfg0.N) (f : Fin 704) : Fin 2816 := ⟨t.val % 4 * 704 + f.val, by omega⟩

include hY in
/-- The staged cotangent. -/
theorem blk0 (t : Fin cfg0.N) (i k : Fin 1024) : (iblk m c 0 t : FVec Ideal S1024x1024 .bf16) (ix2 i k) = ((Y (row t i) k : ℝ) : EReal) := by
  rw [← hY]
  blk_point [iblk, idx t, row]

include hD in
/-- The staged down projection. -/
theorem blk3 (t : Fin cfg0.N) (f : Fin 704) (k : Fin 1024) :
    (iblk m c 3 t : FVec Ideal S704x1024 .bf16) (ix2 f k) = ((D (col t f) k : ℝ) : EReal) := by
  rw [← hD]
  blk_point [iblk, idx t, col]

include hW in
/-- The staged up projection, both halves. -/
theorem blk2 (t : Fin cfg0.N) (z : Fin 2) (z' : Fin 1) (f : Fin 704) (k : Fin 1024) :
    (iblk m c 2 t : FVec Ideal S2x1x704x1024 .bf16) (ix4 z z' f k) = ((W k ⟨z.val * 2816 + (col t f).val, by omega⟩ : ℝ) : EReal) := by
  rw [← hW]
  blk_point [iblk, idx t, col]

include hX hG hW in
/-- The staged halves of the up projection's product. -/
theorem blk1 (t : Fin cfg0.N) (z : Fin 2) (z' : Fin 1) (i : Fin 1024) (f : Fin 704) :
    (iblk m c 1 t : FVec Ideal S2x1x1024x704 .bf16) (ix4 z z' i f)
      = ((gu X G W (row t i) ⟨z.val * 2816 + (col t f).val, by omega⟩ : ℝ) : EReal) := by
  rw [← Cert.SwigluRefIdeal.Hand.v13 _ _ _ X G W hX hG hW]
  have e : (win0_1.blk t).view.emb (ix4 z z' i f) = (ix4 z ⟨t.val % 4, by omega⟩ (row t i) f : S2x4x4096x704.Idx) := by
    funext a; fin_cases a <;> (apply Fin.ext; blk_simp [idx t, row] <;> rfl)
  change (V m c main_v21 : FVec Ideal S2x4x4096x704 .bf16) ((win0_1.blk t).view.emb (ix4 z z' i f)) = _
  rw [e]
  change (transpose S2x4x4096x704 [1, 2, 0, 3] (shapeCast S4096x2x4x704
    (Cert.SwigluRefIdeal.Read.val_main_v13 (F := Ideal) (m (c.tc.loc main_arg0)) (m (c.tc.loc main_arg1)) (m (c.tc.loc main_arg2))
      : FVec Ideal S4096x5632 .bf16) shapeCasts_S4096x5632_S4096x2x4x704)
    transposes_S4096x2x4x704_S2x4x4096x704_1_2_0_3 : FVec Ideal S2x4x4096x704 .bf16) _ = _
  pointwise
  congr 1
  blk_ext <;> simp only [col] <;> omega

/-- Row `r` of the chunk of 256 rows from row `k` on. -/
def sub (k : ℕ) (hk : k + 256 ≤ 1024) (r : Fin 256) : Fin 1024 := ⟨k + r.val, by omega⟩

/-- A chunk of rows, of two axes. -/
theorem ld_rows (x : FVec Ideal S1024x1024 .bf16) (k : ℕ) (hk : k + 256 ≤ 1024) (b : ∀ a, ![k, 0] a + ![256, 1024] a ≤ S1024x1024.size a)
    (r : Fin 256) (e : Fin 1024) :
    (View.ld (Val := Elt Ideal) (S := S1024x1024) (e' := .bf16) x (Rect.unit ![k, 0] ![256, 1024] b) : FVec Ideal S256x1024 .bf16) (ix2 r e) = x (ix2 (sub k hk r) e) := by
  refine congrArg x (funext fun a => Fin.ext ?_)
  rw [Rect.idx_unit_val]
  fin_cases a <;> simp [sub, ix2, ix4]

/-- A chunk of rows of one half. -/
theorem ld_half (x : FVec Ideal S2x1x1024x704 .bf16) (p : ℕ) (hp : p < 2) (k : ℕ) (hk : k + 256 ≤ 1024)
    (b : ∀ a, ![p, 0, k, 0] a + ![1, 1, 256, 704] a ≤ S2x1x1024x704.size a) (z z' : Fin 1) (r : Fin 256) (f : Fin 704) :
    (View.ld (Val := Elt Ideal) (S := S2x1x1024x704) (e' := .bf16) x (Rect.unit ![p, 0, k, 0] ![1, 1, 256, 704] b) : FVec Ideal S1x1x256x704 .bf16) (ix4 z z' r f)
      = x (ix4 ⟨p, hp⟩ 0 (sub k hk r) f) := by
  refine congrArg x (funext fun a => Fin.ext ?_)
  rw [Rect.idx_unit_val]
  fin_cases a <;> simp [sub, ix2, ix4]

/-- One half of the weight. -/
theorem ld_w (x : FVec Ideal S2x1x704x1024 .bf16) (p : ℕ) (hp : p < 2)
    (b : ∀ a, ![p, 0, 0, 0] a + ![1, 1, 704, 1024] a ≤ S2x1x704x1024.size a) (z z' : Fin 1) (f : Fin 704) (e : Fin 1024) :
    (View.ld (Val := Elt Ideal) (S := S2x1x704x1024) (e' := .bf16) x (Rect.unit ![p, 0, 0, 0] ![1, 1, 704, 1024] b) : FVec Ideal S1x1x704x1024 .bf16) (ix4 z z' f e)
      = x (ix4 ⟨p, hp⟩ 0 f e) := by
  refine congrArg x (funext fun a => Fin.ext ?_)
  rw [Rect.idx_unit_val]
  fin_cases a <;> simp [ix4]

include hY in
/-- A chunk of the cotangent. -/
theorem ld0 (t : Fin cfg0.N) (k : ℕ) (hk : k + 256 ≤ 1024) (b : ∀ a, ![k, 0] a + ![256, 1024] a ≤ S1024x1024.size a) (r : Fin 256) (e : Fin 1024) :
    (View.ld (iblk m c 0 t : FVec Ideal S1024x1024 .bf16) (Rect.unit ![k, 0] ![256, 1024] b) : FVec Ideal S256x1024 .bf16) (ix2 r e)
      = ((Y (row t (sub k hk r)) e : ℝ) : EReal) := by
  exact (ld_rows _ k hk b r e).trans (blk0 m c Y hY t _ _)

include hX hG hW in
/-- A chunk of the gate's half. -/
theorem ld1 (t : Fin cfg0.N) (k : ℕ) (hk : k + 256 ≤ 1024)
    (b : ∀ a, ![0, 0, k, 0] a + ![1, 1, 256, 704] a ≤ S2x1x1024x704.size a) (z z' : Fin 1) (r : Fin 256) (f : Fin 704) :
    (View.ld (iblk m c 1 t : FVec Ideal S2x1x1024x704 .bf16) (Rect.unit ![0, 0, k, 0] ![1, 1, 256, 704] b) : FVec Ideal S1x1x256x704 .bf16)
      (ix4 z z' r f) = ((gate X G W (row t (sub k hk r)) (col t f) : ℝ) : EReal) := by
  refine (ld_half _ 0 (by decide) k hk b z z' r f).trans ((blk1 m c X G W hX hG hW t _ 0 (sub k hk r) f).trans ?_)
  simp [gate]

include hX hG hW in
/-- A chunk of the other half. -/
theorem ld1' (t : Fin cfg0.N) (k : ℕ) (hk : k + 256 ≤ 1024)
    (b : ∀ a, ![1, 0, k, 0] a + ![1, 1, 256, 704] a ≤ S2x1x1024x704.size a) (z z' : Fin 1) (r : Fin 256) (f : Fin 704) :
    (View.ld (iblk m c 1 t : FVec Ideal S2x1x1024x704 .bf16) (Rect.unit ![1, 0, k, 0] ![1, 1, 256, 704] b) : FVec Ideal S1x1x256x704 .bf16)
      (ix4 z z' r f) = ((up X G W (row t (sub k hk r)) (col t f) : ℝ) : EReal) := by
  refine (ld_half _ 1 (by decide) k hk b z z' r f).trans ((blk1 m c X G W hX hG hW t _ 0 (sub k hk r) f).trans ?_)
  simp [up]

include hW in
/-- The gate's half of the up projection. -/
theorem ld2 (t : Fin cfg0.N) (b : ∀ a, ![0, 0, 0, 0] a + ![1, 1, 704, 1024] a ≤ S2x1x704x1024.size a) (z z' : Fin 1) (f : Fin 704) (e : Fin 1024) :
    (View.ld (iblk m c 2 t : FVec Ideal S2x1x704x1024 .bf16) (Rect.unit ![0, 0, 0, 0] ![1, 1, 704, 1024] b) : FVec Ideal S1x1x704x1024 .bf16)
      (ix4 z z' f e) = ((W e ⟨(col t f).val, by omega⟩ : ℝ) : EReal) := by
  refine (ld_w _ 0 (by decide) b z z' f e).trans ((blk2 m c W hW t _ 0 f e).trans ?_)
  simp

include hW in
/-- The other half of the up projection. -/
theorem ld2' (t : Fin cfg0.N) (b : ∀ a, ![1, 0, 0, 0] a + ![1, 1, 704, 1024] a ≤ S2x1x704x1024.size a) (z z' : Fin 1) (f : Fin 704) (e : Fin 1024) :
    (View.ld (iblk m c 2 t : FVec Ideal S2x1x704x1024 .bf16) (Rect.unit ![1, 0, 0, 0] ![1, 1, 704, 1024] b) : FVec Ideal S1x1x704x1024 .bf16)
      (ix4 z z' f e) = ((W e ⟨2816 + (col t f).val, by omega⟩ : ℝ) : EReal) := by
  refine (ld_w _ 1 (by decide) b z z' f e).trans ((blk2 m c W hW t _ 0 f e).trans ?_)
  simp

/-- An index of the chunk, by its coordinates. -/
theorem sub_eq (k : ℕ) (hk : k + 256 ≤ 1024) (r : Fin 256) (i : Fin 1024) (hi : (i : ℕ) = k + r) : sub k hk r = i := Fin.ext hi.symm

include hX hG hW in
/-- A chunk of the gated unit. -/
theorem c_act (t : Fin cfg0.N) (k : ℕ) (hk : k + 256 ≤ 1024) (b : ∀ a, ![0, 0, k, 0] a + ![1, 1, 256, 704] a ≤ S2x1x1024x704.size a)
    (b' : ∀ a, ![1, 0, k, 0] a + ![1, 1, 256, 704] a ≤ S2x1x1024x704.size a) (x : S1x256x704.Idx) (i : Fin 1024) (f : Fin 704)
    (hi : (i : ℕ) = k + x 1) (hf : (f : ℕ) = x 2) :
    k0_pay11 (F := Ideal) (View.ld (iblk m c 1 t) (Rect.unit ![0, 0, k, 0] ![1, 1, 256, 704] b))
      (View.ld (iblk m c 1 t) (Rect.unit ![1, 0, k, 0] ![1, 1, 256, 704] b')) x = ((act X G W (row t i) (col t f) : ℝ) : EReal) := by
  idx_vars x
  obtain rfl := sub_eq k hk x1 i hi
  obtain rfl : f = x2 := Fin.ext hf
  exact pay11 _ _ _ _ (ld1 m c X G W hX hG hW t k hk b) (ld1' m c X G W hX hG hW t k hk b') x0 x1 f

/-- What one point adds to the gradient of the normalised row. -/
def part (t : Fin cfg0.N) (i : Fin 1024) (e : Fin 1024) : ℝ :=
  ∑ f, dgate X G W D Y (row t i) (col t f) * W e ⟨(col t f).val, by omega⟩
    + ∑ f, dup X G W D Y (row t i) (col t f) * W e ⟨2816 + (col t f).val, by omega⟩

section
variable (t : Fin cfg0.N) (k : ℕ) (hk : k + 256 ≤ 1024) (b0 : ∀ a, ![k, 0] a + ![256, 1024] a ≤ S1024x1024.size a)
  (b : ∀ a, ![0, 0, k, 0] a + ![1, 1, 256, 704] a ≤ S2x1x1024x704.size a)
  (b' : ∀ a, ![1, 0, k, 0] a + ![1, 1, 256, 704] a ≤ S2x1x1024x704.size a)

include hk hX hG hW hD hY in
/-- A chunk of the gradient of the gate. -/
theorem c_gate (x : S1x1x256x704.Idx) (i : Fin 1024) (f : Fin 704) (hi : (i : ℕ) = k + x 2) (hf : (f : ℕ) = x 3) :
    k0_pay16 (F := Ideal) (k0_pay9 (View.ld (iblk m c 1 t) (Rect.unit ![0, 0, k, 0] ![1, 1, 256, 704] b)))
      (k0_pay12 (View.ld (iblk m c 0 t) (Rect.unit ![k, 0] ![256, 1024] b0)) (iblk m c 3 t)
        (View.ld (iblk m c 1 t) (Rect.unit ![1, 0, k, 0] ![1, 1, 256, 704] b')))
      (k0_pay13 (View.ld (iblk m c 1 t) (Rect.unit ![0, 0, k, 0] ![1, 1, 256, 704] b))) x
      = ((dgate X G W D Y (row t i) (col t f) : ℝ) : EReal) := by
  idx_vars x
  obtain rfl := sub_eq k hk x2 i hi
  obtain rfl : f = x3 := Fin.ext hf
  refine Eq.trans ?_ (pay14 _ _ _ _ _ _ _ _ (ld0 m c Y hY t k hk b0) (blk3 m c D hD t) (ld1 m c X G W hX hG hW t k hk b)
    (ld1' m c X G W hX hG hW t k hk b') x2 f)
  pointwise [k0_pay16]

include hk hX hG hW hD hY in
/-- A chunk of the gradient of the other half. -/
theorem c_up (x : S1x1x256x704.Idx) (i : Fin 1024) (f : Fin 704) (hi : (i : ℕ) = k + x 2) (hf : (f : ℕ) = x 3) :
    k0_pay17 (F := Ideal) (k0_pay6 (View.ld (iblk m c 0 t) (Rect.unit ![k, 0] ![256, 1024] b0)) (iblk m c 3 t))
      (k0_pay10 (View.ld (iblk m c 1 t) (Rect.unit ![0, 0, k, 0] ![1, 1, 256, 704] b))) x
      = ((dup X G W D Y (row t i) (col t f) : ℝ) : EReal) := by
  idx_vars x
  obtain rfl := sub_eq k hk x2 i hi
  obtain rfl : f = x3 := Fin.ext hf
  refine Eq.trans ?_ (pay15 _ _ _ _ _ _ (ld0 m c Y hY t k hk b0) (blk3 m c D hD t) (ld1 m c X G W hX hG hW t k hk b) x2 f)
  pointwise [k0_pay17]

include hk hX hG hW hD hY in
/-- A chunk of the gradient of the normalised row: what is there and this point's part. -/
theorem c_dxn (w : ∀ a, ![0, 0, 0, 0] a + ![1, 1, 704, 1024] a ≤ S2x1x704x1024.size a)
    (w' : ∀ a, ![1, 0, 0, 0] a + ![1, 1, 704, 1024] a ≤ S2x1x704x1024.size a) (o : FVec Ideal S256x1024 .f32)
    (x : S256x1024.Idx) (i : Fin 1024) (e : Fin 1024) (hi : (i : ℕ) = k + x 0) (he : (e : ℕ) = x 1) :
    k0_pay18 (F := Ideal) (k0_pay6 (View.ld (iblk m c 0 t) (Rect.unit ![k, 0] ![256, 1024] b0)) (iblk m c 3 t))
      (k0_pay9 (View.ld (iblk m c 1 t) (Rect.unit ![0, 0, k, 0] ![1, 1, 256, 704] b)))
      (k0_pay10 (View.ld (iblk m c 1 t) (Rect.unit ![0, 0, k, 0] ![1, 1, 256, 704] b)))
      (k0_pay12 (View.ld (iblk m c 0 t) (Rect.unit ![k, 0] ![256, 1024] b0)) (iblk m c 3 t)
        (View.ld (iblk m c 1 t) (Rect.unit ![1, 0, k, 0] ![1, 1, 256, 704] b')))
      (k0_pay13 (View.ld (iblk m c 1 t) (Rect.unit ![0, 0, k, 0] ![1, 1, 256, 704] b)))
      (View.ld (iblk m c 2 t) (Rect.unit ![0, 0, 0, 0] ![1, 1, 704, 1024] w))
      (View.ld (iblk m c 2 t) (Rect.unit ![1, 0, 0, 0] ![1, 1, 704, 1024] w')) o x
      = o x + ((part X G W D Y t i e : ℝ) : EReal) := by
  idx_vars x
  obtain rfl := sub_eq k hk x0 i hi
  obtain rfl : e = x1 := Fin.ext he
  exact pay18 _ _ _ _ _ _ _ _ _ _ _ _ _ (ld0 m c Y hY t k hk b0) (blk3 m c D hD t) (ld1 m c X G W hX hG hW t k hk b)
    (ld1' m c X G W hX hG hW t k hk b') (ld2 m c W hW t w) (ld2' m c W hW t w') x0 e
end

/-- Column `f` of block `a`. -/
def at4 (a : Fin 4) (f : Fin 704) : Fin 2816 := ⟨a.val * 704 + f.val, by omega⟩
/-- Column `f` of block `a` of half `p`. -/
def at8 (p : Fin 2) (a : Fin 4) (f : Fin 704) : Fin 5632 := ⟨(p.val * 4 + a.val) * 704 + f.val, by omega⟩

include hX hG hW in
/-- The gated unit. -/
theorem final4 : (dats m 0 c).arrAt 4 (cfgs 0).N
    = (fun y => ((act X G W (y 1) (at4 (y 0) (y 2)) : ℝ) : EReal) : FVec Ideal S4x4096x704 .bf16) := by
  refine (dats m 0 c).arrAt_eq_of_covers 4 _ (by decide +kernel) fun t _ y => ?_
  blk_simp [idx t]
  rw [after0_4]
  refine Eq.trans (b := ((act X G W (row t (y 1)) (col t (y 2)) : ℝ) : EReal)) ?_ ?_
  · by_cases h : t.val % 4 = 0
    · rw [outsAt0_A m c t h]; frame_out
      clear h
      canon_tiles x h
      · exact c_act m c X G W hX hG hW t 768 (by decide) _ _ x _ _ h1 h2
      · exact c_act m c X G W hX hG hW t 512 (by decide) _ _ x _ _ h1 h2
      · exact c_act m c X G W hX hG hW t 256 (by decide) _ _ x _ _ h1 h2
      · exact c_act m c X G W hX hG hW t 0 (by decide) _ _ x _ _ (by omega) h2
    · rw [outsAt0_B m c t h]; frame_out
      clear h
      canon_tiles x h
      · exact c_act m c X G W hX hG hW t 768 (by decide) _ _ x _ _ h1 h2
      · exact c_act m c X G W hX hG hW t 512 (by decide) _ _ x _ _ h1 h2
      · exact c_act m c X G W hX hG hW t 256 (by decide) _ _ x _ _ h1 h2
      · exact c_act m c X G W hX hG hW t 0 (by decide) _ _ x _ _ (by omega) h2
  · refine congrArg₂ (fun r f => ((act X G W r f : ℝ) : EReal)) (Fin.ext ?_) (Fin.ext ?_)
    · blk_simp [idx t, row]
    · blk_simp [idx t, col, at4]

/-- The first half of both gradients is the gate's. -/
theorem dgu_gate (i : Fin 4096) (p : Fin 2) (a : Fin 4) (f : Fin 704) (hp : p.val = 0) : dgu X G W D Y i (at8 p a f) = dgate X G W D Y i (at4 a f) := by
  unfold dgu
  rw [dif_pos (by simp [at8, hp]; omega)]
  congr 1
  apply Fin.ext; simp [at8, at4, hp]

/-- The second half is the other's. -/
theorem dgu_up (i : Fin 4096) (p : Fin 2) (a : Fin 4) (f : Fin 704) (hp : p.val = 1) : dgu X G W D Y i (at8 p a f) = dup X G W D Y i (at4 a f) := by
  unfold dgu
  rw [dif_neg (by simp [at8, hp]; omega)]
  congr 1
  apply Fin.ext; simp [at8, at4, hp]; omega

include hX hG hW hD hY in
/-- A chunk of the gate's gradient, in the array of both. -/
theorem t_gate (t : Fin cfg0.N) (k : ℕ) (hk : k + 256 ≤ 1024) (b0 : ∀ a, ![k, 0] a + ![256, 1024] a ≤ S1024x1024.size a)
    (b : ∀ a, ![0, 0, k, 0] a + ![1, 1, 256, 704] a ≤ S2x1x1024x704.size a)
    (b' : ∀ a, ![1, 0, k, 0] a + ![1, 1, 256, 704] a ≤ S2x1x1024x704.size a)
    (x : S1x1x256x704.Idx) (p : Fin 2) (i : Fin 1024) (f : Fin 704) (hp : (p : ℕ) = x 0) (hi : (i : ℕ) = k + x 2) (hf : (f : ℕ) = x 3) :
    k0_pay16 (F := Ideal) (k0_pay9 (View.ld (iblk m c 1 t) (Rect.unit ![0, 0, k, 0] ![1, 1, 256, 704] b)))
      (k0_pay12 (View.ld (iblk m c 0 t) (Rect.unit ![k, 0] ![256, 1024] b0)) (iblk m c 3 t)
        (View.ld (iblk m c 1 t) (Rect.unit ![1, 0, k, 0] ![1, 1, 256, 704] b')))
      (k0_pay13 (View.ld (iblk m c 1 t) (Rect.unit ![0, 0, k, 0] ![1, 1, 256, 704] b))) x
      = ((dgu X G W D Y (row t i) (at8 p ⟨t.val % 4, Nat.mod_lt _ (by decide)⟩ f) : ℝ) : EReal) := by
  rw [dgu_gate X G W D Y _ _ _ _ (by have : (x 0 : Fin 1).val < 1 := (x 0).isLt; omega)]
  exact c_gate m c X G W D Y hX hG hW hD hY t k hk b0 b b' x i f hi hf

include hX hG hW hD hY in
/-- A chunk of the other half's gradient, in the array of both. -/
theorem t_up (t : Fin cfg0.N) (k : ℕ) (hk : k + 256 ≤ 1024) (b0 : ∀ a, ![k, 0] a + ![256, 1024] a ≤ S1024x1024.size a)
    (b : ∀ a, ![0, 0, k, 0] a + ![1, 1, 256, 704] a ≤ S2x1x1024x704.size a)
    (x : S1x1x256x704.Idx) (p : Fin 2) (i : Fin 1024) (f : Fin 704) (hp : (p : ℕ) = 1 + x 0) (hi : (i : ℕ) = k + x 2) (hf : (f : ℕ) = x 3) :
    k0_pay17 (F := Ideal) (k0_pay6 (View.ld (iblk m c 0 t) (Rect.unit ![k, 0] ![256, 1024] b0)) (iblk m c 3 t))
      (k0_pay10 (View.ld (iblk m c 1 t) (Rect.unit ![0, 0, k, 0] ![1, 1, 256, 704] b))) x
      = ((dgu X G W D Y (row t i) (at8 p ⟨t.val % 4, Nat.mod_lt _ (by decide)⟩ f) : ℝ) : EReal) := by
  rw [dgu_up X G W D Y _ _ _ _ (by omega)]
  exact c_up m c X G W D Y hX hG hW hD hY t k hk b0 b x i f hi hf

include hX hG hW hD hY in
/-- One point's block of both gradients. -/
theorem out5 (t : Fin cfg0.N) (y : S2x1x1024x704.Idx) :
    (outsAt0 m c t.val t.isLt).2.1 y
      = ((dgu X G W D Y (row t (y 2)) (at8 (y 0) ⟨t.val % 4, Nat.mod_lt _ (by decide)⟩ (y 3)) : ℝ) : EReal) := by
  by_cases h : t.val % 4 = 0
  · rw [outsAt0_A m c t h]; frame_out
    clear h
    canon_tiles x h
    · exact t_up m c X G W D Y hX hG hW hD hY t 768 (by omega) _ _ x (y 0) (y 2) (y 3) h0 h2 h3
    · exact t_gate m c X G W D Y hX hG hW hD hY t 768 (by omega) _ _ _ x (y 0) (y 2) (y 3) h0 h2 h3
    · exact t_up m c X G W D Y hX hG hW hD hY t 512 (by omega) _ _ x (y 0) (y 2) (y 3) h0 h2 h3
    · exact t_gate m c X G W D Y hX hG hW hD hY t 512 (by omega) _ _ _ x (y 0) (y 2) (y 3) h0 h2 h3
    · exact t_up m c X G W D Y hX hG hW hD hY t 256 (by omega) _ _ x (y 0) (y 2) (y 3) h0 h2 h3
    · exact t_gate m c X G W D Y hX hG hW hD hY t 256 (by omega) _ _ _ x (y 0) (y 2) (y 3) h0 h2 h3
    · exact t_up m c X G W D Y hX hG hW hD hY t 0 (by omega) _ _ x (y 0) (y 2) (y 3) h0 (h2.trans (Nat.zero_add _).symm) h3
    · exact t_gate m c X G W D Y hX hG hW hD hY t 0 (by omega) _ _ _ x (y 0) (y 2) (y 3) h0 (h2.trans (Nat.zero_add _).symm) h3
  · rw [outsAt0_B m c t h]; frame_out
    clear h
    canon_tiles x h
    · exact t_up m c X G W D Y hX hG hW hD hY t 768 (by omega) _ _ x (y 0) (y 2) (y 3) h0 h2 h3
    · exact t_gate m c X G W D Y hX hG hW hD hY t 768 (by omega) _ _ _ x (y 0) (y 2) (y 3) h0 h2 h3
    · exact t_up m c X G W D Y hX hG hW hD hY t 512 (by omega) _ _ x (y 0) (y 2) (y 3) h0 h2 h3
    · exact t_gate m c X G W D Y hX hG hW hD hY t 512 (by omega) _ _ _ x (y 0) (y 2) (y 3) h0 h2 h3
    · exact t_up m c X G W D Y hX hG hW hD hY t 256 (by omega) _ _ x (y 0) (y 2) (y 3) h0 h2 h3
    · exact t_gate m c X G W D Y hX hG hW hD hY t 256 (by omega) _ _ _ x (y 0) (y 2) (y 3) h0 h2 h3
    · exact t_up m c X G W D Y hX hG hW hD hY t 0 (by omega) _ _ x (y 0) (y 2) (y 3) h0 (h2.trans (Nat.zero_add _).symm) h3
    · exact t_gate m c X G W D Y hX hG hW hD hY t 0 (by omega) _ _ _ x (y 0) (y 2) (y 3) h0 (h2.trans (Nat.zero_add _).symm) h3

include hX hG hW hD hY in
/-- Both gradients. -/
theorem final5 : (dats m 0 c).arrAt 5 (cfgs 0).N
    = (fun y => ((dgu X G W D Y (y 2) (at8 (y 0) (y 1) (y 3)) : ℝ) : EReal) : FVec Ideal S2x4x4096x704 .bf16) := by
  refine (dats m 0 c).arrAt_eq_of_covers 5 _ (by decide +kernel) fun t _ y => ?_
  blk_simp [idx t]
  rw [after0_5]
  refine (out5 m c X G W D Y hX hG hW hD hY t y).trans ?_
  refine congrArg₂ (fun r f => ((dgu X G W D Y r f : ℝ) : EReal)) (Fin.ext ?_) (Fin.ext ?_)
  · blk_simp [idx t, row]
  · blk_simp [idx t, at8]

/-- A chunk of rows of the sums, read at a place. -/
theorem ld_at (x : FVec Ideal S1024x1024 .f32) (k : ℕ) (b : ∀ a, ![k, 0] a + ![256, 1024] a ≤ S1024x1024.size a)
    (z : S256x1024.Idx) (y : S1024x1024.Idx) (h0 : (y 0 : ℕ) = k + z 0) (h1 : (y 1 : ℕ) = z 1) :
    (View.ld (Val := Elt Ideal) (S := S1024x1024) (e' := .f32) x (Rect.unit ![k, 0] ![256, 1024] b) : FVec Ideal S256x1024 .f32) z = x y := by
  refine congrArg x (funext fun a => Fin.ext ?_)
  rw [Rect.idx_unit_val]
  fin_cases a <;> simp [h0, h1]

section
variable (P0 P1 P2 P3 : FVec Ideal S256x1024 .f32) (y : S1024x1024.Idx)

/-- The zero fill. -/
theorem zero0 : View.canon (Val := Elt Ideal) (e := .f32)
    [⟨Rect.unit ![0, 0] ![1024, 1024] inb_S1024x1024_S1024x1024_0_0, k0_pay5 (F := Ideal)⟩] y = (0 : EReal) := by
  canon_tiles x h
  open_payloads
  pointwise

/-- Below the first chunk the zero fill stands. -/
theorem zero1 (hy : 256 ≤ (y 0 : Fin 1024).val) : View.canon (Val := Elt Ideal) (e := .f32)
    [⟨Rect.unit ![0, 0] ![256, 1024] inb_S1024x1024_S256x1024_0_0, P0⟩,
      ⟨Rect.unit ![0, 0] ![1024, 1024] inb_S1024x1024_S1024x1024_0_0, k0_pay5 (F := Ideal)⟩] y = (0 : EReal) := by
  rw [View.canon_cons_of_not_mem]
  · exact zero0 y
  · rw [Rect.mem_set_unit]
    intro h; have := h 0; simp at this; omega

/-- Below the second chunk. -/
theorem zero2 (hy : 512 ≤ (y 0 : Fin 1024).val) : View.canon (Val := Elt Ideal) (e := .f32)
    [⟨Rect.unit ![256, 0] ![256, 1024] inb_S1024x1024_S256x1024_256_0, P1⟩,
      ⟨Rect.unit ![0, 0] ![256, 1024] inb_S1024x1024_S256x1024_0_0, P0⟩,
      ⟨Rect.unit ![0, 0] ![1024, 1024] inb_S1024x1024_S1024x1024_0_0, k0_pay5 (F := Ideal)⟩] y = (0 : EReal) := by
  rw [View.canon_cons_of_not_mem]
  · exact zero1 P0 y (by omega)
  · rw [Rect.mem_set_unit]
    intro h; have := h 0; simp at this; omega

/-- Below the third chunk. -/
theorem zero3 (hy : 768 ≤ (y 0 : Fin 1024).val) : View.canon (Val := Elt Ideal) (e := .f32)
    [⟨Rect.unit ![512, 0] ![256, 1024] inb_S1024x1024_S256x1024_512_0, P2⟩,
      ⟨Rect.unit ![256, 0] ![256, 1024] inb_S1024x1024_S256x1024_256_0, P1⟩,
      ⟨Rect.unit ![0, 0] ![256, 1024] inb_S1024x1024_S256x1024_0_0, P0⟩,
      ⟨Rect.unit ![0, 0] ![1024, 1024] inb_S1024x1024_S1024x1024_0_0, k0_pay5 (F := Ideal)⟩] y = (0 : EReal) := by
  rw [View.canon_cons_of_not_mem]
  · exact zero2 P0 P1 y (by omega)
  · rw [Rect.mem_set_unit]
    intro h; have := h 0; simp at this; omega
end

/-- The row of a place of a chunk. -/
theorem emb_row (k : ℕ) (b : ∀ a, ![k, 0] a + ![256, 1024] a ≤ S1024x1024.size a) (x : S256x1024.Idx) :
    ((((Rect.unit (s := S1024x1024) ![k, 0] ![256, 1024] b).emb x) 0 : Fin 1024) : ℕ) = k + x 0 :=
  (Rect.idx_unit_val _ _ _ _ _).trans (by simp)

/-- The column of a place of a chunk. -/
theorem emb_col (k : ℕ) (b : ∀ a, ![k, 0] a + ![256, 1024] a ≤ S1024x1024.size a) (x : S256x1024.Idx) :
    ((((Rect.unit (s := S1024x1024) ![k, 0] ![256, 1024] b).emb x) 1 : Fin 1024) : ℕ) = x 1 :=
  (Rect.idx_unit_val _ _ _ _ _).trans (by simp)

/-- The four chunks hold every place. -/
theorem covers (P0 P1 P2 P3 : FVec Ideal S256x1024 .f32) (y : S1024x1024.Idx) :
    ∃ p ∈ ([⟨Rect.unit ![768, 0] ![256, 1024] inb_S1024x1024_S256x1024_768_0, P3⟩,
      ⟨Rect.unit ![512, 0] ![256, 1024] inb_S1024x1024_S256x1024_512_0, P2⟩,
      ⟨Rect.unit ![256, 0] ![256, 1024] inb_S1024x1024_S256x1024_256_0, P1⟩,
      ⟨Rect.unit ![0, 0] ![256, 1024] inb_S1024x1024_S256x1024_0_0, P0⟩] : List (View.Piece (Elt Ideal) S1024x1024 .f32)), y ∈ p.1.set := by
  have h0 : (y 0 : ℕ) < 1024 := (y 0).isLt
  have h1 : (y 1 : ℕ) < 1024 := (y 1).isLt
  rcases (by omega : 768 ≤ (y 0 : ℕ) ∨ (512 ≤ (y 0 : ℕ) ∧ (y 0 : ℕ) < 768) ∨ (256 ≤ (y 0 : ℕ) ∧ (y 0 : ℕ) < 512) ∨ (y 0 : ℕ) < 256)
    with h | h | h | h
  · refine ⟨_, List.mem_cons_self, ?_⟩
    rw [Rect.mem_set_unit]
    intro a; fin_cases a <;> simp <;> omega
  · refine ⟨_, List.mem_cons_of_mem _ List.mem_cons_self, ?_⟩
    rw [Rect.mem_set_unit]
    intro a; fin_cases a <;> simp <;> omega
  · refine ⟨_, List.mem_cons_of_mem _ (List.mem_cons_of_mem _ List.mem_cons_self), ?_⟩
    rw [Rect.mem_set_unit]
    intro a; fin_cases a <;> simp <;> omega
  · refine ⟨_, List.mem_cons_of_mem _ (List.mem_cons_of_mem _ (List.mem_cons_of_mem _ List.mem_cons_self)), ?_⟩
    rw [Rect.mem_set_unit]
    intro a; fin_cases a <;> simp <;> omega

include hX hG hW hD hY in
/-- A later point of a run adds its part. -/
theorem stepB (t : Fin cfg0.N) (h : ¬ t.val % 4 = 0) (y : S1024x1024.Idx) :
    (outsAt0 m c t.val t.isLt).2.2 y
      = (outsAt0 m c (t.val - 1) (lt_of_le_of_lt (Nat.sub_le _ _) t.isLt)).2.2 y + ((part X G W D Y t (y 0) (y 1) : ℝ) : EReal) := by
  rw [outsAt0_B m c t h]; frame_out
  clear h
  canon_tiles x h
  · exact (c_dxn m c X G W D Y hX hG hW hD hY t 768 (by omega) _ _ _ _ _ _ x (y 0) (y 1) h0 h1).trans
      (congrArg (fun a : EReal => a + ((part X G W D Y t (y 0) (y 1) : ℝ) : EReal)) (ld_at _ 768 _ x y h0 h1))
  · exact (c_dxn m c X G W D Y hX hG hW hD hY t 512 (by omega) _ _ _ _ _ _ x (y 0) (y 1) h0 h1).trans
      (congrArg (fun a : EReal => a + ((part X G W D Y t (y 0) (y 1) : ℝ) : EReal)) (ld_at _ 512 _ x y h0 h1))
  · exact (c_dxn m c X G W D Y hX hG hW hD hY t 256 (by omega) _ _ _ _ _ _ x (y 0) (y 1) h0 h1).trans
      (congrArg (fun a : EReal => a + ((part X G W D Y t (y 0) (y 1) : ℝ) : EReal)) (ld_at _ 256 _ x y h0 h1))
  · exact (c_dxn m c X G W D Y hX hG hW hD hY t 0 (by omega) _ _ _ _ _ _ x (y 0) (y 1) (h0.trans (Nat.zero_add _).symm) h1).trans
      (congrArg (fun a : EReal => a + ((part X G W D Y t (y 0) (y 1) : ℝ) : EReal)) (ld_at _ 0 _ x y (h0.trans (Nat.zero_add _).symm) h1))

include hX hG hW hD hY in
/-- A chunk stored by the first point, over sums that are still zero from its first row on. -/
theorem pieceA (t : Fin cfg0.N) (k : ℕ) (hk : k + 256 ≤ 1024) (b0 : ∀ a, ![k, 0] a + ![256, 1024] a ≤ S1024x1024.size a)
    (b : ∀ a, ![0, 0, k, 0] a + ![1, 1, 256, 704] a ≤ S2x1x1024x704.size a)
    (b' : ∀ a, ![1, 0, k, 0] a + ![1, 1, 256, 704] a ≤ S2x1x1024x704.size a)
    (w : ∀ a, ![0, 0, 0, 0] a + ![1, 1, 704, 1024] a ≤ S2x1x704x1024.size a)
    (w' : ∀ a, ![1, 0, 0, 0] a + ![1, 1, 704, 1024] a ≤ S2x1x704x1024.size a)
    (L : List (View.Piece (Elt Ideal) S1024x1024 .f32))
    (hL : ∀ y : S1024x1024.Idx, k ≤ (y 0 : Fin 1024).val → View.canon (Val := Elt Ideal) (e := .f32) L y = (0 : EReal)) (x : S256x1024.Idx) :
    k0_pay18 (F := Ideal) (k0_pay6 (View.ld (iblk m c 0 t) (Rect.unit ![k, 0] ![256, 1024] b0)) (iblk m c 3 t))
      (k0_pay9 (View.ld (iblk m c 1 t) (Rect.unit ![0, 0, k, 0] ![1, 1, 256, 704] b)))
      (k0_pay10 (View.ld (iblk m c 1 t) (Rect.unit ![0, 0, k, 0] ![1, 1, 256, 704] b)))
      (k0_pay12 (View.ld (iblk m c 0 t) (Rect.unit ![k, 0] ![256, 1024] b0)) (iblk m c 3 t)
        (View.ld (iblk m c 1 t) (Rect.unit ![1, 0, k, 0] ![1, 1, 256, 704] b')))
      (k0_pay13 (View.ld (iblk m c 1 t) (Rect.unit ![0, 0, k, 0] ![1, 1, 256, 704] b)))
      (View.ld (iblk m c 2 t) (Rect.unit ![0, 0, 0, 0] ![1, 1, 704, 1024] w))
      (View.ld (iblk m c 2 t) (Rect.unit ![1, 0, 0, 0] ![1, 1, 704, 1024] w'))
      ((ms0_6 t).view.readCov L (Rect.unit (s := S1024x1024) ![k, 0] ![256, 1024] b0).toLoadRect) x
      = 0 + ((part X G W D Y t ((Rect.unit (s := S1024x1024) ![k, 0] ![256, 1024] b0).emb x 0)
          ((Rect.unit (s := S1024x1024) ![k, 0] ![256, 1024] b0).emb x 1) : ℝ) : EReal) := by
  refine (c_dxn m c X G W D Y hX hG hW hD hY t k hk b0 b b' w w' _ x _ _ (emb_row k b0 x) (emb_col k b0 x)).trans
    (congrArg (fun a : EReal => a + _) ?_)
  rw [View.readCov_eq_canon']
  exact hL _ (le_of_le_of_eq (Nat.le_add_right _ _) (emb_row k b0 x).symm)

include hX hG hW hD hY in
/-- The first point of a run stores its part. -/
theorem stepA (t : Fin cfg0.N) (h : t.val % 4 = 0) (y : S1024x1024.Idx) :
    (outsAt0 m c t.val t.isLt).2.2 y = 0 + ((part X G W D Y t (y 0) (y 1) : ℝ) : EReal) := by
  rw [outsAt0_A m c t h]; frame_out
  clear h
  refine View.canon_append_of_pieces (Val := Elt Ideal) (S := S1024x1024) (e := .f32)
    (fun y => ((0 : EReal) + ((part X G W D Y t (y 0) (y 1) : ℝ) : EReal) : EReal)) [_] [_, _, _, _] ?_ y ?_
  · intro p hp
    simp only [List.mem_cons, List.not_mem_nil, or_false] at hp
    rcases hp with rfl | rfl | rfl | rfl
    · exact fun x => pieceA m c X G W D Y hX hG hW hD hY t 768 (by omega) _ _ _ _ _ _ (zero3 _ _ _) x
    · exact fun x => pieceA m c X G W D Y hX hG hW hD hY t 512 (by omega) _ _ _ _ _ _ (zero2 _ _) x
    · exact fun x => pieceA m c X G W D Y hX hG hW hD hY t 256 (by omega) _ _ _ _ _ _ (zero1 _) x
    · exact fun x => pieceA m c X G W D Y hX hG hW hD hY t 0 (by omega) _ _ _ _ _ _ (fun y _ => zero0 y) x
  · exact covers _ _ _ _ y

/-- The first half of the columns. -/
theorem dgu_lo (i : Fin 4096) (j : Fin 2816) : dgu X G W D Y i (Fin.castAdd 2816 j) = dgate X G W D Y i j := by
  unfold dgu
  rw [dif_pos (by simp)]
  congr 1

/-- The second half of the columns. -/
theorem dgu_hi (i : Fin 4096) (j : Fin 2816) : dgu X G W D Y i (Fin.natAdd 2816 j) = dup X G W D Y i j := by
  unfold dgu
  rw [dif_neg (by simp)]
  congr 1
  apply Fin.ext; simp

/-- The product over both halves, by blocks of columns. -/
theorem dxn_split (i : Fin 4096) (k : Fin 1024) : dxn X G W D Y i k
    = ∑ s : Fin 4, (∑ f, dgate X G W D Y i (at4 s f) * W k ⟨(at4 s f).val, by omega⟩
      + ∑ f, dup X G W D Y i (at4 s f) * W k ⟨2816 + (at4 s f).val, by omega⟩) := by
  unfold dxn
  change ∑ j : Fin (2816 + 2816), _ = _
  rw [Fin.sum_univ_add, Finset.sum_add_distrib]
  congr 1
  · rw [Fin.sum_univ_tiles 4 704 rfl]
    exact Finset.sum_congr rfl fun s _ => Finset.sum_congr rfl fun f _ => congrArg₂ (· * ·) (dgu_lo X G W D Y i (at4 s f)) rfl
  · rw [Fin.sum_univ_tiles 4 704 rfl]
    exact Finset.sum_congr rfl fun s _ => Finset.sum_congr rfl fun f _ => congrArg₂ (· * ·) (dgu_hi X G W D Y i (at4 s f)) rfl

/-- The parts of a run add up. -/
theorem sum4 (t : Fin cfg0.N) (i : Fin 1024) (e : Fin 1024) (r : Fin 4096) (k : Fin 1024) (hr : (r : ℕ) = t.val / 4 * 1024 + i)
    (hk : (k : ℕ) = e) {b : ∀ s : Fin 4, 4 * (t.val / 4) + s.val < cfg0.N} :
    ∑ s : Fin 4, ((part X G W D Y ⟨4 * (t.val / 4) + s.val, b s⟩ i e : ℝ) : EReal) = ((dxn X G W D Y r k : ℝ) : EReal) := by
  obtain rfl : k = e := Fin.ext hk
  rw [dxn_split]
  refine (coe_sum _ _).trans (congrArg _ (Finset.sum_congr rfl fun s _ => ?_))
  have h1 : row ⟨4 * (t.val / 4) + s.val, b s⟩ i = r := Fin.ext (by simp [row]; omega)
  have h2 : ∀ f, col ⟨4 * (t.val / 4) + s.val, b s⟩ f = at4 s f := fun f => Fin.ext (by simp [col, at4])
  simp only [part, h1, h2]

include hX hG hW hD hY in
/-- The gradient of the normalised rows. -/
theorem final6 : (dats m 0 c).arrAt 6 (cfgs 0).N
    = (fun y => ((dxn X G W D Y (y 0) (y 1) : ℝ) : EReal) : FVec Ideal S4096x1024 .f32) := by
  refine (dats m 0 c).arrAt_eq_of_covers 6 _ (by decide +kernel) fun t hf y => ?_
  blk_simp [idx t]
  rw [after0_6, Pipeline.eq_sum_fin_of_reset_step_apply_of_flush (fun n h => (outsAt0 m c n h).2.2) 4 (fun _ => 0)
    (fun t y => ((part X G W D Y t (y 0) (y 1) : ℝ) : EReal)) (fun t h y => stepA m c X G W D Y hX hG hW hD hY t h y) (fun t h y => stepB m c X G W D Y hX hG hW hD hY t h y) t ((flush0_6 t).mp hf) _, zero_add]
  exact sum4 X G W D Y t (y 0) (y 1) _ _ (by blk_simp [idx t]) (by blk_simp [idx t])

end

end Cert.SwigluIdeal.Hand

end
-- ==== Proof.SwigluClaim.lean ====
module

public import proofs.«01_k».proof.Defs
public import proofs.«01_k».proof.Proof.SwigluVal
public import proofs.«01_k».proof.Proof.Gen.Swiglu.Frame
public import proofs.«01_k».proof.Proof.Gen.SwigluIdeal.Frame
public import proofs.«01_k».proof.Proof.Gen.SwigluRefIdeal.Run
public import proofs.«01_k».proof.Proof.Gen.Pre_finite_swiglu
public import Idealize.ShloMosaic.Lib.Quiescent

@[expose] public section

set_option maxRecDepth 16384

noncomputable section

namespace Cert.SwigluClaim

open Idealize.ShloMosaic Idealize.SL.Sem Cert.Reals

/-- The kernel runs and leaves its arguments and its counters as they were. -/
theorem frame_kernel : Cert.quiescent_Swiglu := fun m ρ _ => Cert.Swiglu.Gen.frame m ρ

/-- So does its idealization. -/
theorem frame_ideal : Cert.quiescent_SwigluIdeal := fun m ρ _ => Cert.SwigluIdeal.Gen.frame m ρ

/-- So does the reference: it has no counters at all, and its run leaves the arguments. -/
theorem frame_ref : Cert.quiescent_SwigluRefIdeal := fun m ρ _ =>
  (θ_run Cert.SwigluRefIdeal.defs _ _).mono (fun r h => ⟨fun c => (h c).2.2.2, sem_eq_zero_of_no_sems rfl r.2⟩)
    (Cert.SwigluRefIdeal.Value.run (F := Ideal) m ρ)

/-- The precondition says that every element of the five arguments is a real number. -/
theorem finite (x : FVec Ideal Cert.Pre_finite_swiglu.S4096x1024 .f32) (g : FVec Ideal Cert.Pre_finite_swiglu.S1024 .f32)
    (w : FVec Ideal Cert.Pre_finite_swiglu.S1024x5632 .f32) (d : FVec Ideal Cert.Pre_finite_swiglu.S2816x1024 .f32)
    (y : FVec Ideal Cert.Pre_finite_swiglu.S4096x1024 .f32)
    (h : (Cert.Pre_finite_swiglu.fn (F := Ideal) x g w d y).1 = (fun _ => 1#1)
      ∧ (Cert.Pre_finite_swiglu.fn (F := Ideal) x g w d y).2.1 = (fun _ => 1#1)
      ∧ (Cert.Pre_finite_swiglu.fn (F := Ideal) x g w d y).2.2.1 = (fun _ => 1#1)
      ∧ (Cert.Pre_finite_swiglu.fn (F := Ideal) x g w d y).2.2.2.1 = (fun _ => 1#1)
      ∧ (Cert.Pre_finite_swiglu.fn (F := Ideal) x g w d y).2.2.2.2 = (fun _ => 1#1)) :
    (∀ i j, x (ix2 i j) = (((x (ix2 i j)).toReal : ℝ) : EReal)) ∧ (∀ j, g (ix1 j) = (((g (ix1 j)).toReal : ℝ) : EReal))
      ∧ (∀ i j, w (ix2 i j) = (((w (ix2 i j)).toReal : ℝ) : EReal)) ∧ (∀ i j, d (ix2 i j) = (((d (ix2 i j)).toReal : ℝ) : EReal))
      ∧ (∀ i j, y (ix2 i j) = (((y (ix2 i j)).toReal : ℝ) : EReal)) :=
  ⟨fun i j => eq_coe_toReal (congrFun h.1 (ix2 i j)), fun j => eq_coe_toReal (congrFun h.2.1 (ix1 j)),
    fun i j => eq_coe_toReal (congrFun h.2.2.1 (ix2 i j)), fun i j => eq_coe_toReal (congrFun h.2.2.2.1 (ix2 i j)),
    fun i j => eq_coe_toReal (congrFun h.2.2.2.2 (ix2 i j))⟩

/-- The reference's gated unit, as an array. -/
theorem ref27
    (x0 : FVec Ideal Cert.SwigluRefIdeal.S4096x1024 .f32) (x1 : FVec Ideal Cert.SwigluRefIdeal.S1024 .f32)
    (x2 : FVec Ideal Cert.SwigluRefIdeal.S1024x5632 .f32) (x3 : FVec Ideal Cert.SwigluRefIdeal.S2816x1024 .f32)
    (x4 : FVec Ideal Cert.SwigluRefIdeal.S4096x1024 .f32) (X : Fin 4096 → Fin 1024 → ℝ) (G : Fin 1024 → ℝ)
    (W : Fin 1024 → Fin 5632 → ℝ) (D : Fin 2816 → Fin 1024 → ℝ) (Y : Fin 4096 → Fin 1024 → ℝ)
    (h0 : ∀ i j, x0 (ix2 i j) = ((X i j : ℝ) : EReal)) (h1 : ∀ j, x1 (ix1 j) = ((G j : ℝ) : EReal))
    (h2 : ∀ i j, x2 (ix2 i j) = ((W i j : ℝ) : EReal)) (h3 : ∀ i j, x3 (ix2 i j) = ((D i j : ℝ) : EReal))
    (h4 : ∀ i j, x4 (ix2 i j) = ((Y i j : ℝ) : EReal)) :
    Cert.SwigluRefIdeal.Read.val_main_v27 (F := Ideal) x0 x1 x2
      = (fun y => ((Cert.SwigluRefIdeal.Hand.act X G W (y 1) (Cert.SwigluIdeal.Hand.at4 (y 0) (y 2)) : ℝ) : EReal)) := by
  funext y; idx_vars y
  exact Cert.SwigluRefIdeal.Hand.v27 _ _ _ _ _ _ h0 h1 h2 _ _ _

/-- The reference's gradients of both halves, as an array. -/
theorem ref31
    (x0 : FVec Ideal Cert.SwigluRefIdeal.S4096x1024 .f32) (x1 : FVec Ideal Cert.SwigluRefIdeal.S1024 .f32)
    (x2 : FVec Ideal Cert.SwigluRefIdeal.S1024x5632 .f32) (x3 : FVec Ideal Cert.SwigluRefIdeal.S2816x1024 .f32)
    (x4 : FVec Ideal Cert.SwigluRefIdeal.S4096x1024 .f32) (X : Fin 4096 → Fin 1024 → ℝ) (G : Fin 1024 → ℝ)
    (W : Fin 1024 → Fin 5632 → ℝ) (D : Fin 2816 → Fin 1024 → ℝ) (Y : Fin 4096 → Fin 1024 → ℝ)
    (h0 : ∀ i j, x0 (ix2 i j) = ((X i j : ℝ) : EReal)) (h1 : ∀ j, x1 (ix1 j) = ((G j : ℝ) : EReal))
    (h2 : ∀ i j, x2 (ix2 i j) = ((W i j : ℝ) : EReal)) (h3 : ∀ i j, x3 (ix2 i j) = ((D i j : ℝ) : EReal))
    (h4 : ∀ i j, x4 (ix2 i j) = ((Y i j : ℝ) : EReal)) :
    Cert.SwigluRefIdeal.Read.val_main_v31 (F := Ideal) x0 x1 x2 x3 x4
      = (fun y => ((Cert.SwigluRefIdeal.Hand.dgu X G W D Y (y 2) (Cert.SwigluIdeal.Hand.at8 (y 0) (y 1) (y 3)) : ℝ) : EReal)) := by
  funext y; idx_vars y
  exact Cert.SwigluRefIdeal.Hand.v31 _ _ _ _ _ _ _ _ _ _ h0 h1 h2 h3 h4 _ _ _ _

/-- The reference's gradient of the normalised rows, as an array. -/
theorem ref24
    (x0 : FVec Ideal Cert.SwigluRefIdeal.S4096x1024 .f32) (x1 : FVec Ideal Cert.SwigluRefIdeal.S1024 .f32)
    (x2 : FVec Ideal Cert.SwigluRefIdeal.S1024x5632 .f32) (x3 : FVec Ideal Cert.SwigluRefIdeal.S2816x1024 .f32)
    (x4 : FVec Ideal Cert.SwigluRefIdeal.S4096x1024 .f32) (X : Fin 4096 → Fin 1024 → ℝ) (G : Fin 1024 → ℝ)
    (W : Fin 1024 → Fin 5632 → ℝ) (D : Fin 2816 → Fin 1024 → ℝ) (Y : Fin 4096 → Fin 1024 → ℝ)
    (h0 : ∀ i j, x0 (ix2 i j) = ((X i j : ℝ) : EReal)) (h1 : ∀ j, x1 (ix1 j) = ((G j : ℝ) : EReal))
    (h2 : ∀ i j, x2 (ix2 i j) = ((W i j : ℝ) : EReal)) (h3 : ∀ i j, x3 (ix2 i j) = ((D i j : ℝ) : EReal))
    (h4 : ∀ i j, x4 (ix2 i j) = ((Y i j : ℝ) : EReal)) :
    Cert.SwigluRefIdeal.Read.val_main_v24 (F := Ideal) x0 x1 x2 x3 x4
      = (fun y => ((Cert.SwigluRefIdeal.Hand.dxn X G W D Y (y 0) (y 1) : ℝ) : EReal)) := by
  funext y; idx_vars y
  exact Cert.SwigluRefIdeal.Hand.v24 _ _ _ _ _ _ _ _ _ _ h0 h1 h2 h3 h4 _ _

/-- The kernel and the derivative of the gated unit end with equal results: the unit's own values, the gradients of both its
    halves and the gradient of the normalised rows. -/
theorem algebraic : Cert.algebraic_SwigluIdeal_SwigluRefIdeal_pre_finite_swiglu := by
  intro m g m' g' hpre hag
  have hf := fun c => finite _ _ _ _ _ (hpre c)
  have k4 := fun c => Cert.SwigluIdeal.Hand.final4 m c _ _ _ (hf c).1 (hf c).2.1 (hf c).2.2.1
  have k5 := fun c => Cert.SwigluIdeal.Hand.final5 m c _ _ _ _ _ (hf c).1 (hf c).2.1 (hf c).2.2.1 (hf c).2.2.2.1 (hf c).2.2.2.2
  have k6 := fun c => Cert.SwigluIdeal.Hand.final6 m c _ _ _ _ _ (hf c).1 (hf c).2.1 (hf c).2.2.1 (hf c).2.2.2.1 (hf c).2.2.2.2
  refine ⟨fun c => (Cert.SwigluIdeal.Gen.dats m 0 c).arrAt 4 (Cert.SwigluIdeal.cfgs 0).N,
    fun c => (Cert.SwigluIdeal.Gen.dats m 0 c).arrAt 5 (Cert.SwigluIdeal.cfgs 0).N,
    fun c => (Cert.SwigluIdeal.Gen.dats m 0 c).arrAt 6 (Cert.SwigluIdeal.cfgs 0).N,
    Cert.SwigluIdeal.Value.run_blocks m g,
    (θ_run Cert.SwigluRefIdeal.defs _ _).mono (fun r h c => ?_) (Cert.SwigluRefIdeal.Value.run (F := Ideal) m' g')⟩
  · obtain ⟨r0, r1, r2, ra⟩ := h c
    obtain ⟨e0, e1, e2, e3, e4⟩ := hag c
    refine ⟨(r0.trans ?_).trans (k4 c).symm, (r1.trans ?_).trans (k5 c).symm, (r2.trans ?_).trans (k6 c).symm, ra⟩
    · rw [Cert.SwigluRefIdeal.Read.val_main_v27_eq, e0, e1, e2]
      exact ref27 _ _ _ _ _ _ _ _ _ _ (hf c).1 (hf c).2.1 (hf c).2.2.1 (hf c).2.2.2.1 (hf c).2.2.2.2
    · rw [Cert.SwigluRefIdeal.Read.val_main_v31_eq, e0, e1, e2, e3, e4]
      exact ref31 _ _ _ _ _ _ _ _ _ _ (hf c).1 (hf c).2.1 (hf c).2.2.1 (hf c).2.2.2.1 (hf c).2.2.2.2
    · rw [Cert.SwigluRefIdeal.Read.val_main_v24_eq, e0, e1, e2, e3, e4]
      exact ref24 _ _ _ _ _ _ _ _ _ _ (hf c).1 (hf c).2.1 (hf c).2.2.1 (hf c).2.2.2.1 (hf c).2.2.2.2

end Cert.SwigluClaim

end
-- ==== Proof.AttnRefVal.lean ====
module

public import proofs.«01_k».proof.Proof.Reals
public import proofs.«01_k».proof.Proof.Gen.AttnRefIdeal.Read

@[expose] public section

set_option maxRecDepth 16384

noncomputable section

namespace Cert.AttnRefIdeal.Hand

open Cert.AttnRefIdeal Cert.AttnRefIdeal.Read Cert.Reals Idealize.ShloMosaic

/-- Real arguments of the attention's backward pass: the stream and the memory, the gains, the weights, and the cotangents of the
attention's output and of its normalised output. -/
structure In where
  X : Fin 4096 → Fin 1024 → ℝ
  M : Fin 256 → Fin 1024 → ℝ
  ga : Fin 1024 → ℝ
  gm : Fin 1024 → ℝ
  Wq : Fin 1024 → Fin 1024 → ℝ
  Wkv : Fin 1024 → Fin 2048 → ℝ
  Wo : Fin 1024 → Fin 1024 → ℝ
  gf : Fin 1024 → ℝ
  Y : Fin 4096 → Fin 1024 → ℝ
  Z : Fin 4096 → Fin 1024 → ℝ

/-- The column of an entry of a head. -/
def hd (h : Fin 4) (d : Fin 256) : Fin 1024 := ⟨h.val * 256 + d.val, by omega⟩
/-- The head of a column. -/
def hq (j : Fin 1024) : Fin 4 := ⟨j.val / 256, by omega⟩

namespace In
variable (r : In)

/-- The normalised memory. -/
def memn (m : Fin 256) (k : Fin 1024) : ℝ := r.M m k * rs (r.M m) * r.gm k
/-- The keys and the values, side by side. -/
def kv (m : Fin 256) (j : Fin 2048) : ℝ := ∑ k, r.memn m k * r.Wkv k j
/-- The keys. -/
def key (m : Fin 256) (j : Fin 1024) : ℝ := r.kv m ⟨j.val, by omega⟩
/-- The values. -/
def val (m : Fin 256) (j : Fin 1024) : ℝ := r.kv m ⟨1024 + j.val, by omega⟩
/-- The normalised stream. -/
def xn (i : Fin 4096) (k : Fin 1024) : ℝ := r.X i k * rs (r.X i) * r.ga k
/-- The queries. -/
def q (i : Fin 4096) (j : Fin 1024) : ℝ := ∑ k, r.xn i k * r.Wq k j
/-- The scaled scores. -/
def sc (h : Fin 4) (i : Fin 4096) (m : Fin 256) : ℝ := (∑ d, r.q i (hd h d) * r.key m (hd h d)) * (1 / 16)
/-- The exponentials of the scores less their largest. -/
def e (h : Fin 4) (i : Fin 4096) (m : Fin 256) : ℝ := Real.exp (r.sc h i m - mx (r.sc h i))
/-- The sum of a row's exponentials. -/
def es (h : Fin 4) (i : Fin 4096) : ℝ := ∑ m, r.e h i m
/-- The attention's weights. -/
def p (h : Fin 4) (i : Fin 4096) (m : Fin 256) : ℝ := r.e h i m / r.es h i
/-- The attention's mixed values. -/
def o (i : Fin 4096) (j : Fin 1024) : ℝ := ∑ m, r.val m j * r.p (hq j) i m
/-- The stream after the attention. -/
def x2 (i : Fin 4096) (j : Fin 1024) : ℝ := r.X i j + ∑ k, r.o i k * r.Wo k j
/-- The gradient of the gain after the attention. -/
def dg2 (j : Fin 1024) : ℝ := ∑ i, r.x2 i j * rs (r.x2 i) * r.Z i j
/-- The gradient of the stream after the attention. -/
def dx2 (i : Fin 4096) (j : Fin 1024) : ℝ := r.Y i j + rmsDx (r.x2 i) (fun k => r.Z i k * r.gf k) j
/-- The gradient of the mixed values. -/
def dO (i : Fin 4096) (k : Fin 1024) : ℝ := ∑ j, r.dx2 i j * r.Wo k j
/-- The gradient of the attention's weights. -/
def dp (h : Fin 4) (i : Fin 4096) (m : Fin 256) : ℝ := ∑ d, r.dO i (hd h d) * r.val m (hd h d)
/-- The gradient of the values. -/
def dv (m : Fin 256) (j : Fin 1024) : ℝ := ∑ i, r.dO i j * r.p (hq j) i m
/-- The gradient of the scores before their scale. -/
def ds (h : Fin 4) (i : Fin 4096) (m : Fin 256) : ℝ :=
  r.p h i m * (r.dp h i m - ∑ n, r.dp h i n * r.p h i n) * (1 / 16)
/-- The gradient of the keys. -/
def dk (m : Fin 256) (j : Fin 1024) : ℝ := ∑ i, r.ds (hq j) i m * r.q i j
/-- The gradient of the queries. -/
def dq (i : Fin 4096) (j : Fin 1024) : ℝ := ∑ m, r.ds (hq j) i m * r.key m j
/-- The gradient of the normalised stream. -/
def dxn (i : Fin 4096) (k : Fin 1024) : ℝ := ∑ j, r.dq i j * r.Wq k j
/-- The gradient of the gain before the attention. -/
def dg (j : Fin 1024) : ℝ := ∑ i, r.X i j * rs (r.X i) * r.dxn i j
/-- The gradient of the stream before the attention. -/
def dx1 (i : Fin 4096) (j : Fin 1024) : ℝ := r.dx2 i j + rmsDx (r.X i) (fun k => r.dxn i k * r.ga k) j
/-- The gradients of the keys' four heads, then of the values'. -/
def dkv (c : Fin 8) (m : Fin 256) (d : Fin 256) : ℝ :=
  if h : c.val < 4 then r.dk m (hd ⟨c.val, h⟩ d) else r.dv m (hd ⟨c.val - 4, by omega⟩ d)

/-- The sum of the exponentials of a row of scores is positive. -/
theorem es_pos (h : Fin 4) (i : Fin 4096) : 0 < r.es h i :=
  Finset.sum_pos (fun m _ => Real.exp_pos _) Finset.univ_nonempty

end In

/-- The head of a column put together from a head and a place in it. -/
theorem hq_hd (h : Fin 4) (d : Fin 256) : hq (hd h d) = h := Fin.ext (by simp only [hq, hd]; omega)
/-- A column is put together from its head and its place in it. -/
theorem hd_hq (j : Fin 1024) (a : j.val / 256 < 4) (b : j.val % 256 < 256) : hd ⟨j.val / 256, a⟩ ⟨j.val % 256, b⟩ = j :=
  Fin.ext (by simp only [hd]; exact Nat.div_add_mod' _ _)

/-- The arguments hold the real numbers of `r`. -/
structure Reads (r : In) (x0 : FVec Ideal S4096x1024 .f32) (x1 : FVec Ideal S256x1024 .f32) (x2 x3 : FVec Ideal S1024 .f32)
    (x4 : FVec Ideal S1024x1024 .f32) (x5 : FVec Ideal S1024x2048 .f32) (x6 : FVec Ideal S1024x1024 .f32)
    (x7 : FVec Ideal S1024 .f32) (x8 x9 : FVec Ideal S4096x1024 .f32) : Prop where
  h0 : ∀ i j, x0 (ix2 i j) = ((r.X i j : ℝ) : EReal)
  h1 : ∀ i j, x1 (ix2 i j) = ((r.M i j : ℝ) : EReal)
  h2 : ∀ j, x2 (ix1 j) = ((r.ga j : ℝ) : EReal)
  h3 : ∀ j, x3 (ix1 j) = ((r.gm j : ℝ) : EReal)
  h4 : ∀ i j, x4 (ix2 i j) = ((r.Wq i j : ℝ) : EReal)
  h5 : ∀ i j, x5 (ix2 i j) = ((r.Wkv i j : ℝ) : EReal)
  h6 : ∀ i j, x6 (ix2 i j) = ((r.Wo i j : ℝ) : EReal)
  h7 : ∀ j, x7 (ix1 j) = ((r.gf j : ℝ) : EReal)
  h8 : ∀ i j, x8 (ix2 i j) = ((r.Y i j : ℝ) : EReal)
  h9 : ∀ i j, x9 (ix2 i j) = ((r.Z i j : ℝ) : EReal)

/-- The maximum over the last axis. -/
theorem red_max (hr : S4x4096x256.ReducesTo [2] S4x4096) (hs : 0 < S_.numel) (x : FVec Ideal S4x4096x256 .f32) (h : Fin 4)
    (i : Fin 4096) :
    Host.reduce FloatOps.maximumf x (constant (F := Ideal) S_ .f32 0xFF800000#32) hr hs (ix2 h i)
      = Finset.univ.fold max ⊥ fun k => x (ix3 h i k) := by
  pointwise []
  rw [lit_neg_inf]

/-- The scores' maxima are the reduction of the scores. -/
theorem max_scores_def (x0 : FVec Ideal S4096x1024 .f32) (x1 : FVec Ideal S256x1024 .f32) (x2 x3 : FVec Ideal S1024 .f32)
    (x4 : FVec Ideal S1024x1024 .f32) (x5 : FVec Ideal S1024x2048 .f32) :
    val_main_v39 (F := Ideal) x0 x1 x2 x3 x4 x5
      = Host.reduce (FloatOps.maximumf (F := Ideal) (φ := .f32)) (val_main_v38 (F := Ideal) x0 x1 x2 x3 x4 x5)
          (val_main_cst_7 (F := Ideal)) Gen.reducesTo_S4x4096x256_S4x4096_d2 Gen.h_S_ := by
  unfold val_main_v39
  rfl

/-- A row's maximum is the largest of its scores. -/
theorem max_scores (x0 : FVec Ideal S4096x1024 .f32) (x1 : FVec Ideal S256x1024 .f32) (x2 x3 : FVec Ideal S1024 .f32)
    (x4 : FVec Ideal S1024x1024 .f32) (x5 : FVec Ideal S1024x2048 .f32) (h : Fin 4) (i : Fin 4096) :
    val_main_v39 (F := Ideal) x0 x1 x2 x3 x4 x5 (ix2 h i)
      = Finset.univ.fold max ⊥ fun k => val_main_v38 (F := Ideal) x0 x1 x2 x3 x4 x5 (ix3 h i k) := by
  rw [max_scores_def]
  generalize val_main_v38 (F := Ideal) x0 x1 x2 x3 x4 x5 = y
  exact red_max _ _ y h i

/-- The largest of a row of real scores. -/
theorem fold_max_eq (x : FVec Ideal S4x4096x256 .f32) (g : Fin 4 → Fin 4096 → Fin 256 → ℝ) (h : Fin 4) (i : Fin 4096)
    (hx : ∀ m, x (ix3 h i m) = ((g h i m : ℝ) : EReal)) :
    (Finset.univ.fold max ⊥ fun k => x (ix3 h i k)) = ((mx (g h i) : ℝ) : EReal) := by
  rw [← fold_max]
  exact congrArg (Finset.fold max ⊥ · Finset.univ) (funext hx)

/-- A maximum with minus infinity. -/
theorem max_bot (y : FVec Ideal S4x4096 .f32) (z : ℝ) (h : Fin 4) (i : Fin 4096) (e : y (ix2 h i) = ((z : ℝ) : EReal)) :
    maximumf (val_main_v45 (F := Ideal)) y (ix2 h i) = ((z : ℝ) : EReal) := by
  pointwise [val_main_v45, val_main_cst_9]
  rw [e, lit_neg_inf]
  exact max_eq_right bot_le

section
variable {r : In} {x0 : FVec Ideal S4096x1024 .f32} {x1 : FVec Ideal S256x1024 .f32} {x2 x3 : FVec Ideal S1024 .f32}
  {x4 : FVec Ideal S1024x1024 .f32} {x5 : FVec Ideal S1024x2048 .f32} {x6 : FVec Ideal S1024x1024 .f32}
  {x7 : FVec Ideal S1024 .f32} {x8 x9 : FVec Ideal S4096x1024 .f32} (H : Reads r x0 x1 x2 x3 x4 x5 x6 x7 x8 x9)
include H

/-- The reciprocal root of a memory row's mean square. -/
theorem v7 (i : Fin 256) (z : Fin 1) : val_main_v7 (F := Ideal) x1 (ix2 i z) = ((rs (r.M i) : ℝ) : EReal) := by
  pointwise [val_main_v7, val_main_v6, val_main_v5, val_main_v4, val_main_v3, val_main_v2, val_main_v1, val_main_v0,
    val_main_cst, val_main_cst_0, val_main_cst_1]
  simp only [H.h1, lit_1024, lit_eps, coe_mul, coe_sum, coe_div, coe_add, zero_add, ne_eq, OfNat.ofNat_ne_zero,
    not_false_eq_true]
  exact coe_rsqrt (ms_pos _)

/-- The keys and the values. -/
theorem v13 (i : Fin 256) (j : Fin 2048) : val_main_v13 (F := Ideal) x1 x3 x5 (ix2 i j) = ((r.kv i j : ℝ) : EReal) := by
  pointwise [val_main_v13, val_main_v12, val_main_v11, val_main_v10, val_main_v9, val_main_v8]
  simp only [v7 H, H.h1, H.h3, H.h5, coe_mul, coe_sum]
  rfl

/-- The keys by heads. -/
theorem v34 (m : Fin 256) (h : Fin 4) (d : Fin 256) :
    val_main_v34 (F := Ideal) x1 x3 x5 (ix3 m h d) = ((r.key m (hd h d) : ℝ) : EReal) := by
  pointwise [val_main_v34, val_main_v14]
  exact (v13 H _ _).trans (congrArg (fun k => ((r.kv m k : ℝ) : EReal)) (Fin.ext (by simp [hd])))

/-- The values by heads. -/
theorem v35 (m : Fin 256) (h : Fin 4) (d : Fin 256) :
    val_main_v35 (F := Ideal) x1 x3 x5 (ix3 m h d) = ((r.val m (hd h d) : ℝ) : EReal) := by
  pointwise [val_main_v35, val_main_v15]
  exact (v13 H _ _).trans (congrArg (fun k => ((r.kv m k : ℝ) : EReal)) (Fin.ext (by simp [hd])))

/-- A stream row's mean square. -/
theorem v22 (i : Fin 4096) (z : Fin 1) : val_main_v22 (F := Ideal) x0 (ix2 i z) = ((ms (r.X i) : ℝ) : EReal) := by
  pointwise [val_main_v22, val_main_v21, val_main_v20, val_main_v19, val_main_v18, val_main_v17, val_main_v16,
    val_main_cst_4, val_main_cst_3, val_main_cst_2]
  simp only [H.h0, lit_1024, lit_eps, coe_mul, coe_sum, coe_div, coe_add, zero_add, ne_eq, OfNat.ofNat_ne_zero,
    not_false_eq_true]
  rfl

/-- The reciprocal root of a stream row's mean square. -/
theorem v23 (i : Fin 4096) (z : Fin 1) : val_main_v23 (F := Ideal) x0 (ix2 i z) = ((rs (r.X i) : ℝ) : EReal) := by
  pointwise [val_main_v23]
  rw [v22 H]
  exact coe_rsqrt (ms_pos _)

/-- The derivative of that root. -/
theorem v26 (i : Fin 4096) (z : Fin 1) :
    val_main_v26 (F := Ideal) x0 (ix2 i z) = ((-(1 / 2) * (rs (r.X i) / ms (r.X i)) : ℝ) : EReal) := by
  pointwise [val_main_v26, val_main_v25, val_main_v24, val_main_cst_5]
  simp only [v22 H, v23 H, lit_neg_half, coe_div _ (ms_pos _).ne', coe_mul]

/-- The stream over its root mean square. -/
theorem v28 (i : Fin 4096) (j : Fin 1024) : val_main_v28 (F := Ideal) x0 (ix2 i j) = ((r.X i j * rs (r.X i) : ℝ) : EReal) := by
  pointwise [val_main_v28, val_main_v27]
  simp only [v23 H, H.h0, coe_mul]

/-- The queries. -/
theorem v32 (i : Fin 4096) (j : Fin 1024) : val_main_v32 (F := Ideal) x0 x2 x4 (ix2 i j) = ((r.q i j : ℝ) : EReal) := by
  pointwise [val_main_v32, val_main_v31, val_main_v30, val_main_v29]
  simp only [v28 H, H.h2, H.h4, coe_mul, coe_sum]
  rfl

/-- The queries by heads. -/
theorem v33 (i : Fin 4096) (h : Fin 4) (d : Fin 256) :
    val_main_v33 (F := Ideal) x0 x2 x4 (ix3 i h d) = ((r.q i (hd h d) : ℝ) : EReal) := by
  pointwise [val_main_v33]
  exact v32 H _ _

/-- The scaled scores. -/
theorem v38 (h : Fin 4) (i : Fin 4096) (m : Fin 256) :
    val_main_v38 (F := Ideal) x0 x1 x2 x3 x4 x5 (ix3 h i m) = ((r.sc h i m : ℝ) : EReal) := by
  pointwise [val_main_v38, val_main_v37, val_main_v36, val_main_cst_6]
  simp only [v33 H, v34 H, lit_inv16, coe_mul, coe_sum]
  rfl

/-- The largest score of a row. -/
theorem v39 (h : Fin 4) (i : Fin 4096) :
    val_main_v39 (F := Ideal) x0 x1 x2 x3 x4 x5 (ix2 h i) = ((mx (r.sc h i) : ℝ) : EReal) := by
  rw [max_scores]
  exact fold_max_eq _ _ h i (v38 H h i)

/-- The same, after a comparison with minus infinity. -/
theorem v46 (h : Fin 4) (i : Fin 4096) :
    val_main_v46 (F := Ideal) x0 x1 x2 x3 x4 x5 (ix2 h i) = ((mx (r.sc h i) : ℝ) : EReal) := by
  unfold val_main_v46
  exact max_bot _ _ h i (v39 H h i)

/-- The exponentials of the scores less their largest. -/
theorem v59 (h : Fin 4) (i : Fin 4096) (m : Fin 256) :
    val_main_v59 (F := Ideal) x0 x1 x2 x3 x4 x5 (ix3 h i m) = ((r.e h i m : ℝ) : EReal) := by
  pointwise [val_main_v59, val_main_v58, val_main_v57, val_main_v56]
  rw [v46 H, v38 H, coe_sub, coe_exp]
  rfl

/-- The sum of a row's exponentials. -/
theorem v61 (h : Fin 4) (i : Fin 4096) (z : Fin 1) :
    val_main_v61 (F := Ideal) x0 x1 x2 x3 x4 x5 (ix3 h i z) = ((r.es h i : ℝ) : EReal) := by
  pointwise [val_main_v61, val_main_v60, val_main_cst_15]
  simp only [v59 H, coe_sum, zero_add]
  rfl

/-- The attention's weights. -/
theorem v63 (h : Fin 4) (i : Fin 4096) (m : Fin 256) :
    val_main_v63 (F := Ideal) x0 x1 x2 x3 x4 x5 (ix3 h i m) = ((r.p h i m : ℝ) : EReal) := by
  pointwise [val_main_v63, val_main_v62]
  simp only [v59 H, v61 H, coe_div _ (r.es_pos _ _).ne']
  rfl

/-- The reciprocal of the square of the sum. -/
theorem v66 (h : Fin 4) (i : Fin 4096) (z : Fin 1) :
    val_main_v66 (F := Ideal) x0 x1 x2 x3 x4 x5 (ix3 h i z) = ((1 / (r.es h i * r.es h i) : ℝ) : EReal) := by
  pointwise [val_main_v66, val_main_v65, val_main_v64, val_main_cst_16]
  simp only [v61 H, coe_mul]
  rw [coe_one, coe_div _ (mul_pos (r.es_pos _ _) (r.es_pos _ _)).ne']

/-- The stream after the attention. -/
theorem v71 (i : Fin 4096) (j : Fin 1024) :
    val_main_v71 (F := Ideal) x0 x1 x2 x3 x4 x5 x6 (ix2 i j) = ((r.x2 i j : ℝ) : EReal) := by
  pointwise [val_main_v71, val_main_v70, val_main_v69, val_main_v68, val_main_v67]
  simp only [v63 H, v35 H, H.h0, H.h6, coe_mul, coe_sum, coe_add]
  simp only [hd_hq]
  rfl

/-- Its rows' mean squares. -/
theorem v78 (i : Fin 4096) (z : Fin 1) :
    val_main_v78 (F := Ideal) x0 x1 x2 x3 x4 x5 x6 (ix2 i z) = ((ms (r.x2 i) : ℝ) : EReal) := by
  pointwise [val_main_v78, val_main_v77, val_main_v76, val_main_v75, val_main_v74, val_main_v73, val_main_v72,
    val_main_cst_19, val_main_cst_18, val_main_cst_17]
  simp only [v71 H, lit_1024, lit_eps, coe_mul, coe_sum, coe_div, coe_add, zero_add, ne_eq, OfNat.ofNat_ne_zero,
    not_false_eq_true]
  rfl

/-- Their reciprocal roots. -/
theorem v79 (i : Fin 4096) (z : Fin 1) :
    val_main_v79 (F := Ideal) x0 x1 x2 x3 x4 x5 x6 (ix2 i z) = ((rs (r.x2 i) : ℝ) : EReal) := by
  pointwise [val_main_v79]
  rw [v78 H]
  exact coe_rsqrt (ms_pos _)

/-- The derivative of that root. -/
theorem v82 (i : Fin 4096) (z : Fin 1) :
    val_main_v82 (F := Ideal) x0 x1 x2 x3 x4 x5 x6 (ix2 i z) = ((-(1 / 2) * (rs (r.x2 i) / ms (r.x2 i)) : ℝ) : EReal) := by
  pointwise [val_main_v82, val_main_v81, val_main_v80, val_main_cst_20]
  simp only [v78 H, v79 H, lit_neg_half, coe_div _ (ms_pos _).ne', coe_mul]

/-- The gradient of the gain after the attention. -/
theorem v166 (z : Fin 1) (j : Fin 1024) :
    val_main_v166 (F := Ideal) x0 x1 x2 x3 x4 x5 x6 x9 (ix2 z j) = ((r.dg2 j : ℝ) : EReal) := by
  pointwise [val_main_v166, val_main_v93, val_main_v84, val_main_v83, val_main_v90, val_main_v89, val_main_v88,
    val_main_cst_22, val_main_cst_21]
  simp only [v71 H, v79 H, H.h9, coe_mul, coe_sum, zero_add, Finset.univ_unique, Finset.sum_singleton]
  rfl

/-- The cotangent of the normalised stream times the gain. -/
theorem v92 (i : Fin 4096) (j : Fin 1024) : val_main_v92 (F := Ideal) x7 x9 (ix2 i j) = ((r.Z i j * r.gf j : ℝ) : EReal) := by
  pointwise [val_main_v92, val_main_v91, val_main_v85]
  simp only [H.h9, H.h7, coe_mul]

/-- The gradient of the stream after the attention. -/
theorem v108 (i : Fin 4096) (j : Fin 1024) :
    val_main_v108 (F := Ideal) x0 x1 x2 x3 x4 x5 x6 x7 x8 x9 (ix2 i j) = ((r.dx2 i j : ℝ) : EReal) := by
  pointwise [val_main_v108, val_main_v107, val_main_v106, val_main_v105, val_main_v104, val_main_v103, val_main_v102,
    val_main_v101, val_main_v100, val_main_v99, val_main_v98, val_main_v97, val_main_v96, val_main_v95, val_main_v94,
    val_main_cst_25, val_main_cst_24, val_main_cst_23]
  simp only [v92 H, v71 H, v79 H, v82 H, H.h8, lit_1024, coe_mul, coe_sum, coe_add, coe_div, ne_eq,
    OfNat.ofNat_ne_zero, not_false_eq_true, zero_add, Finset.univ_unique, Finset.sum_singleton]
  rw [In.dx2, ← rmsDx_of_ref]
  simp [add_assoc]

/-- The gradient of the mixed values, by heads. -/
theorem v112 (h : Fin 4) (d : Fin 256) (i : Fin 4096) :
    val_main_v112 (F := Ideal) x0 x1 x2 x3 x4 x5 x6 x7 x8 x9 (ix3 h d i) = ((r.dO i (hd h d) : ℝ) : EReal) := by
  pointwise [val_main_v112, val_main_v111, val_main_v110, val_main_v109]
  simp only [v108 H, H.h6, coe_mul, coe_sum]
  rfl

/-- The gradient of the attention's weights. -/
theorem v113 (h : Fin 4) (i : Fin 4096) (m : Fin 256) :
    val_main_v113 (F := Ideal) x0 x1 x2 x3 x4 x5 x6 x7 x8 x9 (ix3 h i m) = ((r.dp h i m : ℝ) : EReal) := by
  pointwise [val_main_v113]
  simp only [v112 H, v35 H, coe_mul, coe_sum]
  rfl

/-- The gradient of the values. -/
theorem v115 (m : Fin 256) (h : Fin 4) (d : Fin 256) :
    val_main_v115 (F := Ideal) x0 x1 x2 x3 x4 x5 x6 x7 x8 x9 (ix3 m h d) = ((r.dv m (hd h d) : ℝ) : EReal) := by
  pointwise [val_main_v115, val_main_v114]
  simp only [v112 H, v63 H, coe_mul, coe_sum, In.dv, hq_hd]

/-- The gradient of the scores, at a common factor from the quotient's derivative. -/
theorem v129 (h : Fin 4) (i : Fin 4096) (m : Fin 256) :
    val_main_v129 (F := Ideal) x0 x1 x2 x3 x4 x5 x6 x7 x8 x9 (ix3 h i m) = ((r.ds h i m : ℝ) : EReal) := by
  pointwise [val_main_v129, val_main_v128, val_main_v127, val_main_v126, val_main_v125, val_main_v124, val_main_v123,
    val_main_v122, val_main_v121, val_main_v120, val_main_v119, val_main_v118, val_main_v117, val_main_v116,
    val_main_cst_28, val_main_cst_27, val_main_cst_26]
  simp only [v113 H, v66 H, v61 H, v59 H, lit_inv16, coe_mul, coe_sum, coe_add, coe_neg, coe_div _ (r.es_pos _ _).ne',
    zero_add,
    Finset.univ_unique, Finset.sum_singleton]
  congr 1
  have e1 : ∑ n, r.dp h i n * r.p h i n = (∑ n, r.dp h i n * (1 / (r.es h i * r.es h i)) * r.e h i n) * r.es h i := by
    rw [Finset.sum_mul]
    refine Finset.sum_congr rfl fun n _ => ?_
    rw [In.p]
    field_simp [(r.es_pos h i).ne']
  rw [In.ds, e1, In.p]
  field_simp [(r.es_pos h i).ne']
  ring

/-- The gradient of the keys. -/
theorem v131 (m : Fin 256) (h : Fin 4) (d : Fin 256) :
    val_main_v131 (F := Ideal) x0 x1 x2 x3 x4 x5 x6 x7 x8 x9 (ix3 m h d) = ((r.dk m (hd h d) : ℝ) : EReal) := by
  pointwise [val_main_v131, val_main_v130]
  simp only [v129 H, v33 H, coe_mul, coe_sum, In.dk, hq_hd]

/-- The gradient of the queries. -/
theorem v136 (i : Fin 4096) (j : Fin 1024) :
    val_main_v136 (F := Ideal) x0 x1 x2 x3 x4 x5 x6 x7 x8 x9 (ix2 i j) = ((r.dq i j : ℝ) : EReal) := by
  pointwise [val_main_v133, val_main_v132, val_main_v136]
  simp only [v129 H, v34 H, coe_mul, coe_sum]
  simp only [hd_hq]
  rfl

/-- The gradient of the normalised stream. -/
theorem v137 (i : Fin 4096) (j : Fin 1024) :
    val_main_v137 (F := Ideal) x0 x1 x2 x3 x4 x5 x6 x7 x8 x9 (ix2 i j) = ((r.dxn i j : ℝ) : EReal) := by
  pointwise [val_main_v137]
  simp only [v136 H, H.h4, coe_mul, coe_sum]
  rfl

/-- The gradient of the gain before the attention. -/
theorem v165 (z : Fin 1) (j : Fin 1024) :
    val_main_v165 (F := Ideal) x0 x1 x2 x3 x4 x5 x6 x7 x8 x9 (ix2 z j) = ((r.dg j : ℝ) : EReal) := by
  pointwise [val_main_v165, val_main_v143, val_main_v140, val_main_v139, val_main_v138, val_main_cst_30, val_main_cst_29]
  simp only [v28 H, v137 H, coe_mul, coe_sum, zero_add, Finset.univ_unique, Finset.sum_singleton]
  rfl

/-- The gradient of the stream before the attention. -/
theorem v158 (i : Fin 4096) (j : Fin 1024) :
    val_main_v158 (F := Ideal) x0 x1 x2 x3 x4 x5 x6 x7 x8 x9 (ix2 i j) = ((r.dx1 i j : ℝ) : EReal) := by
  pointwise [val_main_v158, val_main_v142, val_main_v141, val_main_v157, val_main_v156, val_main_v155, val_main_v154,
    val_main_v153, val_main_v152, val_main_v151, val_main_v150, val_main_v149, val_main_v148, val_main_v147, val_main_v146,
    val_main_v145, val_main_v144, val_main_v29, val_main_cst_33, val_main_cst_32, val_main_cst_31]
  simp only [v108 H, v137 H, v23 H, v26 H, H.h0, H.h2, lit_1024, coe_mul, coe_sum, coe_add, coe_div, ne_eq,
    OfNat.ofNat_ne_zero, not_false_eq_true, zero_add, Finset.univ_unique, Finset.sum_singleton]
  rw [In.dx1, ← rmsDx_of_ref]
  simp

/-- The gradients of the keys and the values. -/
theorem v161 (c : Fin 8) (m : Fin 256) (d : Fin 256) :
    val_main_v161 (F := Ideal) x0 x1 x2 x3 x4 x5 x6 x7 x8 x9 (ix3 c m d) = ((r.dkv c m d : ℝ) : EReal) := by
  pointwise [val_main_v161, val_main_v160, val_main_v159, val_main_v135, val_main_v134]
  by_cases h : c.val < 4
  · rw [dif_pos (by omega : c.val * 256 + d.val < 1024), v131 H, In.dkv, dif_pos h]
    exact congrArg (fun k => ((r.dk m (hd k d) : ℝ) : EReal)) (Fin.ext (by simp only; omega))
  · rw [dif_neg (by omega : ¬ c.val * 256 + d.val < 1024), v115 H, In.dkv, dif_neg h]
    exact congrArg₂ (fun k e => ((r.dv m (hd k e) : ℝ) : EReal)) (Fin.ext (by simp only; omega))
      (Fin.ext (by simp only; omega))

/-- The gradient of the stream after the attention, cast. -/
theorem v162 (i : Fin 4096) (j : Fin 1024) :
    val_main_v162 (F := Ideal) x0 x1 x2 x3 x4 x5 x6 x7 x8 x9 (ix2 i j) = ((r.dx2 i j : ℝ) : EReal) := by
  pointwise [val_main_v162, val_main_v109]
  exact v108 H i j

/-- The gradient of the queries, cast. -/
theorem v163 (i : Fin 4096) (j : Fin 1024) :
    val_main_v163 (F := Ideal) x0 x1 x2 x3 x4 x5 x6 x7 x8 x9 (ix2 i j) = ((r.dq i j : ℝ) : EReal) := by
  pointwise [val_main_v163]
  exact v136 H i j

/-- The gradient of the stream before the attention, cast. -/
theorem v164 (i : Fin 4096) (j : Fin 1024) :
    val_main_v164 (F := Ideal) x0 x1 x2 x3 x4 x5 x6 x7 x8 x9 (ix2 i j) = ((r.dx1 i j : ℝ) : EReal) := by
  pointwise [val_main_v164]
  exact v158 H i j

end

end Cert.AttnRefIdeal.Hand

end
-- ==== Proof.AttnBlk.lean ====
module

public import proofs.«01_k».proof.Proof.AttnRefVal
public import proofs.«01_k».proof.Proof.Gen.AttnIdeal.Value

public import Idealize.ShloMosaic.Lib.StableHlo.RunRead

@[expose] public section

set_option maxRecDepth 16384

noncomputable section

/-! The arguments of the attention's backward kernel: what the host computes of the forward pass, and the kernel's blocks of it. -/

namespace Cert.AttnIdeal.Hand

open Cert.AttnIdeal Cert.AttnIdeal.Gen Cert.Reals Idealize.ShloMosaic Idealize.SL.Sem
open Cert.AttnRefIdeal.Hand (In Reads hd hq hq_hd hd_hq fold_max_eq)
open Cert.AttnRefIdeal.Read (val_main_v13 val_main_v32)

section host
variable (x0 : FVec Ideal S4096x1024 .f32) (x1 : FVec Ideal S256x1024 .f32) (x2 x3 : FVec Ideal S1024 .f32)
  (x4 : FVec Ideal S1024x1024 .f32) (x5 : FVec Ideal S1024x2048 .f32) (x6 : FVec Ideal S1024x1024 .f32)

/-- The keys' heads, then the values'. -/
def hKv : FVec Ideal S8x256x256 .f32 :=
  transpose S8x256x256 [1, 0, 2] (shapeCast S256x8x256 (val_main_v13 (F := Ideal) x1 x3 x5 : FVec Ideal S256x2048 .f32)
    shapeCasts_S256x2048_S256x8x256) transposes_S256x8x256_S8x256x256_1_0_2
/-- The queries by heads. -/
def hQ : FVec Ideal S4096x4x256 .f32 :=
  shapeCast S4096x4x256 (val_main_v32 (F := Ideal) x0 x2 x4 : FVec Ideal S4096x1024 .f32) shapeCasts_S4096x1024_S4096x4x256
/-- The scaled scores. -/
def hSc : FVec Ideal S4x4096x256 .f32 :=
  mulf (Host.dotGeneral dot_S4096x4x256_S4x256x256_S4x4096x256_2_2_0_1_1_0 none (hQ x0 x2 x4)
      (extractStridedSlice S4x256x256 ![0, 0, 0] (hKv x1 x3 x5) slices_S8x256x256_S4x256x256_0_0_0))
    (broadcastInDim S4x4096x256 ![] bcast_S_S4x4096x256 (constant (F := Ideal) S_ .f32 0x3D800000#32))
/-- The rows' largest scores. -/
def hMax (y : FVec Ideal S4x4096x256 .f32) : FVec Ideal S4x4096 .f32 :=
  maximumf (broadcastInDim S4x4096 ![] bcast_S_S4x4096 (constant (F := Ideal) S_ .f32 0xFF800000#32))
    (Host.reduce (FloatOps.maximumf (F := Ideal) (φ := .f32)) y (constant (F := Ideal) S_ .f32 0xFF800000#32)
      reducesTo_S4x4096x256_S4x4096_d2 h_S_)
/-- The exponentials of the scores less the rows' largest. -/
def hE (y : FVec Ideal S4x4096x256 .f32) (z : FVec Ideal S4x4096 .f32) : FVec Ideal S4x4096x256 .f32 :=
  Host.exp (subf y (broadcastInDim S4x4096x256 ![0, 1, 2] bcast_S4x4096x1_S4x4096x256_0_1_2
    (broadcastInDim S4x4096x1 ![0, 1] bcast_S4x4096_S4x4096x1_0_1 z)))
/-- The attention's weights. -/
def hP (e : FVec Ideal S4x4096x256 .f32) : FVec Ideal S4x4096x256 .f32 :=
  Host.divf e (broadcastInDim S4x4096x256 ![0, 1, 2] bcast_S4x4096x1_S4x4096x256_0_1_2
    (broadcastInDim S4x4096x1 ![0, 1] bcast_S4x4096_S4x4096x1_0_1
      (Host.reduceAdd e (constant (F := Ideal) S_ .f32 0x00000000#32) reducesTo_S4x4096x256_S4x4096_d2 h_S_)))
/-- The stream after the attention. -/
def hX2 (p : FVec Ideal S4x4096x256 .f32) : FVec Ideal S4096x1024 .f32 :=
  addf x0 (Host.dotGeneral dot_S4096x1024_S1024x1024_S4096x1024_1_0_0_1_n_n none
    (shapeCast S4096x1024 (transpose S4096x4x256 [2, 0, 1]
      (Host.dotGeneral dot_S4x256x256_S4x4096x256_S4x256x4096_1_2_2_1_0_0 none
        (extractStridedSlice S4x256x256 ![4, 0, 0] (hKv x1 x3 x5) slices_S8x256x256_S4x256x256_4_0_0) p)
      transposes_S4x256x4096_S4096x4x256_2_0_1) shapeCasts_S4096x4x256_S4096x1024) x6)
/-- The attention's weights, the heads side by side. -/
def hPb (p : FVec Ideal S4x4096x256 .f32) : FVec Ideal S4096x1024 .f32 :=
  shapeCast S4096x1024 (transpose S4096x4x256 [1, 0, 2] p transposes_S4x4096x256_S4096x4x256_1_0_2) shapeCasts_S4096x4x256_S4096x1024

end host

/-- A maximum with minus infinity. -/
theorem max_bot (w : FVec Ideal S4x4096 .f32) (z : ℝ) (h : Fin 4) (i : Fin 4096) (e : w (ix2 h i) = ((z : ℝ) : EReal)) :
    maximumf (broadcastInDim S4x4096 ![] bcast_S_S4x4096 (constant (F := Ideal) S_ .f32 0xFF800000#32)) w (ix2 h i)
      = ((z : ℝ) : EReal) := by
  pointwise []
  rw [e, lit_neg_inf]
  exact max_eq_right bot_le

/-- The values, from their columns. -/
theorem val_eq (r : In) (m : Fin 256) (j : Fin 1024) (b : (4 + j.val / 256) * 256 + j.val % 256 < 2048) :
    r.kv m ⟨(4 + j.val / 256) * 256 + j.val % 256, b⟩ = r.val m j :=
  congrArg (r.kv m) (Fin.ext (by simp only; omega))

/-- The largest of a row of real scores. -/
theorem hMax_eq (y : FVec Ideal S4x4096x256 .f32) (g : Fin 4 → Fin 4096 → Fin 256 → ℝ) (h : Fin 4) (i : Fin 4096)
    (e : ∀ m, y (ix3 h i m) = ((g h i m : ℝ) : EReal)) : hMax y (ix2 h i) = ((mx (g h i) : ℝ) : EReal) := by
  rw [hMax]
  exact max_bot _ _ h i ((Cert.AttnRefIdeal.Hand.red_max _ _ y h i).trans (fold_max_eq y g h i e))

section
variable {r : In} {x0 : FVec Ideal S4096x1024 .f32} {x1 : FVec Ideal S256x1024 .f32} {x2 x3 : FVec Ideal S1024 .f32}
  {x4 : FVec Ideal S1024x1024 .f32} {x5 : FVec Ideal S1024x2048 .f32} {x6 : FVec Ideal S1024x1024 .f32}
  {x7 : FVec Ideal S1024 .f32} {x8 x9 : FVec Ideal S4096x1024 .f32} (H : Reads r x0 x1 x2 x3 x4 x5 x6 x7 x8 x9)
include H

/-- A block of keys or values. -/
theorem hKv_eq (a : Fin 8) (m d : Fin 256) :
    hKv x1 x3 x5 (ix3 a m d) = ((r.kv m ⟨a.val * 256 + d.val, by omega⟩ : ℝ) : EReal) := by
  rw [← Cert.AttnRefIdeal.Hand.v13 H]
  pointwise [hKv]

/-- The scaled scores. -/
theorem hSc_eq (h : Fin 4) (i : Fin 4096) (m : Fin 256) :
    hSc x0 x1 x2 x3 x4 x5 (ix3 h i m) = ((r.sc h i m : ℝ) : EReal) := by
  pointwise [hSc, hQ]
  simp only [Cert.AttnRefIdeal.Hand.v32 H, hKv_eq H, lit_inv16, coe_mul, coe_sum]
  rfl

/-- The exponentials. -/
theorem hE_eq (h : Fin 4) (i : Fin 4096) (m : Fin 256) :
    hE (hSc x0 x1 x2 x3 x4 x5) (hMax (hSc x0 x1 x2 x3 x4 x5)) (ix3 h i m) = ((r.e h i m : ℝ) : EReal) := by
  have e1 := hSc_eq H h i
  have e2 := hMax_eq (hSc x0 x1 x2 x3 x4 x5) r.sc h i e1
  generalize hMax (hSc x0 x1 x2 x3 x4 x5) = z at e2 ⊢
  pointwise [hE]
  rw [e1, e2, coe_sub, coe_exp]
  rfl

/-- The attention's weights. -/
theorem hP_eq (e : FVec Ideal S4x4096x256 .f32) (he : ∀ h i m, e (ix3 h i m) = ((r.e h i m : ℝ) : EReal))
    (h : Fin 4) (i : Fin 4096) (m : Fin 256) : hP e (ix3 h i m) = ((r.p h i m : ℝ) : EReal) := by
  pointwise [hP]
  simp only [he, coe_sum, zero_add]
  exact coe_div _ (r.es_pos _ _).ne'

/-- The stream after the attention. -/
theorem hX2_eq (p : FVec Ideal S4x4096x256 .f32) (hp : ∀ h i m, p (ix3 h i m) = ((r.p h i m : ℝ) : EReal))
    (i : Fin 4096) (j : Fin 1024) : hX2 x0 x1 x3 x5 x6 p (ix2 i j) = ((r.x2 i j : ℝ) : EReal) := by
  pointwise [hX2]
  simp only [hp, hKv_eq H, H.h0, H.h6, coe_mul, coe_sum, coe_add]
  simp only [val_eq]
  rfl

end

/-- The windows' blocks: point `t` is row block `t`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0, 0] ∧ win0_9.index t = ![0, 0] ∧ win0_10.index t = ![0, 0]
    ∧ win0_11.index t = ![t.val, 0] ∧ win0_12.index t = ![t.val, 0] ∧ win0_13.index t = ![t.val, 0]
    ∧ win0_14.index t = ![t.val, 0] ∧ win0_15.index t = ![0, 0, 0] ∧ win0_16.index t = ![0, 0] ∧ win0_17.index t = ![0, 0]
    ∧ t.val < 8 :=
  (by decide +kernel : ∀ t : Fin grid0.N, _)

/-- Row `i` of point `t`'s block, as a row of the whole array. -/
def row (t : Fin cfg0.N) (i : Fin 512) : Fin 4096 :=
  ⟨t.val * 512 + i.val, by have := (idx t).2.2.2.2.2.2.2.2.2.2.2.2.2.2.2.2.2.2; omega⟩

section
variable (m : (ℓ : Loc nD τ sig) → Buf (Elt Ideal) ℓ) (c : Dev nD)

/-- The arguments in memory hold the real numbers of `r`. -/
abbrev RD (r : In) : Prop := Reads r (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7))
    (m (c.tc.loc main_arg8)) (m (c.tc.loc main_arg9))

/-- The host's weights of the attention, from the arguments in memory. -/
def hPm : FVec Ideal S4x4096x256 .f32 :=
  hP (hE (hSc (m (c.tc.loc main_arg0)) (m (c.tc.loc main_arg1)) (m (c.tc.loc main_arg2))
    (m (c.tc.loc main_arg3)) (m (c.tc.loc main_arg4)) (m (c.tc.loc main_arg5)))
      (hMax (hSc (m (c.tc.loc main_arg0)) (m (c.tc.loc main_arg1)) (m (c.tc.loc main_arg2))
    (m (c.tc.loc main_arg3)) (m (c.tc.loc main_arg4)) (m (c.tc.loc main_arg5)))))

/-- The host's stream after the attention. -/
theorem hv51 : (V m c main_v51 : FVec Ideal S4096x1024 .f32) = hX2 (m (c.tc.loc main_arg0)) (m (c.tc.loc main_arg1))
    (m (c.tc.loc main_arg3)) (m (c.tc.loc main_arg5)) (m (c.tc.loc main_arg6)) (hPm m c) := by
  unfold V
  unfold_abbrev_sides
  after_reads_simp
  rfl

/-- The host's weights of the attention, the heads side by side. -/
theorem hv57 : (V m c main_v57 : FVec Ideal S4096x1024 .bf16) = hPb (hPm m c) := by
  unfold V
  unfold_abbrev_sides
  after_reads_simp
  rfl

variable {m c} {r : In} (H : RD m c r)
include H

/-- The staged cotangent of the stream. -/
theorem blk0 (t : Fin cfg0.N) (i : Fin 512) (k : Fin 1024) :
    (iblk m c 0 t : FVec Ideal S512x1024 .f32) (ix2 i k) = ((r.Y (row t i) k : ℝ) : EReal) := by
  rw [← H.h8]
  blk_point [iblk, V, idx t, row]

/-- The staged cotangent of the normalised stream. -/
theorem blk1 (t : Fin cfg0.N) (i : Fin 512) (k : Fin 1024) :
    (iblk m c 1 t : FVec Ideal S512x1024 .f32) (ix2 i k) = ((r.Z (row t i) k : ℝ) : EReal) := by
  rw [← H.h9]
  blk_point [iblk, V, idx t, row]

/-- The staged stream before the attention. -/
theorem blk4 (t : Fin cfg0.N) (i : Fin 512) (k : Fin 1024) :
    (iblk m c 4 t : FVec Ideal S512x1024 .f32) (ix2 i k) = ((r.X (row t i) k : ℝ) : EReal) := by
  rw [← H.h0]
  blk_point [iblk, V, idx t, row]

/-- The staged gain after the attention. -/
theorem blk3 (t : Fin cfg0.N) (z : Fin 1) (k : Fin 1024) :
    (iblk m c 3 t : FVec Ideal S1x1024 .f32) (ix2 z k) = ((r.gf k : ℝ) : EReal) := by
  rw [← H.h7]
  have e : (win0_3.blk t).view.emb (ix2 z k) = (ix2 z k : S1x1024.Idx) := by
    funext a; fin_cases a <;> (apply Fin.ext; blk_simp [idx t])
  change (V m c main_v54 : FVec Ideal S1x1024 .f32) ((win0_3.blk t).view.emb (ix2 z k)) = _
  rw [e]
  change (shapeCast S1x1024 (m (c.tc.loc main_arg7) : FVec Ideal S1024 .f32) shapeCasts_S1024_S1x1024 : FVec Ideal S1x1024 .f32) _ = _
  pointwise

/-- The staged gain before the attention. -/
theorem blk5 (t : Fin cfg0.N) (z : Fin 1) (k : Fin 1024) :
    (iblk m c 5 t : FVec Ideal S1x1024 .f32) (ix2 z k) = ((r.ga k : ℝ) : EReal) := by
  rw [← H.h2]
  have e : (win0_5.blk t).view.emb (ix2 z k) = (ix2 z k : S1x1024.Idx) := by
    funext a; fin_cases a <;> (apply Fin.ext; blk_simp [idx t])
  change (V m c main_v55 : FVec Ideal S1x1024 .f32) ((win0_5.blk t).view.emb (ix2 z k)) = _
  rw [e]
  change (shapeCast S1x1024 (m (c.tc.loc main_arg2) : FVec Ideal S1024 .f32) shapeCasts_S1024_S1x1024 : FVec Ideal S1x1024 .f32) _ = _
  pointwise

/-- The staged query projection. -/
theorem blk9 (t : Fin cfg0.N) (i k : Fin 1024) :
    (iblk m c 9 t : FVec Ideal S1024x1024 .bf16) (ix2 i k) = ((r.Wq i k : ℝ) : EReal) := by
  rw [← H.h4]
  blk_point [iblk, idx t]

/-- The staged output projection. -/
theorem blk10 (t : Fin cfg0.N) (i k : Fin 1024) :
    (iblk m c 10 t : FVec Ideal S1024x1024 .bf16) (ix2 i k) = ((r.Wo i k : ℝ) : EReal) := by
  rw [← H.h6]
  blk_point [iblk, idx t]

/-- The staged queries. -/
theorem blk6 (t : Fin cfg0.N) (i : Fin 512) (k : Fin 1024) :
    (iblk m c 6 t : FVec Ideal S512x1024 .bf16) (ix2 i k) = ((r.q (row t i) k : ℝ) : EReal) := by
  have e : (win0_6.blk t).view.emb (ix2 i k) = (ix2 (row t i) k : S4096x1024.Idx) := by
    funext a; fin_cases a <;> (apply Fin.ext; blk_simp [idx t, row] <;> rfl)
  change (V m c main_v56 : FVec Ideal S4096x1024 .bf16) ((win0_6.blk t).view.emb (ix2 i k)) = _
  rw [e]
  exact Cert.AttnRefIdeal.Hand.v32 H _ _

/-- The staged keys and values. -/
theorem blk8 (t : Fin cfg0.N) (a : Fin 8) (n d : Fin 256) :
    (iblk m c 8 t : FVec Ideal S8x256x256 .bf16) (ix3 a n d) = ((r.kv n ⟨a.val * 256 + d.val, by omega⟩ : ℝ) : EReal) := by
  have e : (win0_8.blk t).view.emb (ix3 a n d) = (ix3 a n d : S8x256x256.Idx) := by
    funext a; fin_cases a <;> (apply Fin.ext; blk_simp [idx t])
  change (V m c main_v58 : FVec Ideal S8x256x256 .bf16) ((win0_8.blk t).view.emb (ix3 a n d)) = _
  rw [e]
  exact hKv_eq H _ _ _

/-- The host's weights of the attention. -/
theorem hPm_eq (h : Fin 4) (i : Fin 4096) (n : Fin 256) : hPm m c (ix3 h i n) = ((r.p h i n : ℝ) : EReal) :=
  hP_eq H _ (hE_eq H) h i n

/-- The staged stream after the attention. -/
theorem blk2 (t : Fin cfg0.N) (i : Fin 512) (k : Fin 1024) :
    (iblk m c 2 t : FVec Ideal S512x1024 .f32) (ix2 i k) = ((r.x2 (row t i) k : ℝ) : EReal) := by
  have e : (win0_2.blk t).view.emb (ix2 i k) = (ix2 (row t i) k : S4096x1024.Idx) := by
    funext a; fin_cases a <;> (apply Fin.ext; blk_simp [idx t, row] <;> rfl)
  change (V m c main_v51 : FVec Ideal S4096x1024 .f32) ((win0_2.blk t).view.emb (ix2 i k)) = _
  rw [e, hv51]
  exact hX2_eq H _ (hPm_eq H) _ _

/-- The staged weights of the attention. -/
theorem blk7 (t : Fin cfg0.N) (i : Fin 512) (k : Fin 1024) :
    (iblk m c 7 t : FVec Ideal S512x1024 .bf16) (ix2 i k) = ((r.p (hq k) (row t i) ⟨k.val % 256, by omega⟩ : ℝ) : EReal) := by
  have e : (win0_7.blk t).view.emb (ix2 i k) = (ix2 (row t i) k : S4096x1024.Idx) := by
    funext a; fin_cases a <;> (apply Fin.ext; blk_simp [idx t, row] <;> rfl)
  change (V m c main_v57 : FVec Ideal S4096x1024 .bf16) ((win0_7.blk t).view.emb (ix2 i k)) = _
  rw [e, hv57, ← hPm_eq H]
  generalize hPm m c = y
  pointwise [hPb]
  rfl

end

end Cert.AttnIdeal.Hand

end
-- ==== Proof.AttnPay.lean ====
module

public import proofs.«01_k».proof.Proof.AttnBlk

@[expose] public section

set_option maxHeartbeats 600000
set_option maxRecDepth 16384

noncomputable section

/-! The arithmetic of the attention's backward kernel on one tile, in real numbers. -/

namespace Cert.AttnIdeal.Hand

open Cert.AttnIdeal Cert.AttnIdeal.Gen Cert.Reals Idealize.ShloMosaic Idealize.SL.Sem

/-! ## One head -/

section
variable {do' ph qh : FVec Ideal S512x256 .bf16} {kh vh : FVec Ideal S1x256x256 .bf16} (acc : FVec Ideal S1x256x256 .f32)
  {DO P Q : Fin 512 → Fin 256 → ℝ} {K V : Fin 256 → Fin 256 → ℝ}
  (hdo : ∀ a d, do' (ix2 a d) = ((DO a d : ℝ) : EReal)) (hp : ∀ a n, ph (ix2 a n) = ((P a n : ℝ) : EReal))
  (hq : ∀ a d, qh (ix2 a d) = ((Q a d : ℝ) : EReal)) (hk : ∀ z n d, kh (ix3 z n d) = ((K n d : ℝ) : EReal))
  (hv : ∀ z n d, vh (ix3 z n d) = ((V n d : ℝ) : EReal))

/-- The gradient of a head's scores on a tile. -/
def dsT (DO P : Fin 512 → Fin 256 → ℝ) (V : Fin 256 → Fin 256 → ℝ) (a : Fin 512) (n : Fin 256) : ℝ :=
  P a n * ((∑ d, DO a d * V n d) - ∑ l, (∑ d, DO a d * V l d) * P a l) * (1 / 16)

include hp in
/-- The stored softmax weight of a row and a memory token, widened to single precision. -/
theorem pay17 (a : Fin 512) (n : Fin 256) : k0_pay17 (F := Ideal) ph (ix2 a n) = ((P a n : ℝ) : EReal) := by
  pointwise [k0_pay17, k0_pay16]
  exact hp a n

include hdo hv in
/-- The gradient of the weights. -/
theorem pay18 (a : Fin 512) (n : Fin 256) :
    k0_pay18 (F := Ideal) do' vh (ix2 a n) = ((∑ d, DO a d * V n d : ℝ) : EReal) := by
  pointwise [k0_pay18]
  simp only [hdo, hv, coe_mul, coe_sum]

include hdo hp hv in
/-- The gradient of the scores. -/
theorem pay21 (a : Fin 512) (n : Fin 256) :
    k0_pay21 (F := Ideal) (k0_pay17 ph) (k0_pay18 do' vh) (ix2 a n) = ((dsT DO P V a n : ℝ) : EReal) := by
  pointwise [k0_pay21]
  simp only [pay17 hp, pay18 hdo hv, lit_inv16, coe_mul, coe_sum, coe_sub, zero_add]
  rfl

include hdo hp hv hk in
/-- The gradient of the queries. -/
theorem pay22 (a : Fin 512) (d : Fin 256) :
    k0_pay22 (F := Ideal) (k0_pay15 kh) (k0_pay17 ph) (k0_pay18 do' vh) (ix2 a d)
      = ((∑ n, dsT DO P V a n * K n d : ℝ) : EReal) := by
  pointwise [k0_pay22, k0_pay15]
  simp only [pay21 hdo hp hv, hk, coe_mul, coe_sum]

include hdo hp hv hq in
/-- The gradient of the keys, added to what was there. -/
theorem pay23 (z : Fin 1) (n d : Fin 256) :
    k0_pay23 (F := Ideal) (k0_pay14 qh) (k0_pay17 ph) (k0_pay18 do' vh) acc (ix3 z n d)
      = acc (ix3 0 n d) + ((∑ a, dsT DO P V a n * Q a d : ℝ) : EReal) := by
  pointwise [k0_pay23, k0_pay14]
  simp only [pay21 hdo hp hv, hq, coe_mul, coe_sum]

include hdo hp in
/-- The gradient of the values, added to what was there. -/
theorem pay20 (z : Fin 1) (n d : Fin 256) :
    k0_pay20 (F := Ideal) (k0_pay19 do' ph acc) (ix3 z n d)
      = acc (ix3 0 n d) + ((∑ a, P a n * DO a d : ℝ) : EReal) := by
  pointwise [k0_pay20, k0_pay19, k0_pay16]
  simp only [hdo, hp, coe_mul, coe_sum]

include hdo hp hv hk in
/-- The gradient of the queries of the second head. -/
theorem pay30 (a : Fin 512) (d : Fin 256) :
    k0_pay30 (F := Ideal) (k0_pay25 kh) do' (k0_pay27 ph) vh (ix2 a d)
      = ((∑ n, dsT DO P V a n * K n d : ℝ) : EReal) :=
  pay22 hdo hp hk hv a d

include hdo hp hv hk in
/-- The gradient of the queries of the third head. -/
theorem pay36 (a : Fin 512) (d : Fin 256) :
    k0_pay36 (F := Ideal) kh do' ph vh (ix2 a d) = ((∑ n, dsT DO P V a n * K n d : ℝ) : EReal) :=
  pay22 hdo hp hk hv a d

include hdo hp hv hk in
/-- The gradient of the queries of the fourth head. -/
theorem pay43 (a : Fin 512) (d : Fin 256) :
    k0_pay43 (F := Ideal) kh do' ph vh (ix2 a d) = ((∑ n, dsT DO P V a n * K n d : ℝ) : EReal) :=
  pay22 hdo hp hk hv a d

include hdo hp hv hq in
/-- The gradient of the keys of the second head. -/
theorem pay31 (z : Fin 1) (n d : Fin 256) :
    k0_pay31 (F := Ideal) (k0_pay24 qh) do' (k0_pay27 ph) vh acc (ix3 z n d)
      = acc (ix3 0 n d) + ((∑ a, dsT DO P V a n * Q a d : ℝ) : EReal) :=
  pay23 acc hdo hp hq hv z n d

include hdo hp hv hq in
/-- The gradient of the keys of the third head. -/
theorem pay38 (z : Fin 1) (n d : Fin 256) :
    k0_pay38 (F := Ideal) (k0_pay37 (k0_pay32 qh) do' ph vh acc) (ix3 z n d)
      = acc (ix3 0 n d) + ((∑ a, dsT DO P V a n * Q a d : ℝ) : EReal) :=
  pay23 acc hdo hp hq hv z n d

include hdo hp hv hq in
/-- The gradient of the keys of the fourth head. -/
theorem pay44 (z : Fin 1) (n d : Fin 256) :
    k0_pay44 (F := Ideal) (k0_pay39 qh) (k0_pay42 do' ph vh) acc (ix3 z n d)
      = acc (ix3 0 n d) + ((∑ a, dsT DO P V a n * Q a d : ℝ) : EReal) :=
  pay23 acc hdo hp hq hv z n d

include hdo hp in
/-- The gradient of the values of the second head. -/
theorem pay28 (z : Fin 1) (n d : Fin 256) :
    k0_pay28 (F := Ideal) do' (k0_pay26 ph) acc (ix3 z n d)
      = acc (ix3 0 n d) + ((∑ a, P a n * DO a d : ℝ) : EReal) :=
  pay20 acc hdo hp z n d

include hdo hp in
/-- The gradient of the values of the third head. -/
theorem pay34 (z : Fin 1) (n d : Fin 256) :
    k0_pay34 (F := Ideal) do' ph acc (ix3 z n d) = acc (ix3 0 n d) + ((∑ a, P a n * DO a d : ℝ) : EReal) :=
  pay20 acc hdo hp z n d

include hdo hp in
/-- The gradient of the values of the fourth head. -/
theorem pay41 (z : Fin 1) (n d : Fin 256) :
    k0_pay41 (F := Ideal) do' ph acc (ix3 z n d) = acc (ix3 0 n d) + ((∑ a, P a n * DO a d : ℝ) : EReal) :=
  pay20 acc hdo hp z n d

end

/-! ## The normalisations -/

section
variable {x y z : FVec Ideal S512x1024 .f32} {g : FVec Ideal S1x1024 .f32} {w wq : FVec Ideal S1024x1024 .bf16}
  {dq : FVec Ideal S512x1024 .bf16} (acc : FVec Ideal S1x1024 .f32)
  {X Y Z D : Fin 512 → Fin 1024 → ℝ} {G : Fin 1024 → ℝ} {W : Fin 1024 → Fin 1024 → ℝ}
  (hx : ∀ a k, x (ix2 a k) = ((X a k : ℝ) : EReal)) (hy : ∀ a k, y (ix2 a k) = ((Y a k : ℝ) : EReal))
  (hz : ∀ a k, z (ix2 a k) = ((Z a k : ℝ) : EReal)) (hg : ∀ u k, g (ix2 u k) = ((G k : ℝ) : EReal))
  (hw : ∀ i k, w (ix2 i k) = ((W i k : ℝ) : EReal)) (hd : ∀ a k, dq (ix2 a k) = ((D a k : ℝ) : EReal))

include hx in
/-- The reciprocal root of a row's mean square. -/
theorem pay8 (a : Fin 512) (u : Fin 1) : k0_pay8 (F := Ideal) x (ix2 a u) = ((rs (X a) : ℝ) : EReal) := by
  pointwise [k0_pay8, k0_pay7]
  simp only [hx, lit_1024, lit_eps, coe_mul, coe_sum, coe_div, coe_add, zero_add, ne_eq, OfNat.ofNat_ne_zero,
    not_false_eq_true]
  exact coe_rsqrt (ms_pos _)

include hx hz hg in
/-- The gradient through the normalisation after the attention. -/
theorem pay9 (a : Fin 512) (k : Fin 1024) :
    k0_pay9 (F := Ideal) x z g (ix2 a k) = ((rmsDx (X a) (fun k => Z a k * G k) k : ℝ) : EReal) := by
  pointwise [k0_pay9, k0_pay7]
  simp only [pay8 hx, hx, hz, hg, lit_1024, lit_inv1024, coe_mul, coe_sum, coe_sub, coe_div, zero_add, ne_eq,
    OfNat.ofNat_ne_zero, not_false_eq_true]
  rfl

include hx hz in
/-- The gradient of the gain after the attention, added to what was there. -/
theorem pay10 (u : Fin 1) (k : Fin 1024) :
    k0_pay10 (F := Ideal) x z acc (ix2 u k) = acc (ix2 u k) + ((∑ a, Z a k * (X a k * rs (X a)) : ℝ) : EReal) := by
  pointwise [k0_pay10, k0_pay7]
  simp only [pay8 hx, hx, hz, coe_mul, coe_sum, zero_add]

include hx hz hg hy in
/-- The gradient of the stream after the attention. -/
theorem pay11 (a : Fin 512) (k : Fin 1024) :
    k0_pay11 (F := Ideal) (k0_pay9 x z g) y (ix2 a k) = ((Y a k + rmsDx (X a) (fun k => Z a k * G k) k : ℝ) : EReal) := by
  pointwise [k0_pay11]
  rw [pay9 hx hz hg, hy, coe_add]

include hd hw in
/-- A product with a transposed matrix. -/
theorem pay45 (a : Fin 512) (k : Fin 1024) :
    k0_pay45 (F := Ideal) dq w (ix2 a k) = ((∑ j, D a j * W k j : ℝ) : EReal) := by
  pointwise [k0_pay45]
  simp only [hd, hw, coe_mul, coe_sum]

include hd hw in
/-- The gradient of the mixed values. -/
theorem pay13 (a : Fin 512) (k : Fin 1024) :
    k0_pay13 (F := Ideal) dq w (ix2 a k) = ((∑ j, D a j * W k j : ℝ) : EReal) := by
  pointwise [k0_pay13]
  simp only [hd, hw, coe_mul, coe_sum]

include hx in
/-- The reciprocal root of a row's mean square. -/
theorem pay46 (a : Fin 512) (u : Fin 1) : k0_pay46 (F := Ideal) x (ix2 a u) = ((rs (X a) : ℝ) : EReal) := by
  pointwise [k0_pay46]
  simp only [hx, lit_1024, lit_eps, coe_mul, coe_sum, coe_div, coe_add, zero_add, ne_eq, OfNat.ofNat_ne_zero,
    not_false_eq_true]
  exact coe_rsqrt (ms_pos _)

include hx hd hw in
/-- The gradient of the gain before the attention, added to what was there. -/
theorem pay1 (u : Fin 1) (k : Fin 1024) :
    k0_pay1 (F := Ideal) (k0_pay45 dq w) x (k0_pay46 x) acc (ix2 u k)
      = acc (ix2 u k) + ((∑ a, (∑ j, D a j * W k j) * (X a k * rs (X a)) : ℝ) : EReal) := by
  pointwise [k0_pay1]
  simp only [pay45 hw hd, pay46 hx, hx, coe_mul, coe_sum, zero_add]

include hx hd hw hg in
/-- The gradient of the stream before the attention. -/
theorem pay2 {y' : FVec Ideal S512x1024 .f32} {Y' : Fin 512 → Fin 1024 → ℝ} (hy' : ∀ a k, y' (ix2 a k) = ((Y' a k : ℝ) : EReal))
    (a : Fin 512) (k : Fin 1024) :
    k0_pay2 (F := Ideal) y' (k0_pay48 dq w x g) (k0_pay49 x) (k0_pay50 dq w x g) (ix2 a k)
      = ((Y' a k + rmsDx (X a) (fun k => (∑ j, D a j * W k j) * G k) k : ℝ) : EReal) := by
  pointwise [k0_pay2, k0_pay48, k0_pay49, k0_pay50, k0_pay47]
  simp only [pay45 hw hd, pay46 hx, hx, hg, hy', lit_1024, lit_inv1024, coe_mul, coe_sum, coe_add, coe_sub, coe_div,
    zero_add, ne_eq, OfNat.ofNat_ne_zero, not_false_eq_true]
  rfl

end
end Cert.AttnIdeal.Hand

end
-- ==== Proof.AttnVal.lean ====
module

public import proofs.«01_k».proof.Proof.AttnPay

public import Idealize.ShloMosaic.Lib.Pipeline.CanonAppend

@[expose] public section

set_option maxHeartbeats 600000
set_option maxRecDepth 16384

noncomputable section

/-! What the attention's backward kernel leaves in its seven outputs. -/

namespace Cert.AttnIdeal.Hand

open Cert.AttnIdeal Cert.AttnIdeal.Gen Cert.Reals Idealize.ShloMosaic Idealize.SL.Sem
open Cert.AttnRefIdeal.Hand (In Reads hd hq hq_hd hd_hq)

/-! ## Pieces of arrays -/

/-- The columns of a head, loaded. -/
theorem ld_col (x : FVec Ideal S512x1024 .bf16) (h : Fin 4) (k : ℕ) (hk : k = h.val * 256)
    (b : ∀ a, ![0, k] a + ![512, 256] a ≤ S512x1024.size a) (a : Fin 512) (d : Fin 256) :
    (View.ld (Val := Elt Ideal) (S := S512x1024) (e' := .bf16) x (Rect.unit ![0, k] ![512, 256] b) : FVec Ideal S512x256 .bf16) (ix2 a d)
      = x (ix2 a (hd h d)) := by
  refine congrArg x (funext fun a => Fin.ext ?_)
  rw [Rect.idx_unit_val]
  fin_cases a <;> simp [hd, ix2, hk]

/-- A head's keys or values, loaded. -/
theorem ld_head (x : FVec Ideal S8x256x256 .bf16) (k : ℕ) (hk : k < 8)
    (b : ∀ a, ![k, 0, 0] a + ![1, 256, 256] a ≤ S8x256x256.size a) (z : Fin 1) (n d : Fin 256) :
    (View.ld (Val := Elt Ideal) (S := S8x256x256) (e' := .bf16) x (Rect.unit ![k, 0, 0] ![1, 256, 256] b) : FVec Ideal S1x256x256 .bf16) (ix3 z n d)
      = x (ix3 ⟨k, hk⟩ n d) := by
  refine congrArg x (funext fun a => Fin.ext ?_)
  rw [Rect.idx_unit_val]
  fin_cases a <;> simp [ix3]

/-- A head of the sums, read at a place. -/
theorem ld_at (x : FVec Ideal S8x256x256 .f32) (k : ℕ)
    (b : ∀ a, ![k, 0, 0] a + ![1, 256, 256] a ≤ S8x256x256.size a) (z : Fin 1) (n d : Fin 256) (y : S8x256x256.Idx)
    (h0 : (y 0 : ℕ) = k) (h1 : (y 1 : ℕ) = n) (h2 : (y 2 : ℕ) = d) :
    (View.ld (Val := Elt Ideal) (S := S8x256x256) (e' := .f32) x (Rect.unit ![k, 0, 0] ![1, 256, 256] b) : FVec Ideal S1x256x256 .f32) (ix3 z n d)
      = x y := by
  refine congrArg x (funext fun a => Fin.ext ?_)
  rw [Rect.idx_unit_val]
  fin_cases a <;> simp [ix3, h0, h1, h2]

/-- One store over all of the buffer. -/
theorem canon_one (P : FVec Ideal S512x1024 .bf16) (y : S512x1024.Idx) :
    View.canon (Val := Elt Ideal) (e := .bf16) [⟨Rect.unit ![0, 0] ![512, 1024] inb_S512x1024_S512x1024_0_0, P⟩] y = P y := by
  canon_tiles x h
  refine congrArg P (funext fun a => Fin.ext ?_)
  fin_cases a
  · exact h0.symm
  · exact h1.symm

/-- Four stores side by side. -/
theorem canon4 (P0 P1 P2 P3 : FVec Ideal S512x256 .bf16) (f : Fin 512 → Fin 1024 → ℝ)
    (e0 : ∀ x : S512x256.Idx, ∀ (a : Fin 512) (j : Fin 1024), (a : ℕ) = x 0 → (j : ℕ) = 0 + x 1 → P0 x = ((f a j : ℝ) : EReal))
    (e1 : ∀ x : S512x256.Idx, ∀ (a : Fin 512) (j : Fin 1024), (a : ℕ) = x 0 → (j : ℕ) = 256 + x 1 → P1 x = ((f a j : ℝ) : EReal))
    (e2 : ∀ x : S512x256.Idx, ∀ (a : Fin 512) (j : Fin 1024), (a : ℕ) = x 0 → (j : ℕ) = 512 + x 1 → P2 x = ((f a j : ℝ) : EReal))
    (e3 : ∀ x : S512x256.Idx, ∀ (a : Fin 512) (j : Fin 1024), (a : ℕ) = x 0 → (j : ℕ) = 768 + x 1 → P3 x = ((f a j : ℝ) : EReal)) (y : S512x1024.Idx) :
    View.canon (Val := Elt Ideal) (e := .bf16)
      [⟨Rect.unit ![0, 768] ![512, 256] inb_S512x1024_S512x256_0_768, P3⟩, ⟨Rect.unit ![0, 512] ![512, 256] inb_S512x1024_S512x256_0_512, P2⟩,
        ⟨Rect.unit ![0, 256] ![512, 256] inb_S512x1024_S512x256_0_256, P1⟩, ⟨Rect.unit ![0, 0] ![512,
          256] inb_S512x1024_S512x256_0_0, P0⟩] y
      = ((f (y 0) (y 1) : ℝ) : EReal) := by
  canon_tiles x h
  · exact e3 x (y 0) (y 1) h0 h1
  · exact e2 x (y 0) (y 1) h0 h1
  · exact e1 x (y 0) (y 1) h0 h1
  · exact e0 x (y 0) (y 1) h0 (h1.trans (Nat.zero_add _).symm)

/-- A store to another head changes nothing. -/
theorem skip (k : ℕ) (b : ∀ a, ![k, 0, 0] a + ![1, 256, 256] a ≤ S8x256x256.size a) (P : FVec Ideal S1x256x256 .f32)
    (L : List (View.Piece (Elt Ideal) S8x256x256 .f32)) (y : S8x256x256.Idx) (h : (y 0 : ℕ) ≠ k) :
    View.canon (Val := Elt Ideal) (e := .f32) (⟨Rect.unit ![k, 0, 0] ![1, 256, 256] b, P⟩ :: L) y = View.canon (Val := Elt Ideal) (e := .f32) L y := by
  rw [View.canon_cons_of_not_mem]
  rw [Rect.mem_set_unit]
  intro h'; have := h' 0; simp at this; omega

/-- The zero fill. -/
theorem zero0 (y : S8x256x256.Idx) : View.canon (Val := Elt Ideal) (e := .f32)
    [⟨Rect.unit ![0, 0, 0] ![8, 256, 256] inb_S8x256x256_S8x256x256_0_0_0, k0_pay4 (F := Ideal)⟩] y = (0 : EReal) := by
  canon_tiles x h
  open_payloads
  pointwise

/-- A place of a head. -/
theorem mem_head (k : ℕ) (b : ∀ a, ![k, 0, 0] a + ![1, 256, 256] a ≤ S8x256x256.size a) (y : S8x256x256.Idx) (h : (y 0 : ℕ) = k) :
    y ∈ (Rect.unit (s := S8x256x256) ![k, 0, 0] ![1, 256, 256] b).set := by
  have h1 : (y 1 : ℕ) < 256 := (y 1).isLt
  have h2 : (y 2 : ℕ) < 256 := (y 2).isLt
  rw [Rect.mem_set_unit]
  intro a; fin_cases a <;> simp <;> omega

/-- The head of a place of a store. -/
theorem emb0 (k : ℕ) (b : ∀ a, ![k, 0, 0] a + ![1, 256, 256] a ≤ S8x256x256.size a) (x : S1x256x256.Idx) :
    ((((Rect.unit (s := S8x256x256) ![k, 0, 0] ![1, 256, 256] b).emb x) 0 : Fin 8) : ℕ) = k :=
  (Rect.idx_unit_val _ _ _ _ _).trans (by have : (x 0 : Fin 1).val < 1 := (x 0).isLt; simp)

/-- Its row. -/
theorem emb1 (k : ℕ) (b : ∀ a, ![k, 0, 0] a + ![1, 256, 256] a ≤ S8x256x256.size a) (x : S1x256x256.Idx) :
    ((((Rect.unit (s := S8x256x256) ![k, 0, 0] ![1, 256, 256] b).emb x) 1 : Fin 256) : ℕ) = x 1 :=
  (Rect.idx_unit_val _ _ _ _ _).trans (by simp)

/-- Its column. -/
theorem emb2 (k : ℕ) (b : ∀ a, ![k, 0, 0] a + ![1, 256, 256] a ≤ S8x256x256.size a) (x : S1x256x256.Idx) :
    ((((Rect.unit (s := S8x256x256) ![k, 0, 0] ![1, 256, 256] b).emb x) 2 : Fin 256) : ℕ) = x 2 :=
  (Rect.idx_unit_val _ _ _ _ _).trans (by simp)

/-- The eight heads hold every place. -/
theorem covers (P0 P1 P2 P3 P4 P5 P6 P7 : FVec Ideal S1x256x256 .f32) (y : S8x256x256.Idx) :
    ∃ p ∈ ([⟨Rect.unit ![3, 0, 0] ![1, 256, 256] inb_S8x256x256_S1x256x256_3_0_0, P0⟩,
      ⟨Rect.unit ![7, 0, 0] ![1, 256, 256] inb_S8x256x256_S1x256x256_7_0_0, P1⟩,
      ⟨Rect.unit ![2, 0, 0] ![1, 256, 256] inb_S8x256x256_S1x256x256_2_0_0, P2⟩,
      ⟨Rect.unit ![6, 0, 0] ![1, 256, 256] inb_S8x256x256_S1x256x256_6_0_0, P3⟩,
      ⟨Rect.unit ![1, 0, 0] ![1, 256, 256] inb_S8x256x256_S1x256x256_1_0_0, P4⟩,
      ⟨Rect.unit ![5, 0, 0] ![1, 256, 256] inb_S8x256x256_S1x256x256_5_0_0, P5⟩,
      ⟨Rect.unit ![0, 0, 0] ![1, 256, 256] inb_S8x256x256_S1x256x256_0_0_0, P6⟩,
      ⟨Rect.unit ![4, 0, 0] ![1, 256, 256] inb_S8x256x256_S1x256x256_4_0_0,
        P7⟩] : List (View.Piece (Elt Ideal) S8x256x256 .f32)), y ∈ p.1.set := by
  have h0 : (y 0 : ℕ) < 8 := (y 0).isLt
  rcases (by omega : (y 0 : ℕ) = 3 ∨ (y 0 : ℕ) = 7 ∨ (y 0 : ℕ) = 2 ∨ (y 0 : ℕ) = 6 ∨ (y 0 : ℕ) = 1 ∨ (y 0 : ℕ) = 5 ∨ (y 0 : ℕ) = 0 ∨ (y 0 : ℕ) = 4)
    with h | h | h | h | h | h | h | h
  · exact ⟨_, .head _, mem_head 3 inb_S8x256x256_S1x256x256_3_0_0 y h⟩
  · exact ⟨_, .tail _ (.head _), mem_head 7 inb_S8x256x256_S1x256x256_7_0_0 y h⟩
  · exact ⟨_, .tail _ (.tail _ (.head _)), mem_head 2 inb_S8x256x256_S1x256x256_2_0_0 y h⟩
  · exact ⟨_, .tail _ (.tail _ (.tail _ (.head _))), mem_head 6 inb_S8x256x256_S1x256x256_6_0_0 y h⟩
  · exact ⟨_, .tail _ (.tail _ (.tail _ (.tail _ (.head _)))), mem_head 1 inb_S8x256x256_S1x256x256_1_0_0 y h⟩
  · exact ⟨_, .tail _ (.tail _ (.tail _ (.tail _ (.tail _ (.head _))))), mem_head 5 inb_S8x256x256_S1x256x256_5_0_0 y h⟩
  · exact ⟨_, .tail _ (.tail _ (.tail _ (.tail _ (.tail _ (.tail _ (.head _)))))), mem_head 0 inb_S8x256x256_S1x256x256_0_0_0 y h⟩
  · exact ⟨_, .tail _ (.tail _ (.tail _ (.tail _ (.tail _ (.tail _ (.tail _ (.head _))))))), mem_head 4 inb_S8x256x256_S1x256x256_4_0_0 y h⟩

/-! ## One tile -/

section
variable {m : (ℓ : Loc nD τ sig) → Buf (Elt Ideal) ℓ} {c : Dev nD} {r : In} (H : RD m c r) (t : Fin cfg0.N)

/-- The gradient of the stream after the attention, on a tile. -/
abbrev dxv (m : (ℓ : Loc nD τ sig) → Buf (Elt Ideal) ℓ) (c : Dev nD) (t : Fin cfg0.N) : FVec Ideal S512x1024 .f32 :=
  k0_pay11 (k0_pay9 (iblk m c 2 t) (iblk m c 1 t) (iblk m c 3 t)) (iblk m c 0 t)

/-- The gradient of the mixed values, on a tile. -/
abbrev dov (m : (ℓ : Loc nD τ sig) → Buf (Elt Ideal) ℓ) (c : Dev nD) (t : Fin cfg0.N) : FVec Ideal S512x1024 .bf16 :=
  k0_pay13 (k0_pay12 (k0_pay9 (iblk m c 2 t) (iblk m c 1 t) (iblk m c 3 t)) (iblk m c 0 t)) (iblk m c 10 t)

include H

/-- The gradient of the stream after the attention. -/
theorem t_dx2 (a : Fin 512) (k : Fin 1024) : dxv m c t (ix2 a k) = ((r.dx2 (row t a) k : ℝ) : EReal) :=
  pay11 (blk2 H t) (blk0 H t) (blk1 H t) (blk3 H t) a k

/-- Its rounded copy. -/
theorem t_dx2b (a : Fin 512) (k : Fin 1024) :
    k0_pay12 (F := Ideal) (k0_pay9 (iblk m c 2 t) (iblk m c 1 t) (iblk m c 3 t)) (iblk m c 0 t) (ix2 a k) = ((r.dx2 (row t a) k : ℝ) : EReal) := by
  rw [← t_dx2 H t a k]
  pointwise [k0_pay12]

/-- The gradient of the mixed values. -/
theorem t_do (a : Fin 512) (k : Fin 1024) : dov m c t (ix2 a k) = ((r.dO (row t a) k : ℝ) : EReal) :=
  pay13 (blk10 H t) (t_dx2b H t) a k

/-- A head's gradient of the mixed values. -/
theorem l_do (h : Fin 4) (k : ℕ) (hk : k = h.val * 256) (b : ∀ a, ![0, k] a + ![512, 256] a ≤ S512x1024.size a) (a : Fin 512) (d : Fin 256) :
    ((View.whole cc0_scratch0).readCov (Val := Elt Ideal) [⟨Rect.unit ![0, 0] ![512, 1024] inb_S512x1024_S512x1024_0_0, dov m c t⟩]
      (Rect.unit (s := S512x1024) ![0, k] ![512, 256] b).toLoadRect : FVec Ideal S512x256 .bf16) (ix2 a d)
      = ((r.dO (row t a) (hd h d) : ℝ) : EReal) := by
  rw [View.readCov_eq_canon']
  refine (canon_one _ _).trans (Eq.trans ?_ (t_do H t a (hd h d)))
  exact ld_col (dov m c t) h k hk b a d

/-- A head's weights. -/
theorem l_p (h : Fin 4) (k : ℕ) (hk : k = h.val * 256) (b : ∀ a, ![0, k] a + ![512, 256] a ≤ S512x1024.size a) (a : Fin 512) (n : Fin 256) :
    (View.ld (Val := Elt Ideal) (S := S512x1024) (e' := .bf16) (iblk m c 7 t) (Rect.unit ![0, k] ![512, 256] b) : FVec Ideal S512x256 .bf16) (ix2 a n)
      = ((r.p h (row t a) n : ℝ) : EReal) := by
  rw [ld_col _ h k hk, blk7 H, hq_hd]
  refine congrArg (fun n => ((r.p h (row t a) n : ℝ) : EReal)) (Fin.ext ?_)
  simp only [hd]
  omega

/-- A head's queries. -/
theorem l_q (h : Fin 4) (k : ℕ) (hk : k = h.val * 256) (b : ∀ a, ![0, k] a + ![512, 256] a ≤ S512x1024.size a) (a : Fin 512) (d : Fin 256) :
    (View.ld (Val := Elt Ideal) (S := S512x1024) (e' := .bf16) (iblk m c 6 t) (Rect.unit ![0, k] ![512, 256] b) : FVec Ideal S512x256 .bf16) (ix2 a d)
      = ((r.q (row t a) (hd h d) : ℝ) : EReal) := by
  rw [ld_col _ h k hk, blk6 H]

/-- A head's keys. -/
theorem l_k (h : Fin 4) (k : ℕ) (hk : k = h.val) (b : ∀ a, ![k, 0, 0] a + ![1, 256, 256] a ≤ S8x256x256.size a) (z : Fin 1) (n d : Fin 256) :
    (View.ld (Val := Elt Ideal) (S := S8x256x256) (e' := .bf16) (iblk m c 8 t) (Rect.unit ![k, 0, 0] ![1, 256, 256] b) : FVec Ideal S1x256x256 .bf16) (ix3 z n d)
      = ((r.key n (hd h d) : ℝ) : EReal) := by
  rw [ld_head _ k (by omega), blk8 H]
  refine congrArg (fun j => ((r.kv n j : ℝ) : EReal)) (Fin.ext ?_)
  simp only [hd, hk]

/-- A head's values. -/
theorem l_v (h : Fin 4) (k : ℕ) (hk : k = 4 + h.val) (b : ∀ a, ![k, 0, 0] a + ![1, 256, 256] a ≤ S8x256x256.size a) (z : Fin 1) (n d : Fin 256) :
    (View.ld (Val := Elt Ideal) (S := S8x256x256) (e' := .bf16) (iblk m c 8 t) (Rect.unit ![k, 0, 0] ![1, 256, 256] b) : FVec Ideal S1x256x256 .bf16) (ix3 z n d)
      = ((r.val n (hd h d) : ℝ) : EReal) := by
  rw [ld_head _ k (by omega), blk8 H]
  refine congrArg (fun j => ((r.kv n j : ℝ) : EReal)) (Fin.ext ?_)
  simp only [hd, hk]
  omega

/-- A head's gradient of the queries. -/
theorem t_dq (h : Fin 4) (k : ℕ) (hk : k = h.val * 256) {k1 k2 : ℕ} (h1 : k1 = h.val) (h2 : k2 = 4 + h.val)
    (b b' : ∀ a, ![0, k] a + ![512, 256] a ≤ S512x1024.size a)
    (b1 : ∀ a, ![k1, 0, 0] a + ![1, 256, 256] a ≤ S8x256x256.size a) (b2 : ∀ a, ![k2, 0, 0] a + ![1, 256, 256] a ≤ S8x256x256.size a)
    (x : S512x256.Idx) (a : Fin 512) (j : Fin 1024) (ha : (a : ℕ) = x 0) (hj : (j : ℕ) = k + x 1) :
    k0_pay22 (F := Ideal) (k0_pay15 (View.ld (iblk m c 8 t) (Rect.unit ![k1, 0, 0] ![1, 256, 256] b1)))
      (k0_pay17 (View.ld (iblk m c 7 t) (Rect.unit ![0, k] ![512, 256] b)))
      (k0_pay18 ((View.whole cc0_scratch0).readCov [⟨Rect.unit ![0, 0] ![512, 1024] inb_S512x1024_S512x1024_0_0, dov m c t⟩]
        (Rect.unit (s := S512x1024) ![0, k] ![512, 256] b').toLoadRect)
        (View.ld (iblk m c 8 t) (Rect.unit ![k2, 0, 0] ![1, 256, 256] b2))) x
      = ((r.dq (row t a) j : ℝ) : EReal) := by
  idx_vars x
  obtain rfl : a = x0 := Fin.ext ha
  obtain rfl : j = hd h x1 := Fin.ext (hj.trans (by rw [hk]; rfl))
  refine (pay22 (l_do H t h k hk b') (l_p H t h k hk b) (l_k H t h k1 h1 b1) (l_v H t h k2 h2 b2) a x1).trans ?_
  unfold In.dq
  rw [hq_hd]
  rfl

/-- What a point adds to the gradients of the keys and the values. -/
def dkvT (r : In) (t : Fin cfg0.N) (g : Fin 8) (n d : Fin 256) : ℝ :=
  if h : g.val < 4 then ∑ a, r.ds ⟨g.val, h⟩ (row t a) n * r.q (row t a) (hd ⟨g.val, h⟩ d)
  else ∑ a, r.p ⟨g.val - 4, by omega⟩ (row t a) n * r.dO (row t a) (hd ⟨g.val - 4, by omega⟩ d)

/-- A head's gradient of the keys. -/
theorem t_dk (h : Fin 4) (k : ℕ) (hk : k = h.val * 256) {k1 k2 : ℕ} (h1 : k1 = h.val) (h2 : k2 = 4 + h.val)
    (b b' b'' : ∀ a, ![0, k] a + ![512, 256] a ≤ S512x1024.size a) (b2 : ∀ a, ![k2, 0, 0] a + ![1, 256, 256] a ≤ S8x256x256.size a)
    (acc : FVec Ideal S1x256x256 .f32) (o : EReal)
    (x : S1x256x256.Idx) (g : Fin 8) (n d : Fin 256) (hg : (g : ℕ) = k1) (hn : (n : ℕ) = x 1) (hd' : (d : ℕ) = x 2)
    (ho : ∀ z, acc (ix3 z n d) = o) :
    k0_pay23 (F := Ideal) (k0_pay14 (View.ld (iblk m c 6 t) (Rect.unit ![0, k] ![512, 256] b'')))
      (k0_pay17 (View.ld (iblk m c 7 t) (Rect.unit ![0, k] ![512, 256] b)))
      (k0_pay18 ((View.whole cc0_scratch0).readCov [⟨Rect.unit ![0, 0] ![512, 1024] inb_S512x1024_S512x1024_0_0, dov m c t⟩]
        (Rect.unit (s := S512x1024) ![0, k] ![512, 256] b').toLoadRect)
        (View.ld (iblk m c 8 t) (Rect.unit ![k2, 0, 0] ![1, 256, 256] b2))) acc x
      = o + ((dkvT r t g n d : ℝ) : EReal) := by
  idx_vars x
  obtain rfl : n = x1 := Fin.ext hn
  obtain rfl : d = x2 := Fin.ext hd'
  refine (pay23 acc (l_do H t h k hk b') (l_p H t h k hk b) (l_q H t h k hk b'') (l_v H t h k2 h2 b2) x0 n d).trans ?_
  rw [ho]
  unfold dkvT
  have e : (⟨g.val, by omega⟩ : Fin 4) = h := Fin.ext (by change g.val = h.val; omega)
  rw [dif_pos (show g.val < 4 by omega), e]
  rfl

/-- A head's gradient of the values. -/
theorem t_dv (h : Fin 4) (k : ℕ) (hk : k = h.val * 256) {k2 : ℕ} (h2 : k2 = 4 + h.val)
    (b b' : ∀ a, ![0, k] a + ![512, 256] a ≤ S512x1024.size a)
    (acc : FVec Ideal S1x256x256 .f32) (o : EReal)
    (x : S1x256x256.Idx) (g : Fin 8) (n d : Fin 256) (hg : (g : ℕ) = k2) (hn : (n : ℕ) = x 1) (hd' : (d : ℕ) = x 2)
    (ho : ∀ z, acc (ix3 z n d) = o) :
    k0_pay20 (F := Ideal) (k0_pay19 ((View.whole cc0_scratch0).readCov [⟨Rect.unit ![0, 0] ![512, 1024] inb_S512x1024_S512x1024_0_0, dov m c t⟩]
        (Rect.unit (s := S512x1024) ![0, k] ![512, 256] b').toLoadRect)
      (View.ld (iblk m c 7 t) (Rect.unit ![0, k] ![512, 256] b)) acc) x
      = o + ((dkvT r t g n d : ℝ) : EReal) := by
  idx_vars x
  obtain rfl : n = x1 := Fin.ext hn
  obtain rfl : d = x2 := Fin.ext hd'
  refine (pay20 acc (l_do H t h k hk b') (l_p H t h k hk b) x0 n d).trans ?_
  rw [ho]
  unfold dkvT
  have e : (⟨g.val - 4, by omega⟩ : Fin 4) = h := Fin.ext (by change g.val - 4 = h.val; omega)
  rw [dif_neg (show ¬ g.val < 4 by omega), e]

/-! ## The outputs at a point -/

/-- The rounded gradient of the stream after the attention. -/
theorem out11 (y : S512x1024.Idx) : (outsAt0 m c t.val t.isLt).1 y = ((r.dx2 (row t (y 0)) (y 1) : ℝ) : EReal) := by
  have e : k0_pay12 (F := Ideal) (k0_pay9 (iblk m c 2 t) (iblk m c 1 t) (iblk m c 3 t)) (iblk m c 0 t) y
      = ((r.dx2 (row t (y 0)) (y 1) : ℝ) : EReal) := by
    idx_vars y
    exact t_dx2b H t y0 y1
  by_cases h : t.val % 8 = 0
  · rw [outsAt0_A m c t h]; frame_out
    exact e
  · rw [outsAt0_B m c t h]; frame_out
    exact e

/-- The gradient of the queries. -/
theorem out12 (y : S512x1024.Idx) : (outsAt0 m c t.val t.isLt).2.1 y = ((r.dq (row t (y 0)) (y 1) : ℝ) : EReal) := by
  by_cases h : t.val % 8 = 0
  · rw [outsAt0_A m c t h]; frame_out
    exact canon4 _ _ _ _ (fun a j => r.dq (row t a) j) (t_dq H t 0 0 rfl rfl rfl _ _ _ _) (t_dq H t 1 256 rfl rfl rfl _ _ _ _)
      (t_dq H t 2 512 rfl rfl rfl _ _ _ _) (t_dq H t 3 768 rfl rfl rfl _ _ _ _) y
  · rw [outsAt0_B m c t h]; frame_out
    exact canon4 _ _ _ _ (fun a j => r.dq (row t a) j) (t_dq H t 0 0 rfl rfl rfl _ _ _ _) (t_dq H t 1 256 rfl rfl rfl _ _ _ _)
      (t_dq H t 2 512 rfl rfl rfl _ _ _ _) (t_dq H t 3 768 rfl rfl rfl _ _ _ _) y

omit H in
/-- A place of a head's store is in that head. -/
theorem in_head (x : S1x256x256.Idx) {k n : ℕ} (h : n = k + (x 0 : Fin 1).val) : n = k := by
  have : (x 0 : Fin 1).val < 1 := (x 0).isLt
  omega

/-- A later point adds its part to the gradients of the keys and the values. -/
theorem step15B (h : ¬ t.val % 8 = 0) (y : S8x256x256.Idx) :
    (outsAt0 m c t.val t.isLt).2.2.2.2.1 y
      = (outsAt0 m c (t.val - 1) (lt_of_le_of_lt (Nat.sub_le _ _) t.isLt)).2.2.2.2.1 y + ((dkvT r t (y 0) (y 1) (y 2) : ℝ) : EReal) := by
  rw [outsAt0_B m c t h]; frame_out
  clear h
  canon_tiles x h
  · exact t_dk H t 3 768 rfl rfl rfl _ _ _ _ _ _ x (y 0) (y 1) (y 2) (in_head x h0) h1 h2 (fun z => ld_at _ 3 _ z _ _ y (in_head x h0) rfl rfl)
  · exact t_dv H t 3 768 rfl rfl _ _ _ _ x (y 0) (y 1) (y 2) (in_head x h0) h1 h2 (fun z => ld_at _ 7 _ z _ _ y (in_head x h0) rfl rfl)
  · exact t_dk H t 2 512 rfl rfl rfl _ _ _ _ _ _ x (y 0) (y 1) (y 2) (in_head x h0) h1 h2 (fun z => ld_at _ 2 _ z _ _ y (in_head x h0) rfl rfl)
  · exact t_dv H t 2 512 rfl rfl _ _ _ _ x (y 0) (y 1) (y 2) (in_head x h0) h1 h2 (fun z => ld_at _ 6 _ z _ _ y (in_head x h0) rfl rfl)
  · exact t_dk H t 1 256 rfl rfl rfl _ _ _ _ _ _ x (y 0) (y 1) (y 2) (in_head x h0) h1 h2 (fun z => ld_at _ 1 _ z _ _ y (in_head x h0) rfl rfl)
  · exact t_dv H t 1 256 rfl rfl _ _ _ _ x (y 0) (y 1) (y 2) (in_head x h0) h1 h2 (fun z => ld_at _ 5 _ z _ _ y (in_head x h0) rfl rfl)
  · exact t_dk H t 0 0 rfl rfl rfl _ _ _ _ _ _ x (y 0) (y 1) (y 2) (in_head x (h0.trans (Nat.zero_add _).symm)) h1 h2 (fun z => ld_at _ 0 _ z _ _ y (in_head x (h0.trans (Nat.zero_add _).symm)) rfl rfl)
  · exact t_dv H t 0 0 rfl rfl _ _ _ _ x (y 0) (y 1) (y 2) (in_head x h0) h1 h2 (fun z => ld_at _ 4 _ z _ _ y (in_head x h0) rfl rfl)

omit H in
/-- A head's sums read by the first point, before its own store. -/
theorem rd0 (L : List (View.Piece (Elt Ideal) S8x256x256 .f32)) (k : ℕ) (b : ∀ a, ![k, 0, 0] a + ![1, 256, 256] a ≤ S8x256x256.size a)
    (hL : ∀ y : S8x256x256.Idx, (y 0 : ℕ) = k → View.canon (Val := Elt Ideal) (e := .f32) L y = (0 : EReal)) (z : Fin 1) (n d : Fin 256) :
    ((ms0_15 t).view.readCov L (Rect.unit (s := S8x256x256) ![k, 0, 0] ![1, 256, 256] b).toLoadRect : FVec Ideal S1x256x256 .f32) (ix3 z n d)
      = (0 : EReal) := by
  rw [View.readCov_eq_canon']
  exact hL _ (emb0 k b (ix3 z n d))

/-- The first point stores its part of the gradients of the keys and the values. -/
theorem step15A (h : t.val % 8 = 0) (y : S8x256x256.Idx) :
    (outsAt0 m c t.val t.isLt).2.2.2.2.1 y = 0 + ((dkvT r t (y 0) (y 1) (y 2) : ℝ) : EReal) := by
  rw [outsAt0_A m c t h]; frame_out
  clear h
  refine View.canon_append_of_pieces (Val := Elt Ideal) (S := S8x256x256) (e := .f32)
    (fun y => ((0 : EReal) + ((dkvT r t (y 0) (y 1) (y 2) : ℝ) : EReal) : EReal)) [_] [_, _, _, _, _, _, _, _] ?_ y ?_
  · intro p hp
    simp only [List.mem_cons, List.not_mem_nil, or_false] at hp
    rcases hp with rfl | rfl | rfl | rfl | rfl | rfl | rfl | rfl
    · exact fun x => t_dk H t 3 768 rfl rfl rfl _ _ _ _ _ _ x _ _ _ (emb0 3 inb_S8x256x256_S1x256x256_3_0_0 x) (emb1 3 inb_S8x256x256_S1x256x256_3_0_0 x) (emb2 3 inb_S8x256x256_S1x256x256_3_0_0 x)
        (rd0 t _ 3 _ (fun y hy => (skip _ _ _ _ y (by omega)).trans ((skip _ _ _ _ y (by omega)).trans ((skip _ _ _ _ y (by omega)).trans ((skip _ _ _ _ y (by omega)).trans ((skip _ _ _ _ y (by omega)).trans ((skip _ _ _ _ y (by omega)).trans ((skip _ _ _ _ y (by omega)).trans (zero0 y)))))))) · _ _)
    · exact fun x => t_dv H t 3 768 rfl rfl _ _ _ _ x _ _ _ (emb0 7 inb_S8x256x256_S1x256x256_7_0_0 x) (emb1 7 inb_S8x256x256_S1x256x256_7_0_0 x) (emb2 7 inb_S8x256x256_S1x256x256_7_0_0 x)
        (rd0 t _ 7 _ (fun y hy => (skip _ _ _ _ y (by omega)).trans ((skip _ _ _ _ y (by omega)).trans ((skip _ _ _ _ y (by omega)).trans ((skip _ _ _ _ y (by omega)).trans ((skip _ _ _ _ y (by omega)).trans ((skip _ _ _ _ y (by omega)).trans (zero0 y))))))) · _ _)
    · exact fun x => t_dk H t 2 512 rfl rfl rfl _ _ _ _ _ _ x _ _ _ (emb0 2 inb_S8x256x256_S1x256x256_2_0_0 x) (emb1 2 inb_S8x256x256_S1x256x256_2_0_0 x) (emb2 2 inb_S8x256x256_S1x256x256_2_0_0 x)
        (rd0 t _ 2 _ (fun y hy => (skip _ _ _ _ y (by omega)).trans ((skip _ _ _ _ y (by omega)).trans ((skip _ _ _ _ y (by omega)).trans ((skip _ _ _ _ y (by omega)).trans ((skip _ _ _ _ y (by omega)).trans (zero0 y)))))) · _ _)
    · exact fun x => t_dv H t 2 512 rfl rfl _ _ _ _ x _ _ _ (emb0 6 inb_S8x256x256_S1x256x256_6_0_0 x) (emb1 6 inb_S8x256x256_S1x256x256_6_0_0 x) (emb2 6 inb_S8x256x256_S1x256x256_6_0_0 x)
        (rd0 t _ 6 _ (fun y hy => (skip _ _ _ _ y (by omega)).trans ((skip _ _ _ _ y (by omega)).trans ((skip _ _ _ _ y (by omega)).trans ((skip _ _ _ _ y (by omega)).trans (zero0 y))))) · _ _)
    · exact fun x => t_dk H t 1 256 rfl rfl rfl _ _ _ _ _ _ x _ _ _ (emb0 1 inb_S8x256x256_S1x256x256_1_0_0 x) (emb1 1 inb_S8x256x256_S1x256x256_1_0_0 x) (emb2 1 inb_S8x256x256_S1x256x256_1_0_0 x)
        (rd0 t _ 1 _ (fun y hy => (skip _ _ _ _ y (by omega)).trans ((skip _ _ _ _ y (by omega)).trans ((skip _ _ _ _ y (by omega)).trans (zero0 y)))) · _ _)
    · exact fun x => t_dv H t 1 256 rfl rfl _ _ _ _ x _ _ _ (emb0 5 inb_S8x256x256_S1x256x256_5_0_0 x) (emb1 5 inb_S8x256x256_S1x256x256_5_0_0 x) (emb2 5 inb_S8x256x256_S1x256x256_5_0_0 x)
        (rd0 t _ 5 _ (fun y hy => (skip _ _ _ _ y (by omega)).trans ((skip _ _ _ _ y (by omega)).trans (zero0 y))) · _ _)
    · exact fun x => t_dk H t 0 0 rfl rfl rfl _ _ _ _ _ _ x _ _ _ (emb0 0 inb_S8x256x256_S1x256x256_0_0_0 x) (emb1 0 inb_S8x256x256_S1x256x256_0_0_0 x) (emb2 0 inb_S8x256x256_S1x256x256_0_0_0 x)
        (rd0 t _ 0 _ (fun y hy => (skip _ _ _ _ y (by omega)).trans (zero0 y)) · _ _)
    · exact fun x => t_dv H t 0 0 rfl rfl _ _ _ _ x _ _ _ (emb0 4 inb_S8x256x256_S1x256x256_4_0_0 x) (emb1 4 inb_S8x256x256_S1x256x256_4_0_0 x) (emb2 4 inb_S8x256x256_S1x256x256_4_0_0 x)
        (rd0 t _ 4 _ (fun y hy => zero0 y) · _ _)
  · exact covers _ _ _ _ _ _ _ _ y

omit H in
/-- The gradient of the queries, read back whole. -/
theorem ldq (P0 P1 P2 P3 : FVec Ideal S512x256 .bf16) (f : Fin 512 → Fin 1024 → ℝ)
    (e0 : ∀ x : S512x256.Idx, ∀ (a : Fin 512) (j : Fin 1024), (a : ℕ) = x 0 → (j : ℕ) = 0 + x 1 → P0 x = ((f a j : ℝ) : EReal))
    (e1 : ∀ x : S512x256.Idx, ∀ (a : Fin 512) (j : Fin 1024), (a : ℕ) = x 0 → (j : ℕ) = 256 + x 1 → P1 x = ((f a j : ℝ) : EReal))
    (e2 : ∀ x : S512x256.Idx, ∀ (a : Fin 512) (j : Fin 1024), (a : ℕ) = x 0 → (j : ℕ) = 512 + x 1 → P2 x = ((f a j : ℝ) : EReal))
    (e3 : ∀ x : S512x256.Idx, ∀ (a : Fin 512) (j : Fin 1024), (a : ℕ) = x 0 → (j : ℕ) = 768 + x 1 → P3 x = ((f a j : ℝ) : EReal))
    (a : Fin 512) (j : Fin 1024) :
    ((ms0_12 t).view.readCov (Val := Elt Ideal)
      [⟨Rect.unit ![0, 768] ![512, 256] inb_S512x1024_S512x256_0_768, P3⟩, ⟨Rect.unit ![0, 512] ![512, 256] inb_S512x1024_S512x256_0_512, P2⟩,
        ⟨Rect.unit ![0, 256] ![512, 256] inb_S512x1024_S512x256_0_256, P1⟩, ⟨Rect.unit ![0, 0] ![512,
          256] inb_S512x1024_S512x256_0_0, P0⟩]
      (Rect.unit (s := S512x1024) ![0, 0] ![512, 1024] inb_S512x1024_S512x1024_0_0).toLoadRect : FVec Ideal S512x1024 .bf16) (ix2 a j)
      = ((f a j : ℝ) : EReal) := by
  rw [View.readCov_eq_canon']
  refine (canon4 P0 P1 P2 P3 f e0 e1 e2 e3 _).trans ?_
  refine congrArg₂ (fun a j => ((f a j : ℝ) : EReal)) (Fin.ext ?_) (Fin.ext ?_)
  · exact (Rect.idx_unit_val _ _ _ _ _).trans (Nat.zero_add _)
  · exact (Rect.idx_unit_val _ _ _ _ _).trans (Nat.zero_add _)

/-- The gradient of the stream before the attention, from that of the queries. -/
theorem t_dx1 {dq : FVec Ideal S512x1024 .bf16} (hd : ∀ a k, dq (ix2 a k) = ((r.dq (row t a) k : ℝ) : EReal)) (y : S512x1024.Idx) :
    k0_pay2 (F := Ideal) (dxv m c t) (k0_pay48 dq (iblk m c 9 t) (iblk m c 4 t) (iblk m c 5 t)) (k0_pay49 (iblk m c 4 t))
      (k0_pay50 dq (iblk m c 9 t) (iblk m c 4 t) (iblk m c 5 t)) y = ((r.dx1 (row t (y 0)) (y 1) : ℝ) : EReal) := by
  idx_vars y
  exact pay2 (blk4 H t) (blk5 H t) (blk9 H t) hd (t_dx2 H t) y0 y1

/-- Its rounded copy. -/
theorem t_dx1b {dq : FVec Ideal S512x1024 .bf16} (hd : ∀ a k, dq (ix2 a k) = ((r.dq (row t a) k : ℝ) : EReal)) (y : S512x1024.Idx) :
    k0_pay3 (F := Ideal) (dxv m c t) (k0_pay48 dq (iblk m c 9 t) (iblk m c 4 t) (iblk m c 5 t)) (k0_pay49 (iblk m c 4 t))
      (k0_pay50 dq (iblk m c 9 t) (iblk m c 4 t) (iblk m c 5 t)) y = ((r.dx1 (row t (y 0)) (y 1) : ℝ) : EReal) := by
  rw [← t_dx1 H t hd y]
  pointwise [k0_pay3]

/-- The gradient of the stream before the attention. -/
theorem out13 (y : S512x1024.Idx) : (outsAt0 m c t.val t.isLt).2.2.1 y = ((r.dx1 (row t (y 0)) (y 1) : ℝ) : EReal) := by
  by_cases h : t.val % 8 = 0
  · rw [outsAt0_A m c t h]; frame_out
    exact t_dx1 H t (ldq t _ _ _ _ _ (t_dq H t 0 0 rfl rfl rfl _ _ _ _) (t_dq H t 1 256 rfl rfl rfl _ _ _ _)
      (t_dq H t 2 512 rfl rfl rfl _ _ _ _) (t_dq H t 3 768 rfl rfl rfl _ _ _ _)) y
  · rw [outsAt0_B m c t h]; frame_out
    exact t_dx1 H t (ldq t _ _ _ _ _ (t_dq H t 0 0 rfl rfl rfl _ _ _ _) (t_dq H t 1 256 rfl rfl rfl _ _ _ _)
      (t_dq H t 2 512 rfl rfl rfl _ _ _ _) (t_dq H t 3 768 rfl rfl rfl _ _ _ _)) y

/-- Its rounded copy. -/
theorem out14 (y : S512x1024.Idx) : (outsAt0 m c t.val t.isLt).2.2.2.1 y = ((r.dx1 (row t (y 0)) (y 1) : ℝ) : EReal) := by
  by_cases h : t.val % 8 = 0
  · rw [outsAt0_A m c t h]; frame_out
    exact t_dx1b H t (ldq t _ _ _ _ _ (t_dq H t 0 0 rfl rfl rfl _ _ _ _) (t_dq H t 1 256 rfl rfl rfl _ _ _ _)
      (t_dq H t 2 512 rfl rfl rfl _ _ _ _) (t_dq H t 3 768 rfl rfl rfl _ _ _ _)) y
  · rw [outsAt0_B m c t h]; frame_out
    exact t_dx1b H t (ldq t _ _ _ _ _ (t_dq H t 0 0 rfl rfl rfl _ _ _ _) (t_dq H t 1 256 rfl rfl rfl _ _ _ _)
      (t_dq H t 2 512 rfl rfl rfl _ _ _ _) (t_dq H t 3 768 rfl rfl rfl _ _ _ _)) y

/-- What a point adds to the gradient of the gain before the attention. -/
def dgT (r : In) (t : Fin cfg0.N) (k : Fin 1024) : ℝ := ∑ a, (∑ j, r.dq (row t a) j * r.Wq k j) * (r.X (row t a) k * rs (r.X (row t a)))

/-- A point's part of the gradient of the gain before the attention, added to what was there. -/
theorem t_dg {dq : FVec Ideal S512x1024 .bf16} (hd : ∀ a k, dq (ix2 a k) = ((r.dq (row t a) k : ℝ) : EReal)) (acc : FVec Ideal S1x1024 .f32)
    (y : S1x1024.Idx) :
    k0_pay1 (F := Ideal) (k0_pay45 dq (iblk m c 9 t)) (iblk m c 4 t) (k0_pay46 (iblk m c 4 t)) acc y
      = acc y + ((dgT r t (y 1) : ℝ) : EReal) := by
  idx_vars y
  exact pay1 acc (blk4 H t) (blk9 H t) hd y0 y1

/-- A later point adds its part. -/
theorem step16B (h : ¬ t.val % 8 = 0) (y : S1x1024.Idx) :
    (outsAt0 m c t.val t.isLt).2.2.2.2.2.1 y
      = (outsAt0 m c (t.val - 1) (lt_of_le_of_lt (Nat.sub_le _ _) t.isLt)).2.2.2.2.2.1 y + ((dgT r t (y 1) : ℝ) : EReal) := by
  rw [outsAt0_B m c t h]; frame_out
  exact t_dg H t (ldq t _ _ _ _ _ (t_dq H t 0 0 rfl rfl rfl _ _ _ _) (t_dq H t 1 256 rfl rfl rfl _ _ _ _)
      (t_dq H t 2 512 rfl rfl rfl _ _ _ _) (t_dq H t 3 768 rfl rfl rfl _ _ _ _)) _ y

/-- The first point stores its part. -/
theorem step16A (h : t.val % 8 = 0) (y : S1x1024.Idx) :
    (outsAt0 m c t.val t.isLt).2.2.2.2.2.1 y = 0 + ((dgT r t (y 1) : ℝ) : EReal) := by
  rw [outsAt0_A m c t h]; frame_out
  refine (t_dg H t (ldq t _ _ _ _ _ (t_dq H t 0 0 rfl rfl rfl _ _ _ _) (t_dq H t 1 256 rfl rfl rfl _ _ _ _)
      (t_dq H t 2 512 rfl rfl rfl _ _ _ _) (t_dq H t 3 768 rfl rfl rfl _ _ _ _)) _ y).trans (congrArg (fun a : EReal => a + _) ?_)
  open_payloads
  pointwise

/-- What a point adds to the gradient of the gain after the attention. -/
def dg2T (r : In) (t : Fin cfg0.N) (k : Fin 1024) : ℝ := ∑ a, r.Z (row t a) k * (r.x2 (row t a) k * rs (r.x2 (row t a)))

/-- A point's part of the gradient of the gain after the attention, added to what was there. -/
theorem t_dg2 (acc : FVec Ideal S1x1024 .f32) (y : S1x1024.Idx) :
    k0_pay10 (F := Ideal) (iblk m c 2 t) (iblk m c 1 t) acc y = acc y + ((dg2T r t (y 1) : ℝ) : EReal) := by
  idx_vars y
  exact pay10 acc (blk2 H t) (blk1 H t) y0 y1

/-- A later point adds its part. -/
theorem step17B (h : ¬ t.val % 8 = 0) (y : S1x1024.Idx) :
    (outsAt0 m c t.val t.isLt).2.2.2.2.2.2 y
      = (outsAt0 m c (t.val - 1) (lt_of_le_of_lt (Nat.sub_le _ _) t.isLt)).2.2.2.2.2.2 y + ((dg2T r t (y 1) : ℝ) : EReal) := by
  rw [outsAt0_B m c t h]; frame_out
  exact t_dg2 H t _ y

/-- The first point stores its part. -/
theorem step17A (h : t.val % 8 = 0) (y : S1x1024.Idx) :
    (outsAt0 m c t.val t.isLt).2.2.2.2.2.2 y = 0 + ((dg2T r t (y 1) : ℝ) : EReal) := by
  rw [outsAt0_A m c t h]; frame_out
  refine (t_dg2 H t _ y).trans (congrArg (fun a : EReal => a + _) ?_)
  open_payloads
  pointwise

/-! ## The arrays -/

omit H in
/-- A row of a point. -/
theorem row_eq (a : Fin 512) (i : Fin 4096) (h : (i : ℕ) = t.val * 512 + a) : row t a = i := Fin.ext h.symm

omit H in
/-- The parts of all points add up to the sum over all rows. -/
theorem sum8 (f : Fin 4096 → ℝ) {b : ∀ s : Fin 8, 8 * (t.val / 8) + s.val < cfg0.N} :
    ∑ s : Fin 8, ∑ a, f (row ⟨8 * (t.val / 8) + s.val, b s⟩ a) = ∑ i, f i := by
  rw [Fin.sum_univ_tiles 8 512 rfl]
  refine Finset.sum_congr rfl fun s _ => Finset.sum_congr rfl fun a _ => congrArg f (Fin.ext ?_)
  have : t.val < 8 := t.isLt
  simp [row]
  omega

/-- The rounded gradient of the stream after the attention. -/
theorem final11 : (dats m 0 c).arrAt 11 (cfgs 0).N
    = (fun y => ((r.dx2 (y 0) (y 1) : ℝ) : EReal) : FVec Ideal S4096x1024 .bf16) := by
  refine (dats m 0 c).arrAt_eq_of_covers 11 _ (by decide +kernel) fun t _ y => ?_
  blk_simp [idx t]
  rw [after0_11]
  refine (out11 H t y).trans ?_
  refine congrArg₂ (fun i j => ((r.dx2 i j : ℝ) : EReal)) (Fin.ext ?_) (Fin.ext ?_)
  · blk_simp [idx t, row]
  · blk_simp [idx t]

/-- The gradient of the queries. -/
theorem final12 : (dats m 0 c).arrAt 12 (cfgs 0).N
    = (fun y => ((r.dq (y 0) (y 1) : ℝ) : EReal) : FVec Ideal S4096x1024 .bf16) := by
  refine (dats m 0 c).arrAt_eq_of_covers 12 _ (by decide +kernel) fun t _ y => ?_
  blk_simp [idx t]
  rw [after0_12]
  refine (out12 H t y).trans ?_
  refine congrArg₂ (fun i j => ((r.dq i j : ℝ) : EReal)) (Fin.ext ?_) (Fin.ext ?_)
  · blk_simp [idx t, row]
  · blk_simp [idx t]

/-- The gradient of the stream before the attention. -/
theorem final13 : (dats m 0 c).arrAt 13 (cfgs 0).N
    = (fun y => ((r.dx1 (y 0) (y 1) : ℝ) : EReal) : FVec Ideal S4096x1024 .f32) := by
  refine (dats m 0 c).arrAt_eq_of_covers 13 _ (by decide +kernel) fun t _ y => ?_
  blk_simp [idx t]
  rw [after0_13]
  refine (out13 H t y).trans ?_
  refine congrArg₂ (fun i j => ((r.dx1 i j : ℝ) : EReal)) (Fin.ext ?_) (Fin.ext ?_)
  · blk_simp [idx t, row]
  · blk_simp [idx t]

/-- Its rounded copy. -/
theorem final14 : (dats m 0 c).arrAt 14 (cfgs 0).N
    = (fun y => ((r.dx1 (y 0) (y 1) : ℝ) : EReal) : FVec Ideal S4096x1024 .bf16) := by
  refine (dats m 0 c).arrAt_eq_of_covers 14 _ (by decide +kernel) fun t _ y => ?_
  blk_simp [idx t]
  rw [after0_14]
  refine (out14 H t y).trans ?_
  refine congrArg₂ (fun i j => ((r.dx1 i j : ℝ) : EReal)) (Fin.ext ?_) (Fin.ext ?_)
  · blk_simp [idx t, row]
  · blk_simp [idx t]

omit H in
/-- The parts of the gradients of the keys and the values add up. -/
theorem sum15 (g g' : Fin 8) (n n' d d' : Fin 256) (hg : (g' : ℕ) = g) (hn : (n' : ℕ) = n) (hd' : (d' : ℕ) = d)
    {b : ∀ s : Fin 8, 8 * (t.val / 8) + s.val < cfg0.N} :
    ∑ s : Fin 8, ((dkvT r ⟨8 * (t.val / 8) + s.val, b s⟩ g n d : ℝ) : EReal) = ((r.dkv g' n' d' : ℝ) : EReal) := by
  obtain rfl : g' = g := Fin.ext hg
  obtain rfl : n' = n := Fin.ext hn
  obtain rfl : d' = d := Fin.ext hd'
  refine (coe_sum _ _).trans (congrArg _ ?_)
  unfold dkvT In.dkv
  by_cases h : g'.val < 4
  · simp only [dif_pos h]
    rw [sum8 t (fun i => r.ds ⟨g'.val, h⟩ i n' * r.q i (hd ⟨g'.val, h⟩ d'))]
    unfold In.dk
    rw [hq_hd]
  · simp only [dif_neg h]
    rw [sum8 t (fun i => r.p ⟨g'.val - 4, by omega⟩ i n' * r.dO i (hd ⟨g'.val - 4, by omega⟩ d'))]
    unfold In.dv
    rw [hq_hd]
    exact Finset.sum_congr rfl fun i _ => mul_comm _ _

/-- The gradients of the keys and the values. -/
theorem final15 : (dats m 0 c).arrAt 15 (cfgs 0).N
    = (fun y => ((r.dkv (y 0) (y 1) (y 2) : ℝ) : EReal) : FVec Ideal S8x256x256 .f32) := by
  refine (dats m 0 c).arrAt_eq_of_covers 15 _ (by decide +kernel) fun t hf y => ?_
  blk_simp [idx t]
  rw [after0_15, Pipeline.eq_sum_fin_of_reset_step_apply_of_flush (fun n h => (outsAt0 m c n h).2.2.2.2.1) 8 (fun _ => 0)
    (fun t y => ((dkvT r t (y 0) (y 1) (y 2) : ℝ) : EReal)) (fun t h y => step15A H t h y) (fun t h y => step15B H t h y) t ((flush0_15 t).mp hf) _, zero_add]
  exact sum15 t (y 0) _ (y 1) _ (y 2) _ (by blk_simp [idx t]) (by blk_simp [idx t]) (by blk_simp [idx t])

omit H in
/-- The parts of the gradient of the gain before the attention add up. -/
theorem sum16 (k k' : Fin 1024) (hk : (k' : ℕ) = k) {b : ∀ s : Fin 8, 8 * (t.val / 8) + s.val < cfg0.N} :
    ∑ s : Fin 8, ((dgT r ⟨8 * (t.val / 8) + s.val, b s⟩ k : ℝ) : EReal) = ((r.dg k' : ℝ) : EReal) := by
  obtain rfl : k' = k := Fin.ext hk
  refine (coe_sum _ _).trans (congrArg _ ?_)
  unfold dgT In.dg In.dxn
  rw [sum8 t (fun i => (∑ j, r.dq i j * r.Wq k' j) * (r.X i k' * rs (r.X i)))]
  exact Finset.sum_congr rfl fun i _ => mul_comm _ _

/-- The gradient of the gain before the attention. -/
theorem final16 : (dats m 0 c).arrAt 16 (cfgs 0).N
    = (fun y => ((r.dg (y 1) : ℝ) : EReal) : FVec Ideal S1x1024 .f32) := by
  refine (dats m 0 c).arrAt_eq_of_covers 16 _ (by decide +kernel) fun t hf y => ?_
  blk_simp [idx t]
  rw [after0_16, Pipeline.eq_sum_fin_of_reset_step_apply_of_flush (fun n h => (outsAt0 m c n h).2.2.2.2.2.1) 8 (fun _ => 0)
    (fun t y => ((dgT r t (y 1) : ℝ) : EReal)) (fun t h y => step16A H t h y) (fun t h y => step16B H t h y) t ((flush0_16 t).mp hf) _, zero_add]
  exact sum16 t (y 1) _ (by blk_simp [idx t])

omit H in
/-- The parts of the gradient of the gain after the attention add up. -/
theorem sum17 (k k' : Fin 1024) (hk : (k' : ℕ) = k) {b : ∀ s : Fin 8, 8 * (t.val / 8) + s.val < cfg0.N} :
    ∑ s : Fin 8, ((dg2T r ⟨8 * (t.val / 8) + s.val, b s⟩ k : ℝ) : EReal) = ((r.dg2 k' : ℝ) : EReal) := by
  obtain rfl : k' = k := Fin.ext hk
  refine (coe_sum _ _).trans (congrArg _ ?_)
  unfold dg2T In.dg2
  rw [sum8 t (fun i => r.Z i k' * (r.x2 i k' * rs (r.x2 i)))]
  exact Finset.sum_congr rfl fun i _ => mul_comm _ _

/-- The gradient of the gain after the attention. -/
theorem final17 : (dats m 0 c).arrAt 17 (cfgs 0).N
    = (fun y => ((r.dg2 (y 1) : ℝ) : EReal) : FVec Ideal S1x1024 .f32) := by
  refine (dats m 0 c).arrAt_eq_of_covers 17 _ (by decide +kernel) fun t hf y => ?_
  blk_simp [idx t]
  rw [after0_17, Pipeline.eq_sum_fin_of_reset_step_apply_of_flush (fun n h => (outsAt0 m c n h).2.2.2.2.2.2) 8 (fun _ => 0)
    (fun t y => ((dg2T r t (y 1) : ℝ) : EReal)) (fun t h y => step17A H t h y) (fun t h y => step17B H t h y) t ((flush0_17 t).mp hf) _, zero_add]
  exact sum17 t (y 1) _ (by blk_simp [idx t])

end

end Cert.AttnIdeal.Hand

end
-- ==== Proof.AttnClaim.lean ====
module

public import proofs.«01_k».proof.Defs
public import proofs.«01_k».proof.Proof.AttnVal
public import proofs.«01_k».proof.Proof.Gen.Attn.Frame
public import proofs.«01_k».proof.Proof.Gen.AttnIdeal.Frame
public import proofs.«01_k».proof.Proof.Gen.AttnRefIdeal.Run
public import proofs.«01_k».proof.Proof.Gen.Pre_finite_attn
public import Idealize.ShloMosaic.Lib.Quiescent

@[expose] public section

set_option maxHeartbeats 600000
set_option maxRecDepth 16384

noncomputable section

namespace Cert.AttnClaim

open Idealize.ShloMosaic Idealize.SL.Sem Cert.Reals
open Cert.AttnRefIdeal.Hand (In Reads)

/-- The kernel runs and leaves its arguments and its counters as they were. -/
theorem frame_kernel : Cert.quiescent_Attn := fun m ρ _ => Cert.Attn.Gen.frame m ρ

/-- So does its idealization. -/
theorem frame_ideal : Cert.quiescent_AttnIdeal := fun m ρ _ => Cert.AttnIdeal.Gen.frame m ρ

/-- So does the reference: it has no counters at all, and its run leaves the arguments. -/
theorem frame_ref : Cert.quiescent_AttnRefIdeal := fun m ρ _ =>
  (θ_run Cert.AttnRefIdeal.defs _ _).mono (fun r h => ⟨fun c => (h c).2.2.2.2.2.2.2, sem_eq_zero_of_no_sems rfl r.2⟩)
    (Cert.AttnRefIdeal.Value.run (F := Ideal) m ρ)

section
variable (x0 : FVec Ideal Cert.AttnRefIdeal.S4096x1024 .f32) (x1 : FVec Ideal Cert.AttnRefIdeal.S256x1024 .f32)
  (x2 x3 : FVec Ideal Cert.AttnRefIdeal.S1024 .f32) (x4 : FVec Ideal Cert.AttnRefIdeal.S1024x1024 .f32)
  (x5 : FVec Ideal Cert.AttnRefIdeal.S1024x2048 .f32) (x6 : FVec Ideal Cert.AttnRefIdeal.S1024x1024 .f32)
  (x7 : FVec Ideal Cert.AttnRefIdeal.S1024 .f32) (x8 x9 : FVec Ideal Cert.AttnRefIdeal.S4096x1024 .f32)

/-- The real numbers the arguments hold. -/
def toIn : In where
  X i j := (x0 (ix2 i j)).toReal
  M i j := (x1 (ix2 i j)).toReal
  ga j := (x2 (ix1 j)).toReal
  gm j := (x3 (ix1 j)).toReal
  Wq i j := (x4 (ix2 i j)).toReal
  Wkv i j := (x5 (ix2 i j)).toReal
  Wo i j := (x6 (ix2 i j)).toReal
  gf j := (x7 (ix1 j)).toReal
  Y i j := (x8 (ix2 i j)).toReal
  Z i j := (x9 (ix2 i j)).toReal

/-- The precondition says that every element of the ten arguments is a real number. -/
theorem finite (h : (Cert.Pre_finite_attn.fn (F := Ideal) x0 x1 x2 x3 x4 x5 x6 x7 x8 x9).1 = (fun _ => 1#1)
      ∧ (Cert.Pre_finite_attn.fn (F := Ideal) x0 x1 x2 x3 x4 x5 x6 x7 x8 x9).2.1 = (fun _ => 1#1)
      ∧ (Cert.Pre_finite_attn.fn (F := Ideal) x0 x1 x2 x3 x4 x5 x6 x7 x8 x9).2.2.1 = (fun _ => 1#1)
      ∧ (Cert.Pre_finite_attn.fn (F := Ideal) x0 x1 x2 x3 x4 x5 x6 x7 x8 x9).2.2.2.1 = (fun _ => 1#1)
      ∧ (Cert.Pre_finite_attn.fn (F := Ideal) x0 x1 x2 x3 x4 x5 x6 x7 x8 x9).2.2.2.2.1 = (fun _ => 1#1)
      ∧ (Cert.Pre_finite_attn.fn (F := Ideal) x0 x1 x2 x3 x4 x5 x6 x7 x8 x9).2.2.2.2.2.1 = (fun _ => 1#1)
      ∧ (Cert.Pre_finite_attn.fn (F := Ideal) x0 x1 x2 x3 x4 x5 x6 x7 x8 x9).2.2.2.2.2.2.1 = (fun _ => 1#1)
      ∧ (Cert.Pre_finite_attn.fn (F := Ideal) x0 x1 x2 x3 x4 x5 x6 x7 x8 x9).2.2.2.2.2.2.2.1 = (fun _ => 1#1)
      ∧ (Cert.Pre_finite_attn.fn (F := Ideal) x0 x1 x2 x3 x4 x5 x6 x7 x8 x9).2.2.2.2.2.2.2.2.1 = (fun _ => 1#1)
      ∧ (Cert.Pre_finite_attn.fn (F := Ideal) x0 x1 x2 x3 x4 x5 x6 x7 x8 x9).2.2.2.2.2.2.2.2.2 = (fun _ => 1#1)) :
    Reads (toIn x0 x1 x2 x3 x4 x5 x6 x7 x8 x9) x0 x1 x2 x3 x4 x5 x6 x7 x8 x9 where
  h0 i j := eq_coe_toReal (congrFun h.1 (ix2 i j))
  h1 i j := eq_coe_toReal (congrFun h.2.1 (ix2 i j))
  h2 j := eq_coe_toReal (congrFun h.2.2.1 (ix1 j))
  h3 j := eq_coe_toReal (congrFun h.2.2.2.1 (ix1 j))
  h4 i j := eq_coe_toReal (congrFun h.2.2.2.2.1 (ix2 i j))
  h5 i j := eq_coe_toReal (congrFun h.2.2.2.2.2.1 (ix2 i j))
  h6 i j := eq_coe_toReal (congrFun h.2.2.2.2.2.2.1 (ix2 i j))
  h7 j := eq_coe_toReal (congrFun h.2.2.2.2.2.2.2.1 (ix1 j))
  h8 i j := eq_coe_toReal (congrFun h.2.2.2.2.2.2.2.2.1 (ix2 i j))
  h9 i j := eq_coe_toReal (congrFun h.2.2.2.2.2.2.2.2.2 (ix2 i j))

variable {x0 x1 x2 x3 x4 x5 x6 x7 x8 x9} {r : In} (H : Reads r x0 x1 x2 x3 x4 x5 x6 x7 x8 x9)
include H

/-- The reference's rounded gradient of the stream after the attention, as an array. -/
theorem ref162 : Cert.AttnRefIdeal.Read.val_main_v162 (F := Ideal) x0 x1 x2 x3 x4 x5 x6 x7 x8 x9
    = (fun y => ((r.dx2 (y 0) (y 1) : ℝ) : EReal)) := by
  funext y; idx_vars y
  exact Cert.AttnRefIdeal.Hand.v162 H _ _

/-- The reference's rounded gradient of the queries, as an array. -/
theorem ref163 : Cert.AttnRefIdeal.Read.val_main_v163 (F := Ideal) x0 x1 x2 x3 x4 x5 x6 x7 x8 x9
    = (fun y => ((r.dq (y 0) (y 1) : ℝ) : EReal)) := by
  funext y; idx_vars y
  exact Cert.AttnRefIdeal.Hand.v163 H _ _

/-- The reference's gradient of the stream before the attention, as an array. -/
theorem ref158 : Cert.AttnRefIdeal.Read.val_main_v158 (F := Ideal) x0 x1 x2 x3 x4 x5 x6 x7 x8 x9
    = (fun y => ((r.dx1 (y 0) (y 1) : ℝ) : EReal)) := by
  funext y; idx_vars y
  exact Cert.AttnRefIdeal.Hand.v158 H _ _

/-- Its rounded copy, as an array. -/
theorem ref164 : Cert.AttnRefIdeal.Read.val_main_v164 (F := Ideal) x0 x1 x2 x3 x4 x5 x6 x7 x8 x9
    = (fun y => ((r.dx1 (y 0) (y 1) : ℝ) : EReal)) := by
  funext y; idx_vars y
  exact Cert.AttnRefIdeal.Hand.v164 H _ _

/-- The reference's gradients of the keys and the values, as an array. -/
theorem ref161 : Cert.AttnRefIdeal.Read.val_main_v161 (F := Ideal) x0 x1 x2 x3 x4 x5 x6 x7 x8 x9
    = (fun y => ((r.dkv (y 0) (y 1) (y 2) : ℝ) : EReal)) := by
  funext y; idx_vars y
  exact Cert.AttnRefIdeal.Hand.v161 H _ _ _

/-- The reference's gradient of the gain before the attention, as an array. -/
theorem ref165 : Cert.AttnRefIdeal.Read.val_main_v165 (F := Ideal) x0 x1 x2 x3 x4 x5 x6 x7 x8 x9
    = (fun y => ((r.dg (y 1) : ℝ) : EReal)) := by
  funext y; idx_vars y
  exact Cert.AttnRefIdeal.Hand.v165 H _ _

/-- The reference's gradient of the gain after the attention, as an array. -/
theorem ref166 : Cert.AttnRefIdeal.Read.val_main_v166 (F := Ideal) x0 x1 x2 x3 x4 x5 x6 x9
    = (fun y => ((r.dg2 (y 1) : ℝ) : EReal)) := by
  funext y; idx_vars y
  exact Cert.AttnRefIdeal.Hand.v166 H _ _

end

/-- The kernel and the derivative of the attention end with equal results: the gradients of the stream on both sides of the
    attention and their rounded copies, those of the queries, the keys, the values and the two gains. -/
theorem algebraic : Cert.algebraic_AttnIdeal_AttnRefIdeal_pre_finite_attn := by
  intro m g m' g' hpre hag
  obtain ⟨r, H⟩ : ∃ r : Dev Cert.AttnIdeal.nD → In, ∀ c, Cert.AttnIdeal.Hand.RD m c (r c) :=
    ⟨_, fun c => finite _ _ _ _ _ _ _ _ _ _ (hpre c)⟩
  have k11 := fun c => Cert.AttnIdeal.Hand.final11 (m := m) (H c)
  have k12 := fun c => Cert.AttnIdeal.Hand.final12 (m := m) (H c)
  have k13 := fun c => Cert.AttnIdeal.Hand.final13 (m := m) (H c)
  have k14 := fun c => Cert.AttnIdeal.Hand.final14 (m := m) (H c)
  have k15 := fun c => Cert.AttnIdeal.Hand.final15 (m := m) (H c)
  have k16 := fun c => Cert.AttnIdeal.Hand.final16 (m := m) (H c)
  have k17 := fun c => Cert.AttnIdeal.Hand.final17 (m := m) (H c)
  refine ⟨fun c => (Cert.AttnIdeal.Gen.dats m 0 c).arrAt 11 (Cert.AttnIdeal.cfgs 0).N,
    fun c => (Cert.AttnIdeal.Gen.dats m 0 c).arrAt 12 (Cert.AttnIdeal.cfgs 0).N,
    fun c => (Cert.AttnIdeal.Gen.dats m 0 c).arrAt 13 (Cert.AttnIdeal.cfgs 0).N,
    fun c => (Cert.AttnIdeal.Gen.dats m 0 c).arrAt 14 (Cert.AttnIdeal.cfgs 0).N,
    fun c => (Cert.AttnIdeal.Gen.dats m 0 c).arrAt 15 (Cert.AttnIdeal.cfgs 0).N,
    fun c => (Cert.AttnIdeal.Gen.dats m 0 c).arrAt 16 (Cert.AttnIdeal.cfgs 0).N,
    fun c => (Cert.AttnIdeal.Gen.dats m 0 c).arrAt 17 (Cert.AttnIdeal.cfgs 0).N,
    Cert.AttnIdeal.Value.run_blocks m g,
    (θ_run Cert.AttnRefIdeal.defs _ _).mono (fun _ h c => ?_) (Cert.AttnRefIdeal.Value.run (F := Ideal) m' g')⟩
  · obtain ⟨r0, r1, r2, r3, r4, r5, r6, ra⟩ := h c
    obtain ⟨e0, e1, e2, e3, e4, e5, e6, e7, e8, e9⟩ := hag c
    have H' : Reads (r c) (m' (c.tc.loc Cert.AttnRefIdeal.main_arg0)) (m' (c.tc.loc Cert.AttnRefIdeal.main_arg1)) (m' (c.tc.loc Cert.AttnRefIdeal.main_arg2))
        (m' (c.tc.loc Cert.AttnRefIdeal.main_arg3)) (m' (c.tc.loc Cert.AttnRefIdeal.main_arg4)) (m' (c.tc.loc Cert.AttnRefIdeal.main_arg5))
        (m' (c.tc.loc Cert.AttnRefIdeal.main_arg6)) (m' (c.tc.loc Cert.AttnRefIdeal.main_arg7)) (m' (c.tc.loc Cert.AttnRefIdeal.main_arg8))
        (m' (c.tc.loc Cert.AttnRefIdeal.main_arg9)) := by
      rw [e0, e1, e2, e3, e4, e5, e6, e7, e8, e9]
      exact H c
    refine ⟨(r0.trans ?_).trans (k11 c).symm, (r1.trans ?_).trans (k12 c).symm, (r2.trans ?_).trans (k13 c).symm,
      (r3.trans ?_).trans (k14 c).symm, (r4.trans ?_).trans (k15 c).symm, (r5.trans ?_).trans (k16 c).symm,
      (r6.trans ?_).trans (k17 c).symm, ra⟩
    · rw [Cert.AttnRefIdeal.Read.val_main_v162_eq]
      exact ref162 H'
    · rw [Cert.AttnRefIdeal.Read.val_main_v163_eq]
      exact ref163 H'
    · rw [Cert.AttnRefIdeal.Read.val_main_v158_eq]
      exact ref158 H'
    · rw [Cert.AttnRefIdeal.Read.val_main_v164_eq]
      exact ref164 H'
    · rw [Cert.AttnRefIdeal.Read.val_main_v161_eq]
      exact ref161 H'
    · rw [Cert.AttnRefIdeal.Read.val_main_v165_eq]
      exact ref165 H'
    · rw [Cert.AttnRefIdeal.Read.val_main_v166_eq]
      exact ref166 H'

end Cert.AttnClaim

end
-- ==== Proof.AttendRefVal.lean ====
module

public import proofs.«01_k».proof.Proof.AttnRefVal
public import proofs.«01_k».proof.Proof.Gen.AttendRefIdeal.Read

@[expose] public section

set_option maxRecDepth 16384

noncomputable section

/-! The attention's forward lines, in real numbers: the same lines as those its backward pass differentiates. -/

namespace Cert.AttendRefIdeal.Hand

open Cert.AttendRefIdeal Cert.AttendRefIdeal.Read Cert.Reals Idealize.ShloMosaic
open Cert.AttnRefIdeal.Hand (In Reads hd hq hq_hd hd_hq)

/-- The forward pass's arguments hold the real numbers of `r`, whose cotangents are zero. -/
abbrev Rd (r : In) (x0 : FVec Ideal S4096x1024 .f32) (x1 : FVec Ideal S256x1024 .f32) (x2 x3 : FVec Ideal S1024 .f32)
    (x4 : FVec Ideal S1024x1024 .f32) (x5 : FVec Ideal S1024x2048 .f32) (x6 : FVec Ideal S1024x1024 .f32) : Prop :=
  Reads r x0 x1 x2 x3 x4 x5 x6 (fun _ => 0) (fun _ => 0) (fun _ => 0)

/-- The attention's weights, the heads side by side. -/
def pb (r : In) (i : Fin 4096) (j : Fin 1024) : ℝ := r.p (hq j) i ⟨j.val % 256, Nat.mod_lt _ (by decide)⟩

section
variable (x0 : FVec Ideal S4096x1024 .f32) (x1 : FVec Ideal S256x1024 .f32) (x2 x3 : FVec Ideal S1024 .f32)
  (x4 : FVec Ideal S1024x1024 .f32) (x5 : FVec Ideal S1024x2048 .f32) (x6 : FVec Ideal S1024x1024 .f32)

/-- The normalised stream is computed by the same lines in both programs. -/
theorem same_xn : val_main_v25 (F := Ideal) x0 x2 = Cert.AttnRefIdeal.Read.val_main_v31 (F := Ideal) x0 x2 := rfl

/-- So are the queries. -/
theorem same_q : val_main_v26 (F := Ideal) x0 x2 x4 = Cert.AttnRefIdeal.Read.val_main_v32 (F := Ideal) x0 x2 x4 := rfl

/-- So are the values. -/
theorem same_v : val_main_v32 (F := Ideal) x1 x3 x5 = Cert.AttnRefIdeal.Read.val_main_v35 (F := Ideal) x1 x3 x5 := rfl

/-- So are the attention's weights. -/
theorem same_p : val_main_v46 (F := Ideal) x0 x1 x2 x3 x4 x5 = Cert.AttnRefIdeal.Read.val_main_v63 (F := Ideal) x0 x1 x2 x3 x4 x5 := rfl

/-- So is the stream after the attention. -/
theorem same_x2 : val_main_v58 (F := Ideal) x0 x1 x2 x3 x4 x5 x6
    = Cert.AttnRefIdeal.Read.val_main_v71 (F := Ideal) x0 x1 x2 x3 x4 x5 x6 := rfl

end

section
variable {r : In} {x0 : FVec Ideal S4096x1024 .f32} {x1 : FVec Ideal S256x1024 .f32} {x2 x3 : FVec Ideal S1024 .f32}
  {x4 : FVec Ideal S1024x1024 .f32} {x5 : FVec Ideal S1024x2048 .f32} {x6 : FVec Ideal S1024x1024 .f32}
  (H : Rd r x0 x1 x2 x3 x4 x5 x6)
include H

/-- The normalised stream. -/
theorem v25 (i : Fin 4096) (j : Fin 1024) : val_main_v25 (F := Ideal) x0 x2 (ix2 i j) = ((r.xn i j : ℝ) : EReal) := by
  rw [same_xn]
  pointwise [Cert.AttnRefIdeal.Read.val_main_v31, Cert.AttnRefIdeal.Read.val_main_v30, Cert.AttnRefIdeal.Read.val_main_v29]
  simp only [Cert.AttnRefIdeal.Hand.v28 H, H.h2, coe_mul]
  rfl

/-- The queries. -/
theorem v26 (i : Fin 4096) (j : Fin 1024) : val_main_v26 (F := Ideal) x0 x2 x4 (ix2 i j) = ((r.q i j : ℝ) : EReal) := by
  rw [same_q]
  exact Cert.AttnRefIdeal.Hand.v32 H i j

/-- The values by heads. -/
theorem v32 (m : Fin 256) (h : Fin 4) (d : Fin 256) :
    val_main_v32 (F := Ideal) x1 x3 x5 (ix3 m h d) = ((r.val m (hd h d) : ℝ) : EReal) := by
  rw [same_v]
  exact Cert.AttnRefIdeal.Hand.v35 H m h d

/-- The attention's weights. -/
theorem v46 (h : Fin 4) (i : Fin 4096) (m : Fin 256) :
    val_main_v46 (F := Ideal) x0 x1 x2 x3 x4 x5 (ix3 h i m) = ((r.p h i m : ℝ) : EReal) := by
  rw [same_p]
  exact Cert.AttnRefIdeal.Hand.v63 H h i m

/-- The rounded normalised stream, as an array. -/
theorem ref52 : val_main_v52 (F := Ideal) x0 x2 = (fun y => ((r.xn (y 0) (y 1) : ℝ) : EReal)) := by
  funext y; idx_vars y
  pointwise [val_main_v52]
  exact v25 H _ _

/-- The rounded queries, as an array. -/
theorem ref54 : val_main_v54 (F := Ideal) x0 x2 x4 = (fun y => ((r.q (y 0) (y 1) : ℝ) : EReal)) := by
  funext y; idx_vars y
  pointwise [val_main_v54, val_main_v53, val_main_v27]
  exact v26 H _ _

/-- The rounded weights, the heads side by side, as an array. -/
theorem ref55 : val_main_v55 (F := Ideal) x0 x1 x2 x3 x4 x5
    = (fun y => ((pb r (y 0) (y 1) : ℝ) : EReal)) := by
  funext y; idx_vars y
  pointwise [val_main_v55, val_main_v51, val_main_v50]
  exact v46 H _ _ _

/-- The mixed values. -/
theorem v49 (i : Fin 4096) (j : Fin 1024) :
    val_main_v49 (F := Ideal) x0 x1 x2 x3 x4 x5 (ix2 i j) = ((r.o i j : ℝ) : EReal) := by
  pointwise [val_main_v49, val_main_v48, val_main_v47]
  simp only [v46 H, v32 H, coe_mul, coe_sum]
  simp only [hd_hq]
  rfl

/-- The rounded mixed values, as an array. -/
theorem ref56 : val_main_v56 (F := Ideal) x0 x1 x2 x3 x4 x5 = (fun y => ((r.o (y 0) (y 1) : ℝ) : EReal)) := by
  funext y; idx_vars y
  pointwise [val_main_v56]
  exact v49 H _ _

/-- The stream after the attention, as an array. -/
theorem ref58 : val_main_v58 (F := Ideal) x0 x1 x2 x3 x4 x5 x6 = (fun y => ((r.x2 (y 0) (y 1) : ℝ) : EReal)) := by
  funext y; idx_vars y
  rw [same_x2]
  exact Cert.AttnRefIdeal.Hand.v71 H _ _

end

end Cert.AttendRefIdeal.Hand

end
-- ==== Proof.AttendVal.lean ====
module

public import proofs.«01_k».proof.Proof.AttnVal
public import proofs.«01_k».proof.Proof.AttendRefVal
public import proofs.«01_k».proof.Proof.Gen.AttendIdeal.Value

@[expose] public section

set_option maxHeartbeats 600000
set_option maxRecDepth 16384

noncomputable section

/-! The attention's forward kernel in real numbers: one tile, then all of them. -/

namespace Cert.AttendIdeal.Hand

open Cert.AttendIdeal Cert.AttendIdeal.Gen Cert.Reals Idealize.ShloMosaic Idealize.SL.Sem
open Cert.AttnRefIdeal.Hand (In Reads hd hq hq_hd hd_hq)
open Cert.AttendRefIdeal.Hand (Rd pb)
open Cert.AttnIdeal.Hand (ld_col ld_head canon_one canon4)

/-! ## The arithmetic -/

/-- The exponentials of a tile's scores less their rows' largest. -/
def expT (y : FVec Ideal S512x256 .f32) : FVec Ideal S512x256 .f32 :=
  exp (subf y (broadcastTo S512x256 (shapeCast S512x1
    (multiReduction .maximumf [1] S512 y 0xFF800000#32 reduces_S512x256_S512 (.inl rfl) rfl) shapeCasts_S512_S512x1)
    broadcasts_S512x1_S512x256))

/-- The scaled scores of a tile. -/
def scT (Q : Fin 512 → Fin 256 → ℝ) (K : Fin 256 → Fin 256 → ℝ) (a : Fin 512) (n : Fin 256) : ℝ :=
  (∑ d, Q a d * K n d) * (1 / 16)

/-- The weights from the scores. -/
def softT (S : Fin 512 → Fin 256 → ℝ) (a : Fin 512) (n : Fin 256) : ℝ :=
  Real.exp (S a n - mx (S a)) / ∑ l, Real.exp (S a l - mx (S a))

/-- A row's largest score. -/
theorem max_row (y : FVec Ideal S512x256 .f32) (S : Fin 512 → Fin 256 → ℝ) (hy : ∀ a n, y (ix2 a n) = ((S a n : ℝ) : EReal))
    (a : Fin 512) (z : Fin 1) :
    (shapeCast S512x1 (multiReduction .maximumf [1] S512 y 0xFF800000#32 reduces_S512x256_S512 (.inl rfl) rfl) shapeCasts_S512_S512x1
      : FVec Ideal S512x1 .f32) (ix2 a z) = ((mx (S a) : ℝ) : EReal) := by
  rw [← fold_max]
  pointwise
  rw [lit_neg_inf]
  exact congrArg (Finset.fold max ⊥ · Finset.univ) (funext fun n => hy a n)

/-- The exponentials. -/
theorem expT_eq (y : FVec Ideal S512x256 .f32) (S : Fin 512 → Fin 256 → ℝ) (hy : ∀ a n, y (ix2 a n) = ((S a n : ℝ) : EReal))
    (a : Fin 512) (n : Fin 256) : expT y (ix2 a n) = ((Real.exp (S a n - mx (S a)) : ℝ) : EReal) := by
  have e := max_row y S hy
  unfold expT
  generalize shapeCast S512x1 (multiReduction .maximumf [1] S512 y 0xFF800000#32 reduces_S512x256_S512 (.inl rfl) rfl)
    shapeCasts_S512_S512x1 = z at e ⊢
  pointwise []
  rw [hy, e, coe_sub, coe_exp]

/-- The weights. -/
theorem pay1 (y : FVec Ideal S512x256 .f32) (S : Fin 512 → Fin 256 → ℝ) (hy : ∀ a n, y (ix2 a n) = ((S a n : ℝ) : EReal))
    (a : Fin 512) (n : Fin 256) : k0_pay1 (F := Ideal) y (ix2 a n) = ((softT S a n : ℝ) : EReal) := by
  have e := expT_eq y S hy
  change k0_pay7 (F := Ideal) (expT y) (ix2 a n) = _
  generalize expT y = z at e ⊢
  pointwise [k0_pay7]
  simp only [e, coe_sum, zero_add]
  exact coe_div _ (Finset.sum_pos (fun _ _ => Real.exp_pos _) Finset.univ_nonempty).ne'

section
variable {qh : FVec Ideal S512x256 .bf16} {kh vh : FVec Ideal S1x256x256 .bf16} {Q : Fin 512 → Fin 256 → ℝ} {K V : Fin 256 → Fin 256 → ℝ}
  (hq : ∀ a d, qh (ix2 a d) = ((Q a d : ℝ) : EReal)) (hk : ∀ z n d, kh (ix3 z n d) = ((K n d : ℝ) : EReal))
  (hv : ∀ z n d, vh (ix3 z n d) = ((V n d : ℝ) : EReal))

include hq hk in
/-- A head's scores. -/
theorem pay13 (a : Fin 512) (n : Fin 256) : k0_pay13 (F := Ideal) qh kh (ix2 a n) = ((scT Q K a n : ℝ) : EReal) := by
  pointwise [k0_pay13]
  simp only [hq, hk, lit_inv16, coe_mul, coe_sum]
  rfl

include hq hk in
/-- A head's weights. -/
theorem payP (a : Fin 512) (n : Fin 256) : k0_pay1 (F := Ideal) (k0_pay13 qh kh) (ix2 a n) = ((softT (scT Q K) a n : ℝ) : EReal) :=
  pay1 _ _ (pay13 hq hk) a n

include hq hk hv in
/-- A head's mixed values. -/
theorem payO (a : Fin 512) (d : Fin 256) :
    k0_pay2 (F := Ideal) (k0_pay13 qh kh) vh (ix2 a d) = ((∑ n, softT (scT Q K) a n * V n d : ℝ) : EReal) := by
  have e := payP hq hk
  generalize k0_pay13 (F := Ideal) qh kh = y at e ⊢
  unfold k0_pay2
  generalize k0_pay1 (F := Ideal) y = z at e ⊢
  pointwise []
  simp only [e, hv, coe_mul, coe_sum]

end

section
variable {x : FVec Ideal S512x1024 .f32} {g : FVec Ideal S1x1024 .f32} {w : FVec Ideal S1024x1024 .bf16} {o : FVec Ideal S512x1024 .bf16}
  {X O : Fin 512 → Fin 1024 → ℝ} {G : Fin 1024 → ℝ} {W : Fin 1024 → Fin 1024 → ℝ}
  (hx : ∀ a k, x (ix2 a k) = ((X a k : ℝ) : EReal)) (hg : ∀ z k, g (ix2 z k) = ((G k : ℝ) : EReal))
  (hw : ∀ k j, w (ix2 k j) = ((W k j : ℝ) : EReal)) (ho : ∀ a k, o (ix2 a k) = ((O a k : ℝ) : EReal))

include hx hg in
/-- The normalised stream. -/
theorem pay4 (a : Fin 512) (k : Fin 1024) : k0_pay4 (F := Ideal) x g (ix2 a k) = ((X a k * rs (X a) * G k : ℝ) : EReal) := by
  pointwise [k0_pay4]
  simp only [hx, hg, lit_1024, lit_eps, coe_mul, coe_sum, coe_div, coe_add, zero_add, ne_eq, OfNat.ofNat_ne_zero,
    not_false_eq_true]
  exact (congrArg (fun z : EReal => ((X a k : ℝ) : EReal) * z * ((G k : ℝ) : EReal)) (coe_rsqrt (ms_pos (X a)))).trans
    (by rw [coe_mul, coe_mul]; rfl)

include hx hg hw in
/-- The queries. -/
theorem pay5 (a : Fin 512) (j : Fin 1024) :
    k0_pay5 (F := Ideal) x g w (ix2 a j) = ((∑ k, X a k * rs (X a) * G k * W k j : ℝ) : EReal) := by
  have e := pay4 hx hg
  unfold k0_pay5
  generalize k0_pay4 (F := Ideal) x g = y at e ⊢
  pointwise []
  simp only [e, hw, coe_mul, coe_sum]

include hx hw ho in
/-- The stream after the attention. -/
theorem pay3 (a : Fin 512) (j : Fin 1024) : k0_pay3 (F := Ideal) x o w (ix2 a j) = ((X a j + ∑ k, O a k * W k j : ℝ) : EReal) := by
  pointwise [k0_pay3]
  simp only [hx, hw, ho, coe_mul, coe_sum, coe_add]

end

/-! ## The staged blocks -/

/-- The windows' blocks: point `t` is row block `t`. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ t.val < 8 :=
  (by decide +kernel : ∀ t : Fin grid0.N, _)

/-- Row `i` of point `t`'s block, as a row of the whole array. -/
def row (t : Fin cfg0.N) (i : Fin 512) : Fin 4096 :=
  ⟨t.val * 512 + i.val, by have := (idx t).2.2.2.2.2.2.2.2.2.2; omega⟩

/-- The arguments in memory hold the real numbers of `r`. -/
abbrev RD (m : (ℓ : Loc nD τ sig) → Buf (Elt Ideal) ℓ) (c : Dev nD) (r : In) : Prop :=
  Rd r (m (c.tc.loc main_arg0)) (m (c.tc.loc main_arg1)) (m (c.tc.loc main_arg2)) (m (c.tc.loc main_arg3)) (m (c.tc.loc main_arg4))
    (m (c.tc.loc main_arg5)) (m (c.tc.loc main_arg6))

section
variable {m : (ℓ : Loc nD τ sig) → Buf (Elt Ideal) ℓ} {c : Dev nD} {r : In} (H : RD m c r) (t : Fin cfg0.N)
include H

/-- The staged stream. -/
theorem blk0 (i : Fin 512) (k : Fin 1024) :
    (iblk m c 0 t : FVec Ideal S512x1024 .f32) (ix2 i k) = ((r.X (row t i) k : ℝ) : EReal) := by
  rw [← H.h0]
  blk_point [iblk, V, idx t, row]

/-- The staged gain. -/
theorem blk1 (z : Fin 1) (k : Fin 1024) : (iblk m c 1 t : FVec Ideal S1x1024 .f32) (ix2 z k) = ((r.ga k : ℝ) : EReal) := by
  rw [← H.h2]
  have e : (win0_1.blk t).view.emb (ix2 z k) = (ix2 z k : S1x1024.Idx) := by
    funext a; fin_cases a <;> (apply Fin.ext; blk_simp [idx t])
  change (V m c main_v16 : FVec Ideal S1x1024 .f32) ((win0_1.blk t).view.emb (ix2 z k)) = _
  rw [e]
  change (shapeCast S1x1024 (m (c.tc.loc main_arg2) : FVec Ideal S1024 .f32) shapeCasts_S1024_S1x1024 : FVec Ideal S1x1024 .f32) _ = _
  pointwise

/-- The staged query projection. -/
theorem blk2 (i k : Fin 1024) : (iblk m c 2 t : FVec Ideal S1024x1024 .bf16) (ix2 i k) = ((r.Wq i k : ℝ) : EReal) := by
  rw [← H.h4]
  blk_point [iblk, idx t]

/-- The staged output projection. -/
theorem blk4 (i k : Fin 1024) : (iblk m c 4 t : FVec Ideal S1024x1024 .bf16) (ix2 i k) = ((r.Wo i k : ℝ) : EReal) := by
  rw [← H.h6]
  blk_point [iblk, idx t]

/-- The staged keys and values. -/
theorem blk3 (a : Fin 8) (n d : Fin 256) :
    (iblk m c 3 t : FVec Ideal S8x256x256 .bf16) (ix3 a n d) = ((r.kv n ⟨a.val * 256 + d.val, by omega⟩ : ℝ) : EReal) := by
  have e : (win0_3.blk t).view.emb (ix3 a n d) = (ix3 a n d : S8x256x256.Idx) := by
    funext a; fin_cases a <;> (apply Fin.ext; blk_simp [idx t])
  change (V m c main_v18 : FVec Ideal S8x256x256 .bf16) ((win0_3.blk t).view.emb (ix3 a n d)) = _
  rw [e]
  exact Cert.AttnIdeal.Hand.hKv_eq H _ _ _

/-! ## A tile -/

/-- The normalised stream. -/
theorem t_xn (y : S512x1024.Idx) : k0_pay4 (F := Ideal) (iblk m c 0 t) (iblk m c 1 t) y = ((r.xn (row t (y 0)) (y 1) : ℝ) : EReal) := by
  idx_vars y
  exact pay4 (blk0 H t) (blk1 H t) y0 y1

/-- The queries. -/
theorem t_q (y : S512x1024.Idx) :
    k0_pay5 (F := Ideal) (iblk m c 0 t) (iblk m c 1 t) (iblk m c 2 t) y = ((r.q (row t (y 0)) (y 1) : ℝ) : EReal) := by
  idx_vars y
  exact pay5 (blk0 H t) (blk1 H t) (blk2 H t) y0 y1

/-- A head's queries, read back. -/
theorem l_q (h : Fin 4) (k : ℕ) (hk : k = h.val * 256) (b : ∀ a, ![0, k] a + ![512, 256] a ≤ S512x1024.size a) (a : Fin 512) (d : Fin 256) :
    ((ms0_6 t).view.readCov (Val := Elt Ideal) [⟨Rect.unit ![0, 0] ![512, 1024] inb_S512x1024_S512x1024_0_0,
        k0_pay5 (F := Ideal) (iblk m c 0 t) (iblk m c 1 t) (iblk m c 2 t)⟩]
      (Rect.unit (s := S512x1024) ![0, k] ![512, 256] b).toLoadRect : FVec Ideal S512x256 .bf16) (ix2 a d)
      = ((r.q (row t a) (hd h d) : ℝ) : EReal) := by
  rw [View.readCov_eq_canon']
  refine (canon_one _ _).trans (Eq.trans ?_ (t_q H t (ix2 a (hd h d))))
  exact ld_col (k0_pay5 (F := Ideal) (iblk m c 0 t) (iblk m c 1 t) (iblk m c 2 t)) h k hk b a d

/-- A head's keys. -/
theorem l_k (h : Fin 4) (k : ℕ) (hk : k = h.val) (b : ∀ a, ![k, 0, 0] a + ![1, 256, 256] a ≤ S8x256x256.size a) (z : Fin 1) (n d : Fin 256) :
    (View.ld (Val := Elt Ideal) (S := S8x256x256) (e' := .bf16) (iblk m c 3 t) (Rect.unit ![k, 0, 0] ![1, 256, 256] b) : FVec Ideal S1x256x256 .bf16) (ix3 z n d)
      = ((r.key n (hd h d) : ℝ) : EReal) := by
  refine (ld_head _ k (by omega) b z n d).trans ((blk3 H t _ _ _).trans ?_)
  refine congrArg (fun j => ((r.kv n j : ℝ) : EReal)) (Fin.ext ?_)
  simp only [hd, hk]

/-- A head's values. -/
theorem l_v (h : Fin 4) (k : ℕ) (hk : k = 4 + h.val) (b : ∀ a, ![k, 0, 0] a + ![1, 256, 256] a ≤ S8x256x256.size a) (z : Fin 1) (n d : Fin 256) :
    (View.ld (Val := Elt Ideal) (S := S8x256x256) (e' := .bf16) (iblk m c 3 t) (Rect.unit ![k, 0, 0] ![1, 256, 256] b) : FVec Ideal S1x256x256 .bf16) (ix3 z n d)
      = ((r.val n (hd h d) : ℝ) : EReal) := by
  refine (ld_head _ k (by omega) b z n d).trans ((blk3 H t _ _ _).trans ?_)
  refine congrArg (fun j => ((r.kv n j : ℝ) : EReal)) (Fin.ext ?_)
  simp only [hd, hk]
  omega

/-- A head's weights. -/
theorem t_p (h : Fin 4) (k : ℕ) (hk : k = h.val * 256) {k1 : ℕ} (h1 : k1 = h.val)
    (b : ∀ a, ![0, k] a + ![512, 256] a ≤ S512x1024.size a) (b1 : ∀ a, ![k1, 0, 0] a + ![1, 256, 256] a ≤ S8x256x256.size a)
    (x : S512x256.Idx) (a : Fin 512) (j : Fin 1024) (ha : (a : ℕ) = x 0) (hj : (j : ℕ) = k + x 1) :
    k0_pay1 (F := Ideal) (k0_pay13 ((ms0_6 t).view.readCov [⟨Rect.unit ![0, 0] ![512, 1024] inb_S512x1024_S512x1024_0_0,
        k0_pay5 (F := Ideal) (iblk m c 0 t) (iblk m c 1 t) (iblk m c 2 t)⟩] (Rect.unit (s := S512x1024) ![0, k] ![512, 256] b).toLoadRect)
        (View.ld (iblk m c 3 t) (Rect.unit ![k1, 0, 0] ![1, 256, 256] b1))) x
      = ((pb r (row t a) j : ℝ) : EReal) := by
  idx_vars x
  obtain rfl : a = x0 := Fin.ext ha
  obtain rfl : j = hd h x1 := Fin.ext (hj.trans (by rw [hk]; rfl))
  refine (payP (l_q H t h k hk b) (l_k H t h k1 h1 b1) a x1).trans ?_
  have e : (⟨(hd h x1).val % 256, Nat.mod_lt _ (by decide)⟩ : Fin 256) = x1 := Fin.ext (by have := x1.isLt; change (h.val * 256 + x1.val) % 256 = x1.val; change x1.val < 256 at this; omega)
  unfold pb
  rw [hq_hd, e]
  rfl

/-- A head's mixed values. -/
theorem t_o (h : Fin 4) (k : ℕ) (hk : k = h.val * 256) {k1 k2 : ℕ} (h1 : k1 = h.val) (h2 : k2 = 4 + h.val)
    (b : ∀ a, ![0, k] a + ![512, 256] a ≤ S512x1024.size a) (b1 : ∀ a, ![k1, 0, 0] a + ![1, 256, 256] a ≤ S8x256x256.size a)
    (b2 : ∀ a, ![k2, 0, 0] a + ![1, 256, 256] a ≤ S8x256x256.size a)
    (x : S512x256.Idx) (a : Fin 512) (j : Fin 1024) (ha : (a : ℕ) = x 0) (hj : (j : ℕ) = k + x 1) :
    k0_pay2 (F := Ideal) (k0_pay13 ((ms0_6 t).view.readCov [⟨Rect.unit ![0, 0] ![512, 1024] inb_S512x1024_S512x1024_0_0,
        k0_pay5 (F := Ideal) (iblk m c 0 t) (iblk m c 1 t) (iblk m c 2 t)⟩] (Rect.unit (s := S512x1024) ![0, k] ![512, 256] b).toLoadRect)
        (View.ld (iblk m c 3 t) (Rect.unit ![k1, 0, 0] ![1, 256, 256] b1)))
        (View.ld (iblk m c 3 t) (Rect.unit ![k2, 0, 0] ![1, 256, 256] b2)) x
      = ((r.o (row t a) j : ℝ) : EReal) := by
  idx_vars x
  obtain rfl : a = x0 := Fin.ext ha
  obtain rfl : j = hd h x1 := Fin.ext (hj.trans (by rw [hk]; rfl))
  refine (payO (l_q H t h k hk b) (l_k H t h k1 h1 b1) (l_v H t h k2 h2 b2) a x1).trans ?_
  unfold In.o
  rw [hq_hd]
  exact congrArg (fun x : ℝ => (x : EReal)) (Finset.sum_congr rfl fun n _ => mul_comm _ _)

/-! ## The outputs -/

/-- The normalised stream. -/
theorem out5 (y : S512x1024.Idx) : (outsAt0 m c t).1 y = ((r.xn (row t (y 0)) (y 1) : ℝ) : EReal) := by
  unfold outsAt0; frame_out
  exact t_xn H t y

/-- The queries. -/
theorem out6 (y : S512x1024.Idx) : (outsAt0 m c t).2.1 y = ((r.q (row t (y 0)) (y 1) : ℝ) : EReal) := by
  unfold outsAt0; frame_out
  exact t_q H t y

/-- The weights. -/
theorem out7 (y : S512x1024.Idx) :
    (outsAt0 m c t).2.2.1 y = ((pb r (row t (y 0)) (y 1) : ℝ) : EReal) := by
  unfold outsAt0; frame_out
  exact canon4 _ _ _ _ (fun a j => pb r (row t a) j) (t_p H t 0 0 rfl rfl _ _)
    (t_p H t 1 256 rfl rfl _ _) (t_p H t 2 512 rfl rfl _ _) (t_p H t 3 768 rfl rfl _ _) y

/-- The mixed values. -/
theorem out8 (y : S512x1024.Idx) : (outsAt0 m c t).2.2.2.1 y = ((r.o (row t (y 0)) (y 1) : ℝ) : EReal) := by
  unfold outsAt0; frame_out
  exact canon4 _ _ _ _ (fun a j => r.o (row t a) j) (t_o H t 0 0 rfl rfl rfl _ _ _) (t_o H t 1 256 rfl rfl rfl _ _ _)
    (t_o H t 2 512 rfl rfl rfl _ _ _) (t_o H t 3 768 rfl rfl rfl _ _ _) y

omit H in
/-- The mixed values, read back whole. -/
theorem l_o (P0 P1 P2 P3 : FVec Ideal S512x256 .bf16) (f : Fin 512 → Fin 1024 → ℝ)
    (h : ∀ y : S512x1024.Idx, View.canon (Val := Elt Ideal) (e := .bf16)
      [⟨Rect.unit ![0, 768] ![512, 256] inb_S512x1024_S512x256_0_768, P3⟩, ⟨Rect.unit ![0, 512] ![512, 256] inb_S512x1024_S512x256_0_512, P2⟩,
        ⟨Rect.unit ![0, 256] ![512, 256] inb_S512x1024_S512x256_0_256, P1⟩, ⟨Rect.unit ![0, 0] ![512,
          256] inb_S512x1024_S512x256_0_0, P0⟩] y = ((f (y 0) (y 1) : ℝ) : EReal))
    (a : Fin 512) (j : Fin 1024) :
    ((ms0_8 t).view.readCov (Val := Elt Ideal)
      [⟨Rect.unit ![0, 768] ![512, 256] inb_S512x1024_S512x256_0_768, P3⟩, ⟨Rect.unit ![0, 512] ![512, 256] inb_S512x1024_S512x256_0_512, P2⟩,
        ⟨Rect.unit ![0, 256] ![512, 256] inb_S512x1024_S512x256_0_256, P1⟩, ⟨Rect.unit ![0, 0] ![512,
          256] inb_S512x1024_S512x256_0_0, P0⟩]
      (Rect.unit (s := S512x1024) ![0, 0] ![512, 1024] inb_S512x1024_S512x1024_0_0).toLoadRect : FVec Ideal S512x1024 .bf16) (ix2 a j)
      = ((f a j : ℝ) : EReal) := by
  rw [View.readCov_eq_canon']
  refine (h _).trans ?_
  refine congrArg₂ (fun a j => ((f a j : ℝ) : EReal)) (Fin.ext ?_) (Fin.ext ?_)
  · exact (Rect.idx_unit_val _ _ _ _ _).trans (Nat.zero_add _)
  · exact (Rect.idx_unit_val _ _ _ _ _).trans (Nat.zero_add _)

/-- The stream after the attention. -/
theorem t_x2 {o : FVec Ideal S512x1024 .bf16} (ho : ∀ a k, o (ix2 a k) = ((r.o (row t a) k : ℝ) : EReal)) (y : S512x1024.Idx) :
    k0_pay3 (F := Ideal) (iblk m c 0 t) o (iblk m c 4 t) y = ((r.x2 (row t (y 0)) (y 1) : ℝ) : EReal) := by
  idx_vars y
  exact pay3 (blk0 H t) (blk4 H t) ho y0 y1

/-- The stream after the attention. -/
theorem out9 (y : S512x1024.Idx) : (outsAt0 m c t).2.2.2.2 y = ((r.x2 (row t (y 0)) (y 1) : ℝ) : EReal) := by
  unfold outsAt0; frame_out
  exact t_x2 H t (l_o t _ _ _ _ (fun a j => r.o (row t a) j) (canon4 _ _ _ _ _ (t_o H t 0 0 rfl rfl rfl _ _ _)
    (t_o H t 1 256 rfl rfl rfl _ _ _) (t_o H t 2 512 rfl rfl rfl _ _ _) (t_o H t 3 768 rfl rfl rfl _ _ _))) y

end

section
variable {m : (ℓ : Loc nD τ sig) → Buf (Elt Ideal) ℓ} {c : Dev nD} {r : In} (H : RD m c r)
include H

/-! ## The arrays -/

/-- The normalised stream. -/
theorem final5 : (dats m 0 c).arrAt 5 (cfgs 0).N
    = (fun y => ((r.xn (y 0) (y 1) : ℝ) : EReal) : FVec Ideal S4096x1024 .bf16) := by
  refine (dats m 0 c).arrAt_eq_of_covers 5 _ (by decide +kernel) fun t _ y => ?_
  blk_simp [idx t]
  rw [after0_5]
  refine (out5 H t y).trans ?_
  refine congrArg₂ (fun i j => ((r.xn i j : ℝ) : EReal)) (Fin.ext ?_) (Fin.ext ?_)
  · blk_simp [idx t, row]
  · blk_simp [idx t]

/-- The queries. -/
theorem final6 : (dats m 0 c).arrAt 6 (cfgs 0).N
    = (fun y => ((r.q (y 0) (y 1) : ℝ) : EReal) : FVec Ideal S4096x1024 .bf16) := by
  refine (dats m 0 c).arrAt_eq_of_covers 6 _ (by decide +kernel) fun t _ y => ?_
  blk_simp [idx t]
  rw [after0_6]
  refine (out6 H t y).trans ?_
  refine congrArg₂ (fun i j => ((r.q i j : ℝ) : EReal)) (Fin.ext ?_) (Fin.ext ?_)
  · blk_simp [idx t, row]
  · blk_simp [idx t]

/-- The mixed values. -/
theorem final8 : (dats m 0 c).arrAt 8 (cfgs 0).N
    = (fun y => ((r.o (y 0) (y 1) : ℝ) : EReal) : FVec Ideal S4096x1024 .bf16) := by
  refine (dats m 0 c).arrAt_eq_of_covers 8 _ (by decide +kernel) fun t _ y => ?_
  blk_simp [idx t]
  rw [after0_8]
  refine (out8 H t y).trans ?_
  refine congrArg₂ (fun i j => ((r.o i j : ℝ) : EReal)) (Fin.ext ?_) (Fin.ext ?_)
  · blk_simp [idx t, row]
  · blk_simp [idx t]

/-- The stream after the attention. -/
theorem final9 : (dats m 0 c).arrAt 9 (cfgs 0).N
    = (fun y => ((r.x2 (y 0) (y 1) : ℝ) : EReal) : FVec Ideal S4096x1024 .f32) := by
  refine (dats m 0 c).arrAt_eq_of_covers 9 _ (by decide +kernel) fun t _ y => ?_
  blk_simp [idx t]
  rw [after0_9]
  refine (out9 H t y).trans ?_
  refine congrArg₂ (fun i j => ((r.x2 i j : ℝ) : EReal)) (Fin.ext ?_) (Fin.ext ?_)
  · blk_simp [idx t, row]
  · blk_simp [idx t]

/-- The weights, the heads side by side. -/
theorem final7 : (dats m 0 c).arrAt 7 (cfgs 0).N
    = (fun y => ((pb r (y 0) (y 1) : ℝ) : EReal) : FVec Ideal S4096x1024 .bf16) := by
  refine (dats m 0 c).arrAt_eq_of_covers 7 _ (by decide +kernel) fun t _ y => ?_
  blk_simp [idx t]
  rw [after0_7]
  refine (out7 H t y).trans ?_
  refine congrArg₂ (fun i j => ((pb r i j : ℝ) : EReal)) (Fin.ext ?_) (Fin.ext ?_)
  · blk_simp [idx t, row]
  · blk_simp [idx t]

end

end Cert.AttendIdeal.Hand

end
-- ==== Proof.AttendClaim.lean ====
module

public import proofs.«01_k».proof.Defs
public import proofs.«01_k».proof.Proof.AttendVal
public import proofs.«01_k».proof.Proof.Gen.Attend.Frame
public import proofs.«01_k».proof.Proof.Gen.AttendIdeal.Frame
public import proofs.«01_k».proof.Proof.Gen.AttendRefIdeal.Run
public import proofs.«01_k».proof.Proof.Gen.Pre_finite_attend
public import Idealize.ShloMosaic.Lib.Quiescent

@[expose] public section

set_option maxHeartbeats 600000
set_option maxRecDepth 16384

noncomputable section

namespace Cert.AttendClaim

open Idealize.ShloMosaic Idealize.SL.Sem Cert.Reals
open Cert.AttnRefIdeal.Hand (In)
open Cert.AttendRefIdeal.Hand (Rd)

/-- The kernel runs and leaves its arguments and its counters as they were. -/
theorem frame_kernel : Cert.quiescent_Attend := fun m ρ _ => Cert.Attend.Gen.frame m ρ

/-- So does its idealization. -/
theorem frame_ideal : Cert.quiescent_AttendIdeal := fun m ρ _ => Cert.AttendIdeal.Gen.frame m ρ

/-- So does the reference: it has no counters at all, and its run leaves the arguments. -/
theorem frame_ref : Cert.quiescent_AttendRefIdeal := fun m ρ _ =>
  (θ_run Cert.AttendRefIdeal.defs _ _).mono (fun r h => ⟨fun c => (h c).2.2.2.2.2, sem_eq_zero_of_no_sems rfl r.2⟩)
    (Cert.AttendRefIdeal.Value.run (F := Ideal) m ρ)

section
variable (x0 : FVec Ideal Cert.AttendRefIdeal.S4096x1024 .f32) (x1 : FVec Ideal Cert.AttendRefIdeal.S256x1024 .f32)
  (x2 x3 : FVec Ideal Cert.AttendRefIdeal.S1024 .f32) (x4 : FVec Ideal Cert.AttendRefIdeal.S1024x1024 .f32)
  (x5 : FVec Ideal Cert.AttendRefIdeal.S1024x2048 .f32) (x6 : FVec Ideal Cert.AttendRefIdeal.S1024x1024 .f32)

/-- The real numbers the arguments hold, the cotangents zero. -/
def toIn : In where
  X i j := (x0 (ix2 i j)).toReal
  M i j := (x1 (ix2 i j)).toReal
  ga j := (x2 (ix1 j)).toReal
  gm j := (x3 (ix1 j)).toReal
  Wq i j := (x4 (ix2 i j)).toReal
  Wkv i j := (x5 (ix2 i j)).toReal
  Wo i j := (x6 (ix2 i j)).toReal
  gf j := 0
  Y i j := 0
  Z i j := 0

/-- The precondition says that every element of the seven arguments is a real number. -/
theorem finite (h : (Cert.Pre_finite_attend.fn (F := Ideal) x0 x1 x2 x3 x4 x5 x6).1 = (fun _ => 1#1)
      ∧ (Cert.Pre_finite_attend.fn (F := Ideal) x0 x1 x2 x3 x4 x5 x6).2.1 = (fun _ => 1#1)
      ∧ (Cert.Pre_finite_attend.fn (F := Ideal) x0 x1 x2 x3 x4 x5 x6).2.2.1 = (fun _ => 1#1)
      ∧ (Cert.Pre_finite_attend.fn (F := Ideal) x0 x1 x2 x3 x4 x5 x6).2.2.2.1 = (fun _ => 1#1)
      ∧ (Cert.Pre_finite_attend.fn (F := Ideal) x0 x1 x2 x3 x4 x5 x6).2.2.2.2.1 = (fun _ => 1#1)
      ∧ (Cert.Pre_finite_attend.fn (F := Ideal) x0 x1 x2 x3 x4 x5 x6).2.2.2.2.2.1 = (fun _ => 1#1)
      ∧ (Cert.Pre_finite_attend.fn (F := Ideal) x0 x1 x2 x3 x4 x5 x6).2.2.2.2.2.2 = (fun _ => 1#1)) :
    Rd (toIn x0 x1 x2 x3 x4 x5 x6) x0 x1 x2 x3 x4 x5 x6 where
  h0 i j := eq_coe_toReal (congrFun h.1 (ix2 i j))
  h1 i j := eq_coe_toReal (congrFun h.2.1 (ix2 i j))
  h2 j := eq_coe_toReal (congrFun h.2.2.1 (ix1 j))
  h3 j := eq_coe_toReal (congrFun h.2.2.2.1 (ix1 j))
  h4 i j := eq_coe_toReal (congrFun h.2.2.2.2.1 (ix2 i j))
  h5 i j := eq_coe_toReal (congrFun h.2.2.2.2.2.1 (ix2 i j))
  h6 i j := eq_coe_toReal (congrFun h.2.2.2.2.2.2 (ix2 i j))
  h7 j := EReal.coe_zero.symm
  h8 i j := EReal.coe_zero.symm
  h9 i j := EReal.coe_zero.symm

end

/-- The kernel and the attention's forward lines end with equal results: the normalised stream, the queries, the weights, the mixed
values and the stream after the attention. -/
theorem algebraic : Cert.algebraic_AttendIdeal_AttendRefIdeal_pre_finite_attend := by
  intro m g m' g' hpre hag
  obtain ⟨r, H⟩ : ∃ r : Dev Cert.AttendIdeal.nD → In, ∀ c, Cert.AttendIdeal.Hand.RD m c (r c) :=
    ⟨_, fun c => finite _ _ _ _ _ _ _ (hpre c)⟩
  have k5 := fun c => Cert.AttendIdeal.Hand.final5 (m := m) (H c)
  have k6 := fun c => Cert.AttendIdeal.Hand.final6 (m := m) (H c)
  have k7 := fun c => Cert.AttendIdeal.Hand.final7 (m := m) (H c)
  have k8 := fun c => Cert.AttendIdeal.Hand.final8 (m := m) (H c)
  have k9 := fun c => Cert.AttendIdeal.Hand.final9 (m := m) (H c)
  refine ⟨fun c => (Cert.AttendIdeal.Gen.dats m 0 c).arrAt 5 (Cert.AttendIdeal.cfgs 0).N,
    fun c => (Cert.AttendIdeal.Gen.dats m 0 c).arrAt 6 (Cert.AttendIdeal.cfgs 0).N,
    fun c => (Cert.AttendIdeal.Gen.dats m 0 c).arrAt 7 (Cert.AttendIdeal.cfgs 0).N,
    fun c => (Cert.AttendIdeal.Gen.dats m 0 c).arrAt 8 (Cert.AttendIdeal.cfgs 0).N,
    fun c => (Cert.AttendIdeal.Gen.dats m 0 c).arrAt 9 (Cert.AttendIdeal.cfgs 0).N,
    Cert.AttendIdeal.Value.run_blocks m g,
    (θ_run Cert.AttendRefIdeal.defs _ _).mono (fun _ h c => ?_) (Cert.AttendRefIdeal.Value.run (F := Ideal) m' g')⟩
  · obtain ⟨r0, r1, r2, r3, r4, ra⟩ := h c
    obtain ⟨e0, e1, e2, e3, e4, e5, e6⟩ := hag c
    have H' : Rd (r c) (m' (c.tc.loc Cert.AttendRefIdeal.main_arg0)) (m' (c.tc.loc Cert.AttendRefIdeal.main_arg1)) (m' (c.tc.loc Cert.AttendRefIdeal.main_arg2))
        (m' (c.tc.loc Cert.AttendRefIdeal.main_arg3)) (m' (c.tc.loc Cert.AttendRefIdeal.main_arg4)) (m' (c.tc.loc Cert.AttendRefIdeal.main_arg5))
        (m' (c.tc.loc Cert.AttendRefIdeal.main_arg6)) := by
      rw [e0, e1, e2, e3, e4, e5, e6]
      exact H c
    refine ⟨(r0.trans ?_).trans (k5 c).symm, (r1.trans ?_).trans (k6 c).symm, (r2.trans ?_).trans (k7 c).symm,
      (r3.trans ?_).trans (k8 c).symm, (r4.trans ?_).trans (k9 c).symm, ra⟩
    · rw [Cert.AttendRefIdeal.Read.val_main_v52_eq]
      exact Cert.AttendRefIdeal.Hand.ref52 H'
    · rw [Cert.AttendRefIdeal.Read.val_main_v54_eq]
      exact Cert.AttendRefIdeal.Hand.ref54 H'
    · rw [Cert.AttendRefIdeal.Read.val_main_v55_eq]
      exact Cert.AttendRefIdeal.Hand.ref55 H'
    · rw [Cert.AttendRefIdeal.Read.val_main_v56_eq]
      exact Cert.AttendRefIdeal.Hand.ref56 H'
    · rw [Cert.AttendRefIdeal.Read.val_main_v58_eq]
      exact Cert.AttendRefIdeal.Hand.ref58 H'

end Cert.AttendClaim

end
-- ==== Proof.MemoryClaim.lean ====
module

public import proofs.«01_k».proof.Defs
public import proofs.«01_k».proof.Proof.Reals
public import proofs.«01_k».proof.Proof.Gen.Memory.Frame
public import proofs.«01_k».proof.Proof.Gen.MemoryIdeal.Value
public import proofs.«01_k».proof.Proof.Gen.MemoryRefIdeal.Run
public import proofs.«01_k».proof.Proof.Gen.MemoryRefIdeal.Read
public import Idealize.ShloMosaic.Lib.Quiescent

@[expose] public section

set_option maxHeartbeats 600000
set_option maxRecDepth 16384

noncomputable section

/-! The normalised memory and its keys and values: the kernel projects one head at a time, the reference all heads at once. No
    finiteness is needed. -/

namespace Cert.MemoryClaim

open Idealize.ShloMosaic Idealize.SL.Sem Cert.Reals Cert.MemoryIdeal Cert.MemoryIdeal.Gen Cert.MemoryRefIdeal.Read

/-- The kernel runs and leaves its arguments and its counters as they were. -/
theorem frame_kernel : Cert.quiescent_Memory := fun m ρ _ => Cert.Memory.Gen.frame m ρ

/-- So does its idealization. -/
theorem frame_ideal : Cert.quiescent_MemoryIdeal := fun m ρ _ => Cert.MemoryIdeal.Gen.frame m ρ

/-- So does the reference: it has no counters at all, and its run leaves the arguments. -/
theorem frame_ref : Cert.quiescent_MemoryRefIdeal := fun m ρ _ =>
  (θ_run Cert.MemoryRefIdeal.defs _ _).mono (fun r h => ⟨fun c => (h c).2.2, sem_eq_zero_of_no_sems rfl r.2⟩)
    (Cert.MemoryRefIdeal.Value.run (F := Ideal) m ρ)

section
variable (x0 : FVec Ideal S256x1024 .f32) (x1 : FVec Ideal S1024 .f32) (x2 : FVec Ideal S1024x2048 .f32)

/-- Column `e` of head `j`, as a column of all heads. -/
def col (j : Fin 8) (e : Fin 256) : Fin 2048 := ⟨j.val * 256 + e.val, by omega⟩

/-- The reference's keys and values. -/
theorem ref17 (j : Fin 8) (i e : Fin 256) :
    val_main_v17 (F := Ideal) x0 x1 x2 (ix3 j i e) = ∑ d : Fin 1024, val_main_v16 (F := Ideal) x0 x1 (ix2 i d) * x2 (ix2 d (col j e)) := by
  pointwise [val_main_v17, val_main_v16, val_main_v15, val_main_v14, val_main_v13, col]

variable {x0 x1 x2}
variable {a : FVec Ideal S256x1024 .f32} {g : FVec Ideal S1x1024 .f32} {w : FVec Ideal S8x1024x256 .bf16}

/-- The kernel's normalised memory is the reference's. -/
theorem tile3 (ha : ∀ i j, a (ix2 i j) = x0 (ix2 i j)) (hg : ∀ j, g (ix2 0 j) = x1 (ix1 j)) (i : Fin 256) (j : Fin 1024) :
    k0_pay3 (F := Ideal) a g (ix2 i j) = val_main_v16 (F := Ideal) x0 x1 (ix2 i j) := by
  pointwise [k0_pay3, val_main_v16, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [ha, hg]

/-- The kernel's normalised memory, of any blocks. -/
theorem out3 (ha : ∀ i j, a (ix2 i j) = x0 (ix2 i j)) (hg : ∀ j, g (ix2 0 j) = x1 (ix1 j)) (i : Fin 256) (j : Fin 1024) :
    out0_3 (F := Ideal) a g w (ix2 i j) = val_main_v16 (F := Ideal) x0 x1 (ix2 i j) := by
  unfold_out out0_3
  frame_out
  exact tile3 ha hg i j

/-- The kernel's keys and values, of any blocks. -/
theorem out4 (j : Fin 8) (i e : Fin 256) :
    out0_4 (F := Ideal) a g w (ix3 j i e) = ∑ d : Fin 1024, k0_pay3 (F := Ideal) a g (ix2 i d) * w (ix3 j d e) := by
  unfold_out out0_4
  canon_tiles x h
  all_goals (open_payloads; pointwise)
  all_goals refine Finset.sum_congr rfl fun d _ => ?_
  all_goals (change (j : ℕ) = _ at h0; change (i : ℕ) = _ at h1; change (e : ℕ) = _ at h2)
  all_goals (refine congrArg₂ (· * ·) ?_ ?_ <;> blk_ext <;> omega)

end

section
variable (m : (ℓ : Loc nD τ sig) → Buf (Elt Ideal) ℓ) (c : Dev nD)

/-- The windows' blocks at the one point of the grid. -/
theorem idx : ∀ t : Fin cfg0.N, win0_0.index t = ![0, 0] ∧ win0_1.index t = ![0, 0] ∧ win0_2.index t = ![0, 0, 0]
    ∧ win0_3.index t = ![0, 0] ∧ win0_4.index t = ![0, 0, 0] :=
  (by decide +kernel : ∀ t : Fin grid0.N, _)

/-- The staged memory. -/
theorem blk0 (t : Fin cfg0.N) (i : Fin 256) (j : Fin 1024) :
    (iblk m c 0 t : FVec Ideal S256x1024 .f32) (ix2 i j) = (m (c.tc.loc main_arg0) : FVec Ideal S256x1024 .f32) (ix2 i j) := by
  blk_point [iblk, V, idx t]

/-- The staged gain. -/
theorem blk1 (t : Fin cfg0.N) (j : Fin 1024) :
    (iblk m c 1 t : FVec Ideal S1x1024 .f32) (ix2 0 j) = (m (c.tc.loc main_arg1) : FVec Ideal S1024 .f32) (ix1 j) := by
  blk_point [iblk, idx t]

/-- The staged weight, one head at a time. -/
theorem blk2 (t : Fin cfg0.N) (j : Fin 8) (d : Fin 1024) (e : Fin 256) :
    (iblk m c 2 t : FVec Ideal S8x1024x256 .bf16) (ix3 j d e)
      = (m (c.tc.loc main_arg2) : FVec Ideal S1024x2048 .f32) (ix2 d (col j e)) := by
  blk_point [iblk, idx t, col]

/-- An index of three axes is its coordinates. -/
theorem ix3_of (k : S8x256x256.Idx) (j : Fin 8) (d e : Fin 256) (h0 : (k 0 : ℕ) = j) (h1 : (k 1 : ℕ) = d)
    (h2 : (k 2 : ℕ) = e) : k = ix3 j d e := by
  funext a; fin_cases a
  exacts [Fin.ext h0, Fin.ext h1, Fin.ext h2]

/-- An index of two axes is its coordinates. -/
theorem ix2_of (k : S256x1024.Idx) (j : Fin 256) (d : Fin 1024) (h0 : (k 0 : ℕ) = j) (h1 : (k 1 : ℕ) = d) : k = ix2 j d := by
  funext a; fin_cases a
  exacts [Fin.ext h0, Fin.ext h1]

/-- The kernel's keys and values, an entry. -/
theorem point4 (t : Fin cfg0.N) (j : Fin 8) (i e : Fin 256) :
    out0_4 (F := Ideal) (iblk m c 0 t) (iblk m c 1 t) (iblk m c 2 t) (ix3 j i e)
      = val_main_v17 (F := Ideal) (m (c.tc.loc main_arg0)) (m (c.tc.loc main_arg1)) (m (c.tc.loc main_arg2)) (ix3 j i e) :=
  (out4 _ _ _).trans (Eq.trans (Finset.sum_congr rfl fun d _ => congrArg₂ (fun a b : EReal => a * b)
    (tile3 (blk0 m c t) (blk1 m c t) i d) (blk2 m c t j d e)) (ref17 _ _ _ _ _ _).symm)

/-- The kernel's normalised memory is the reference's. -/
theorem final3 : (dats m 0 c).arrAt 3 (cfgs 0).N
    = val_main_v16 (F := Ideal) (m (c.tc.loc main_arg0)) (m (c.tc.loc main_arg1)) := by
  refine (dats m 0 c).arrAt_eq_of_covers 3 _ (by decide +kernel) fun t _ y => ?_
  blk_simp [idx t]
  rw [after0_3]
  idx_vars y
  refine Eq.trans ?_ (congrArg (val_main_v16 (F := Ideal) _ _) (ix2_of _ y0 y1 (by blk_simp [idx t]) (by blk_simp [idx t]))).symm
  exact out3 (blk0 m c t) (blk1 m c t) y0 y1

/-- The kernel's keys and values are the reference's. -/
theorem final4 : (dats m 0 c).arrAt 4 (cfgs 0).N
    = val_main_v17 (F := Ideal) (m (c.tc.loc main_arg0)) (m (c.tc.loc main_arg1)) (m (c.tc.loc main_arg2)) := by
  refine (dats m 0 c).arrAt_eq_of_covers 4 _ (by decide +kernel) fun t _ y => ?_
  blk_simp [idx t]
  rw [after0_4]
  idx_vars y
  refine Eq.trans ?_ (congrArg (val_main_v17 (F := Ideal) _ _ _)
    (ix3_of _ y0 y1 y2 (by blk_simp [idx t]) (by blk_simp [idx t]) (by blk_simp [idx t]))).symm
  exact point4 m c t y0 y1 y2

end

/-- On every run the kernel and the reference leave the same normalised memory and the same keys and values. -/
theorem algebraic : Cert.algebraic_MemoryIdeal_MemoryRefIdeal := by
  intro m g m' g' _ hag
  refine ⟨fun c => (dats m 0 c).arrAt 3 (cfgs 0).N, fun c => (dats m 0 c).arrAt 4 (cfgs 0).N, Cert.MemoryIdeal.Value.run_blocks m g,
    (θ_run Cert.MemoryRefIdeal.defs _ _).mono (fun r h c => ?_) (Cert.MemoryRefIdeal.Value.run (F := Ideal) m' g')⟩
  obtain ⟨r0, r1, ra⟩ := h c
  obtain ⟨e0, e1, e2⟩ := hag c
  refine ⟨(r0.trans ?_).trans (final3 m c).symm, (r1.trans ?_).trans (final4 m c).symm, ra⟩
  · rw [val_main_v16_eq, e0, e1]
  · rw [val_main_v17_eq, e0, e1, e2]

end Cert.MemoryClaim

end
-- ==== Proof.ProjectClaim.lean ====
module

public import proofs.«01_k».proof.Defs
public import proofs.«01_k».proof.Proof.Reals
public import proofs.«01_k».proof.Proof.Gen.Project.Frame
public import proofs.«01_k».proof.Proof.Gen.ProjectIdeal.Value
public import proofs.«01_k».proof.Proof.Gen.ProjectRefIdeal.Run
public import proofs.«01_k».proof.Proof.Gen.ProjectRefIdeal.Read
public import Idealize.ShloMosaic.Lib.Quiescent

@[expose] public section

set_option maxHeartbeats 600000
set_option maxRecDepth 16384

noncomputable section

/-! The normalised input and its projection: the kernel computes 512 rows at a time what the reference computes over all rows.
    No finiteness is needed. -/

namespace Cert.ProjectClaim

open Idealize.ShloMosaic Idealize.SL.Sem Cert.Reals Cert.ProjectIdeal Cert.ProjectIdeal.Gen Cert.ProjectRefIdeal.Read

/-- The kernel runs and leaves its arguments and its counters as they were. -/
theorem frame_kernel : Cert.quiescent_Project := fun m ρ _ => Cert.Project.Gen.frame m ρ

/-- So does its idealization. -/
theorem frame_ideal : Cert.quiescent_ProjectIdeal := fun m ρ _ => Cert.ProjectIdeal.Gen.frame m ρ

/-- So does the reference: it has no counters at all, and its run leaves the arguments. -/
theorem frame_ref : Cert.quiescent_ProjectRefIdeal := fun m ρ _ =>
  (θ_run Cert.ProjectRefIdeal.defs _ _).mono (fun r h => ⟨fun c => (h c).2.2, sem_eq_zero_of_no_sems rfl r.2⟩)
    (Cert.ProjectRefIdeal.Value.run (F := Ideal) m ρ)

/-- Row `i` of tile `t`. -/
def row (t : Fin cfg0.N) (i : Fin 512) : Fin 4096 := ⟨t.val * 512 + i.val, by have := t.isLt; change t.val < 8 at this; omega⟩

section
variable {x0 : FVec Ideal S4096x1024 .f32} {x1 : FVec Ideal S1024 .f32} {x2 : FVec Ideal S1024x2560 .f32}
  {a : FVec Ideal S512x1024 .f32} {g : FVec Ideal S1x1024 .f32} {w : FVec Ideal S2560x1024 .bf16}

/-- A normalised row of a tile is the reference's. -/
theorem tile1 (hg : ∀ j, g (ix2 0 j) = x1 (ix1 j)) {R : Fin 4096} {i : Fin 512} (ha : ∀ j, a (ix2 i j) = x0 (ix2 R j)) (j : Fin 1024) :
    k0_pay1 (F := Ideal) a g (ix2 i j) = val_main_v13 (F := Ideal) x0 x1 (ix2 R j) := by
  pointwise [k0_pay1, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [ha, hg]

/-- A projected row of a tile is the reference's. -/
theorem tile2 (hg : ∀ j, g (ix2 0 j) = x1 (ix1 j)) (hw : ∀ n k, w (ix2 n k) = x2 (ix2 k n)) {R : Fin 4096} {i : Fin 512}
    (ha : ∀ j, a (ix2 i j) = x0 (ix2 R j)) (n : Fin 2560) :
    k0_pay2 (F := Ideal) a g w (ix2 i n) = val_main_v14 (F := Ideal) x0 x1 x2 (ix2 R n) := by
  pointwise [k0_pay2, val_main_v14]
  exact Finset.sum_congr rfl fun k _ => congrArg₂ (fun a b : EReal => a * b) (tile1 hg ha k) (hw n k)

end

section
variable (m : (ℓ : Loc nD τ sig) → Buf (Elt Ideal) ℓ) (c : Dev nD)

/-- The windows' blocks at each point of the grid. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The staged rows. -/
theorem blk0 (t : Fin cfg0.N) (i : Fin 512) (j : Fin 1024) :
    (iblk m c 0 t : FVec Ideal S512x1024 .f32) (ix2 i j) = (m (c.tc.loc main_arg0) : FVec Ideal S4096x1024 .f32) (ix2 (row t i) j) := by
  blk_point [iblk, V, idx t, row]

/-- The staged gain. -/
theorem blk1 (t : Fin cfg0.N) (j : Fin 1024) :
    (iblk m c 1 t : FVec Ideal S1x1024 .f32) (ix2 0 j) = (m (c.tc.loc main_arg1) : FVec Ideal S1024 .f32) (ix1 j) := by
  blk_point [iblk, idx t]

/-- The staged weight is the transposed one. -/
theorem blk2 (t : Fin cfg0.N) (n : Fin 2560) (k : Fin 1024) :
    (iblk m c 2 t : FVec Ideal S2560x1024 .bf16) (ix2 n k) = (m (c.tc.loc main_arg2) : FVec Ideal S1024x2560 .f32) (ix2 k n) := by
  blk_point [iblk, idx t]

/-- The kernel's normalised rows of a tile. -/
theorem out3 (t : Fin cfg0.N) (i : Fin 512) (j : Fin 1024) :
    out0_3 (F := Ideal) (iblk m c 0 t) (iblk m c 1 t) (iblk m c 2 t) (ix2 i j)
      = val_main_v13 (F := Ideal) (m (c.tc.loc main_arg0)) (m (c.tc.loc main_arg1)) (ix2 (row t i) j) := by
  unfold out0_3
  frame_out
  exact tile1 (blk1 m c t) (blk0 m c t i) j

/-- The kernel's projected rows of a tile. -/
theorem out4 (t : Fin cfg0.N) (i : Fin 512) (n : Fin 2560) :
    out0_4 (F := Ideal) (iblk m c 0 t) (iblk m c 1 t) (iblk m c 2 t) (ix2 i n)
      = val_main_v14 (F := Ideal) (m (c.tc.loc main_arg0)) (m (c.tc.loc main_arg1)) (m (c.tc.loc main_arg2)) (ix2 (row t i) n) := by
  unfold out0_4
  frame_out
  exact tile2 (blk1 m c t) (blk2 m c t) (blk0 m c t i) n

/-- An index of two axes is its coordinates. -/
theorem ix2_of {n k : ℕ} (z : (⟨2, ![n, k]⟩ : Shape).Idx) (i : Fin n) (j : Fin k) (h0 : (z 0 : ℕ) = i) (h1 : (z 1 : ℕ) = j) : z = ix2 i j := by
  funext a; fin_cases a
  exacts [Fin.ext h0, Fin.ext h1]

/-- The kernel's normalised input is the reference's. -/
theorem final3 : (dats m 0 c).arrAt 3 (cfgs 0).N
    = val_main_v13 (F := Ideal) (m (c.tc.loc main_arg0)) (m (c.tc.loc main_arg1)) := by
  refine (dats m 0 c).arrAt_eq_of_covers 3 _ (by decide +kernel) fun t _ y => ?_
  blk_simp [idx t]
  rw [after0_3]
  idx_vars y
  refine (out3 m c t y0 y1).trans (congrArg _ (ix2_of _ (row t y0) y1 ?_ ?_)).symm
  · blk_simp [idx t, row]
  · blk_simp [idx t]

/-- The kernel's projection is the reference's. -/
theorem final4 : (dats m 0 c).arrAt 4 (cfgs 0).N
    = val_main_v14 (F := Ideal) (m (c.tc.loc main_arg0)) (m (c.tc.loc main_arg1)) (m (c.tc.loc main_arg2)) := by
  refine (dats m 0 c).arrAt_eq_of_covers 4 _ (by decide +kernel) fun t _ y => ?_
  blk_simp [idx t]
  rw [after0_4]
  idx_vars y
  refine (out4 m c t y0 y1).trans (congrArg _ (ix2_of _ (row t y0) y1 ?_ ?_)).symm
  · blk_simp [idx t, row]
  · blk_simp [idx t]

end

/-- On every run the kernel and the reference leave the same normalised input and the same projection. -/
theorem algebraic : Cert.algebraic_ProjectIdeal_ProjectRefIdeal := by
  intro m g m' g' _ hag
  refine ⟨fun c => (dats m 0 c).arrAt 3 (cfgs 0).N, fun c => (dats m 0 c).arrAt 4 (cfgs 0).N, Cert.ProjectIdeal.Value.run_blocks m g,
    (θ_run Cert.ProjectRefIdeal.defs _ _).mono (fun r h c => ?_) (Cert.ProjectRefIdeal.Value.run (F := Ideal) m' g')⟩
  obtain ⟨r0, r1, ra⟩ := h c
  obtain ⟨e0, e1, e2⟩ := hag c
  refine ⟨(r0.trans ?_).trans (final3 m c).symm, (r1.trans ?_).trans (final4 m c).symm, ra⟩
  · rw [val_main_v13_eq, e0, e1]
  · rw [val_main_v14_eq, e0, e1, e2]

end Cert.ProjectClaim

end
-- ==== Proof.MixForwardPay.lean ====
module

public import proofs.«01_k».proof.Proof.Reals
public import proofs.«01_k».proof.Proof.Gen.MixForwardIdeal.Value
public import proofs.«01_k».proof.Proof.Gen.MixForwardRefIdeal.Read

@[expose] public section

set_option maxHeartbeats 600000
set_option maxRecDepth 16384

noncomputable section

/-! The mixer's values, a tile of rows at a time: each value the kernel computes of a tile is the reference's at the tile's rows.
    No finiteness is needed. -/

namespace Cert.MixForwardIdeal.Hand

open Idealize.ShloMosaic Idealize.SL.Sem Cert.Reals Cert.MixForwardIdeal Cert.MixForwardIdeal.Gen Cert.MixForwardRefIdeal.Read

variable {x0 : FVec Ideal S4096x1024 .f32} {x1 : FVec Ideal S1024 .f32} {x2 : FVec Ideal S1024x2560 .f32}
  {x3 x4 : FVec Ideal S512 .f32} {x5 : FVec Ideal S4x128x128 .f32} {x6 : FVec Ideal S4x128 .f32}
  {x7 : FVec Ideal S3x512 .f32} {x8 x9 : FVec Ideal S512 .f32} {x10 : FVec Ideal S1024x1024 .f32}
  {a : FVec Ideal S512x2560 .f32} {R : Fin 4096} {i : Fin 512}

/-- The activated halves. -/
theorem gelu (ha : ∀ j, a (ix2 i j) = val_main_v13 (F := Ideal) x0 x1 x2 (ix2 R j)) (j : Fin 1024) :
    k0_pay14 (F := Ideal) (k0_pay9 a) (k0_pay13 a) (ix2 i j) = val_main_v31 (F := Ideal) x0 x1 x2 (ix2 R j) := by
  pointwise [k0_pay14, k0_pay9, k0_pay8, k0_pay13, val_main_v31, val_main_v30, val_main_v29, val_main_cst_5, val_main_v28, val_main_v27, val_main_cst_4,
    val_main_v26, val_main_v25, val_main_v24, val_main_cst_3, val_main_v23, val_main_v22, val_main_v21, val_main_cst_2, val_main_v20, val_main_v19,
    val_main_v14]
  simp only [ha]
  generalize val_main_v13 (F := Ideal) x0 x1 x2 _ = z
  generalize Ideal.ofBits FTy.f32 1056964608#32 = p
  generalize Ideal.ofBits FTy.f32 1027024659#32 = q
  generalize Ideal.ofBits FTy.f32 1061962282#32 = s
  rw [mul_assoc q z z, mul_assoc q (z * z) z, mul_comm p z, mul_assoc z p]

/-- The gate's half. -/
theorem half_u (ha : ∀ j, a (ix2 i j) = val_main_v13 (F := Ideal) x0 x1 x2 (ix2 R j)) (j : Fin 512) :
    k0_pay15 (F := Ideal) (k0_pay9 a) (k0_pay13 a) (ix2 i j) = val_main_v32 (F := Ideal) x0 x1 x2 (ix2 R j) := by
  pointwise [k0_pay15, val_main_v32]
  exact gelu ha _

/-- The other half. -/
theorem half_v (ha : ∀ j, a (ix2 i j) = val_main_v13 (F := Ideal) x0 x1 x2 (ix2 R j)) (j : Fin 512) :
    (extractStridedSlice S512x512 ![0, 512] (k0_pay14 (F := Ideal) (k0_pay9 a) (k0_pay13 a)) slices_S512x1024_o0_512_S512x512) (ix2 i j)
      = val_main_v33 (F := Ideal) x0 x1 x2 (ix2 R j) := by
  pointwise [val_main_v33]
  exact gelu ha _

/-- The normalised half. -/
theorem vln (ha : ∀ j, a (ix2 i j) = val_main_v13 (F := Ideal) x0 x1 x2 (ix2 R j)) {g b : FVec Ideal S1x512 .f32}
    (hg : ∀ j, g (ix2 0 j) = x3 (ix1 j)) (hb : ∀ j, b (ix2 0 j) = x4 (ix1 j)) (j : Fin 512) :
    k0_pay16 (F := Ideal) (k0_pay9 a) g b (k0_pay13 a) (ix2 i j) = val_main_v57 (F := Ideal) x0 x1 x2 x3 x4 (ix2 R j) := by
  have h := half_v ha
  unfold k0_pay16
  generalize extractStridedSlice S512x512 ![0, 512] (k0_pay14 (F := Ideal) (k0_pay9 a) (k0_pay13 a)) slices_S512x1024_o0_512_S512x512 = v at h ⊢
  pointwise [val_main_v57, val_main_v56, val_main_v55, val_main_v54, val_main_v53, val_main_v52, val_main_v51, val_main_v50, val_main_v49, val_main_v48,
    val_main_v47, val_main_cst_10, val_main_v46, val_main_v45, val_main_v44, val_main_v43, val_main_cst_9, val_main_v42, val_main_v41, val_main_cst_8,
    val_main_v40, val_main_v39, val_main_v38, val_main_v37, val_main_v36, val_main_cst_7, val_main_v35, val_main_v34, val_main_cst_6]
  simp only [h, hg, hb]

/-- Row `s` of chunk `n`. -/
def rw_ (n : Fin 32) (s : Fin 128) : Fin 4096 := ⟨n.val * 128 + s.val, by omega⟩

/-- Column `d` of head `h`. -/
def cl (h : Fin 4) (d : Fin 128) : Fin 512 := ⟨h.val * 128 + d.val, by omega⟩

/-- The reference's mixed rows. -/
theorem ref69 (n : Fin 32) (h : Fin 4) (t d : Fin 128) :
    val_main_v69 (F := Ideal) x0 x1 x2 x3 x4 x5 x6 (ix2 (rw_ n t) (cl h d))
      = (∑ s : Fin 128, val_main_v63 (F := Ideal) x5 (ix3 h t s) * val_main_v57 (F := Ideal) x0 x1 x2 x3 x4 (ix2 (rw_ n s) (cl h d)))
        + x6 (ix2 h t) := by
  pointwise [val_main_v69, val_main_v68, val_main_v67, val_main_v66, val_main_v65, val_main_v64, val_main_v58, val_main_v18, val_main_v17, val_main_v16, rw_, cl]
  exact congrArg (fun z : EReal => z + x6 (ix2 h t)) (Finset.sum_congr rfl fun s _ => mul_comm _ _)

/-- Both programs' tests for the lower triangle agree. -/
theorem tri : ∀ t s : Fin 128, IntOp.cmpi CmpIPredicate.sge (IntOp.addi (BitVec.ofNat 32 t.val) 0#32) (BitVec.ofNat 32 s.val)
    = IntOp.cmpi CmpIPredicate.sle (BitVec.ofNat 32 s.val) (BitVec.ofNat 32 t.val) := by
  decide +kernel

/-- A product with a test read as a number is a choice. -/
theorem sel (b : BitVec 1) (x : EReal) :
    x * (FloatOps.sitofp (F := Ideal) FTy.f32 (BitVec.setWidth 32 b) : Ideal FTy.f32) = Scalar.select b x 0 := by
  obtain rfl | rfl : b = 0#1 ∨ b = 1#1 := by revert b; decide
  · change x * (((0 : ℤ) : ℝ) : EReal) = 0
    simp
  · change x * (((1 : ℤ) : ℝ) : EReal) = x
    simp

/-- The masked weight of a head. -/
theorem wm {w : FVec Ideal S1x128x128 .f32} {h : Fin 4} (hw : ∀ t s, w (ix3 0 t s) = x5 (ix3 h t s)) (t s : Fin 128) :
    k0_pay4 (F := Ideal) w (ix2 t s) = val_main_v63 (F := Ideal) x5 (ix3 h t s) := by
  pointwise [k0_pay4, k0_pay3, val_main_v63, val_main_v62, val_main_v61, val_main_v60, val_main_v59, val_main_cst_11, val_main_call0_v0,
    val_main_call0_c, val_main_call0_v1, val_main_call0_v2, val_main_call0_v3, val_main_call0_v4, val_main_call0_cst, val_main_call0_v5]
  simp only [hw]
  rw [tri]
  exact sel _ _

/-- The gated half, normalised. -/
theorem ya {u v : FVec Ideal S512x512 .f32} {g : FVec Ideal S1x512 .f32}
    (hu : ∀ j, u (ix2 i j) = val_main_v32 (F := Ideal) x0 x1 x2 (ix2 R j))
    (hv : ∀ j, v (ix2 i j) = val_main_v69 (F := Ideal) x0 x1 x2 x3 x4 x5 x6 (ix2 R j))
    (hg : ∀ j, g (ix2 0 j) = x8 (ix1 j)) (j : Fin 512) :
    k0_pay35 (F := Ideal) (k0_pay33 u v) (k0_pay34 u v) (Scalar.ofBits .f32 0x358637BD#32) g (ix2 i j)
      = val_main_v83 (F := Ideal) x0 x1 x2 x3 x4 x5 x6 x8 (ix2 R j) := by
  pointwise [k0_pay35, k0_pay34, k0_pay33, val_main_v83, val_main_v82, val_main_v81, val_main_v80, val_main_v79, val_main_v78, val_main_v77, val_main_v76,
    val_main_cst_14, val_main_v75, val_main_v74, val_main_cst_13, val_main_v73, val_main_v72, val_main_cst_12, val_main_v71, val_main_v70]
  simp only [hu, hv, hg]

/-- The reference's shifted product: the row two places before `R`, zero before the first. -/
theorem ref92 (R : Fin 4096) (j : Fin 512) : val_main_v92 (F := Ideal) x0 x1 x2 (ix2 R j)
    = if h : R.val < 2 then 0 else val_main_v87 (F := Ideal) x0 x1 x2 (ix2 ⟨R.val - 2, by omega⟩ j) := by
  pointwise [val_main_v92, val_main_v89, val_main_v88, val_main_cst_15]

/-- The same, one place before. -/
theorem ref98 (R : Fin 4096) (j : Fin 512) : val_main_v98 (F := Ideal) x0 x1 x2 (ix2 R j)
    = if h : R.val < 1 then 0 else val_main_v87 (F := Ideal) x0 x1 x2 (ix2 ⟨R.val - 1, by omega⟩ j) := by
  pointwise [val_main_v98, val_main_v89, val_main_v88, val_main_cst_15]
  by_cases h : R.val < 1
  · rw [dif_pos h, dif_pos (by omega)]
  · rw [dif_neg h, dif_neg (by omega)]
    exact congrArg (fun r => val_main_v87 (F := Ideal) x0 x1 x2 (ix2 r j)) (Fin.ext (by change 1 + R.val - 2 = R.val - 1; omega))

/-- And with no shift. -/
theorem ref105 (R : Fin 4096) (j : Fin 512) : val_main_v105 (F := Ideal) x0 x1 x2 (ix2 R j)
    = val_main_v87 (F := Ideal) x0 x1 x2 (ix2 R j) := by
  pointwise [val_main_v105, val_main_v89, val_main_v88, val_main_cst_15]

/-- Row `i` of tile `t`. -/
def row (t : Fin cfg0.N) (i : Fin 512) : Fin 4096 := ⟨t.val * 512 + i.val, by have := t.isLt; change t.val < 8 at this; omega⟩

/-- The reference's product of the two convolved halves. -/
theorem ref87 (R : Fin 4096) (j : Fin 512) : val_main_v87 (F := Ideal) x0 x1 x2 (ix2 R j)
    = val_main_v13 (F := Ideal) x0 x1 x2 (ix2 R ⟨1536 + j.val, by omega⟩) * val_main_v13 (F := Ideal) x0 x1 x2 (ix2 R ⟨2048 + j.val, by omega⟩) := by
  pointwise [val_main_v87, val_main_v86, val_main_v85, val_main_v15]
  exact congrArg₂ (fun x y : EReal => x * y) (congrArg (fun k => val_main_v13 (F := Ideal) x0 x1 x2 (ix2 R k)) (Fin.ext (by change 1024 + (512 + j.val) = 1536 + j.val; omega)))
    (congrArg (fun k => val_main_v13 (F := Ideal) x0 x1 x2 (ix2 R k)) (Fin.ext (by change 1024 + (1024 + j.val) = 2048 + j.val; omega)))

/-- The first of these halves' gate. -/
theorem ref84 (R : Fin 4096) (j : Fin 512) : val_main_v84 (F := Ideal) x0 x1 x2 (ix2 R j)
    = val_main_v13 (F := Ideal) x0 x1 x2 (ix2 R ⟨1024 + j.val, by omega⟩) := by
  pointwise [val_main_v84, val_main_v15]

/-- A test that a word is zero, as a choice. -/
theorem first (t : Fin cfg0.N) (x : EReal) :
    Scalar.select (Scalar.cmpi CmpIPredicate.eq (BitVec.ofNat 32 t.val) 0#32) 0 x = if t.val = 0 then 0 else x := by
  have e : ∀ t : Fin 8, Scalar.cmpi CmpIPredicate.eq (BitVec.ofNat 32 t.val) 0#32 = if t.val = 0 then 1#1 else 0#1 := by decide
  rw [show Scalar.cmpi CmpIPredicate.eq (BitVec.ofNat 32 t.val) 0#32 = _ from e t]
  split <;> rfl

/-- A tile's rows, the sixteen before them put in front and all turned down by `q`, are the rows `q` places before. -/
theorem tap (t : Fin cfg0.N) (q : ℕ) (hq : q = 1 ∨ q = 2) (Z : Fin 4096 → EReal) (za : Fin 512 → EReal) (zb : Fin 16 → EReal)
    (ha : ∀ i, za i = Z (row t i))
    (hb : ∀ (h : 0 < t.val) (k : Fin 16), zb k = Z ⟨t.val * 512 - 16 + k.val, by have := t.isLt; change t.val < 8 at this; omega⟩) (i : Fin 512) :
    (if h : (16 + i.val + 528 - q) % 528 < 16 then
        Scalar.select (Scalar.cmpi CmpIPredicate.eq (BitVec.ofNat 32 t.val) 0#32) 0 (zb ⟨(16 + i.val + 528 - q) % 528, h⟩)
      else za ⟨(16 + i.val + 528 - q) % 528 - 16, by omega⟩)
      = if h : (row t i).val < q then 0 else Z ⟨(row t i).val - q, by omega⟩ := by
  have ht := t.isLt
  change t.val < 8 at ht
  have hr : (row t i).val = t.val * 512 + i.val := rfl
  have hi := i.isLt
  by_cases h : (16 + i.val + 528 - q) % 528 < 16
  · rw [dif_pos h, first]
    by_cases h0 : t.val = 0
    · rw [if_pos h0, dif_pos (by omega)]
    · rw [if_neg h0, dif_neg (by omega), hb (by omega)]
      exact congrArg Z (Fin.ext (by change t.val * 512 - 16 + (16 + i.val + 528 - q) % 528 = t.val * 512 + i.val - q; omega))
  · rw [dif_neg h, dif_neg (by omega), ha]
    exact congrArg Z (Fin.ext (by change t.val * 512 + ((16 + i.val + 528 - q) % 528 - 16) = t.val * 512 + i.val - q; omega))

/-- The gated convolution. -/
theorem conv (t : Fin cfg0.N) {b : FVec Ideal S16x2560 .f32} {w : FVec Ideal S3x512 .f32} {n : BitVec 32} (hn : n = BitVec.ofNat 32 t.val)
    (ha : ∀ i j, a (ix2 i j) = val_main_v13 (F := Ideal) x0 x1 x2 (ix2 (row t i) j))
    (hb : ∀ (h : 0 < t.val) (k : Fin 16) j, b (ix2 k j) = val_main_v13 (F := Ideal) x0 x1 x2
      (ix2 ⟨t.val * 512 - 16 + k.val, by have := t.isLt; change t.val < 8 at this; omega⟩ j))
    (hw : ∀ q j, w (ix2 q j) = x7 (ix2 q j)) (i : Fin 512) (j : Fin 512) :
    k0_pay36 (F := Ideal) n a b w (ix2 i j) = val_main_v110 (F := Ideal) x0 x1 x2 x7 (ix2 (row t i) j) := by
  pointwise [k0_pay36, val_main_v110, val_main_v109, val_main_v108, val_main_v107, val_main_v106, val_main_v104, val_main_v103,
    val_main_v102, val_main_v101, val_main_v100, val_main_v99, val_main_v97, val_main_v96, val_main_v95, val_main_v94, val_main_v93, val_main_v91, val_main_v90]
  simp only [ref92, ref98, ref105, ref84]
  subst hn
  have e := fun q hq => tap t q hq (fun R => val_main_v87 (F := Ideal) x0 x1 x2 (ix2 R j))
    (fun k => a (ix2 k ⟨1536 + j.val, by omega⟩) * a (ix2 k ⟨2048 + j.val, by omega⟩))
    (fun k => b (ix2 k ⟨1536 + j.val, by omega⟩) * b (ix2 k ⟨2048 + j.val, by omega⟩))
    (fun k => by rw [ref87, ha, ha]) (fun h k => by rw [ref87, hb h, hb h]) i
  refine congrArg₂ (fun x y : EReal => x * y) (ha _ _) (congrArg₂ (fun x y : EReal => x + y) (congrArg₂ (fun x y : EReal => x + y)
    (congrArg₂ (fun x y : EReal => x * y) (hw 0 j) (e 2 (.inr rfl))) (congrArg₂ (fun x y : EReal => x * y) (hw 1 j) (e 1 (.inl rfl))))
    (congrArg₂ (fun x y : EReal => x * y) (hw 2 j) ?_))
  rw [ref87, ha, ha]

/-- The convolution's half, normalised. -/
theorem yb {v : FVec Ideal S512x512 .f32} {g : FVec Ideal S1x512 .f32}
    (hv : ∀ j, v (ix2 i j) = val_main_v110 (F := Ideal) x0 x1 x2 x7 (ix2 R j)) (hg : ∀ j, g (ix2 0 j) = x9 (ix1 j)) (w : FVec Ideal S512x1 .f32)
    (hw : w (ix2 i 0) = ∑ k : Fin 512, v (ix2 i k) * v (ix2 i k)) (j : Fin 512) :
    k0_pay1 (F := Ideal) v w k0_pay38 g (ix2 i j)
      = val_main_v123 (F := Ideal) x0 x1 x2 x7 x9 (ix2 R j) := by
  pointwise [k0_pay1, k0_pay38, val_main_v123, val_main_v122, val_main_v121, val_main_v120, val_main_v119, val_main_v118, val_main_v117, val_main_v116,
    val_main_cst_18, val_main_v115, val_main_v114, val_main_cst_17, val_main_v113, val_main_v112, val_main_cst_16, val_main_v111]
  simp only [hw, hv, hg]

end Cert.MixForwardIdeal.Hand

end
-- ==== Proof.MixForwardVal.lean ====
module

public import proofs.«01_k».proof.Proof.MixForwardPay

@[expose] public section

set_option maxHeartbeats 600000
set_option maxRecDepth 16384

noncomputable section

/-! The mixer's two output arrays are the reference's: the mixed rows are written a chunk and a head at a time and read back
    whole, the two normalised halves side by side. -/

namespace Cert.MixForwardIdeal.Hand

open Idealize.ShloMosaic Idealize.SL.Sem Cert.Reals Cert.MixForwardIdeal Cert.MixForwardIdeal.Gen Cert.MixForwardRefIdeal.Read

/-! ## A chunk of a head -/

/-- A chunk of a head, mixed: the weights times the chunk's rows, and the bias of the head. -/
def mixT (w : FVec Ideal S128x128 .bf16) (b : FVec Ideal S128x4 .f32) (v : FVec Ideal S512x512 .bf16) (o q : Fin 2 → ℕ)
    (ho : S512x512.Slices o S128x128) (hq : S128x4.Slices q S128x1) : FVec Ideal S128x128 .f32 :=
  shapeCast S128x128 (addf (matmul dot_S128x128_S128x128_S128x128_1_0_0_1_n_n none w (extractStridedSlice S128x128 o v ho) (constant S128x128 .f32 0x00000000#32))
    (broadcastTo S128x128 (extractStridedSlice S128x1 q b hq) broadcasts_S128x1_S128x128)) shapeCasts_S128x128_S128x128

/-- Its entries. -/
theorem mixT_apply (w : FVec Ideal S128x128 .bf16) (b : FVec Ideal S128x4 .f32) (v : FVec Ideal S512x512 .bf16) (n h : Fin 4)
    (ho : S512x512.Slices ![n.val * 128, h.val * 128] S128x128) (hq : S128x4.Slices ![0, h.val] S128x1) (t d : Fin 128) :
    mixT w b v ![n.val * 128, h.val * 128] ![0, h.val] ho hq (ix2 t d)
      = (∑ s : Fin 128, w (ix2 t s) * v (ix2 ⟨n.val * 128 + s.val, by omega⟩ ⟨h.val * 128 + d.val, by omega⟩)) + b (ix2 t h) := by
  unfold mixT
  pointwise

/-- The slices of every chunk of every head. -/
theorem so : ∀ n h : Fin 4, S512x512.Slices ![n.val * 128, h.val * 128] S128x128 := by decide

/-- The bias of every head. -/
theorem sq : ∀ h : Fin 4, S128x4.Slices ![0, h.val] S128x1 := by decide

/-- The weights of every head. -/
theorem sw : ∀ h : Fin 4, ∀ a, ![h.val, 0, 0] a + ![1, 128, 128] a ≤ S4x128x128.size a := by decide

/-- All chunks of all heads. -/
def mixP (x : FVec Ideal S4x128x128 .f32) (b : FVec Ideal S128x4 .f32) (v : FVec Ideal S512x512 .bf16) (n h : Fin 4) : FVec Ideal S128x128 .f32 :=
  mixT (k0_pay4 (F := Ideal) (View.ld (Val := Elt Ideal) (S := S4x128x128) (e' := .f32) x (Rect.unit ![h.val, 0, 0] ![1, 128, 128] (sw h)))) (k0_pay12 b) v
    ![n.val * 128, h.val * 128] ![0, h.val] (so n h) (sq h)

/-- A head's weights, loaded. -/
theorem ld_w (x : FVec Ideal S4x128x128 .f32) (h : Fin 4) (t s : Fin 128) :
    (View.ld (Val := Elt Ideal) (S := S4x128x128) (e' := .f32) x (Rect.unit ![h.val, 0, 0] ![1, 128, 128] (sw h)) : FVec Ideal S1x128x128 .f32) (ix3 0 t s)
      = x (ix3 h t s) := by
  refine congrArg x (funext fun a => Fin.ext ?_)
  rw [Rect.idx_unit_val]
  fin_cases a <;> simp [ix3]

/-- The chunks written one by one and read back whole. -/
theorem l_mix (P : Fin 4 → Fin 4 → FVec Ideal S128x128 .f32) (f : Fin 512 → Fin 512 → EReal)
    (e : ∀ (n h : Fin 4) (t d : Fin 128) (a j : Fin 512), (a : ℕ) = n.val * 128 + t.val → (j : ℕ) = h.val * 128 + d.val → P n h (ix2 t d) = f a j)
    (a j : Fin 512) :
    ((View.whole cc0_scratch0).readCov (Val := Elt Ideal)
      [⟨Rect.unit ![384, 384] ![128, 128] inb_S512x512_S128x128_384_384, P 3 3⟩, ⟨Rect.unit ![384, 256] ![128, 128] inb_S512x512_S128x128_384_256, P 3 2⟩,
        ⟨Rect.unit ![384, 128] ![128, 128] inb_S512x512_S128x128_384_128, P 3 1⟩, ⟨Rect.unit ![384, 0] ![128, 128] inb_S512x512_S128x128_384_0, P 3 0⟩,
        ⟨Rect.unit ![256, 384] ![128, 128] inb_S512x512_S128x128_256_384, P 2 3⟩, ⟨Rect.unit ![256, 256] ![128, 128] inb_S512x512_S128x128_256_256, P 2 2⟩,
        ⟨Rect.unit ![256, 128] ![128, 128] inb_S512x512_S128x128_256_128, P 2 1⟩, ⟨Rect.unit ![256, 0] ![128, 128] inb_S512x512_S128x128_256_0, P 2 0⟩,
        ⟨Rect.unit ![128, 384] ![128, 128] inb_S512x512_S128x128_128_384, P 1 3⟩, ⟨Rect.unit ![128, 256] ![128, 128] inb_S512x512_S128x128_128_256, P 1 2⟩,
        ⟨Rect.unit ![128, 128] ![128, 128] inb_S512x512_S128x128_128_128, P 1 1⟩, ⟨Rect.unit ![128, 0] ![128, 128] inb_S512x512_S128x128_128_0, P 1 0⟩,
        ⟨Rect.unit ![0, 384] ![128, 128] inb_S512x512_S128x128_0_384, P 0 3⟩, ⟨Rect.unit ![0, 256] ![128, 128] inb_S512x512_S128x128_0_256, P 0 2⟩,
        ⟨Rect.unit ![0, 128] ![128, 128] inb_S512x512_S128x128_0_128, P 0 1⟩, ⟨Rect.unit ![0, 0] ![128, 128] inb_S512x512_S128x128_0_0, P 0 0⟩]
      (Rect.unit (s := S512x512) ![0, 0] ![512, 512] inb_S512x512_S512x512_0_0).toLoadRect : FVec Ideal S512x512 .f32) (ix2 a j)
      = f a j := by
  have e' : ∀ (n h : Fin 4) (x : S128x128.Idx) (y : S512x512.Idx), (y 0 : ℕ) = n.val * 128 + (x 0 : ℕ) → (y 1 : ℕ) = h.val * 128 + (x 1 : ℕ)
      → P n h x = f (y 0) (y 1) := by
    intro n h x y h0 h1
    idx_vars x
    exact e n h x0 x1 (y 0) (y 1) h0 h1
  have c : ∀ y : S512x512.Idx, View.canon (Val := Elt Ideal) (e := .f32)
      [⟨Rect.unit ![384, 384] ![128, 128] inb_S512x512_S128x128_384_384, P 3 3⟩, ⟨Rect.unit ![384, 256] ![128, 128] inb_S512x512_S128x128_384_256, P 3 2⟩,
        ⟨Rect.unit ![384, 128] ![128, 128] inb_S512x512_S128x128_384_128, P 3 1⟩, ⟨Rect.unit ![384, 0] ![128, 128] inb_S512x512_S128x128_384_0, P 3 0⟩,
        ⟨Rect.unit ![256, 384] ![128, 128] inb_S512x512_S128x128_256_384, P 2 3⟩, ⟨Rect.unit ![256, 256] ![128, 128] inb_S512x512_S128x128_256_256, P 2 2⟩,
        ⟨Rect.unit ![256, 128] ![128, 128] inb_S512x512_S128x128_256_128, P 2 1⟩, ⟨Rect.unit ![256, 0] ![128, 128] inb_S512x512_S128x128_256_0, P 2 0⟩,
        ⟨Rect.unit ![128, 384] ![128, 128] inb_S512x512_S128x128_128_384, P 1 3⟩, ⟨Rect.unit ![128, 256] ![128, 128] inb_S512x512_S128x128_128_256, P 1 2⟩,
        ⟨Rect.unit ![128, 128] ![128, 128] inb_S512x512_S128x128_128_128, P 1 1⟩, ⟨Rect.unit ![128, 0] ![128, 128] inb_S512x512_S128x128_128_0, P 1 0⟩,
        ⟨Rect.unit ![0, 384] ![128, 128] inb_S512x512_S128x128_0_384, P 0 3⟩, ⟨Rect.unit ![0, 256] ![128, 128] inb_S512x512_S128x128_0_256, P 0 2⟩,
        ⟨Rect.unit ![0, 128] ![128, 128] inb_S512x512_S128x128_0_128, P 0 1⟩, ⟨Rect.unit ![0, 0] ![128, 128] inb_S512x512_S128x128_0_0, P 0 0⟩] y = f (y 0) (y 1) := by
    intro y
    canon_tiles x h
    · exact e' 3 3 x y h0 h1
    · exact e' 3 2 x y h0 h1
    · exact e' 3 1 x y h0 h1
    · exact e' 3 0 x y h0 (h1.trans (Nat.zero_add _).symm)
    · exact e' 2 3 x y h0 h1
    · exact e' 2 2 x y h0 h1
    · exact e' 2 1 x y h0 h1
    · exact e' 2 0 x y h0 (h1.trans (Nat.zero_add _).symm)
    · exact e' 1 3 x y h0 h1
    · exact e' 1 2 x y h0 h1
    · exact e' 1 1 x y h0 h1
    · exact e' 1 0 x y h0 (h1.trans (Nat.zero_add _).symm)
    · exact e' 0 3 x y (h0.trans (Nat.zero_add _).symm) h1
    · exact e' 0 2 x y (h0.trans (Nat.zero_add _).symm) h1
    · exact e' 0 1 x y (h0.trans (Nat.zero_add _).symm) h1
    · exact e' 0 0 x y (h0.trans (Nat.zero_add _).symm) (h1.trans (Nat.zero_add _).symm)
  rw [View.readCov_eq_canon']
  refine (c _).trans ?_
  refine congrArg₂ f (Fin.ext ?_) (Fin.ext ?_)
  · exact (Rect.idx_unit_val _ _ _ _ _).trans (Nat.zero_add _)
  · exact (Rect.idx_unit_val _ _ _ _ _).trans (Nat.zero_add _)

/-- The two halves written side by side. -/
theorem canon2 (P0 P1 : FVec Ideal S512x512 .bf16) (f : Fin 512 → Fin 1024 → EReal)
    (e0 : ∀ (a j : Fin 512) (k : Fin 1024), (k : ℕ) = j.val → P0 (ix2 a j) = f a k)
    (e1 : ∀ (a j : Fin 512) (k : Fin 1024), (k : ℕ) = 512 + j.val → P1 (ix2 a j) = f a k) (y : S512x1024.Idx) :
    View.canon (Val := Elt Ideal) (e := .bf16)
      [⟨Rect.unit ![0, 512] ![512, 512] inb_S512x1024_S512x512_0_512, P1⟩, ⟨Rect.unit ![0, 0] ![512, 512] inb_S512x1024_S512x512_0_0, P0⟩] y
      = f (y 0) (y 1) := by
  canon_tiles x h
  all_goals
    idx_vars x
    obtain rfl : y 0 = x0 := Fin.ext h0
  · exact e1 (y 0) x1 (y 1) h1
  · exact e0 (y 0) x1 (y 1) h1

end Cert.MixForwardIdeal.Hand

end
-- ==== Proof.MixForwardClaim.lean ====
module

public import proofs.«01_k».proof.Defs
public import proofs.«01_k».proof.Proof.MixForwardVal
public import proofs.«01_k».proof.Proof.Gen.MixForward.Frame
public import proofs.«01_k».proof.Proof.Gen.MixForwardIdeal.Value
public import proofs.«01_k».proof.Proof.Gen.MixForwardRefIdeal.Run
public import Idealize.ShloMosaic.Lib.Quiescent

@[expose] public section

set_option maxHeartbeats 600000
set_option maxRecDepth 16384

noncomputable section

/-! The mixer: the kernel computes 512 rows at a time what the reference computes over all rows. No finiteness is needed. -/

namespace Cert.MixForwardClaim

open Idealize.ShloMosaic Idealize.SL.Sem Cert.Reals Cert.MixForwardIdeal Cert.MixForwardIdeal.Gen Cert.MixForwardIdeal.Hand Cert.MixForwardRefIdeal.Read

section
variable (m : (ℓ : Loc nD τ sig) → Buf (Elt Ideal) ℓ) (c : Dev nD)

/-- The windows' blocks at each point of the grid. -/
theorem idx : ∀ t : Fin cfg0.N, win0_0.index t = ![t.val, 0] ∧ win0_1.index t = ![t.val * 32 - 1, 0] ∧ win0_2.index t = ![t.val, 0]
    ∧ win0_3.index t = ![0, 0] ∧ win0_4.index t = ![0, 0] ∧ win0_5.index t = ![0, 0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] :=
  (by decide +kernel : ∀ t : Fin grid0.N, _)

/-- The grid's one coordinate. -/
theorem coord : ∀ t : Fin cfg0.N, (grid0.coords t 0 : ℕ) = t.val :=
  (by decide +kernel : ∀ t : Fin grid0.N, _)

/-- The projected input, on the host. -/
def hh : FVec Ideal S4096x2560 .f32 :=
  val_main_v13 (F := Ideal) (m (c.tc.loc main_arg0)) (m (c.tc.loc main_arg1)) (m (c.tc.loc main_arg2))

/-- The staged rows of the projected input. -/
theorem blk0 (t : Fin cfg0.N) (i : Fin 512) (j : Fin 2560) :
    (iblk m c 0 t : FVec Ideal S512x2560 .f32) (ix2 i j) = hh m c (ix2 (row t i) j) := by
  have e : (win0_0.blk t).view.emb (ix2 i j) = (ix2 (row t i) j : S4096x2560.Idx) := by
    funext a; fin_cases a <;> (apply Fin.ext; blk_simp [idx t, row]; rfl)
  change (V m c main_v13 : FVec Ideal S4096x2560 .f32) ((win0_0.blk t).view.emb (ix2 i j)) = _
  rw [e]
  rfl

/-- The staged rows before the tile. -/
theorem blk1 (t : Fin cfg0.N) (h : 0 < t.val) (k : Fin 16) (j : Fin 2560) :
    (iblk m c 1 t : FVec Ideal S16x2560 .f32) (ix2 k j)
      = hh m c (ix2 ⟨t.val * 512 - 16 + k.val, by have := t.isLt; change t.val < 8 at this; omega⟩ j) := by
  have e : (win0_1.blk t).view.emb (ix2 k j)
      = (ix2 ⟨t.val * 512 - 16 + k.val, by have := t.isLt; change t.val < 8 at this; omega⟩ j : S4096x2560.Idx) := by
    funext a; fin_cases a <;> (apply Fin.ext; blk_simp [idx t])
    · change (t.val * 32 - 1) * 16 + k.val = t.val * 512 - 16 + k.val
      omega
    · rfl
  change (V m c main_v13 : FVec Ideal S4096x2560 .f32) ((win0_1.blk t).view.emb (ix2 k j)) = _
  rw [e]
  rfl

/-- The staged rows of the input. -/
theorem blk2 (t : Fin cfg0.N) (i : Fin 512) (j : Fin 1024) :
    (iblk m c 2 t : FVec Ideal S512x1024 .f32) (ix2 i j) = (m (c.tc.loc main_arg0) : FVec Ideal S4096x1024 .f32) (ix2 (row t i) j) := by
  blk_point [iblk, V, idx t, row]

/-- The staged gain of the layer norm. -/
theorem blk3 (t : Fin cfg0.N) (j : Fin 512) :
    (iblk m c 3 t : FVec Ideal S1x512 .f32) (ix2 0 j) = (m (c.tc.loc main_arg3) : FVec Ideal S512 .f32) (ix1 j) := by
  blk_point [iblk, idx t]

/-- The staged shift of the layer norm. -/
theorem blk4 (t : Fin cfg0.N) (j : Fin 512) :
    (iblk m c 4 t : FVec Ideal S1x512 .f32) (ix2 0 j) = (m (c.tc.loc main_arg4) : FVec Ideal S512 .f32) (ix1 j) := by
  blk_point [iblk, idx t]

/-- The staged mixing weights. -/
theorem blk5 (t : Fin cfg0.N) (h : Fin 4) (a b : Fin 128) :
    (iblk m c 5 t : FVec Ideal S4x128x128 .f32) (ix3 h a b) = (m (c.tc.loc main_arg5) : FVec Ideal S4x128x128 .f32) (ix3 h a b) := by
  blk_point [iblk, V, idx t]

/-- The staged mixing bias. -/
theorem blk6 (t : Fin cfg0.N) (a : Fin 128) (h : Fin 4) :
    (iblk m c 6 t : FVec Ideal S128x4 .f32) (ix2 a h) = (m (c.tc.loc main_arg6) : FVec Ideal S4x128 .f32) (ix2 h a) := by
  blk_point [iblk, idx t]

/-- The staged taps. -/
theorem blk7 (t : Fin cfg0.N) (q : Fin 3) (j : Fin 512) :
    (iblk m c 7 t : FVec Ideal S3x512 .f32) (ix2 q j) = (m (c.tc.loc main_arg7) : FVec Ideal S3x512 .f32) (ix2 q j) := by
  blk_point [iblk, V, idx t]

/-- The staged gain of the first half. -/
theorem blk8 (t : Fin cfg0.N) (j : Fin 512) :
    (iblk m c 8 t : FVec Ideal S1x512 .f32) (ix2 0 j) = (m (c.tc.loc main_arg8) : FVec Ideal S512 .f32) (ix1 j) := by
  blk_point [iblk, idx t]

/-- The staged gain of the second half. -/
theorem blk9 (t : Fin cfg0.N) (j : Fin 512) :
    (iblk m c 9 t : FVec Ideal S1x512 .f32) (ix2 0 j) = (m (c.tc.loc main_arg9) : FVec Ideal S512 .f32) (ix1 j) := by
  blk_point [iblk, idx t]

/-- The staged output weight. -/
theorem blk10 (t : Fin cfg0.N) (k j : Fin 1024) :
    (iblk m c 10 t : FVec Ideal S1024x1024 .bf16) (ix2 k j) = (m (c.tc.loc main_arg10) : FVec Ideal S1024x1024 .f32) (ix2 k j) := by
  blk_point [iblk, idx t]

/-- The reference's left half. -/
theorem ref_lo (x0 : FVec Ideal S4096x1024 .f32) (x1 : FVec Ideal S1024 .f32) (x2 : FVec Ideal S1024x2560 .f32) (x3 x4 : FVec Ideal S512 .f32)
    (x5 : FVec Ideal S4x128x128 .f32) (x6 : FVec Ideal S4x128 .f32) (x7 : FVec Ideal S3x512 .f32) (x8 x9 : FVec Ideal S512 .f32)
    (R : Fin 4096) (j : Fin 512) (k : Fin 1024) (h : (k : ℕ) = j.val) :
    val_main_v125 (F := Ideal) x0 x1 x2 x3 x4 x5 x6 x7 x8 x9 (ix2 R k) = val_main_v83 (F := Ideal) x0 x1 x2 x3 x4 x5 x6 x8 (ix2 R j) := by
  rw [show k = ⟨j.val, by omega⟩ from Fin.ext h]
  pointwise [val_main_v125, val_main_v124]
  done

/-- The reference's right half. -/
theorem ref_hi (x0 : FVec Ideal S4096x1024 .f32) (x1 : FVec Ideal S1024 .f32) (x2 : FVec Ideal S1024x2560 .f32) (x3 x4 : FVec Ideal S512 .f32)
    (x5 : FVec Ideal S4x128x128 .f32) (x6 : FVec Ideal S4x128 .f32) (x7 : FVec Ideal S3x512 .f32) (x8 x9 : FVec Ideal S512 .f32)
    (R : Fin 4096) (j : Fin 512) (k : Fin 1024) (h : (k : ℕ) = 512 + j.val) :
    val_main_v125 (F := Ideal) x0 x1 x2 x3 x4 x5 x6 x7 x8 x9 (ix2 R k) = val_main_v123 (F := Ideal) x0 x1 x2 x7 x9 (ix2 R j) := by
  rw [show k = ⟨512 + j.val, by omega⟩ from Fin.ext h]
  pointwise [val_main_v125, val_main_v124]
  done

/-- The reference's normalised halves, side by side. -/
def yy : FVec Ideal S4096x1024 .bf16 :=
  val_main_v125 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))

/-- The reference's mixed rows. -/
def mm : FVec Ideal Cert.MixForwardRefIdeal.S4096x512 .f32 :=
  val_main_v69 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6))

/-- The normalised half of a tile. -/
def vt (t : Fin cfg0.N) : FVec Ideal S512x512 .bf16 :=
  k0_pay16 (F := Ideal) (k0_pay9 (iblk m c 0 t)) (k0_pay10 (iblk m c 3 t)) (k0_pay11 (iblk m c 4 t)) (k0_pay13 (iblk m c 0 t))

/-- It is the reference's. -/
theorem vt_eq (t : Fin cfg0.N) (i j : Fin 512) : vt m c t (ix2 i j)
    = val_main_v57 (F := Ideal) (m (c.tc.loc main_arg0)) (m (c.tc.loc main_arg1)) (m (c.tc.loc main_arg2)) (m (c.tc.loc main_arg3)) (m (c.tc.loc main_arg4))
      (ix2 (row t i) j) :=
  vln (blk0 m c t i) (fun j => by pointwise [k0_pay10]; exact blk3 m c t j) (fun j => by pointwise [k0_pay11]; exact blk4 m c t j) j

/-- A chunk of a head of a tile is the reference's. -/
theorem piece (t : Fin cfg0.N) (n h : Fin 4) (p d : Fin 128) (a j : Fin 512) (ea : (a : ℕ) = n.val * 128 + p.val) (ej : (j : ℕ) = h.val * 128 + d.val) :
    mixP (iblk m c 5 t) (iblk m c 6 t) (vt m c t) n h (ix2 p d) = mm m c (ix2 (row t a) j) := by
  have hN : t.val < 8 := t.isLt
  have er : row t a = rw_ ⟨t.val * 4 + n.val, by omega⟩ p := Fin.ext (by change t.val * 512 + a.val = (t.val * 4 + n.val) * 128 + p.val; omega)
  have el : j = cl h d := Fin.ext (by change j.val = h.val * 128 + d.val; omega)
  subst el
  rw [er]
  refine (mixT_apply _ _ _ _ _ _ _ _ _).trans (Eq.trans ?_ (ref69 _ _ _ _).symm)
  refine congrArg₂ (fun a b : EReal => a + b) (Finset.sum_congr rfl fun s _ => congrArg₂ (fun a b : EReal => a * b) ?_ ?_) ?_
  · exact wm (fun t' s => (ld_w _ h t' s).trans (blk5 m c t h t' s)) p s
  · refine (vt_eq m c t _ _).trans (congrArg _ (congrArg₂ ix2 (Fin.ext ?_) rfl))
    change t.val * 512 + (n.val * 128 + s.val) = (t.val * 4 + n.val) * 128 + s.val
    omega
  · pointwise [k0_pay12]
    exact blk6 m c t p h

/-- The gated half of a tile, normalised, is the reference's. -/
theorem lo (t : Fin cfg0.N) (v : FVec Ideal S512x512 .f32) (a j : Fin 512) (k : Fin 1024) (hk : (k : ℕ) = j.val)
    (hv : ∀ j, v (ix2 a j) = mm m c (ix2 (row t a) j)) :
    k0_pay35 (F := Ideal) (k0_pay33 (k0_pay15 (k0_pay9 (iblk m c 0 t)) (k0_pay13 (iblk m c 0 t))) v)
        (k0_pay34 (k0_pay15 (k0_pay9 (iblk m c 0 t)) (k0_pay13 (iblk m c 0 t))) v) (Scalar.ofBits .f32 0x358637BD#32) (iblk m c 8 t) (ix2 a j)
      = yy m c (ix2 (row t a) k) :=
  (ya (half_u (blk0 m c t a)) hv (blk8 m c t) j).trans (ref_lo _ _ _ _ _ _ _ _ _ _ _ j k hk).symm

/-- The convolution's half of a tile, normalised, is the reference's. -/
theorem hi (t : Fin cfg0.N) (a j : Fin 512) (k : Fin 1024) (hk : (k : ℕ) = 512 + j.val) :
    k0_pay1 (F := Ideal) (k0_pay36 (BitVec.ofNat 32 (grid0.coords t 0)) (k0_pay8 (iblk m c 0 t)) (iblk m c 1 t) (iblk m c 7 t))
        (k0_pay37 (BitVec.ofNat 32 (grid0.coords t 0)) (k0_pay8 (iblk m c 0 t)) (iblk m c 1 t) (iblk m c 7 t)) k0_pay38 (iblk m c 9 t) (ix2 a j)
      = yy m c (ix2 (row t a) k) := by
  have ha : ∀ i j, (k0_pay8 (F := Ideal) (iblk m c 0 t)) (ix2 i j) = hh m c (ix2 (row t i) j) := fun i j => by
    pointwise [k0_pay8]
    exact blk0 m c t i j
  refine (yb (fun j => ?_) (blk9 m c t) _ ?_ j).trans (ref_hi _ _ _ _ _ _ _ _ _ _ _ j k hk).symm
  · exact conv t (congrArg (BitVec.ofNat 32) (coord t)) ha (blk1 m c t) (blk7 m c t) a j
  · pointwise [k0_pay37]

/-- The kernel's two halves of a tile are the reference's. -/
theorem out11 (t : Fin cfg0.N) (i : Fin 512) (j : Fin 1024) :
    ((outsAt0 m c t).1 : FVec Ideal S512x1024 .bf16) (ix2 i j) = yy m c (ix2 (row t i) j) := by
  unfold outsAt0
  frame_out
  exact canon2 _ _ (fun a k => yy m c (ix2 (row t a) k)) (fun a j k hk => lo m c t _ a j k hk
    fun j => l_mix (mixP (iblk m c 5 t) (iblk m c 6 t) (vt m c t)) (fun a j => mm m c (ix2 (row t a) j)) (piece m c t) a j)
    (hi m c t) (ix2 i j)

/-- The reference's residual stream after the mixer. -/
def zz : FVec Ideal S4096x1024 .f32 :=
  val_main_v127 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9)) (m (c.tc.loc main_arg10))

/-- The product with the output weight, added to the input's rows. -/
theorem zt (t : Fin cfg0.N) (y : FVec Ideal S512x1024 .bf16) (i : Fin 512) (hy : ∀ j, y (ix2 i j) = yy m c (ix2 (row t i) j)) (j : Fin 1024) :
    k0_pay2 (F := Ideal) (iblk m c 2 t) y (iblk m c 10 t) (ix2 i j) = zz m c (ix2 (row t i) j) := by
  unfold zz
  pointwise [k0_pay2, val_main_v127, val_main_v126]
  exact congrArg₂ (fun a b : EReal => a + b) (blk2 m c t i j)
    (Finset.sum_congr rfl fun k _ => congrArg₂ (fun a b : EReal => a * b) (hy k) (blk10 m c t k j))

/-- The kernel's residual rows of a tile are the reference's. -/
theorem out12 (t : Fin cfg0.N) (i : Fin 512) (j : Fin 1024) :
    ((outsAt0 m c t).2 : FVec Ideal S512x1024 .f32) (ix2 i j) = zz m c (ix2 (row t i) j) := by
  unfold outsAt0
  frame_out
  refine zt m c t _ i (fun k => ?_) j
  rw [View.readCov_eq_canon']
  refine (canon2 _ _ (fun a k => yy m c (ix2 (row t a) k)) (fun a j k hk => lo m c t _ a j k hk
    fun j => l_mix (mixP (iblk m c 5 t) (iblk m c 6 t) (vt m c t)) (fun a j => mm m c (ix2 (row t a) j)) (piece m c t) a j)
    (hi m c t) _).trans ?_
  exact congrArg _ (congrArg₂ ix2 (congrArg (row t) (Fin.ext ((Rect.idx_unit_val _ _ _ _ _).trans (Nat.zero_add _))))
    (Fin.ext ((Rect.idx_unit_val _ _ _ _ _).trans (Nat.zero_add _))))

/-- An index of two axes is its coordinates. -/
theorem ix2_of {n k : ℕ} (z : (⟨2, ![n, k]⟩ : Shape).Idx) (i : Fin n) (j : Fin k) (h0 : (z 0 : ℕ) = i) (h1 : (z 1 : ℕ) = j) : z = ix2 i j := by
  funext a; fin_cases a
  exacts [Fin.ext h0, Fin.ext h1]

/-- The kernel's normalised halves are the reference's. -/
theorem final11 : (dats m 0 c).arrAt 11 (cfgs 0).N = yy m c := by
  refine (dats m 0 c).arrAt_eq_of_covers 11 _ (by decide +kernel) fun t _ y => ?_
  blk_simp [idx t]
  rw [after0_11]
  idx_vars y
  refine (out11 m c t y0 y1).trans (congrArg _ (ix2_of _ (row t y0) y1 ?_ ?_)).symm
  · blk_simp [idx t, row]
  · blk_simp [idx t]

/-- The kernel's residual stream is the reference's. -/
theorem final12 : (dats m 0 c).arrAt 12 (cfgs 0).N = zz m c := by
  refine (dats m 0 c).arrAt_eq_of_covers 12 _ (by decide +kernel) fun t _ y => ?_
  blk_simp [idx t]
  rw [after0_12]
  idx_vars y
  refine (out12 m c t y0 y1).trans (congrArg _ (ix2_of _ (row t y0) y1 ?_ ?_)).symm
  · blk_simp [idx t, row]
  · blk_simp [idx t]

end

/-- The kernel runs and leaves its arguments and its counters as they were. -/
theorem frame_kernel : Cert.quiescent_MixForward := fun m ρ _ => Cert.MixForward.Gen.frame m ρ

/-- So does its idealization. -/
theorem frame_ideal : Cert.quiescent_MixForwardIdeal := fun m ρ _ => Cert.MixForwardIdeal.Gen.frame m ρ

/-- So does the reference: it has no counters at all, and its run leaves the arguments. -/
theorem frame_ref : Cert.quiescent_MixForwardRefIdeal := fun m ρ _ =>
  (θ_run Cert.MixForwardRefIdeal.defs _ _).mono (fun r h => ⟨fun c => (h c).2.2, sem_eq_zero_of_no_sems rfl r.2⟩)
    (Cert.MixForwardRefIdeal.Value.run (F := Ideal) m ρ)

/-- On every run the kernel and the reference leave the same halves and the same residual stream. -/
theorem algebraic : Cert.algebraic_MixForwardIdeal_MixForwardRefIdeal := by
  intro m g m' g' _ hag
  refine ⟨fun c => (dats m 0 c).arrAt 11 (cfgs 0).N, fun c => (dats m 0 c).arrAt 12 (cfgs 0).N, Cert.MixForwardIdeal.Value.run_blocks m g,
    (θ_run Cert.MixForwardRefIdeal.defs _ _).mono (fun r h c => ?_) (Cert.MixForwardRefIdeal.Value.run (F := Ideal) m' g')⟩
  obtain ⟨r0, r1, ra⟩ := h c
  obtain ⟨e0, e1, e2, e3, e4, e5, e6, e7, e8, e9, e10⟩ := hag c
  refine ⟨(r0.trans ?_).trans (final11 m c).symm, (r1.trans ?_).trans (final12 m c).symm, ra⟩
  · unfold yy
    rw [← e0, ← e1, ← e2, ← e3, ← e4, ← e5, ← e6, ← e7, ← e8, ← e9]
    exact val_main_v125_eq _
  · unfold zz
    rw [← e0, ← e1, ← e2, ← e3, ← e4, ← e5, ← e6, ← e7, ← e8, ← e9, ← e10]
    exact val_main_v127_eq _

end Cert.MixForwardClaim

end
-- ==== Proof.FfnRun.lean ====
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Pipeline.TableIdle
public import Idealize.ShloMosaic.Lib.Ring
public import Idealize.ShloMosaic.Lib.Tactic

@[expose] public section

set_option maxRecDepth 16384

noncomputable section

/-! The forward gated unit's body at one grid point. The first column block of a row block normalises the rows and
    starts the sum from the residual; the later ones read both back. -/

namespace Cert.FfnRun

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (a0 : Memref sig .tc .vmem S1024x1024 .f32) (w0 : a0.IsWhole) (a1 : Memref sig .tc .vmem S1x1024 .f32) (w1 : a1.IsWhole)
  (a2 : Memref sig .tc .vmem S2x1x704x1024 .bf16) (w2 : a2.IsWhole) (a3 : Memref sig .tc .vmem S704x1024 .bf16) (w3 : a3.IsWhole)
  (a4 : Memref sig .tc .vmem S1024x1024 .bf16) (w4 : a4.IsWhole) (a5 : Memref sig .tc .vmem S2x1x1024x704 .bf16) (w5 : a5.IsWhole)
  (a6 : Memref sig .tc .vmem S1024x1024 .f32) (w6 : a6.IsWhole)
  (x0 : Vec F S1024x1024 .f32) (x1 : Vec F S1x1024 .f32) (x2 : Vec F S2x1x704x1024 .bf16) (x3 : Vec F S704x1024 .bf16)

/-- The four staged inputs at their contents. -/
def ins : sProp 𝕄 :=
  iprop(owns (c : Thread nD τ) a0 fullShare x0 ∗ owns (c : Thread nD τ) a1 fullShare x1
    ∗ owns (c : Thread nD τ) a2 fullShare x2 ∗ owns (c : Thread nD τ) a3 fullShare x3)

set_option maxHeartbeats 1000000 in
/-- The first column block of a row block: what its stores leave in the three outputs, with the body's run. -/
def first (hc : k0_cond1 i = 1#1) :
    Σ' (L4 : List (View.Piece (Elt F) S1024x1024 .bf16)) (L5 : List (View.Piece (Elt F) S2x1x1024x704 .bf16)),
      { L6 : List (View.Piece (Elt F) S1024x1024 .f32) // ∀ (E : Set ℕ) (K : PUnit → sProp 𝕄),
        iprop(ins c a0 a1 a2 a3 x0 x1 x2 x3 ∗ (∃ d, owns (c : Thread nD τ) a4 fullShare d)
            ∗ (∃ d, owns (c : Thread nD τ) a5 fullShare d) ∗ (∃ d, owns (c : Thread nD τ) a6 fullShare d)
            ∗ (iprop(ins c a0 a1 a2 a3 x0 x1 x2 x3
                ∗ (∃ f, a4.view.loc (c : Thread nD τ) ↦[a4.view.set]{fullShare} a4.view.writes (Elt F) f L4)
                ∗ (∃ f, a5.view.loc (c : Thread nD τ) ↦[a5.view.set]{fullShare} a5.view.writes (Elt F) f L5)
                ∗ (∃ f, a6.view.loc (c : Thread nD τ) ↦[a6.view.set]{fullShare} a6.view.writes (Elt F) f L6)) -∗ K ⟨⟩))
          ⊢ wp frame (wpE (defs₀ (F := F)) Variants.none c none) E (cc0_ffn_forward i a0 w0 a1 w1 a2 w2 a3 w3 a4 w4 a5 w5 a6 w6) K } := by
  refine ⟨?_, ?_, ?_, fun E K => ?run⟩
  case run =>
    simp only [cc0_ffn_forward_eq_skeleton]; unfold cc0_ffn_forward_skel
    simp only [k0_part1_eq_skeleton]
    unfold ins owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, Hk⟩
    obtain rfl := w0.eq_unread hf0; obtain rfl := w1.eq_unread hf1; obtain rfl := w2.eq_unread hf2; obtain rfl := w3.eq_unread hf3
    sl_exec (disch := first | sl_exact hc)
    sl_step
    iapply Hk
    isplitl [H0 H1 H2 H3]
    · isplitl [H0]
      · iexists _; isplitr; · ipureintro; exact w0.read_unread _
        iexact H0
      isplitl [H1]
      · iexists _; isplitr; · ipureintro; exact w1.read_unread _
        iexact H1
      isplitl [H2]
      · iexists _; isplitr; · ipureintro; exact w2.read_unread _
        iexact H2
      iexists _; isplitr; · ipureintro; exact w3.read_unread _
      iexact H3
    isplitl [H4]; · iexists _; iexact H4
    isplitl [H5]; · iexists _; iexact H5
    iexists _; iexact H6

set_option maxHeartbeats 1000000 in
/-- A later column block: the normalised rows `y` stay as they are and the sum `o` grows. -/
def later (hc : ¬k0_cond1 i = 1#1) (y : Vec F S1024x1024 .bf16) (o : Vec F S1024x1024 .f32) :
    Σ' (L5 : List (View.Piece (Elt F) S2x1x1024x704 .bf16)),
      { L6 : List (View.Piece (Elt F) S1024x1024 .f32) // ∀ (E : Set ℕ) (K : PUnit → sProp 𝕄),
        iprop(ins c a0 a1 a2 a3 x0 x1 x2 x3 ∗ owns (c : Thread nD τ) a4 fullShare y
            ∗ (∃ d, owns (c : Thread nD τ) a5 fullShare d) ∗ owns (c : Thread nD τ) a6 fullShare o
            ∗ (iprop(ins c a0 a1 a2 a3 x0 x1 x2 x3 ∗ owns (c : Thread nD τ) a4 fullShare y
                ∗ (∃ f, a5.view.loc (c : Thread nD τ) ↦[a5.view.set]{fullShare} a5.view.writes (Elt F) f L5)
                ∗ (∃ f, a6.view.loc (c : Thread nD τ) ↦[a6.view.set]{fullShare} a6.view.writes (Elt F) f L6)) -∗ K ⟨⟩))
          ⊢ wp frame (wpE (defs₀ (F := F)) Variants.none c none) E (cc0_ffn_forward i a0 w0 a1 w1 a2 w2 a3 w3 a4 w4 a5 w5 a6 w6) K } := by
  refine ⟨?_, ?_, fun E K => ?run⟩
  case run =>
    simp only [cc0_ffn_forward_eq_skeleton]; unfold cc0_ffn_forward_skel
    simp only [k0_part1_eq_skeleton]
    unfold ins owns
    iintro ⟨⟨⟨%f0, %hf0, H0⟩, ⟨%f1, %hf1, H1⟩, ⟨%f2, %hf2, H2⟩, ⟨%f3, %hf3, H3⟩⟩, ⟨%f4, %hf4, H4⟩, ⟨%d5, %f5, -, H5⟩, ⟨%f6, %hf6, H6⟩, Hk⟩
    obtain rfl := w0.eq_unread hf0; obtain rfl := w1.eq_unread hf1; obtain rfl := w2.eq_unread hf2; obtain rfl := w3.eq_unread hf3
    obtain rfl := w4.eq_unread hf4; obtain rfl := w6.eq_unread hf6
    sl_exec (disch := first | sl_exact hc)
    sl_step
    iapply Hk
    isplitl [H0 H1 H2 H3]
    · isplitl [H0]
      · iexists _; isplitr; · ipureintro; exact w0.read_unread _
        iexact H0
      isplitl [H1]
      · iexists _; isplitr; · ipureintro; exact w1.read_unread _
        iexact H1
      isplitl [H2]
      · iexists _; isplitr; · ipureintro; exact w2.read_unread _
        iexact H2
      iexists _; isplitr; · ipureintro; exact w3.read_unread _
      iexact H3
    isplitl [H4]
    · iexists _; isplitr; · ipureintro; exact w4.read_unread _
      iexact H4
    isplitl [H5]; · iexists _; iexact H5
    iexists _; iexact H6

/-- A staging buffer of each output, through which its contents are read. -/
abbrev V4 : View sig .tc .vmem S1024x1024 .bf16 := (Memref.whole cc0_stg4_0 : Memref sig .tc .vmem S1024x1024 .bf16).view
abbrev V5 : View sig .tc .vmem S2x1x1024x704 .bf16 := (Memref.whole cc0_stg5_0 : Memref sig .tc .vmem S2x1x1024x704 .bf16).view
abbrev V6 : View sig .tc .vmem S1024x1024 .f32 := (Memref.whole cc0_stg6_0 : Memref sig .tc .vmem S1024x1024 .f32).view

variable (hc : k0_cond1 i = 1#1)

/-- The first block's stores cover the normalised rows. -/
theorem cover4 (y : S1024x1024.Idx) : ∃ p ∈ (first c i a0 w0 a1 w1 a2 w2 a3 w3 a4 w4 a5 w5 a6 w6 x0 x1 x2 x3 hc).1, y ∈ p.1.set :=
  View.cover_of_tiledL _ S1024x1024.size (by sl_kernel_rfl) y
/-- And both halves of the product. -/
theorem cover5 (y : S2x1x1024x704.Idx) : ∃ p ∈ (first c i a0 w0 a1 w1 a2 w2 a3 w3 a4 w4 a5 w5 a6 w6 x0 x1 x2 x3 hc).2.1, y ∈ p.1.set :=
  View.cover_of_tiledL (first c i a0 w0 a1 w1 a2 w2 a3 w3 a4 w4 a5 w5 a6 w6 x0 x1 x2 x3 hc).2.1 S1x1x1024x704.size (by sl_kernel_rfl) y
/-- And the sum. -/
theorem cover6 (y : S1024x1024.Idx) : ∃ p ∈ (first c i a0 w0 a1 w1 a2 w2 a3 w3 a4 w4 a5 w5 a6 w6 x0 x1 x2 x3 hc).2.2.1, y ∈ p.1.set :=
  View.cover_of_tiledBy _ S1024x1024.size (by sl_kernel_rfl) y

/-- What the first block leaves in the three outputs. -/
def start : Vec F S1024x1024 .bf16 × Vec F S2x1x1024x704 .bf16 × Vec F S1024x1024 .f32 :=
  (V4.read (Elt F) (V4.writes (Elt F) V4.junk (first c i a0 w0 a1 w1 a2 w2 a3 w3 a4 w4 a5 w5 a6 w6 x0 x1 x2 x3 hc).1),
    V5.read (Elt F) (V5.writes (Elt F) V5.junk (first c i a0 w0 a1 w1 a2 w2 a3 w3 a4 w4 a5 w5 a6 w6 x0 x1 x2 x3 hc).2.1),
    V6.read (Elt F) (V6.writes (Elt F) V6.junk (first c i a0 w0 a1 w1 a2 w2 a3 w3 a4 w4 a5 w5 a6 w6 x0 x1 x2 x3 hc).2.2.1))

variable (hn : ¬k0_cond1 i = 1#1) (y : Vec F S1024x1024 .bf16) (o : Vec F S1024x1024 .f32)

/-- A later block's stores cover both halves of the product. -/
theorem cover5' (z : S2x1x1024x704.Idx) : ∃ p ∈ (later c i a0 w0 a1 w1 a2 w2 a3 w3 a4 w4 a5 w5 a6 w6 x0 x1 x2 x3 hn y o).1, z ∈ p.1.set :=
  View.cover_of_tiledL (later c i a0 w0 a1 w1 a2 w2 a3 w3 a4 w4 a5 w5 a6 w6 x0 x1 x2 x3 hn y o).1 S1x1x1024x704.size (by sl_kernel_rfl) z
/-- And the sum. -/
theorem cover6' (z : S1024x1024.Idx) : ∃ p ∈ (later c i a0 w0 a1 w1 a2 w2 a3 w3 a4 w4 a5 w5 a6 w6 x0 x1 x2 x3 hn y o).2.1, z ∈ p.1.set :=
  View.cover_of_tiledL _ S1024x1024.size (by sl_kernel_rfl) z

/-- What a later block leaves in the three outputs. -/
def step : Vec F S1024x1024 .bf16 × Vec F S2x1x1024x704 .bf16 × Vec F S1024x1024 .f32 :=
  (y, V5.read (Elt F) (V5.writes (Elt F) V5.junk (later c i a0 w0 a1 w1 a2 w2 a3 w3 a4 w4 a5 w5 a6 w6 x0 x1 x2 x3 hn y o).1),
    V6.read (Elt F) (V6.writes (Elt F) V6.junk (later c i a0 w0 a1 w1 a2 w2 a3 w3 a4 w4 a5 w5 a6 w6 x0 x1 x2 x3 hn y o).2.1))

/-- All seven windows' buffers, the outputs at `r`. -/
def outs (r : Vec F S1024x1024 .bf16 × Vec F S2x1x1024x704 .bf16 × Vec F S1024x1024 .f32) : sProp 𝕄 :=
  iprop(owns (c : Thread nD τ) a4 fullShare r.1 ∗ owns (c : Thread nD τ) a5 fullShare r.2.1 ∗ owns (c : Thread nD τ) a6 fullShare r.2.2)

/-- The first block's run, its outputs at their contents. -/
theorem run_first (E : Set ℕ) (K : PUnit → sProp 𝕄) :
    iprop(ins c a0 a1 a2 a3 x0 x1 x2 x3 ∗ (∃ d, owns (c : Thread nD τ) a4 fullShare d)
        ∗ (∃ d, owns (c : Thread nD τ) a5 fullShare d) ∗ (∃ d, owns (c : Thread nD τ) a6 fullShare d)
        ∗ (iprop(ins c a0 a1 a2 a3 x0 x1 x2 x3
            ∗ outs c a4 a5 a6 (start c i a0 w0 a1 w1 a2 w2 a3 w3 a4 w4 a5 w5 a6 w6 x0 x1 x2 x3 hc)) -∗ K ⟨⟩))
      ⊢ wp frame (wpE (defs₀ (F := F)) Variants.none c none) E (cc0_ffn_forward i a0 w0 a1 w1 a2 w2 a3 w3 a4 w4 a5 w5 a6 w6) K := by
  iintro ⟨HI, H4, H5, H6, HK⟩
  iapply ((first c i a0 w0 a1 w1 a2 w2 a3 w3 a4 w4 a5 w5 a6 w6 x0 x1 x2 x3 hc).2.2.2 E K)
  isplitl [HI]; · iexact HI
  isplitl [H4]; · iexact H4
  isplitl [H5]; · iexact H5
  isplitl [H6]; · iexact H6
  iintro ⟨HI, ⟨%e4, H4⟩, ⟨%e5, H5⟩, ⟨%e6, H6⟩⟩
  iapply HK
  isplitl [HI]; · iexact HI
  unfold outs start owns; dsimp only
  isplitl [H4]
  · iexists _; isplitr
    swap; · iexact H4
    ipureintro; exact View.read_writes_of_cover _ _ _ _ _ (cover4 c i a0 w0 a1 w1 a2 w2 a3 w3 a4 w4 a5 w5 a6 w6 x0 x1 x2 x3 hc)
  isplitl [H5]
  · iexists _; isplitr
    swap; · iexact H5
    ipureintro; exact View.read_writes_of_cover _ _ _ _ _ (cover5 c i a0 w0 a1 w1 a2 w2 a3 w3 a4 w4 a5 w5 a6 w6 x0 x1 x2 x3 hc)
  iexists _; isplitr
  swap; · iexact H6
  ipureintro; exact View.read_writes_of_cover _ _ _ _ _ (cover6 c i a0 w0 a1 w1 a2 w2 a3 w3 a4 w4 a5 w5 a6 w6 x0 x1 x2 x3 hc)

/-- A later block's run, its outputs at their contents. -/
theorem run_later (E : Set ℕ) (K : PUnit → sProp 𝕄) :
    iprop(ins c a0 a1 a2 a3 x0 x1 x2 x3 ∗ owns (c : Thread nD τ) a4 fullShare y
        ∗ (∃ d, owns (c : Thread nD τ) a5 fullShare d) ∗ owns (c : Thread nD τ) a6 fullShare o
        ∗ (iprop(ins c a0 a1 a2 a3 x0 x1 x2 x3
            ∗ outs c a4 a5 a6 (step c i a0 w0 a1 w1 a2 w2 a3 w3 a4 w4 a5 w5 a6 w6 x0 x1 x2 x3 hn y o)) -∗ K ⟨⟩))
      ⊢ wp frame (wpE (defs₀ (F := F)) Variants.none c none) E (cc0_ffn_forward i a0 w0 a1 w1 a2 w2 a3 w3 a4 w4 a5 w5 a6 w6) K := by
  iintro ⟨HI, H4, H5, H6, HK⟩
  iapply ((later c i a0 w0 a1 w1 a2 w2 a3 w3 a4 w4 a5 w5 a6 w6 x0 x1 x2 x3 hn y o).2.2 E K)
  isplitl [HI]; · iexact HI
  isplitl [H4]; · iexact H4
  isplitl [H5]; · iexact H5
  isplitl [H6]; · iexact H6
  iintro ⟨HI, H4, ⟨%e5, H5⟩, ⟨%e6, H6⟩⟩
  iapply HK
  isplitl [HI]; · iexact HI
  unfold outs step; dsimp only
  isplitl [H4]; · iexact H4
  unfold owns
  isplitl [H5]
  · iexists _; isplitr
    swap; · iexact H5
    ipureintro; exact View.read_writes_of_cover _ _ _ _ _ (cover5' c i a0 w0 a1 w1 a2 w2 a3 w3 a4 w4 a5 w5 a6 w6 x0 x1 x2 x3 hn y o)
  iexists _; isplitr
  swap; · iexact H6
  ipureintro; exact View.read_writes_of_cover _ _ _ _ _ (cover6' c i a0 w0 a1 w1 a2 w2 a3 w3 a4 w4 a5 w5 a6 w6 x0 x1 x2 x3 hn y o)

end

end Cert.FfnRun

end
-- ==== Proof.FfnFrame.lean ====
module

public import proofs.«01_k».proof.Proof.FfnRun
public import Idealize.ShloMosaic.Lib.Claim

@[expose] public section

set_option maxRecDepth 16384

noncomputable section

/-! The forward gated unit's run over its sixteen grid points: what each window's buffer holds at each point, and from
    that the run of the whole program. -/

namespace Cert.FfnRun

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the grid finds them, after the operations before it. -/
abbrev V (c : Dev nD) (b : Ref sig .tc) : Buf (Elt F) ((c : Thread nD τ).loc b) := StableHlo.after hostOps0 (fun b => m (c, b)) b

/-- None of those operations needs a buffer of its own. -/
theorem hostOps0_fresh : (hostOps0 : List (HloOp τ sig (Elt F))).Forall fun op => op.fresh = ∅ := by
  simp only [List.Forall]; repeat' constructor

set_option maxHeartbeats 800000 in
/-- The program is those operations and then the grid. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- A buffer they do not write is as launched. -/
theorem V_kept (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body starts a row block at every fourth point. -/
theorem hcond : ∀ t : Fin cfg0.N, k0_cond1 (grid0.coords t) = 1#1 ↔ t.val % 4 = 0 := by decide +kernel

/-- The three outputs after a point that starts a row block. -/
abbrev startAt (c : Dev nD) (t : Fin cfg0.N) (h : t.val % 4 = 0) :=
  start c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk m c 0 t) (iblk m c 1 t) (iblk m c 2 t) (iblk m c 3 t) ((hcond t).mpr h)

/-- And after another point, over the normalised rows and the sum it finds. -/
abbrev stepAt (c : Dev nD) (t : Fin cfg0.N) (h : ¬t.val % 4 = 0) (y : Vec F S1024x1024 .bf16) (o : Vec F S1024x1024 .f32) :=
  step c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk m c 0 t) (iblk m c 1 t) (iblk m c 2 t) (iblk m c 3 t) (fun e => h ((hcond t).mp e)) y o

/-- The three outputs' buffers after each point. -/
def held (c : Dev nD) : (n : ℕ) → n < cfg0.N → Vec F S1024x1024 .bf16 × Vec F S2x1x1024x704 .bf16 × Vec F S1024x1024 .f32
  | 0, hn => startAt m c ⟨0, hn⟩ rfl
  | n + 1, hn =>
    if h : (n + 1) % 4 = 0 then startAt m c ⟨n + 1, hn⟩ h
    else stepAt m c ⟨n + 1, hn⟩ h (held c n (Nat.lt_of_succ_lt hn)).1 (held c n (Nat.lt_of_succ_lt hn)).2.2

/-- At a point that starts a row block. -/
theorem held_start (c : Dev nD) (t : Fin cfg0.N) (h : t.val % 4 = 0) : held m c t.val t.isLt = startAt m c t h := by
  obtain ⟨n, hn⟩ := t
  cases n with
  | zero => exact rfl
  | succ n => exact (dif_pos h).trans rfl

/-- At another point, over what the point before left. -/
theorem held_step (c : Dev nD) (t : Fin cfg0.N) (h : ¬t.val % 4 = 0) :
    held m c t.val t.isLt = stepAt m c t h (held m c (t.val - 1) (Nat.lt_of_le_of_lt (Nat.sub_le _ _) t.isLt)).1
      (held m c (t.val - 1) (Nat.lt_of_le_of_lt (Nat.sub_le _ _) t.isLt)).2.2 := by
  obtain ⟨n, hn⟩ := t
  cases n with
  | zero => exact absurd (Nat.zero_mod _) h
  | succ n => exact (dif_neg h).trans rfl

/-- Such a point leaves the normalised rows as it finds them. -/
theorem step_fst (c : Dev nD) (t : Fin cfg0.N) (h : ¬t.val % 4 = 0) (y : Vec F S1024x1024 .bf16) (o : Vec F S1024x1024 .f32) :
    (stepAt m c t h y o).1 = y := by
  unfold stepAt step; dsimp only

/-- What every window's buffer holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (held m c t.val t.isLt).1
    | ⟨5, _⟩ => (held m c t.val t.isLt).2.1
    | ⟨6, _⟩ => (held m c t.val t.isLt).2.2
  Φ _ := Pipeline.ΦA spec0 c
  q _ := fullShare
  owed _ := 0

/-- The arrays are the grid's. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (held m c t.val t.isLt).1 := by dsimp only [dats]
theorem after_5 (c : Dev nD) (t : Fin cfg0.N) : (dats m 0 c).after 5 t = (held m c t.val t.isLt).2.1 := by dsimp only [dats]
theorem after_6 (c : Dev nD) (t : Fin cfg0.N) : (dats m 0 c).after 6 t = (held m c t.val t.isLt).2.2 := by dsimp only [dats]

/-- Each input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-- The normalised rows' buffer is not written at the points that do not start a row block, -/
theorem idle_4 : ∀ t : Fin cfg0.N, cfg0.idle 4 (cfg0.grid.coords t) = true ↔ ¬t.val % 4 = 0 := by decide +kernel
/-- and is a new one at those that do. -/
theorem fresh_4 : ∀ t : Fin cfg0.N, cfg0.fresh 4 t.val = true ↔ t.val % 4 = 0 := by decide +kernel

/-- There it holds what the point before left, and keeps it. -/
theorem before_4 (c : Dev nD) (t : Fin cfg0.N) (h : ¬t.val % 4 = 0) (d) :
    (dats m 0 c).before 4 t d = (held m c (t.val - 1) (Nat.lt_of_le_of_lt (Nat.sub_le _ _) t.isLt)).1 := by
  rw [(dats m 0 c).before_out_traj 4 rfl (fun _ _ => rfl) (fun s h0 hi _ => by
    rw [after_4, after_4, held_step m c s ((idle_4 s).mp hi), step_fst]) t.val t rfl d, if_neg fun e => h ((fresh_4 t).mp e), after_4]

/-- The sum's buffer holds what the point before left. -/
theorem before_6 (c : Dev nD) (t : Fin cfg0.N) (h : ¬t.val % 4 = 0) (d) :
    (dats m 0 c).before 6 t d = (held m c (t.val - 1) (Nat.lt_of_le_of_lt (Nat.sub_le _ _) t.isLt)).2.2 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (dats m 0 c).leavesExact 4 t
    ∗ owns (c : Thread nD τ) (win0_5.stage (cfg0.slots t 5)) fullShare ((dats m 0 c).after 5 t)
    ∗ owns (c : Thread nD τ) (win0_6.stage (cfg0.slots t 6)) fullShare ((dats m 0 c).after 6 t))

/-- The normalised rows' buffer at what `held` says is what the grid asks back. -/
theorem leaves_4 (c : Dev nD) (t : Fin cfg0.N) :
    owns (c : Thread nD τ) (win0_4.stage (cfg0.slots t 4)) fullShare (held m c t.val t.isLt).1 ⊢ ((dats m 0 c).leavesExact 4 t : sProp 𝕄) := by
  by_cases h : t.val % 4 = 0
  · have hi : cfg0.idle 4 (cfg0.grid.coords t) = false := Bool.eq_false_iff.mpr fun e => (idle_4 t).mp e h
    unfold Dat.leavesExact; rw [hi]; dsimp only; rw [after_4]
  · have hi : cfg0.idle 4 (cfg0.grid.coords t) = true := (idle_4 t).mpr h
    by_cases hf : (cfg0.win 4).flush t = true
    · unfold Dat.leavesExact; rw [hi, hf]; dsimp only; rw [after_4]
    · rw [Dat.leavesExact_idle _ 4 t hi (Bool.eq_false_iff.mpr hf)]
      simp only [before_4 m c t h]
      rw [held_step m c t h, step_fst]
      iintro H
      iexists (held m c t.val t.isLt).1
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_5, after_6]
  have h4 := leaves_4 m c t
  by_cases h : t.val % 4 = 0
  · rw [held_start m c t h] at h4 ⊢
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ (iblk m c 0 t) (iblk m c 1 t) (iblk m c 2 t) (iblk m c 3 t) ((hcond t).mpr h) Set.univ _)
    unfold ins outs
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [H6]; · iexists _; iexact H6
    iintro ⟨⟨H0, H1, H2, H3⟩, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply h4; iexact H4
    isplitl [H5]; · iexact H5
    iexact H6
  · rw [held_step m c t h] at h4 ⊢
    simp only [before_4 m c t h, before_6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (iblk m c 0 t) (iblk m c 1 t) (iblk m c 2 t) (iblk m c 3 t) (fun e => h ((hcond t).mp e)) _ _ Set.univ _)
    unfold ins outs
    isplitl [H0 H1 H2 H3]
    · isplitl [H0]; · iexact H0
      isplitl [H1]; · iexact H1
      isplitl [H2]; · iexact H2
      iexact H3
    isplitl [H4]; · iexact H4
    isplitl [H5]; · iexists _; iexact H5
    isplitl [H6]; · iexact H6
    iintro ⟨⟨H0, H1, H2, H3⟩, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply h4; iexact H4
    isplitl [H5]; · iexact H5
    iexact H6

/-- The grid calls the body at its windows' current buffers. -/
theorem defs₀_row (t : Fin cfg0.N) : defs₀ (F := F) .tc cfg0.body (cfg0.bodyArgs t (cfg0.slots t)) = bodyAt0 t := by
  unfold defs₀; rw [Defs.onTc_tc]

/-- What the grid's run asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: the outputs as `held` leaves them, every semaphore back at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hΦ := fun _ _ => rfl)

/-- The argument arrays end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ((h c).2 main_arg1 (Pipeline.mem_restRefs_of main_arg1 (by decide) (by decide))).trans (V_kept m c main_arg1 (by decide) (by decide) (by decide) (by decide) (by decide)),
    ((h c).2 main_arg2 (Pipeline.mem_restRefs_of main_arg2 (by decide) (by decide))).trans (V_kept m c main_arg2 (by decide) (by decide) (by decide) (by decide) (by decide)),
    ((h c).2 main_arg3 (Pipeline.mem_restRefs_of main_arg3 (by decide) (by decide))).trans (V_kept m c main_arg3 (by decide) (by decide) (by decide) (by decide) (by decide))⟩
  exact ((h c).1 0).trans ((((dats m 0 c).arrAt_in 0 rfl _).trans (A_eq m c 0)).trans (V_kept m c main_arg0 (by decide) (by decide) (by decide) (by decide) (by decide)))

end Cert.FfnRun

end
-- ==== Proof.FfnVal.lean ====
module

public import proofs.«01_k».proof.Proof.Reals
public import proofs.«01_k».proof.Proof.FfnFrame
public import proofs.«01_k».proof.Proof.Gen.FfnRefIdeal.Read
public import Idealize.ShloMosaic.Lib.Pipeline.CanonAppend

@[expose] public section

set_option maxHeartbeats 600000
set_option maxRecDepth 16384

noncomputable section

/-! What the forward gated unit's kernel computes, beside its reference. -/

namespace Cert.FfnRun

open Cert.FfnIdeal Cert.FfnIdeal.Gen Cert.FfnRefIdeal.Read Cert.Reals Idealize.ShloMosaic Idealize.ShloMosaic.TcCoe Idealize.SL.Sem

section
variable (c : Dev nD) (i : grid0.Coords)
  (a0 : Memref sig .tc .vmem S1024x1024 .f32) (w0 : a0.IsWhole) (a1 : Memref sig .tc .vmem S1x1024 .f32) (w1 : a1.IsWhole)
  (a2 : Memref sig .tc .vmem S2x1x704x1024 .bf16) (w2 : a2.IsWhole) (a3 : Memref sig .tc .vmem S704x1024 .bf16) (w3 : a3.IsWhole)
  (a4 : Memref sig .tc .vmem S1024x1024 .bf16) (w4 : a4.IsWhole) (a5 : Memref sig .tc .vmem S2x1x1024x704 .bf16) (w5 : a5.IsWhole)
  (a6 : Memref sig .tc .vmem S1024x1024 .f32) (w6 : a6.IsWhole)
  (x0 : Vec Ideal S1024x1024 .f32) (x1 : Vec Ideal S1x1024 .f32) (x2 : Vec Ideal S2x1x704x1024 .bf16) (x3 : Vec Ideal S704x1024 .bf16)
  (hc : k0_cond1 i = 1#1) (hn : ¬k0_cond1 i = 1#1) (y : Vec Ideal S1024x1024 .bf16) (o : Vec Ideal S1024x1024 .f32)

/-- The gate's half of a block of the weight. -/
abbrev lo : Vec Ideal S1x1x704x1024 .bf16 := View.ld (Val := Elt Ideal) x2 (Rect.unit ![0, 0, 0, 0] ![1, 1, 704, 1024] inb_S2x1x704x1024_S1x1x704x1024_0_0_0_0)
/-- The other half. -/
abbrev hi : Vec Ideal S1x1x704x1024 .bf16 := View.ld (Val := Elt Ideal) x2 (Rect.unit ![1, 0, 0, 0] ![1, 1, 704, 1024] inb_S2x1x704x1024_S1x1x704x1024_1_0_0_0)

/-- A row block's first point leaves the normalised rows, -/
theorem start_xn : (start c i a0 w0 a1 w1 a2 w2 a3 w3 a4 w4 a5 w5 a6 w6 x0 x1 x2 x3 hc).1 = k0_pay2 x0 x1 := by
  unfold start first; dsimp only; frame_out

/-- both halves of the product, -/
theorem start_gu : (start c i a0 w0 a1 w1 a2 w2 a3 w3 a4 w4 a5 w5 a6 w6 x0 x1 x2 x3 hc).2.1
    = View.canon (Val := Elt Ideal) (e := .bf16)
      [⟨Rect.unit ![1, 0, 0, 0] ![1, 1, 1024, 704] inb_S2x1x1024x704_S1x1x1024x704_1_0_0_0, k0_pay7 (k0_pay2 x0 x1) (hi x2)⟩,
        ⟨Rect.unit ![0, 0, 0, 0] ![1, 1, 1024, 704] inb_S2x1x1024x704_S1x1x1024x704_0_0_0_0, k0_pay6 (k0_pay2 x0 x1) (lo x2)⟩] := by
  unfold start first; dsimp only; frame_out

/-- and the residual with the first part of the sum. -/
theorem start_x : (start c i a0 w0 a1 w1 a2 w2 a3 w3 a4 w4 a5 w5 a6 w6 x0 x1 x2 x3 hc).2.2
    = k0_pay1 (k0_pay8 (k0_pay2 x0 x1) (lo x2) (hi x2)) x0 x3 := by
  unfold start first; dsimp only; frame_out

/-- A later point leaves both halves of the product -/
theorem step_gu : (step c i a0 w0 a1 w1 a2 w2 a3 w3 a4 w4 a5 w5 a6 w6 x0 x1 x2 x3 hn y o).2.1
    = View.canon (Val := Elt Ideal) (e := .bf16)
      [⟨Rect.unit ![1, 0, 0, 0] ![1, 1, 1024, 704] inb_S2x1x1024x704_S1x1x1024x704_1_0_0_0, k0_pay7 y (hi x2)⟩,
        ⟨Rect.unit ![0, 0, 0, 0] ![1, 1, 1024, 704] inb_S2x1x1024x704_S1x1x1024x704_0_0_0_0, k0_pay6 y (lo x2)⟩] := by
  unfold step later; dsimp only; frame_out

/-- and the sum with one more part. -/
theorem step_x : (step c i a0 w0 a1 w1 a2 w2 a3 w3 a4 w4 a5 w5 a6 w6 x0 x1 x2 x3 hn y o).2.2 = k0_pay1 (k0_pay8 y (lo x2) (hi x2)) o x3 := by
  unfold step later; dsimp only; frame_out
end

section
variable (X : FVec Ideal S4096x1024 .f32) (G : FVec Ideal S1024 .f32) (W : FVec Ideal S1024x5632 .f32) (D : FVec Ideal S2816x1024 .f32)
variable (x0 : FVec Ideal S1024x1024 .f32) (x1 : FVec Ideal S1x1024 .f32) (y : FVec Ideal S1024x1024 .bf16) (w w' : FVec Ideal S1x1x704x1024 .bf16)
  (u : FVec Ideal S1024x704 .bf16) (o : FVec Ideal S1024x1024 .f32) (d : FVec Ideal S704x1024 .bf16)
variable (p : Fin 1024 → Fin 4096) (q : Fin 704 → Fin 2816)
variable (h0 : ∀ i k, x0 (ix2 i k) = X (ix2 (p i) k)) (h1 : ∀ z k, x1 (ix2 z k) = G (ix1 k))
  (hy : ∀ i k, y (ix2 i k) = val_main_v12 (F := Ideal) X G (ix2 (p i) k))
  (hw : ∀ z z' f k, w (ix4 z z' f k) = W (ix2 k ⟨(q f).val, by omega⟩))
  (hw' : ∀ z z' f k, w' (ix4 z z' f k) = W (ix2 k ⟨2816 + (q f).val, by omega⟩))

include h0 h1 in
/-- The normalised rows. -/
theorem pay2 (i k : Fin 1024) : k0_pay2 (F := Ideal) x0 x1 (ix2 i k) = val_main_v12 (F := Ideal) X G (ix2 (p i) k) := by
  pointwise [k0_pay2, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [h0, h1]

include hy hw in
/-- The gate's half of the product. -/
theorem pay4 (i : Fin 1024) (f : Fin 704) : k0_pay4 (F := Ideal) y w (ix2 i f) = val_main_v14 (F := Ideal) X G W (ix2 (p i) (q f)) := by
  pointwise [k0_pay4, k0_pay3, val_main_v14, val_main_v13]
  simp only [hy, hw]

include hy hw' in
/-- The other half. -/
theorem pay5 (i : Fin 1024) (f : Fin 704) : k0_pay5 (F := Ideal) y w' (ix2 i f) = val_main_v15 (F := Ideal) X G W (ix2 (p i) (q f)) := by
  pointwise [k0_pay5, k0_pay3, val_main_v15, val_main_v13]
  simp only [hy, hw']

include hy hw hw' in
/-- The gated unit. -/
theorem pay8 (i : Fin 1024) (f : Fin 704) : k0_pay8 (F := Ideal) y w w' (ix2 i f) = val_main_v17 (F := Ideal) X G W (ix2 (p i) (q f)) := by
  pointwise [k0_pay8, val_main_v17, val_main_v16, val_main_call0_v5, val_main_call0_v4, val_main_call0_v3, val_main_call0_v2, val_main_call0_v1,
    val_main_call0_v0, val_main_call0_cst, val_main_call0_cst_0]
  rw [pay4 X G W y w p q hy hw, pay5 X G W y w' p q hy hw']
  simp only [zero_sub]

/-- One part of the down projection, added to what is there. -/
theorem pay1 (i k : Fin 1024) : k0_pay1 (F := Ideal) u o d (ix2 i k) = o (ix2 i k) + ∑ f, u (ix2 i f) * d (ix2 f k) := by
  pointwise [k0_pay1]

include hy hw in
/-- The gate's half as it is stored. -/
theorem pay6 (z z' : Fin 1) (i : Fin 1024) (f : Fin 704) :
    k0_pay6 (F := Ideal) y w (ix4 z z' i f) = val_main_v14 (F := Ideal) X G W (ix2 (p i) (q f)) := by
  rw [← pay4 X G W y w p q hy hw]
  pointwise [k0_pay6]

include hy hw' in
/-- The other half as it is stored. -/
theorem pay7 (z z' : Fin 1) (i : Fin 1024) (f : Fin 704) :
    k0_pay7 (F := Ideal) y w' (ix4 z z' i f) = val_main_v15 (F := Ideal) X G W (ix2 (p i) (q f)) := by
  rw [← pay5 X G W y w' p q hy hw']
  pointwise [k0_pay7]
end

section
variable (m : (ℓ : Loc nD τ sig) → Buf (Elt Ideal) ℓ) (c : Dev nD)

/-- The windows' blocks: point `t` is row block `t / 4` and column block `t % 4`. -/
theorem idx : ∀ t : Fin cfg0.N, win0_0.index t = ![t.val / 4, 0] ∧ win0_1.index t = ![0, 0]
    ∧ win0_2.index t = ![0, t.val % 4, 0, 0] ∧ win0_3.index t = ![t.val % 4, 0] ∧ win0_4.index t = ![t.val / 4, 0]
    ∧ win0_5.index t = ![0, t.val % 4, t.val / 4, 0] ∧ win0_6.index t = ![t.val / 4, 0] ∧ t.val < 16 :=
  (by decide +kernel : ∀ t : Fin grid0.N, _)

/-- Row `i` of point `t`'s block, as a row of the whole array. -/
def row (t : Fin cfg0.N) (i : Fin 1024) : Fin 4096 := ⟨t.val / 4 * 1024 + i.val, by have := (idx t).2.2.2.2.2.2.2; omega⟩
/-- Column `f` of point `t`'s block, as a column of the whole array. -/
def col (t : Fin cfg0.N) (f : Fin 704) : Fin 2816 := ⟨t.val % 4 * 704 + f.val, by omega⟩

/-- The four arguments. -/
abbrev aX : FVec Ideal S4096x1024 .f32 := m (c.tc.loc main_arg0)
abbrev aG : FVec Ideal S1024 .f32 := m (c.tc.loc main_arg1)
abbrev aW : FVec Ideal S1024x5632 .f32 := m (c.tc.loc main_arg2)
abbrev aD : FVec Ideal S2816x1024 .f32 := m (c.tc.loc main_arg3)

/-- The staged rows. -/
theorem blk0 (t : Fin cfg0.N) (i k : Fin 1024) : (iblk m c 0 t : FVec Ideal S1024x1024 .f32) (ix2 i k) = aX m c (ix2 (row t i) k) := by
  blk_point [iblk, idx t, row]

/-- The staged gain. -/
theorem blk1 (t : Fin cfg0.N) (z : Fin 1) (k : Fin 1024) : (iblk m c 1 t : FVec Ideal S1x1024 .f32) (ix2 z k) = aG m c (ix1 k) := by
  blk_point [iblk, idx t]

/-- The staged up projection, both halves. -/
theorem blk2 (t : Fin cfg0.N) (z : Fin 2) (z' : Fin 1) (f : Fin 704) (k : Fin 1024) :
    (iblk m c 2 t : FVec Ideal S2x1x704x1024 .bf16) (ix4 z z' f k) = aW m c (ix2 k ⟨z.val * 2816 + (col t f).val, by omega⟩) := by
  blk_point [iblk, idx t, col]

/-- The staged down projection. -/
theorem blk3 (t : Fin cfg0.N) (f : Fin 704) (k : Fin 1024) : (iblk m c 3 t : FVec Ideal S704x1024 .bf16) (ix2 f k) = aD m c (ix2 (col t f) k) := by
  blk_point [iblk, idx t, col]

/-- One half of the weight. -/
theorem ld_w (x : FVec Ideal S2x1x704x1024 .bf16) (p : ℕ) (hp : p < 2)
    (b : ∀ a, ![p, 0, 0, 0] a + ![1, 1, 704, 1024] a ≤ S2x1x704x1024.size a) (z z' : Fin 1) (f : Fin 704) (e : Fin 1024) :
    (View.ld (Val := Elt Ideal) (S := S2x1x704x1024) (e' := .bf16) x (Rect.unit ![p, 0, 0, 0] ![1, 1, 704, 1024] b) : FVec Ideal S1x1x704x1024 .bf16) (ix4 z z' f e)
      = x (ix4 ⟨p, hp⟩ 0 f e) := by
  refine congrArg x (funext fun a => Fin.ext ?_)
  rw [Rect.idx_unit_val]
  fin_cases a <;> simp [ix4]

/-- The gate's half of the staged up projection. -/
theorem blk_lo (t : Fin cfg0.N) (z z' : Fin 1) (f : Fin 704) (k : Fin 1024) :
    (lo (iblk m c 2 t)) (ix4 z z' f k) = aW m c (ix2 k ⟨(col t f).val, by omega⟩) := by
  refine (ld_w _ 0 (by decide) _ z z' f k).trans ((blk2 m c t _ 0 f k).trans ?_)
  simp

/-- The other half. -/
theorem blk_hi (t : Fin cfg0.N) (z z' : Fin 1) (f : Fin 704) (k : Fin 1024) :
    (hi (iblk m c 2 t)) (ix4 z z' f k) = aW m c (ix2 k ⟨2816 + (col t f).val, by omega⟩) := by
  refine (ld_w _ 1 (by decide) _ z z' f k).trans ((blk2 m c t _ 0 f k).trans ?_)
  simp

/-- After every point the first output's buffer holds the normalised rows. -/
theorem held_xn (t : Fin cfg0.N) (i k : Fin 1024) :
    ((held m c t.val t.isLt).1 : FVec Ideal S1024x1024 .bf16) (ix2 i k) = val_main_v12 (F := Ideal) (aX m c) (aG m c) (ix2 (row t i) k) := by
  obtain ⟨n, hn⟩ := t
  induction n with
  | zero =>
    rw [held_start m c ⟨0, hn⟩ rfl, start_xn]
    exact pay2 _ _ _ _ _ (blk0 m c ⟨0, hn⟩) (blk1 m c ⟨0, hn⟩) i k
  | succ n ih =>
    by_cases h : (n + 1) % 4 = 0
    · rw [held_start m c ⟨n + 1, hn⟩ h, start_xn]
      exact pay2 _ _ _ _ _ (blk0 m c ⟨n + 1, hn⟩) (blk1 m c ⟨n + 1, hn⟩) i k
    · rw [held_step m c ⟨n + 1, hn⟩ h, step_fst]
      refine (ih (Nat.lt_of_succ_lt hn)).trans ?_
      have e : row ⟨n, Nat.lt_of_succ_lt hn⟩ i = row ⟨n + 1, hn⟩ i := Fin.ext (by simp only [row]; omega)
      rw [e]

/-- The second output's buffer, of the halves stored over rows that hold the normalised ones. -/
theorem gu_at (t : Fin cfg0.N) (y : FVec Ideal S1024x1024 .bf16)
    (hy : ∀ i k, y (ix2 i k) = val_main_v12 (F := Ideal) (aX m c) (aG m c) (ix2 (row t i) k)) (j : S2x1x1024x704.Idx) :
    View.canon (Val := Elt Ideal) (e := .bf16)
      [⟨Rect.unit ![1, 0, 0, 0] ![1, 1, 1024, 704] inb_S2x1x1024x704_S1x1x1024x704_1_0_0_0, k0_pay7 y (hi (iblk m c 2 t))⟩,
        ⟨Rect.unit ![0, 0, 0, 0] ![1, 1, 1024, 704] inb_S2x1x1024x704_S1x1x1024x704_0_0_0_0, k0_pay6 y (lo (iblk m c 2 t))⟩] j
      = val_main_v13 (F := Ideal) (aX m c) (aG m c) (aW m c) (ix2 (row t (j 2)) ⟨(j 0 : Fin 2).val * 2816 + (col t (j 3)).val, by have : (j 0 : Fin 2).val < 2 := (j 0).isLt; omega⟩) := by
  canon_tiles x h
  · idx_vars x
    refine (pay7 _ _ _ _ _ _ _ hy (blk_hi m c t) x0 x1 x2 x3).trans ?_
    pointwise [val_main_v15]
    refine congrArg₂ (fun (r : Fin 4096) (f : Fin 5632) => val_main_v13 (F := Ideal) (aX m c) (aG m c) (aW m c) (ix2 r f)) (Fin.ext ?_) (Fin.ext ?_)
    · simp only [row]; omega
    · simp only [col]; omega
  · idx_vars x
    refine (pay6 _ _ _ _ _ _ _ hy (blk_lo m c t) x0 x1 x2 x3).trans ?_
    pointwise [val_main_v14]
    refine congrArg₂ (fun (r : Fin 4096) (f : Fin 5632) => val_main_v13 (F := Ideal) (aX m c) (aG m c) (aW m c) (ix2 r f)) (Fin.ext ?_) (Fin.ext ?_)
    · simp only [row]; omega
    · simp only [col]; omega

/-- A later point finds the normalised rows of its row block. -/
theorem found_xn (t : Fin cfg0.N) (h : ¬t.val % 4 = 0) (i k : Fin 1024) :
    ((held m c (t.val - 1) (Nat.lt_of_le_of_lt (Nat.sub_le _ _) t.isLt)).1 : FVec Ideal S1024x1024 .bf16) (ix2 i k)
      = val_main_v12 (F := Ideal) (aX m c) (aG m c) (ix2 (row t i) k) := by
  refine Eq.trans ?_ (held_xn m c t i k)
  rw [held_step m c t h, step_fst]

/-- After every point the second output's buffer holds the point's columns of both halves. -/
theorem held_gu (t : Fin cfg0.N) (j : S2x1x1024x704.Idx) :
    ((held m c t.val t.isLt).2.1 : FVec Ideal S2x1x1024x704 .bf16) j
      = val_main_v13 (F := Ideal) (aX m c) (aG m c) (aW m c) (ix2 (row t (j 2)) ⟨(j 0 : Fin 2).val * 2816 + (col t (j 3)).val, by have : (j 0 : Fin 2).val < 2 := (j 0).isLt; omega⟩) := by
  by_cases h : t.val % 4 = 0
  · rw [held_start m c t h, start_gu]
    exact gu_at m c t _ (pay2 _ _ _ _ _ (blk0 m c t) (blk1 m c t)) j
  · rw [held_step m c t h, step_gu]
    exact gu_at m c t _ (found_xn m c t h) j

/-- What point `t` adds to the third output: its columns' part of the down projection. -/
def part (t : Fin cfg0.N) (i k : Fin 1024) : EReal :=
  ∑ f, val_main_v17 (F := Ideal) (aX m c) (aG m c) (aW m c) (ix2 (row t i) (col t f)) * aD m c (ix2 (col t f) k)

/-- One point's sum, over rows that hold the normalised ones. -/
theorem x_at (t : Fin cfg0.N) (y : FVec Ideal S1024x1024 .bf16) (o : FVec Ideal S1024x1024 .f32)
    (hy : ∀ i k, y (ix2 i k) = val_main_v12 (F := Ideal) (aX m c) (aG m c) (ix2 (row t i) k)) (i k : Fin 1024) :
    k0_pay1 (F := Ideal) (k0_pay8 y (lo (iblk m c 2 t)) (hi (iblk m c 2 t))) o (iblk m c 3 t) (ix2 i k) = o (ix2 i k) + part m c t i k := by
  rw [pay1]
  refine congrArg _ (Finset.sum_congr rfl fun f _ => ?_)
  rw [pay8 _ _ _ _ _ _ _ _ hy (blk_lo m c t) (blk_hi m c t), blk3]

/-- What a point contributes to the third output: the residual comes in at a row block's first point. -/
def term (t : Fin cfg0.N) (i k : Fin 1024) : EReal := (if t.val % 4 = 0 then aX m c (ix2 (row t i) k) else 0) + part m c t i k

/-- A row block's first point. -/
theorem term_start (t : Fin cfg0.N) (h : t.val % 4 = 0) (y : S1024x1024.Idx) :
    ((held m c t.val t.isLt).2.2 : FVec Ideal S1024x1024 .f32) y = 0 + term m c t (y 0) (y 1) := by
  idx_vars y
  rw [held_start m c t h, start_x, x_at m c t _ _ (pay2 _ _ _ _ _ (blk0 m c t) (blk1 m c t)), blk0, zero_add, term, if_pos h]

/-- Every other point. -/
theorem term_step (t : Fin cfg0.N) (h : ¬t.val % 4 = 0) (y : S1024x1024.Idx) :
    ((held m c t.val t.isLt).2.2 : FVec Ideal S1024x1024 .f32) y
      = ((held m c (t.val - 1) (Nat.lt_of_le_of_lt (Nat.sub_le _ _) t.isLt)).2.2 : FVec Ideal S1024x1024 .f32) y + term m c t (y 0) (y 1) := by
  idx_vars y
  rw [held_step m c t h, step_x, x_at m c t _ _ (found_xn m c t h), term, if_neg h, zero_add]

/-- A row block's contributions add up to the reference's third residual row. -/
theorem sum4 (t : Fin cfg0.N) (i : Fin 1024) (k : Fin 1024) {b : ∀ s : Fin 4, 4 * (t.val / 4) + s.val < cfg0.N} :
    ∑ s : Fin 4, term m c ⟨4 * (t.val / 4) + s.val, b s⟩ i k
      = val_main_v19 (F := Ideal) (aX m c) (aG m c) (aW m c) (aD m c) (ix2 (row t i) k) := by
  have h1 : ∀ s : Fin 4, row ⟨4 * (t.val / 4) + s.val, b s⟩ i = row t i := fun s => Fin.ext (by simp only [row]; omega)
  have h2 : ∀ (s : Fin 4) f, col ⟨4 * (t.val / 4) + s.val, b s⟩ f = (⟨s.val * 704 + f.val, by omega⟩ : Fin 2816) := fun s f =>
    Fin.ext (by simp only [col]; omega)
  have h3 : ∀ s : Fin 4, ((4 * (t.val / 4) + s.val) % 4 = 0 ↔ s = 0) := fun s => by rw [Fin.ext_iff]; simp; omega
  pointwise [val_main_v19, val_main_v18]
  unfold term part
  rw [Finset.sum_add_distrib, Fin.sum_univ_tiles 4 704 rfl]
  simp only [h1, h2, h3, Finset.sum_ite_eq', Finset.mem_univ, if_true]

/-- The first result. -/
theorem final4 : (dats m 0 c).arrAt 4 (cfgs 0).N = (val_main_v20 (F := Ideal) (aX m c) (aG m c) : FVec Ideal S4096x1024 .bf16) := by
  refine (dats m 0 c).arrAt_eq_of_covers 4 _ (by decide +kernel) fun t _ y => ?_
  idx_vars y
  blk_simp [idx t]
  rw [after_4]
  refine (held_xn m c t _ _).trans ?_
  pointwise [val_main_v20]
  refine congrArg _ (funext fun a => Fin.ext ?_)
  fin_cases a <;> blk_simp [idx t, row, ix2]

/-- The second result. -/
theorem final5 : (dats m 0 c).arrAt 5 (cfgs 0).N = (val_main_v23 (F := Ideal) (aX m c) (aG m c) (aW m c) : FVec Ideal S2x4x4096x704 .bf16) := by
  refine (dats m 0 c).arrAt_eq_of_covers 5 _ (by decide +kernel) fun t _ y => ?_
  idx_vars y
  blk_simp [idx t]
  rw [after_5]
  refine (held_gu m c t _).trans ?_
  have e : (win0_5.blk t).view.emb (ix4 y0 y1 y2 y3) = (ix4 y0 ⟨t.val % 4, Nat.mod_lt _ (by decide)⟩ (row t y2) y3 : S2x4x4096x704.Idx) := by
    refine funext fun a => Fin.ext ?_
    fin_cases a <;> blk_simp [idx t, row, ix4]
  rw [e]
  pointwise [val_main_v23, val_main_v22, val_main_v21]
  refine congrArg (fun f : Fin 5632 => val_main_v13 (F := Ideal) (aX m c) (aG m c) (aW m c) (ix2 (row t y2) f)) (Fin.ext ?_)
  simp only [col]; omega

/-- The third result. -/
theorem final6 : (dats m 0 c).arrAt 6 (cfgs 0).N = (val_main_v19 (F := Ideal) (aX m c) (aG m c) (aW m c) (aD m c) : FVec Ideal S4096x1024 .f32) := by
  refine (dats m 0 c).arrAt_eq_of_covers 6 _ (by decide +kernel) fun t hf y => ?_
  idx_vars y
  blk_simp [idx t]
  rw [after_6, Pipeline.eq_sum_fin_of_reset_step_apply_of_flush (fun n h => (held m c n h).2.2) 4 (fun _ => 0) (fun t y => term m c t (y 0) (y 1))
    (term_start m c) (term_step m c) t ((flush0_6 t).mp hf) _, zero_add]
  refine (sum4 m c t _ _).trans ?_
  refine congrArg _ (funext fun a => Fin.ext ?_)
  fin_cases a <;> blk_simp [idx t, row, ix2]

end

end Cert.FfnRun

end
-- ==== Proof.FfnClaim.lean ====
module

public import proofs.«01_k».proof.Defs
public import proofs.«01_k».proof.Proof.FfnVal
public import proofs.«01_k».proof.Proof.Gen.Ffn
public import proofs.«01_k».proof.Proof.Gen.FfnRefIdeal.Run
public import Idealize.ShloMosaic.Lib.Quiescent

@[expose] public section

set_option maxRecDepth 16384

noncomputable section

/-! The forward gated unit: the kernel ends with the reference's normalised rows, both halves of its product and its third
residual row. -/

namespace Cert.FfnClaim

open Idealize.ShloMosaic Idealize.ShloMosaic.TcCoe Idealize.SL.Sem Cert.FfnRun

/-- The kernel's text runs and leaves its arguments and its counters as they were, with floats of any kind. -/
theorem frame_any {F : FTy → Type} [FloatOps F] (m : (ℓ : Loc Cert.FfnIdeal.nD Cert.FfnIdeal.τ Cert.FfnIdeal.sig) → Buf (Elt F) ℓ)
    (ρ : Dev Cert.FfnIdeal.nD → PrngReg) :
    θ_run (Cert.FfnIdeal.defs (F := F)) (onTc (τ := Cert.FfnIdeal.τ) (Cert.FfnIdeal.main (F := F))) ⟨m, fun _ => 0, ρ⟩ (fun r =>
      (∀ c : Dev Cert.FfnIdeal.nD, r.2.mem (c.tc.loc Cert.FfnIdeal.main_arg0) = m (c.tc.loc Cert.FfnIdeal.main_arg0)
        ∧ r.2.mem (c.tc.loc Cert.FfnIdeal.main_arg1) = m (c.tc.loc Cert.FfnIdeal.main_arg1)
        ∧ r.2.mem (c.tc.loc Cert.FfnIdeal.main_arg2) = m (c.tc.loc Cert.FfnIdeal.main_arg2)
        ∧ r.2.mem (c.tc.loc Cert.FfnIdeal.main_arg3) = m (c.tc.loc Cert.FfnIdeal.main_arg3)) ∧ r.2.sem = fun _ => 0) :=
  (θ_run Cert.FfnIdeal.defs _ _).mono (fun r h => ⟨fun c => kept m r h.1 c, h.2⟩) (run (F := F) m ρ)

/-- The kernel's body at every grid point is its idealization's, word for word. -/
theorem body_eq : Cert.Ffn.defs₀ (F := Bits) = Cert.FfnIdeal.defs₀ := by
  refine congrArg Defs.onTc (funext fun l => funext fun x => ?_)
  match l, x with
  | 0, (t, s) => rfl

/-- So are all the bodies that the kernel calls. -/
theorem defs_eq : Cert.Ffn.defs (F := Bits) = Cert.FfnIdeal.defs := congrArg (fun d => Pipeline.defs Cert.FfnIdeal.pcfgs d) body_eq

/-- The kernel runs and leaves its arguments and its counters as they were: its text is its idealization's. -/
theorem frame_kernel : Cert.quiescent_Ffn := by
  intro m ρ _
  rw [defs_eq]
  exact frame_any (F := Bits) m ρ

/-- So does its idealization. -/
theorem frame_ideal : Cert.quiescent_FfnIdeal := fun m ρ _ => frame_any (F := Ideal) m ρ

/-- So does the reference: it has no counters at all, and its run leaves the arguments. -/
theorem frame_ref : Cert.quiescent_FfnRefIdeal := fun m ρ _ =>
  (θ_run Cert.FfnRefIdeal.defs _ _).mono (fun r h => ⟨fun c => (h c).2.2.2, sem_eq_zero_of_no_sems rfl r.2⟩)
    (Cert.FfnRefIdeal.Value.run (F := Ideal) m ρ)

/-- On every run the kernel and the reference end with equal results. -/
theorem algebraic : Cert.algebraic_FfnIdeal_FfnRefIdeal := by
  intro m g m' g' hpre hag
  refine ⟨fun c => (dats m 0 c).arrAt 4 (Cert.FfnIdeal.cfgs 0).N, fun c => (dats m 0 c).arrAt 5 (Cert.FfnIdeal.cfgs 0).N,
    fun c => (dats m 0 c).arrAt 6 (Cert.FfnIdeal.cfgs 0).N,
    (θ_run Cert.FfnIdeal.defs _ _).mono (fun r h c => ⟨(h.1 c).1 4, (h.1 c).1 5, (h.1 c).1 6, kept m r h.1 c⟩) (run (F := Ideal) m g),
    (θ_run Cert.FfnRefIdeal.defs _ _).mono (fun r h c => ?_) (Cert.FfnRefIdeal.Value.run (F := Ideal) m' g')⟩
  obtain ⟨r0, r1, r2, ra⟩ := h c
  obtain ⟨e0, e1, e2, e3⟩ := hag c
  refine ⟨(r0.trans ?_).trans (final4 m c).symm, (r1.trans ?_).trans (final5 m c).symm, (r2.trans ?_).trans (final6 m c).symm, ra⟩
  · rw [Cert.FfnRefIdeal.Read.val_main_v20_eq, e0, e1]
  · rw [Cert.FfnRefIdeal.Read.val_main_v23_eq, e0, e1, e2]
  · rw [Cert.FfnRefIdeal.Read.val_main_v19_eq, e0, e1, e2, e3]

end Cert.FfnClaim

end
-- ==== Proof.ShardClaim.lean ====
module

public import proofs.«01_k».proof.Defs
public import proofs.«01_k».proof.Proof.Reals
public import proofs.«01_k».proof.Proof.Gen.Shard.Frame
public import proofs.«01_k».proof.Proof.Gen.ShardIdeal.Value
public import proofs.«01_k».proof.Proof.Gen.ShardRefIdeal.Run
public import proofs.«01_k».proof.Proof.Gen.ShardRefIdeal.Read
public import Idealize.ShloMosaic.Lib.Quiescent

@[expose] public section

set_option maxHeartbeats 600000
set_option maxRecDepth 16384

noncomputable section

/-! The optimiser's update of a shard: the gradient is the kept part and the three that arrived. No finiteness is needed. -/

namespace Cert.ShardClaim

open Idealize.ShloMosaic Idealize.SL.Sem Cert.Reals Cert.ShardIdeal Cert.ShardIdeal.Gen Cert.ShardRefIdeal.Read

/-- The kernel runs and leaves its arguments and its counters as they were. -/
theorem frame_kernel : Cert.quiescent_Shard := fun m ρ _ => Cert.Shard.Gen.frame m ρ

/-- So does its idealization. -/
theorem frame_ideal : Cert.quiescent_ShardIdeal := fun m ρ _ => Cert.ShardIdeal.Gen.frame m ρ

/-- So does the reference: it has no counters at all, and its run leaves the arguments. -/
theorem frame_ref : Cert.quiescent_ShardRefIdeal := fun m ρ _ =>
  (θ_run Cert.ShardRefIdeal.defs _ _).mono (fun r h => ⟨fun c => (h c).2.2.2.2, sem_eq_zero_of_no_sems rfl r.2⟩)
    (Cert.ShardRefIdeal.Value.run (F := Ideal) m ρ)

/-- Row `i` of tile `t`. -/
def row (t : Fin cfg0.N) (i : Fin 176) : Fin 704 := ⟨t.val * 176 + i.val, by have := t.isLt; change t.val < 4 at this; omega⟩

section
variable {x0 : FVec Ideal S704x1024 .f32} {x1 : FVec Ideal S3x704x1024 .bf16} {x2 x3 x4 : FVec Ideal S1024x704 .f32}
  {k w u v : FVec Ideal S176x1024 .f32} {r : FVec Ideal S3x176x1024 .bf16} {R : Fin 704} {i : Fin 176} {j : Fin 1024}

/-- The gradient of the reference: the kept part and the sum of the three others. -/
theorem ref3 : val_main_v3 (F := Ideal) x0 x1 (ix2 j R) = ((x0 (ix2 R j) + x1 (ix3 0 R j)) + x1 (ix3 1 R j)) + x1 (ix3 2 R j) := by
  pointwise [val_main_v3, val_main_v2, val_main_v1, val_main_v0, val_main_cst]
  rw [Fin.sum_univ_three]
  simp only [add_assoc]

/-- The gradient, an entry of a tile. -/
theorem tile5 (hk : k (ix2 i j) = x0 (ix2 R j)) (hr : ∀ q, r (ix3 q i j) = x1 (ix3 q R j)) :
    out0_5 (F := Ideal) k r w u v (ix2 i j) = val_main_v3 (F := Ideal) x0 x1 (ix2 j R) := by
  rw [ref3, ← hk, ← hr, ← hr, ← hr]
  unfold_out out0_5
  frame_out
  pointwise [k0_pay2]

/-- The first moment, an entry of a tile. -/
theorem tile7 (hk : k (ix2 i j) = x0 (ix2 R j)) (hr : ∀ q, r (ix3 q i j) = x1 (ix3 q R j)) (hu : u (ix2 i j) = x3 (ix2 j R)) :
    out0_7 (F := Ideal) k r w u v (ix2 i j) = val_main_v8 (F := Ideal) x0 x1 x3 (ix2 j R) := by
  pointwise [val_main_v8, val_main_v7, val_main_v6, val_main_v5, val_main_v4, val_main_cst_0, val_main_cst_1]
  rw [ref3, ← hk, ← hr, ← hr, ← hr, ← hu]
  unfold_out out0_7
  frame_out
  pointwise [k0_pay4, k0_pay2]

/-- The second moment, an entry of a tile. -/
theorem tile8 (hk : k (ix2 i j) = x0 (ix2 R j)) (hr : ∀ q, r (ix3 q i j) = x1 (ix3 q R j)) (hv : v (ix2 i j) = x4 (ix2 j R)) :
    out0_8 (F := Ideal) k r w u v (ix2 i j) = val_main_v14 (F := Ideal) x0 x1 x4 (ix2 j R) := by
  pointwise [val_main_v14, val_main_v13, val_main_v12, val_main_v11, val_main_v10, val_main_v9, val_main_cst_2, val_main_cst_3]
  rw [ref3, ← hk, ← hr, ← hr, ← hr, ← hv]
  unfold_out out0_8
  frame_out
  pointwise [k0_pay5, k0_pay2]

/-- The update, an entry of a tile. -/
theorem tile6 (hk : k (ix2 i j) = x0 (ix2 R j)) (hr : ∀ q, r (ix3 q i j) = x1 (ix3 q R j)) (hw : w (ix2 i j) = x2 (ix2 j R))
    (hu : u (ix2 i j) = x3 (ix2 j R)) (hv : v (ix2 i j) = x4 (ix2 j R)) :
    out0_6 (F := Ideal) k r w u v (ix2 i j) = val_main_v27 (F := Ideal) x0 x1 x2 x3 x4 (ix2 j R) := by
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_cst_0, val_main_cst_1, val_main_cst_2, val_main_cst_3, val_main_cst_4,
    val_main_cst_5, val_main_cst_6, val_main_cst_7, val_main_cst_8]
  rw [ref3, ← hk, ← hr, ← hr, ← hr, ← hv, ← hu, ← hw]
  unfold_out out0_6
  frame_out
  pointwise [k0_pay1, k0_pay3, k0_pay6, k0_pay5, k0_pay4, k0_pay2]

end

section
variable (m : (ℓ : Loc nD τ sig) → Buf (Elt Ideal) ℓ) (c : Dev nD)

/-- The windows' blocks at each point of the grid. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The staged part that was kept. -/
theorem blk0 (t : Fin cfg0.N) (i : Fin 176) (j : Fin 1024) :
    (iblk m c 0 t : FVec Ideal S176x1024 .f32) (ix2 i j) = (m (c.tc.loc main_arg0) : FVec Ideal S704x1024 .f32) (ix2 (row t i) j) := by
  blk_point [iblk, V, idx t, row]

/-- The staged parts that arrived. -/
theorem blk1 (t : Fin cfg0.N) (i : Fin 176) (j : Fin 1024) (q : Fin 3) :
    (iblk m c 1 t : FVec Ideal S3x176x1024 .bf16) (ix3 q i j) = (m (c.tc.loc main_arg1) : FVec Ideal S3x704x1024 .bf16) (ix3 q (row t i) j) := by
  blk_point [iblk, V, idx t, row]

/-- The staged weight, transposed. -/
theorem blk2 (t : Fin cfg0.N) (i : Fin 176) (j : Fin 1024) :
    (iblk m c 2 t : FVec Ideal S176x1024 .f32) (ix2 i j) = (m (c.tc.loc main_arg2) : FVec Ideal S1024x704 .f32) (ix2 j (row t i)) := by
  blk_point [iblk, idx t, row]

/-- The staged first moment, transposed. -/
theorem blk3 (t : Fin cfg0.N) (i : Fin 176) (j : Fin 1024) :
    (iblk m c 3 t : FVec Ideal S176x1024 .f32) (ix2 i j) = (m (c.tc.loc main_arg3) : FVec Ideal S1024x704 .f32) (ix2 j (row t i)) := by
  blk_point [iblk, idx t, row]

/-- The staged second moment, transposed. -/
theorem blk4 (t : Fin cfg0.N) (i : Fin 176) (j : Fin 1024) :
    (iblk m c 4 t : FVec Ideal S176x1024 .f32) (ix2 i j) = (m (c.tc.loc main_arg4) : FVec Ideal S1024x704 .f32) (ix2 j (row t i)) := by
  blk_point [iblk, idx t, row]

/-- An index of two axes is its coordinates. -/
theorem ix2_of {n k : ℕ} (z : (⟨2, ![n, k]⟩ : Shape).Idx) (i : Fin n) (j : Fin k) (h0 : (z 0 : ℕ) = i) (h1 : (z 1 : ℕ) = j) : z = ix2 i j := by
  funext a; fin_cases a
  exacts [Fin.ext h0, Fin.ext h1]

/-- The kernel's gradient is the reference's. -/
theorem final5 : (dats m 0 c).arrAt 5 (cfgs 0).N = val_main_v28 (F := Ideal) (m (c.tc.loc main_arg0)) (m (c.tc.loc main_arg1)) := by
  refine (dats m 0 c).arrAt_eq_of_covers 5 _ (by decide +kernel) fun t _ y => ?_
  blk_simp [idx t]
  rw [after0_5]
  idx_vars y
  refine (tile5 (blk0 m c t y0 y1) (blk1 m c t y0 y1)).trans (Eq.trans ?_ (congrArg _ (ix2_of _ (row t y0) y1 ?_ ?_)).symm)
  · pointwise [val_main_v28]
  · blk_simp [idx t, row]
  · blk_simp [idx t]

/-- The kernel's update is the reference's. -/
theorem final6 : (dats m 0 c).arrAt 6 (cfgs 0).N = val_main_v29 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t _ y => ?_
  blk_simp [idx t]
  rw [after0_6]
  idx_vars y
  refine (tile6 (blk0 m c t y0 y1) (blk1 m c t y0 y1) (blk2 m c t y0 y1) (blk3 m c t y0 y1) (blk4 m c t y0 y1)).trans (Eq.trans ?_ (congrArg _ (ix2_of _ (row t y0) y1 ?_ ?_)).symm)
  · pointwise [val_main_v29]
  · blk_simp [idx t, row]
  · blk_simp [idx t]

/-- The kernel's first moment is the reference's. -/
theorem final7 : (dats m 0 c).arrAt 7 (cfgs 0).N = val_main_v30 (F := Ideal) (m (c.tc.loc main_arg0)) (m (c.tc.loc main_arg1)) (m (c.tc.loc main_arg3)) := by
  refine (dats m 0 c).arrAt_eq_of_covers 7 _ (by decide +kernel) fun t _ y => ?_
  blk_simp [idx t]
  rw [after0_7]
  idx_vars y
  refine (tile7 (blk0 m c t y0 y1) (blk1 m c t y0 y1) (blk3 m c t y0 y1)).trans (Eq.trans ?_ (congrArg _ (ix2_of _ (row t y0) y1 ?_ ?_)).symm)
  · pointwise [val_main_v30]
  · blk_simp [idx t, row]
  · blk_simp [idx t]

/-- The kernel's second moment is the reference's. -/
theorem final8 : (dats m 0 c).arrAt 8 (cfgs 0).N = val_main_v31 (F := Ideal) (m (c.tc.loc main_arg0)) (m (c.tc.loc main_arg1)) (m (c.tc.loc main_arg4)) := by
  refine (dats m 0 c).arrAt_eq_of_covers 8 _ (by decide +kernel) fun t _ y => ?_
  blk_simp [idx t]
  rw [after0_8]
  idx_vars y
  refine (tile8 (blk0 m c t y0 y1) (blk1 m c t y0 y1) (blk4 m c t y0 y1)).trans (Eq.trans ?_ (congrArg _ (ix2_of _ (row t y0) y1 ?_ ?_)).symm)
  · pointwise [val_main_v31]
  · blk_simp [idx t, row]
  · blk_simp [idx t]

end

/-- On every run the kernel and the reference leave the same gradient, update and moments. -/
theorem algebraic : Cert.algebraic_ShardIdeal_ShardRefIdeal := by
  intro m g m' g' _ hag
  refine ⟨fun c => (dats m 0 c).arrAt 5 (cfgs 0).N, fun c => (dats m 0 c).arrAt 6 (cfgs 0).N, fun c => (dats m 0 c).arrAt 7 (cfgs 0).N,
    fun c => (dats m 0 c).arrAt 8 (cfgs 0).N, Cert.ShardIdeal.Value.run_blocks m g,
    (θ_run Cert.ShardRefIdeal.defs _ _).mono (fun r h c => ?_) (Cert.ShardRefIdeal.Value.run (F := Ideal) m' g')⟩
  obtain ⟨r0, r1, r2, r3, ra⟩ := h c
  obtain ⟨e0, e1, e2, e3, e4⟩ := hag c
  refine ⟨(r0.trans ?_).trans (final5 m c).symm, (r1.trans ?_).trans (final6 m c).symm, (r2.trans ?_).trans (final7 m c).symm,
    (r3.trans ?_).trans (final8 m c).symm, ra⟩
  · rw [val_main_v28_eq, e0, e1]
  · rw [val_main_v29_eq, e0, e1, e2, e3, e4]
  · rw [val_main_v30_eq, e0, e1, e3]
  · rw [val_main_v31_eq, e0, e1, e4]

end Cert.ShardClaim

end
-- ==== Proof.WeightClaim.lean ====
module

public import proofs.«01_k».proof.Defs
public import proofs.«01_k».proof.Proof.Reals
public import proofs.«01_k».proof.Proof.Gen.Weight.Frame
public import proofs.«01_k».proof.Proof.Gen.WeightIdeal.Value
public import proofs.«01_k».proof.Proof.Gen.WeightRefIdeal.Run
public import proofs.«01_k».proof.Proof.Gen.WeightRefIdeal.Read
public import Idealize.ShloMosaic.Lib.Quiescent

@[expose] public section

set_option maxHeartbeats 600000
set_option maxRecDepth 16384

noncomputable section

/-! The gradient of `w_gate_up`: 704 columns of the cotangent at a time against all rows of the input. No finiteness is needed. -/

namespace Cert.WeightClaim

open Idealize.ShloMosaic Idealize.SL.Sem Cert.Reals Cert.WeightIdeal Cert.WeightIdeal.Gen Cert.WeightRefIdeal.Read

/-- The kernel runs and leaves its arguments and its counters as they were. -/
theorem frame_kernel : Cert.quiescent_Weight := fun m ρ _ => Cert.Weight.Gen.frame m ρ

/-- So does its idealization. -/
theorem frame_ideal : Cert.quiescent_WeightIdeal := fun m ρ _ => Cert.WeightIdeal.Gen.frame m ρ

/-- So does the reference: it has no counters at all, and its run leaves the arguments. -/
theorem frame_ref : Cert.quiescent_WeightRefIdeal := fun m ρ _ =>
  (θ_run Cert.WeightRefIdeal.defs _ _).mono (fun r h => ⟨fun c => (h c).2, sem_eq_zero_of_no_sems rfl r.2⟩)
    (Cert.WeightRefIdeal.Value.run (F := Ideal) m ρ)

/-- Row `i` of tile `t`. -/
def row (t : Fin cfg0.N) (i : Fin 704) : Fin 5632 := ⟨t.val * 704 + i.val, by have := t.isLt; change t.val < 8 at this; omega⟩

section
variable (m : (ℓ : Loc nD τ sig) → Buf (Elt Ideal) ℓ) (c : Dev nD)

/-- The windows' blocks at each point of the grid. -/
theorem idx : ∀ t : Fin cfg0.N, win0_0.index t = ![t.val, 0, 0] ∧ win0_1.index t = ![0, 0] ∧ win0_2.index t = ![t.val, 0] :=
  (by decide +kernel : ∀ t : Fin grid0.N, _)

/-- The staged columns of the cotangent. -/
theorem blk0 (t : Fin cfg0.N) (s : Fin 4096) (i : Fin 704) :
    (iblk m c 0 t : FVec Ideal S1x4096x704 .bf16) (ix3 0 s i) = (m (c.tc.loc main_arg1) : FVec Ideal S4096x5632 .f32) (ix2 s (row t i)) := by
  blk_point [iblk, idx t, row]

/-- The staged input. -/
theorem blk1 (t : Fin cfg0.N) (s : Fin 4096) (j : Fin 1024) :
    (iblk m c 1 t : FVec Ideal S4096x1024 .bf16) (ix2 s j) = (m (c.tc.loc main_arg0) : FVec Ideal S4096x1024 .f32) (ix2 s j) := by
  blk_point [iblk, idx t]

/-- The gradient of a tile's rows. -/
theorem out2 (t : Fin cfg0.N) (i : Fin 704) (j : Fin 1024) :
    out0_2 (F := Ideal) (iblk m c 0 t) (iblk m c 1 t) (ix2 i j)
      = val_main_v4 (F := Ideal) (m (c.tc.loc main_arg0)) (m (c.tc.loc main_arg1)) (ix2 (row t i) j) := by
  unfold out0_2
  frame_out
  pointwise [k0_pay1, val_main_v4, val_main_v3, val_main_v2]
  exact Finset.sum_congr rfl fun s _ => congrArg₂ (fun a b : EReal => a * b) (blk0 m c t s i) (blk1 m c t s j)

/-- An index of two axes is its coordinates. -/
theorem ix2_of {n k : ℕ} (z : (⟨2, ![n, k]⟩ : Shape).Idx) (i : Fin n) (j : Fin k) (h0 : (z 0 : ℕ) = i) (h1 : (z 1 : ℕ) = j) : z = ix2 i j := by
  funext a; fin_cases a
  exacts [Fin.ext h0, Fin.ext h1]

/-- The kernel's gradient is the reference's. -/
theorem final2 : (dats m 0 c).arrAt 2 (cfgs 0).N
    = val_main_v4 (F := Ideal) (m (c.tc.loc main_arg0)) (m (c.tc.loc main_arg1)) := by
  refine (dats m 0 c).arrAt_eq_of_covers 2 _ (by decide +kernel) fun t _ y => ?_
  blk_simp [idx t]
  rw [after0_2]
  idx_vars y
  refine (out2 m c t y0 y1).trans (congrArg _ (ix2_of _ (row t y0) y1 ?_ ?_)).symm
  · blk_simp [idx t, row]
  · blk_simp [idx t]

end

/-- On every run the kernel and the reference leave the same gradient. -/
theorem algebraic : Cert.algebraic_WeightIdeal_WeightRefIdeal := by
  intro m g m' g' _ hag
  refine ⟨fun c => (dats m 0 c).arrAt 2 (cfgs 0).N, Cert.WeightIdeal.Value.run_blocks m g,
    (θ_run Cert.WeightRefIdeal.defs _ _).mono (fun r h c => ?_) (Cert.WeightRefIdeal.Value.run (F := Ideal) m' g')⟩
  obtain ⟨r0, ra⟩ := h c
  obtain ⟨e0, e1⟩ := hag c
  refine ⟨(r0.trans ?_).trans (final2 m c).symm, ra⟩
  rw [val_main_v4_eq, e0, e1]

end Cert.WeightClaim

end
-- ==== Proof.WeightInClaim.lean ====
module

public import proofs.«01_k».proof.Defs
public import proofs.«01_k».proof.Proof.Reals
public import proofs.«01_k».proof.Proof.Gen.WeightIn.Frame
public import proofs.«01_k».proof.Proof.Gen.WeightInIdeal.Value
public import proofs.«01_k».proof.Proof.Gen.WeightInRefIdeal.Run
public import proofs.«01_k».proof.Proof.Gen.WeightInRefIdeal.Read
public import Idealize.ShloMosaic.Lib.Quiescent

@[expose] public section

set_option maxHeartbeats 600000
set_option maxRecDepth 16384

noncomputable section

/-! The gradient of `w_in`: 512 columns of the cotangent at a time against all rows of the input. No finiteness is needed. -/

namespace Cert.WeightInClaim

open Idealize.ShloMosaic Idealize.SL.Sem Cert.Reals Cert.WeightInIdeal Cert.WeightInIdeal.Gen Cert.WeightInRefIdeal.Read

/-- The kernel runs and leaves its arguments and its counters as they were. -/
theorem frame_kernel : Cert.quiescent_WeightIn := fun m ρ _ => Cert.WeightIn.Gen.frame m ρ

/-- So does its idealization. -/
theorem frame_ideal : Cert.quiescent_WeightInIdeal := fun m ρ _ => Cert.WeightInIdeal.Gen.frame m ρ

/-- So does the reference: it has no counters at all, and its run leaves the arguments. -/
theorem frame_ref : Cert.quiescent_WeightInRefIdeal := fun m ρ _ =>
  (θ_run Cert.WeightInRefIdeal.defs _ _).mono (fun r h => ⟨fun c => (h c).2, sem_eq_zero_of_no_sems rfl r.2⟩)
    (Cert.WeightInRefIdeal.Value.run (F := Ideal) m ρ)

/-- Row `i` of tile `t`. -/
def row (t : Fin cfg0.N) (i : Fin 512) : Fin 2560 := ⟨t.val * 512 + i.val, by have := t.isLt; change t.val < 5 at this; omega⟩

section
variable (m : (ℓ : Loc nD τ sig) → Buf (Elt Ideal) ℓ) (c : Dev nD)

/-- The windows' blocks at each point of the grid. -/
theorem idx : ∀ t : Fin cfg0.N, win0_0.index t = ![0, t.val] ∧ win0_1.index t = ![0, 0] ∧ win0_2.index t = ![t.val, 0] :=
  (by decide +kernel : ∀ t : Fin grid0.N, _)

/-- The staged columns of the cotangent. -/
theorem blk0 (t : Fin cfg0.N) (s : Fin 4096) (i : Fin 512) :
    (iblk m c 0 t : FVec Ideal S4096x512 .bf16) (ix2 s i) = (m (c.tc.loc main_arg1) : FVec Ideal S4096x2560 .f32) (ix2 s (row t i)) := by
  blk_point [iblk, idx t, row]

/-- The staged input. -/
theorem blk1 (t : Fin cfg0.N) (s : Fin 4096) (j : Fin 1024) :
    (iblk m c 1 t : FVec Ideal S4096x1024 .bf16) (ix2 s j) = (m (c.tc.loc main_arg0) : FVec Ideal S4096x1024 .f32) (ix2 s j) := by
  blk_point [iblk, idx t]

/-- The gradient of a tile's rows. -/
theorem out2 (t : Fin cfg0.N) (i : Fin 512) (j : Fin 1024) :
    out0_2 (F := Ideal) (iblk m c 0 t) (iblk m c 1 t) (ix2 i j)
      = val_main_v4 (F := Ideal) (m (c.tc.loc main_arg0)) (m (c.tc.loc main_arg1)) (ix2 (row t i) j) := by
  unfold out0_2
  frame_out
  pointwise [k0_pay1, val_main_v4, val_main_v3, val_main_v2]
  exact Finset.sum_congr rfl fun s _ => congrArg₂ (fun a b : EReal => a * b) (blk0 m c t s i) (blk1 m c t s j)

/-- An index of two axes is its coordinates. -/
theorem ix2_of {n k : ℕ} (z : (⟨2, ![n, k]⟩ : Shape).Idx) (i : Fin n) (j : Fin k) (h0 : (z 0 : ℕ) = i) (h1 : (z 1 : ℕ) = j) : z = ix2 i j := by
  funext a; fin_cases a
  exacts [Fin.ext h0, Fin.ext h1]

/-- The kernel's gradient is the reference's. -/
theorem final2 : (dats m 0 c).arrAt 2 (cfgs 0).N
    = val_main_v4 (F := Ideal) (m (c.tc.loc main_arg0)) (m (c.tc.loc main_arg1)) := by
  refine (dats m 0 c).arrAt_eq_of_covers 2 _ (by decide +kernel) fun t _ y => ?_
  blk_simp [idx t]
  rw [after0_2]
  idx_vars y
  refine (out2 m c t y0 y1).trans (congrArg _ (ix2_of _ (row t y0) y1 ?_ ?_)).symm
  · blk_simp [idx t, row]
  · blk_simp [idx t]

end

/-- On every run the kernel and the reference leave the same gradient. -/
theorem algebraic : Cert.algebraic_WeightInIdeal_WeightInRefIdeal := by
  intro m g m' g' _ hag
  refine ⟨fun c => (dats m 0 c).arrAt 2 (cfgs 0).N, Cert.WeightInIdeal.Value.run_blocks m g,
    (θ_run Cert.WeightInRefIdeal.defs _ _).mono (fun r h c => ?_) (Cert.WeightInRefIdeal.Value.run (F := Ideal) m' g')⟩
  obtain ⟨r0, ra⟩ := h c
  obtain ⟨e0, e1⟩ := hag c
  refine ⟨(r0.trans ?_).trans (final2 m c).symm, ra⟩
  rw [val_main_v4_eq, e0, e1]

end Cert.WeightInClaim

end
-- ==== Proof.OneClaim.lean ====
module

public import proofs.«01_k».proof.Defs
public import proofs.«01_k».proof.Proof.Reals
public import proofs.«01_k».proof.Proof.Gen.One.Frame
public import proofs.«01_k».proof.Proof.Gen.OneIdeal.Value
public import proofs.«01_k».proof.Proof.Gen.OneRefIdeal.Run
public import proofs.«01_k».proof.Proof.Gen.OneRefIdeal.Read
public import Idealize.ShloMosaic.Lib.Quiescent

@[expose] public section

set_option maxHeartbeats 600000
set_option maxRecDepth 16384

noncomputable section

/-! The optimiser's update of one small weight. No finiteness is needed. -/

namespace Cert.OneClaim

open Idealize.ShloMosaic Idealize.SL.Sem Cert.Reals Cert.OneIdeal Cert.OneIdeal.Gen Cert.OneRefIdeal.Read

/-- The kernel runs and leaves its arguments and its counters as they were. -/
theorem frame_kernel : Cert.quiescent_One := fun m ρ _ => Cert.One.Gen.frame m ρ

/-- So does its idealization. -/
theorem frame_ideal : Cert.quiescent_OneIdeal := fun m ρ _ => Cert.OneIdeal.Gen.frame m ρ

/-- So does the reference: it has no counters at all, and its run leaves the arguments. -/
theorem frame_ref : Cert.quiescent_OneRefIdeal := fun m ρ _ =>
  (θ_run Cert.OneRefIdeal.defs _ _).mono (fun r h => ⟨fun c => (h c).2.2.2, sem_eq_zero_of_no_sems rfl r.2⟩)
    (Cert.OneRefIdeal.Value.run (F := Ideal) m ρ)

section
variable (m : (ℓ : Loc nD τ sig) → Buf (Elt Ideal) ℓ) (c : Dev nD)

/-- The windows' one block. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The staged weight. -/
theorem blk0 (t : Fin cfg0.N) (i : Fin 3) (j : Fin 64) :
    (iblk m c 0 t : FVec Ideal S3x64 .f32) (ix2 i j) = (m (c.tc.loc main_arg0) : FVec Ideal S3x64 .f32) (ix2 i j) := by
  blk_point [iblk, V, idx t]

/-- The staged gradient. -/
theorem blk1 (t : Fin cfg0.N) (i : Fin 3) (j : Fin 64) :
    (iblk m c 1 t : FVec Ideal S3x64 .f32) (ix2 i j) = (m (c.tc.loc main_arg1) : FVec Ideal S3x64 .f32) (ix2 i j) := by
  blk_point [iblk, V, idx t]

/-- The staged first moment. -/
theorem blk2 (t : Fin cfg0.N) (i : Fin 3) (j : Fin 64) :
    (iblk m c 2 t : FVec Ideal S3x64 .f32) (ix2 i j) = (m (c.tc.loc main_arg2) : FVec Ideal S3x64 .f32) (ix2 i j) := by
  blk_point [iblk, V, idx t]

/-- The staged second moment. -/
theorem blk3 (t : Fin cfg0.N) (i : Fin 3) (j : Fin 64) :
    (iblk m c 3 t : FVec Ideal S3x64 .f32) (ix2 i j) = (m (c.tc.loc main_arg3) : FVec Ideal S3x64 .f32) (ix2 i j) := by
  blk_point [iblk, V, idx t]

/-- An index of two axes is its coordinates. -/
theorem ix2_of {n k : ℕ} (z : (⟨2, ![n, k]⟩ : Shape).Idx) (i : Fin n) (j : Fin k) (h0 : (z 0 : ℕ) = i) (h1 : (z 1 : ℕ) = j) : z = ix2 i j := by
  funext a; fin_cases a
  exacts [Fin.ext h0, Fin.ext h1]

/-- The kernel's update is the reference's. -/
theorem final4 : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp [idx t]
  rw [after0_4]
  idx_vars y
  refine Eq.trans ?_ (congrArg _ (ix2_of _ y0 y1 ?_ ?_)).symm
  · unfold out0_4
    frame_out
    pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
    rw [blk2 m c t y0 y1, blk1 m c t y0 y1, blk3 m c t y0 y1, blk0 m c t y0 y1]
  · blk_simp [idx t]
  · blk_simp [idx t]

/-- The kernel's first moment is the reference's. -/
theorem final5 : (dats m 0 c).arrAt 5 (cfgs 0).N = val_main_v4 (F := Ideal) (m (c.tc.loc main_arg1)) (m (c.tc.loc main_arg2)) := by
  refine (dats m 0 c).arrAt_eq_of_covers 5 _ (by decide +kernel) fun t _ y => ?_
  blk_simp [idx t]
  rw [after0_5]
  idx_vars y
  refine Eq.trans ?_ (congrArg _ (ix2_of _ y0 y1 ?_ ?_)).symm
  · unfold out0_5
    frame_out
    pointwise [k0_pay1, val_main_v4, val_main_v3, val_main_v2, val_main_v1, val_main_v0, val_main_cst, val_main_cst_0, val_main_cst_1, val_main_cst_2, val_main_cst_3, val_main_cst_4, val_main_cst_5, val_main_cst_6, val_main_cst_7]
    rw [blk2 m c t y0 y1, blk1 m c t y0 y1]
  · blk_simp [idx t]
  · blk_simp [idx t]

/-- The kernel's second moment is the reference's. -/
theorem final6 : (dats m 0 c).arrAt 6 (cfgs 0).N = val_main_v10 (F := Ideal) (m (c.tc.loc main_arg1)) (m (c.tc.loc main_arg3)) := by
  refine (dats m 0 c).arrAt_eq_of_covers 6 _ (by decide +kernel) fun t _ y => ?_
  blk_simp [idx t]
  rw [after0_6]
  idx_vars y
  refine Eq.trans ?_ (congrArg _ (ix2_of _ y0 y1 ?_ ?_)).symm
  · unfold out0_6
    frame_out
    pointwise [k0_pay2, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
    rw [blk1 m c t y0 y1, blk3 m c t y0 y1]
  · blk_simp [idx t]
  · blk_simp [idx t]

end

/-- On every run the kernel and the reference leave the same update and moments. -/
theorem algebraic : Cert.algebraic_OneIdeal_OneRefIdeal := by
  intro m g m' g' _ hag
  refine ⟨fun c => (dats m 0 c).arrAt 4 (cfgs 0).N, fun c => (dats m 0 c).arrAt 5 (cfgs 0).N, fun c => (dats m 0 c).arrAt 6 (cfgs 0).N,
    Cert.OneIdeal.Value.run_blocks m g,
    (θ_run Cert.OneRefIdeal.defs _ _).mono (fun r h c => ?_) (Cert.OneRefIdeal.Value.run (F := Ideal) m' g')⟩
  obtain ⟨r0, r1, r2, ra⟩ := h c
  obtain ⟨e0, e1, e2, e3⟩ := hag c
  refine ⟨(r0.trans ?_).trans (final4 m c).symm, (r1.trans ?_).trans (final5 m c).symm, (r2.trans ?_).trans (final6 m c).symm, ra⟩
  · rw [val_main_v23_eq, e0, e1, e2, e3]
  · rw [val_main_v4_eq, e1, e2]
  · rw [val_main_v10_eq, e1, e3]

end Cert.OneClaim

end
-- ==== Proof.ExchangeRows.lean ====
/-
The exchange of alternate slabs between the two devices of a pair: the slabs as views, the values they carry, and
the accounting of the semaphores.

Each device holds eight slabs and keeps the four whose number has its own parity; the other four go to its partner,
slab `2 k + 1 - c` of device `c` landing as slab `k` of the partner's result. A device first tells its partner that its
result may be written, waits to hear the same, starts the four transfers, and then waits for the departure and the
arrival of each. Every semaphore is raised and drained once, so each has one round with one duty.
-/
module

public import proofs.«01_k».proof.Proof.Gen.ExchangeIdeal
public import proofs.«01_k».proof.Proof.Gen.ExchangeIdeal.Skeleton
public import proofs.«01_k».proof.Proof.Gen.ExchangeIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.ExchangeRun

open Cert.ExchangeIdeal Cert.ExchangeIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: that of the launch, and the rounds of the semaphores, one duty a round. -/
abbrev Gh : Type := UR sig nD τ × URounds (GSem nD τ sig) Unit
/-- What assertions about the two devices speak of. -/
noncomputable abbrev MM (F : FTy → Type) := MT nD τ sig Unit (Elt F) ℕ Gh ℕ

/-- Where the rounds of the semaphores sit in the ghost state. -/
noncomputable abbrev EX : Emb (URounds (GSem nD τ sig) Unit) (MT nD τ sig Unit (Elt F) ℕ Gh ℕ) := embR

variable (m : (ℓ : Loc nD τ sig) → Buf (Elt F) ℓ)

/-! ## The pair -/

/-- The other device of the pair. -/
noncomputable def mate (c : Dev nD) : Dev nD := ⟨1 - c.val, by show 1 - c.val < 2; omega⟩

/-- The partner of the partner is the device. -/
theorem mate_mate (c : Dev nD) : mate (mate c) = c := by revert c; decide

/-- Swapping the two devices. -/
noncomputable def swap : Dev nD ≃ Dev nD := ⟨mate, mate, mate_mate, mate_mate⟩

/-! ## The slabs and semaphores -/

/-- The corner of slab `k` of the result lies inside it. -/
theorem dst_inb (k : Fin 4) : ∀ a, (![k.val, 0, 0] : Fin 3 → Nat) a + S1x704x1024.size a ≤ S4x704x1024.size a := by
  revert k; decide
/-- Semaphore `k` of four lies among them. -/
theorem sem_inb (k : Fin 4) : ∀ a, (![k.val] : Fin 1 → Nat) a + S1.size a ≤ S4.size a := by revert k; decide

/-- The `k`-th slab that device `c` sends. -/
noncomputable abbrev srcM (c : Dev nD) (k : Fin 4) : Memref sig .tc .hbm S704x1024 .f32 :=
  ((Memref.whole main_arg0).slice (Rect.unit (s := S8x704x1024) (k0_off1 c (BitVec.ofNat 32 (1 + 2 * k.val))) S1x704x1024.size
    (k0_off1_inb c k)) (fun _ => rfl)).squeeze S704x1024 squeezes_S1x704x1024_S704x1024
/-- Slab `k` of the result. -/
noncomputable abbrev dstM (k : Fin 4) : Memref sig .tc .hbm S704x1024 .f32 :=
  ((Memref.whole main_v1).slice (Rect.unit (s := S4x704x1024) ![k.val, 0, 0] S1x704x1024.size (dst_inb k)) (fun _ => rfl)).squeeze
    S704x1024 squeezes_S1x704x1024_S704x1024

/-- The semaphore of the `k`-th departure. -/
noncomputable abbrev goneS (k : Fin 4) : DmaSem sig := ((cc0_scratch0.slice (Rect.unit (s := S4) ![k.val] S1.size (sem_inb k))).squeeze S_ squeezes_S1_S_).sem
/-- The semaphore of the `k`-th arrival. -/
noncomputable abbrev comeS (k : Fin 4) : DmaSem sig := ((cc0_scratch1.slice (Rect.unit (s := S4) ![k.val] S1.size (sem_inb k))).squeeze S_ squeezes_S1_S_).sem
/-- The barrier semaphore. -/
noncomputable abbrev gateS : Sem sig := (SemArray.scalar (sig.barrier 1 rfl) : Sems sig S_).sem

/-- The semaphores of a device: the barrier, the departures, the arrivals. -/
abbrev Which : Type := Unit ⊕ (Fin 4 ⊕ Fin 4)
/-- The semaphores of departures and arrivals. -/
noncomputable abbrev wireSem : Fin 4 ⊕ Fin 4 → SemLoc sig := Sum.elim (fun k => .dma (goneS k)) (fun k => .dma (comeS k))
/-- Every semaphore of a device. -/
noncomputable abbrev semOf : Which → SemLoc sig := Sum.elim (fun _ => .reg gateS) wireSem
/-- A semaphore of a device, among all. -/
noncomputable abbrev cell (x : Dev nD × Which) : GSem nD τ sig := ((x.1 : Thread nD τ), semOf x.2)

/-- The barrier semaphore of device `c`. -/
noncomputable abbrev gate (c : Dev nD) : GSem nD τ sig := ((c : Thread nD τ), .reg gateS)
/-- The semaphore of the `k`-th departure from device `c`. -/
noncomputable abbrev gone (c : Dev nD) (k : Fin 4) : GSem nD τ sig := ((c : Thread nD τ), .dma (goneS k))
/-- The semaphore of the `k`-th arrival at device `c`. -/
noncomputable abbrev come (c : Dev nD) (k : Fin 4) : GSem nD τ sig := ((c : Thread nD τ), .dma (comeS k))

/-- The numbers of the departure semaphores. -/
theorem goneS_val (k : Fin 4) : (goneS k).val = k.val := by revert k; decide
/-- The numbers of the arrival semaphores. -/
theorem comeS_val (k : Fin 4) : (comeS k).val = 4 + k.val := by revert k; decide

/-- What one slab adds to a semaphore. -/
noncomputable abbrev N : ℕ := (dstM 0).view.dmaCredit
/-- A slab adds something. -/
theorem N_pos : 0 < N := View.dmaCredit_pos _ (by decide)
/-- What the arrival of one copied shard adds to its semaphore. -/
theorem dst_credit (k : Fin 4) : (dstM k).view.dmaCredit = N := rfl
/-- What the departure of one copied shard adds to its semaphore. -/
theorem src_credit (c : Dev nD) (k : Fin 4) : (srcM c k).view.dmaCredit = N := rfl

/-! ## The values -/

/-- Which element of the partner's eight slabs arrives at element `i` of device `c`'s result. -/
noncomputable def from8 (c : Dev nD) (i : S4x704x1024.Idx) : S8x704x1024.Idx := fun a => ⟨![2 * (i 0).val + c.val, (i 1).val, (i 2).val] a, by
  have h0 : (i 0).val < 4 := (i 0).isLt
  have h1 : (i 1).val < 704 := (i 1).isLt
  have h2 : (i 2).val < 1024 := (i 2).isLt
  have hc : c.val < 2 := c.isLt
  match a with
  | ⟨0, _⟩ => show 2 * (i 0).val + c.val < 8; omega
  | ⟨1, _⟩ => show (i 1).val < 704; omega
  | ⟨2, _⟩ => show (i 2).val < 1024; omega⟩

/-- What device `c`'s result ends with. -/
noncomputable def got (c : Dev nD) : Buf (Elt F) ((c : Thread nD τ).loc main_v1) := fun i => m ((mate c : Thread nD τ).loc main_arg0) (from8 c i)

/-- The elements of a sent slab: those with its number. -/
theorem mem_src (c : Dev nD) (k : Fin 4) (i : S8x704x1024.Idx) : i ∈ (srcM c k).view.set ↔ (i 0).val = 2 * k.val + 1 - c.val := by
  have hc : c.val < 2 := c.isLt
  rw [show (srcM c k).view.set = _ from View.set_reshape _ _]
  refine ValueKit.mem_set_slice_whole_iff main_arg0 _ i ?_
  simp only [k0_off1_eq]
  rw [Rect.mem_set_unit]
  constructor
  · intro h; have := h 0; simp at this; omega
  · intro h a
    have h1 : (i 1).val < 704 := (i 1).isLt
    have h2 : (i 2).val < 1024 := (i 2).isLt
    match a with
    | ⟨0, _⟩ => simp; omega
    | ⟨1, _⟩ => simp; omega
    | ⟨2, _⟩ => simp; omega

/-- The elements of a result slab: those with its number. -/
theorem mem_dst (k : Fin 4) (i : S4x704x1024.Idx) : i ∈ (dstM k).view.set ↔ (i 0).val = k.val := by
  rw [show (dstM k).view.set = _ from View.set_reshape _ _]
  refine ValueKit.mem_set_slice_whole_iff main_v1 _ i ?_
  rw [Rect.mem_set_unit]
  constructor
  · intro h; have := h 0; simp at this; omega
  · intro h a
    have h1 : (i 1).val < 704 := (i 1).isLt
    have h2 : (i 2).val < 1024 := (i 2).isLt
    match a with
    | ⟨0, _⟩ => simp; omega
    | ⟨1, _⟩ => simp; omega
    | ⟨2, _⟩ => simp; omega

/-- An element of a slab sits at the same place of the slab in the argument and in the result. -/
theorem embs (c : Dev nD) (k : Fin 4) (x : S704x1024.Idx) : ∃ y : S1x704x1024.Idx,
    (∀ a, ((srcM c k).view.emb x a).val = (k0_off1 c (BitVec.ofNat 32 (1 + 2 * k.val))) a + (y a).val)
      ∧ ∀ a, ((dstM k).view.emb x a).val = (![k.val, 0, 0] : Fin 3 → Nat) a + (y a).val :=
  ⟨_, fun a => ValueKit.view_emb_slice_whole_unit_val main_arg0 (k0_off1 c (BitVec.ofNat 32 (1 + 2 * k.val))) S1x704x1024.size (k0_off1_inb c k) _ a,
    fun a => ValueKit.view_emb_slice_whole_unit_val main_v1 (![k.val, 0, 0] : Fin 3 → Nat) S1x704x1024.size (dst_inb k) _ a⟩

/-- A slab of device `c` written into slab `k` of its partner's result leaves there what that result is to end with. -/
theorem landed (c : Dev nD) (k : Fin 4) (fd : Buf (Elt F) ((dstM k).view.loc (mate c : Thread nD τ))) (i : S4x704x1024.Idx)
    (hi : i ∈ (dstM k).view.set) :
    (dstM k).view.write (Elt F) fd ((srcM c k).view.read (Elt F) (m ((c : Thread nD τ).loc main_arg0))) Finset.univ i = got m (mate c) i := by
  obtain ⟨x, -, rfl⟩ := Finset.mem_map.mp hi
  rw [View.write_emb_of_mem _ _ (Finset.mem_univ x)]
  show m ((c : Thread nD τ).loc main_arg0) ((srcM c k).view.emb x) = m ((mate (mate c) : Thread nD τ).loc main_arg0) (from8 (mate c) ((dstM k).view.emb x))
  rw [mate_mate]
  congr 1
  have hc : c.val < 2 := c.isLt
  obtain ⟨y, hs, hd⟩ := embs c k x
  have hy : (y 0).val < 1 := (y 0).isLt
  have hm : (mate c).val = 1 - c.val := rfl
  refine funext fun a => Fin.ext ?_
  rw [hs a, k0_off1_eq c k]
  match a with
  | ⟨0, _⟩ =>
    have h := hd 0
    show (2 * k.val + 1 - c.val) + (y 0).val = 2 * ((dstM k).view.emb x 0).val + (mate c).val
    rw [h, hm]; show _ = 2 * (k.val + (y 0).val) + (1 - c.val); omega
  | ⟨1, _⟩ =>
    have h := hd 1
    show 0 + (y 1).val = ((dstM k).view.emb x 1).val
    rw [h]; rfl
  | ⟨2, _⟩ =>
    have h := hd 2
    show 0 + (y 2).val = ((dstM k).view.emb x 2).val
    rw [h]; rfl

end Cert.ExchangeRun

end
-- ==== Proof.ExchangeRun.lean ====
/-
The run of the exchange: the accounting of each device's nine semaphores, the two devices' bodies, and the launch.

A device's barrier is raised by its partner, which hands over the partner's whole result to write in. Departure `k`
hands the slab back to its sender; arrival `k` hands slab `k` of the result, filled, to its owner. At launch a device
owes its partner one unit at the barrier and the four arrivals. It waits at the barrier while it owes the arrivals, which
rank above the barrier, and owes nothing at the later waits.
-/
module

public import proofs.«01_k».proof.Proof.ExchangeRows

@[expose] public section

noncomputable section

namespace Cert.ExchangeRun

open Cert.ExchangeIdeal Cert.ExchangeIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

/-! ## What the devices hold -/

/-- A slab to be sent, at the launch's contents. -/
noncomputable def srcPts (c : Dev nD) (k : Fin 4) : sProp (MM F) :=
  (srcM c k).view.loc (c : Thread nD τ) ↦[(srcM c k).view.set]{fullShare} m ((c : Thread nD τ).loc main_arg0)
/-- A slab of the result, at contents `f`. -/
noncomputable def dstPts (c : Dev nD) (k : Fin 4) (f : Buf (Elt F) ((c : Thread nD τ).loc main_v1)) : sProp (MM F) :=
  (dstM k).view.loc (c : Thread nD τ) ↦[(dstM k).view.set]{fullShare} f
/-- The argument's elements that stay. -/
noncomputable def restPts (c : Dev nD) : sProp (MM F) :=
  ((c : Thread nD τ).loc main_arg0) ↦[Finset.univ \ Finset.univ.biUnion fun k => (srcM c k).view.set]{fullShare} m ((c : Thread nD τ).loc main_arg0)

omit [FloatOps F] in
instance srcPts_storable (c : Dev nD) (k : Fin 4) : BI.Storable (upEmb : UEmb _ (MM F)) (srcPts (F := F) m c k) := by unfold srcPts; infer_instance
omit [FloatOps F] in
instance dstPts_storable (c : Dev nD) (k : Fin 4) (f) : BI.Storable (upEmb : UEmb _ (MM F)) (dstPts (F := F) c k f) := by unfold dstPts; infer_instance

omit [FloatOps F] in
/-- The argument is the four slabs to be sent and the rest. -/
theorem arg_split (c : Dev nD) :
    (((c : Thread nD τ).loc main_arg0) ↦{fullShare} m ((c : Thread nD τ).loc main_arg0) : sProp (MM F))
      ⊣⊢ iprop((bigSep Finset.univ fun k : Fin 4 => srcPts m c k) ∗ restPts m c) := by
  have hb : (((c : Thread nD τ).loc main_arg0) ↦[Finset.univ.biUnion fun k => (srcM c k).view.set]{fullShare} m ((c : Thread nD τ).loc main_arg0) : sProp (MM F))
      = bigSep Finset.univ fun k : Fin 4 => srcPts m c k := by
    refine pointsTo_biUnion Finset.univ _ fun k _ k' _ hk => Finset.disjoint_left.mpr fun i hi hi' => hk (Fin.ext ?_)
    have h := (mem_src c k i).mp hi
    have h' := (mem_src c k' i).mp hi'
    have hc : c.val < 2 := c.isLt
    omega
  rw [← hb]
  exact pointsTo_split_subset (Finset.subset_univ _)

omit [FloatOps F] in
/-- The result is its four slabs. -/
theorem res_split (c : Dev nD) (f : Buf (Elt F) ((c : Thread nD τ).loc main_v1)) :
    (((c : Thread nD τ).loc main_v1) ↦{fullShare} f : sProp (MM F)) = bigSep Finset.univ fun k : Fin 4 => dstPts c k f := by
  have hu : (Finset.univ.biUnion fun k : Fin 4 => (dstM k).view.set) = Finset.univ :=
    Finset.eq_univ_iff_forall.mpr fun i => Finset.mem_biUnion.mpr ⟨⟨(i 0).val, (i 0).isLt⟩, Finset.mem_univ _, (mem_dst _ i).mpr rfl⟩
  rw [show (((c : Thread nD τ).loc main_v1) ↦{fullShare} f : sProp (MM F))
    = (((c : Thread nD τ).loc main_v1) ↦[Finset.univ.biUnion fun k : Fin 4 => (dstM k).view.set]{fullShare} f) by rw [hu]]
  refine pointsTo_biUnion Finset.univ _ fun k _ k' _ hk => Finset.disjoint_left.mpr fun i hi hi' => hk (Fin.ext ?_)
  exact ((mem_dst k i).mp hi).symm.trans ((mem_dst k' i).mp hi')

/-! ## The rounds -/

/-- What the barrier hands device `c`: its partner's result, to write in. -/
noncomputable def gatePay (c : Dev nD) : sProp (MM F) := iprop(∃ f, bigSep Finset.univ fun k : Fin 4 => dstPts (mate c) k f)

/-- What semaphore `q` of the wires hands device `c`. -/
noncomputable def wirePay (c : Dev nD) (q : DmaSem sig) : sProp (MM F) :=
  if h : q.val < 4 then srcPts m c ⟨q.val, h⟩ else dstPts c ⟨q.val - 4, by have : q.val < 8 := q.isLt; omega⟩ (got m c)

/-- One round of one duty at every semaphore. -/
noncomputable def once : Rounds.Schedule (GSem nD τ sig) Unit (MM F) where
  duties _ r := if r = 0 then {()} else ∅
  unitless _ := False
  amount g _ _ := match g.2 with | .reg _ => 1 | .dma _ => N
  payload g _ _ := match g.2 with | .reg _ => gatePay g.1.1 | .dma q => wirePay m g.1.1 q
  amount_pos g _ _ _ := by
    rcases g with ⟨t, _ | _⟩
    · exact Nat.one_pos
    · exact N_pos

instance once_storable (g : GSem nD τ sig) (r : ℕ) (d : Unit) : BI.Storable (upEmb : UEmb _ (MM F)) ((once (F := F) m).payload g r d) := by
  rcases g with ⟨t, q | q⟩
  · show BI.Storable upEmb (gatePay t.1); unfold gatePay; infer_instance
  · show BI.Storable upEmb (wirePay m t.1 q); unfold wirePay; split <;> infer_instance

omit [FloatOps F] in
/-- Each cell has its one duty in the first round. -/
theorem duty (g : GSem nD τ sig) : () ∈ (once (F := F) m).duties g 0 := Finset.mem_singleton_self _
omit [FloatOps F] in
/-- No cell has a duty after the first round. -/
theorem duties_later (g : GSem nD τ sig) : ∀ r, 1 ≤ r → (once (F := F) m).duties g r = ∅ := fun r hr => if_neg (by omega)

omit [FloatOps F] in
/-- A barrier semaphore awaits one unit. -/
theorem expect_gate (c : Dev nD) : (once (F := F) m).expect (gate c) 0 = 1 := by
  unfold Schedule.expect Schedule.amountOf
  rw [show (once (F := F) m).duties (gate c) 0 = {()} from rfl, Finset.sum_singleton]; rfl
omit [FloatOps F] in
/-- A semaphore of a copy awaits the bytes of one shard. -/
theorem expect_wire (c : Dev nD) (q : DmaSem sig) : (once (F := F) m).expect ((c : Thread nD τ), .dma q) 0 = N := by
  unfold Schedule.expect Schedule.amountOf
  rw [show (once (F := F) m).duties ((c : Thread nD τ), .dma q) 0 = {()} from rfl, Finset.sum_singleton]; rfl

omit [FloatOps F] in
/-- The end of a send hands the source shard back. -/
theorem wirePay_gone (c : Dev nD) (k : Fin 4) : wirePay (F := F) m c (goneS k) = srcPts m c k := by
  have h := goneS_val k
  unfold wirePay
  rw [dif_pos (by rw [h]; exact k.isLt)]
  congr 1; exact Fin.ext h
omit [FloatOps F] in
/-- An arrival hands over the target shard, holding what the other device sent. -/
theorem wirePay_come (c : Dev nD) (k : Fin 4) : wirePay (F := F) m c (comeS k) = dstPts c k (got m c) := by
  have h := comeS_val k
  unfold wirePay
  rw [dif_neg (by rw [h]; omega)]
  congr 1; exact Fin.ext (by show (comeS k).val - 4 = k.val; omega)

omit [FloatOps F] in
/-- What is left of a round of which nothing was taken: its one payload. -/
theorem rest_once (g : GSem nD τ sig) : bigSep ((once (F := F) m).duties g 0 \ ∅) (fun d => (once (F := F) m).payload g 0 d) = (once (F := F) m).payload g 0 () := by
  rw [Finset.sdiff_empty, show (once (F := F) m).duties g 0 = {()} from rfl, bigSep_singleton]

/-! ## What is owed, and the ranks -/

/-- The arrivals device `c` still owes when `n` slabs are left to send. -/
noncomputable def left (c : Dev nD) : ℕ → CellTallies nD τ sig Unit
  | 0 => 0
  | n + 1 => left c n + tallyAt (come (mate c) (Fin.ofNat 4 (3 - n))) () N
/-- What device `c` owes at launch: the four arrivals and its partner's barrier. -/
noncomputable def owe (c : Dev nD) : CellTallies nD τ sig Unit := left c 4 + tallyAt (gate (mate c)) () 1

/-- Every semaphore of a TensorCore is ranked. -/
noncomputable def L (g : GSem nD τ sig) : Finset Unit := if g.1.2 = .tc then {()} else ∅
/-- The ranks: departures 0, barriers 1, arrivals 2. -/
noncomputable def lv (g : GSem nD τ sig) (_ : Unit) : ℕ := match g.2 with | .reg _ => 1 | .dma q => if q.val < 4 then 0 else 2

/-- Every semaphore of a device has the one tag. -/
theorem L_tc (c : Dev nD) (sm : SemLoc sig) : L ((c : Thread nD τ), sm) = {()} := if_pos rfl
/-- Arrivals lie at level two. -/
theorem lv_come (c : Dev nD) (k : Fin 4) : lv (come c k) () = 2 := by
  show (if (comeS k).val < 4 then 0 else 2) = 2
  rw [comeS_val k, if_neg (by omega)]

/-- What is owed before a send is owed at arrivals only. -/
theorem left_pos (c : Dev nD) (n : ℕ) {g : GSem nD τ sig} {u : Unit} (h : 0 < left c n g u) : ∃ k, g = come (mate c) k := by
  induction n with
  | zero => exact absurd h (Nat.lt_irrefl 0)
  | succ n ih =>
    unfold left at h
    rw [Pi.add_apply, Finsupp.add_apply, tallyAt_apply] at h
    by_cases hg : g = come (mate c) (Fin.ofNat 4 (3 - n))
    · exact ⟨_, hg⟩
    · rw [if_neg (fun h' => hg h'.1)] at h; exact ih h

omit [FloatOps F] in
/-- A device may wait at its barrier while it owes the arrivals. -/
theorem mayWait_gate (c : Dev nD) : (levAts L lv : sProp (MM F)) ⊢ MayWait (c : Thread nD τ) (.reg gateS) () (left c 4) :=
  MayOwe.of_cut (L := L) (lev := lv) 1 (fun p hp => by rw [Finset.mem_singleton.mp hp, L_tc]; exact Finset.mem_singleton_self _)
    (fun g u hg => by obtain ⟨k, rfl⟩ := left_pos c 4 hg; exact Finset.mem_singleton_self _)
    (fun p hp => by rw [Finset.mem_singleton.mp hp]; exact le_refl 1)
    (fun g u hg => by obtain ⟨k, rfl⟩ := left_pos c 4 hg; rw [lv_come]; decide)

/-! ## The ghost state of a device -/

/-- Every semaphore's invariant, and that every semaphore is at its round. -/
noncomputable def records (K : Dev nD × Which → ℕ) : sProp (MM F) :=
  iprop((bigSep Finset.univ fun x : Dev nD × Which => cellInv EX (once m) (K x) (cell x))
    ∗ bigSep Finset.univ fun x : Dev nD × Which => reached EX (cell x) 0)

instance records_persistent (K : Dev nD × Which → ℕ) : BI.Persistent (records (F := F) m K) := by unfold records; infer_instance

omit [FloatOps F] in
/-- The records hold the invariant of each cell. -/
theorem inv_of (K : Dev nD × Which → ℕ) (x : Dev nD × Which) : records (F := F) m K ⊢ cellInv EX (once m) (K x) (cell x) := by
  unfold records
  iintro ⟨H, -⟩
  iapply (show (bigSep Finset.univ fun x : Dev nD × Which => (cellInv EX (once m) (K x) (cell x) : sProp (MM F))) ⊢ cellInv EX (once m) (K x) (cell x) from
    bigSep_elim (Finset.mem_univ x)); iexact H
omit [FloatOps F] in
/-- The records say that each cell has reached its first round. -/
theorem reached_of (K : Dev nD × Which → ℕ) (x : Dev nD × Which) : records (F := F) m K ⊢ reached EX (cell x) 0 := by
  unfold records
  iintro ⟨-, H⟩
  iapply (show (bigSep Finset.univ fun x : Dev nD × Which => (reached EX (cell x) 0 : sProp (MM F))) ⊢ reached EX (cell x) 0 from
    bigSep_elim (Finset.mem_univ x)); iexact H

/-- The duties device `c` pays: its partner's barrier, its own departures, its partner's arrivals. -/
noncomputable def pays (c : Dev nD) : sProp (MM F) :=
  iprop(dutyTok EX (gate (mate c)) 0 () ∗ (bigSep Finset.univ fun k : Fin 4 => dutyTok EX (gone c k) 0 ())
    ∗ bigSep Finset.univ fun k : Fin 4 => dutyTok EX (come (mate c) k) 0 ())
/-- Device `c`'s places: at the start of each of its semaphores. -/
noncomputable def places (c : Dev nD) : sProp (MM F) :=
  iprop(atPos EX (gate c) 0 ∅ 0 ∗ (bigSep Finset.univ fun k : Fin 4 => atPos EX (gone c k) 0 ∅ 0)
    ∗ bigSep Finset.univ fun k : Fin 4 => atPos EX (come c k) 0 ∅ 0)
/-- What the accounting gives device `c`. -/
noncomputable def ghost (c : Dev nD) : sProp (MM F) := iprop(∃ K, records m K ∗ places c ∗ pays c)
/-- The credit device `c` waits with. -/
noncomputable def credits (c : Dev nD) : sProp (MM F) :=
  iprop(cred (tallyAt (gate c) () 1) ∗ bigSep Finset.univ fun k : Fin 4 => cred (tallyAt (come c k) () N))
/-- What device `c` starts from. -/
noncomputable def begins (c : Dev nD) : sProp (MM F) :=
  iprop(ghost m c ∗ credits c ∗ levAts L lv ∗ ((bigSep Finset.univ fun k : Fin 4 => srcPts m c k) ∗ restPts m c)
    ∗ ∃ f, bigSep Finset.univ fun k : Fin 4 => dstPts c k f)
/-- What device `c` ends with. -/
noncomputable def ends (c : Dev nD) : sProp (MM F) :=
  iprop(semVal (gate c) 0 ∗ ((bigSep Finset.univ fun k : Fin 4 => semVal (gone c k) 0) ∗ bigSep Finset.univ fun k : Fin 4 => semVal (come c k) 0)
    ∗ ((bigSep Finset.univ fun k : Fin 4 => srcPts m c k) ∗ restPts m c) ∗ bigSep Finset.univ fun k : Fin 4 => dstPts c k (got m c))

/-- No variants are needed: the body has no loop. -/
abbrev 𝒱₀ : Variants := Variants.none

/-! ## The steps -/

section Steps

variable (K : Dev nD × Which → ℕ)

/-- The start of transfer `k` to the partner. -/
theorem send_step (c n : Dev nD) (hn : n = mate c) (k : Fin 4)
    {hsc : (dstM k : Memref sig (Dev.tc n : Thread nD τ).2.kind .hbm S704x1024 .f32).view.ref.isScScratch = false}
    {hsrc : (srcM c k).view.WordExact} {hdst : (dstM k).view.WordExact}
    {hsem : DmaTarget.Typed .hbm (.dma (comeS k)) (.remote (Dev.tc n : Thread nD τ) (dstM k) (.dma (goneS k)) hsc)}
    {α : Type} {Q : α → sProp (MM F)} {kt : PUnit → Prog (TpuEff nD τ sig (Elt F) Λ₀ .tc) α}
    (fn : Buf (Elt F) ((mate c : Thread nD τ).loc main_v1)) (O : CellTallies nD τ sig Unit) (W : Waits sig Unit) :
    iprop(records m K ∗ srcPts m c k ∗ dstPts (mate c) k fn
        ∗ owes (c : Thread nD τ) (O + tallyAt (come (mate c) k) () N) W
        ∗ dutyTok EX (gone c k) 0 () ∗ dutyTok EX (come (mate c) k) 0 ())
      ⊢ iprop(((cred (tallyAt (gone c k) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (srcM c k) (.remote (Dev.tc n : Thread nD τ) (dstM k) (.dma (goneS k)) hsc) (.dma (comeS k)) hsrc hdst hsem) kt) Q) := by
  subst hn
  unfold srcPts dstPts
  iintro ⟨#HR, Hs, Hd, HO, Ht, Ht'⟩ Hk
  iapply (Rounds.wp_send_pointsTo 𝒱₀ EX (once m) (c : Thread nD τ) none (κ₁ := K (c, .inr (.inl k))) (κ₂ := K (mate c, .inr (.inr k)))
    (r₁ := 0) (r₂ := 0) (d₁ := ()) (d₂ := ()) (fd := fn) (duty m _) (duty m _) () () N rfl rfl rfl O rfl (W := W)
    (by show _ ⊢ wirePay m c (goneS k); rw [wirePay_gone]; exact BI.Entails.refl _)
    (by
      show _ ⊢ wirePay m (mate c) (comeS k)
      rw [wirePay_come]; unfold dstPts
      exact Entails.of_eq (pointsTo_congr fun i hi => landed m c k fn i hi))) $$ [Hs Hd HO Ht Ht']
  · isplitr; · iapply (inv_of m K (c, .inr (.inl k))); iexact HR
    isplitr; · iapply (inv_of m K (mate c, .inr (.inr k))); iexact HR
    isplitl [Hs]; · iexact Hs
    isplitl [Hd]; · iexact Hd
    isplitl [HO]; · iexact HO
    isplitl [Ht]; · iexact Ht
    isplitr; · iapply (reached_of m K (c, .inr (.inl k))); iexact HR
    isplitl [Ht']; · iexact Ht'
    iapply (reached_of m K (mate c, .inr (.inr k))); iexact HR
  iexact Hk

/-- The wait for departure or arrival `w`, nothing being owed: its payload comes, and its semaphore is left at zero. -/
theorem wait_step (c : Dev nD) (w : Fin 4 ⊕ Fin 4) (q : DmaSem sig) (hq : semOf (.inr w) = .dma q) {sp sp' : Space} {s s' : Shape} {e e' : EltTy}
    {src : Memref sig .tc sp' s' e'} {dst : Memref sig .tc sp s e} {hsrc : src.view.WordExact} {hdst : dst.view.WordExact}
    (hN : dst.view.dmaCredit = N)
    {α : Type} {Q : α → sProp (MM F)} {kt : PUnit → Prog (TpuEff nD τ sig (Elt F) Λ₀ .tc) α} (W : Waits sig Unit) :
    iprop(records m K ∗ cred (tallyAt ((c : Thread nD τ), .dma q) () N) ∗ owes (c : Thread nD τ) 0 W ∗ atPos EX ((c : Thread nD τ), .dma q) 0 ∅ 0)
      ⊢ iprop(((owes (c : Thread nD τ) 0 (insert (SemLoc.dma q, ()) W) ∗ semVal ((c : Thread nD τ), .dma q) 0 ∗ wirePay m c q)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  iintro ⟨#HR, Hc, HO, Hat⟩ Hk
  ihave #HI := (inv_of m K (c, .inr w)) $$ HR
  rw [show cell (c, .inr w) = ((c : Thread nD τ), .dma q) from congrArg (Prod.mk (c : Thread nD τ)) hq]
  iapply (Rounds.wp_wait_rest_token 𝒱₀ EX (once m) (c : Thread nD τ) none (κ := K (c, .inr w)) (k' := N)
      (fun Kt => by rw [← hN]; exact wpE_waitDma2_eq 𝒱₀ (c : Thread nD τ) none Set.univ Kt) (Set.mem_univ _) () (O := 0) (W := W) (R := 0) (m := 0) (T := ∅)
      (by rw [Nat.zero_add, expect_wire])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := ((Entails.of_eq (rest_once m ((c : Thread nD τ), .dma q))).trans (show _ ⊢ wirePay m c q from BI.Entails.refl _)) $$ Hpay
  imod (Rounds.cell_close EX (once m) (Set.mem_univ (K (c, .inr w))) (fun h => h) (R := 0 + 1) (duties_later m ((c : Thread nD τ), .dma q))) $$ [Hat] with Hz
  · isplitr; · iexact HI
    iexact Hat
  iapply Hk
  isplitl [HO]; · iexact HO
  isplitl [Hz]; · iexact Hz
  iexact Hp

end Steps

/-! ## The body -/

omit [FloatOps F] in
/-- Four of anything. -/
theorem four (Φ : Fin 4 → sProp (MM F)) : bigSep Finset.univ Φ = iprop(Φ 0 ∗ Φ 1 ∗ Φ 2 ∗ Φ 3) := bigSep_univ_eq_bigSepL [0, 1, 2, 3] (by decide) (by decide) Φ

/-- The device the barrier signal names. -/
theorem dev1 (c : Dev nD) : (⟨k0_dev1 c, k0_dev1_lt c⟩ : Dev nD) = mate c := by revert c; decide
/-- The devices the four transfers name. -/
theorem dev2 (c : Dev nD) : (⟨k0_dev2 c, k0_dev2_lt c⟩ : Dev nD) = mate c := by revert c; decide
/-- The second copy goes to the other device. -/
theorem dev3 (c : Dev nD) : (⟨k0_dev3 c, k0_dev3_lt c⟩ : Dev nD) = mate c := by revert c; decide
/-- The third copy goes to the other device. -/
theorem dev4 (c : Dev nD) : (⟨k0_dev4 c, k0_dev4_lt c⟩ : Dev nD) = mate c := by revert c; decide
/-- The fourth copy goes to the other device. -/
theorem dev5 (c : Dev nD) : (⟨k0_dev5 c, k0_dev5_lt c⟩ : Dev nD) = mate c := by revert c; decide

set_option maxHeartbeats 1600000 in
/-- The body of one device, from what it starts with to what it ends with. -/
theorem body (c : Dev nD) (W : Waits sig Unit) (Kt : PUnit → sProp (MM F)) :
    iprop(begins m c ∗ owes (c : Thread nD τ) (owe c) W ∗ ((∃ W', owes (c : Thread nD τ) 0 W') -∗ ends m c -∗ Kt ⟨⟩))
      ⊢ wp frame (wpE (defs₀ (F := F)) 𝒱₀ c none) Set.univ
          (cc0_exchange_c (Memref.whole main_arg0) (Memref.isWhole_whole _) (Memref.whole main_v1) (Memref.isWhole_whole _) cc0_scratch0 cc0_scratch1) Kt := by
  simp only [cc0_exchange_c_eq_skeleton]; unfold cc0_exchange_c_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold begins ghost places pays credits
  simp only [four]
  iintro ⟨⟨⟨%K, #HR, ⟨HaG, ⟨HaS0, HaS1, HaS2, HaS3⟩, HaV0, HaV1, HaV2, HaV3⟩, HtG, ⟨HtS0, HtS1, HtS2, HtS3⟩, HtV0, HtV1, HtV2, HtV3⟩,
    ⟨HcG, HcV0, HcV1, HcV2, HcV3⟩, #Hlev, ⟨⟨Hs0, Hs1, Hs2, Hs3⟩, Hrest⟩, ⟨%f0, Hd⟩⟩, HO, Hk⟩
  simp only [dev1 c]
  unfold owe
  -- the partner is told that it may write
  iapply (Rounds.wp_signal 𝒱₀ EX (once m) (c : Thread nD τ) none (dst := (mate c : Thread nD τ)) (κ := K (mate c, .inl ()))
      (d := ()) (duty m _) (show _ = _ from by rfl) () (left c 4) rfl) $$ [HO HtG Hd]
  · isplitr; · iapply (inv_of m K (mate c, .inl ())); iexact HR
    isplitl [HO]; · iexact HO
    isplitl [HtG]; · iexact HtG
    isplitl [Hd]
    · iapply (show _ ⊢ (once m).payload (gate (mate c)) 0 () from BI.Entails.refl (gatePay (F := F) (mate c)))
      unfold gatePay; rw [mate_mate]; simp only [four]
      iexists f0; iexact Hd
    iapply (reached_of m K (mate c, .inl ())); iexact HR
  iintro HO
  -- the wait for the partner's permission
  iapply (Rounds.wp_wait_rest_token 𝒱₀ EX (once m) (c : Thread nD τ) none (κ := K (c, .inl ()))
      (wpE_semWait_eq 𝒱₀ (c : Thread nD τ) none Set.univ) (Set.mem_univ _) () (O := left c 4) (W := W) (R := 0) (m := 0) (T := ∅)
      (by rw [expect_gate]; decide)) $$ [HcG HO HaG]
  · isplitr; · iapply (inv_of m K (c, .inl ())); iexact HR
    isplitl [HcG]; · iexact HcG
    isplitl [HO]; · iexact HO
    isplitr; · iapply (mayWait_gate c); iexact Hlev
    iexact HaG
  iintro ⟨HO, HaG, -, Hpay⟩
  ihave Hp := ((Entails.of_eq (rest_once m (gate c))).trans (show _ ⊢ gatePay (F := F) c from BI.Entails.refl _)) $$ Hpay
  unfold gatePay
  simp only [four]
  icases Hp with ⟨%fn, Hd0, Hd1, Hd2, Hd3⟩
  imod (Rounds.cell_close EX (once m) (Set.mem_univ (K (c, .inl ()))) (fun h => h) (R := 0 + 1) (duties_later m (gate c))) $$ [HaG] with HzG
  · isplitr; · iapply (inv_of m K (c, .inl ())); iexact HR
    iexact HaG
  -- the four transfers
  rw [show left c 4 = left c 3 + tallyAt (come (mate c) 0) () N from rfl]
  iapply (send_step m K c _ (dev2 c) 0 fn (left c 3) _) $$ [Hs0 Hd0 HO HtS0 HtV0]
  · isplitr; · iexact HR
    isplitl [Hs0]; · iexact Hs0
    isplitl [Hd0]; · iexact Hd0
    isplitl [HO]; · iexact HO
    isplitl [HtS0] <;> iassumption
  iintro ⟨HcS0, HO⟩
  rw [show left c 3 = left c 2 + tallyAt (come (mate c) 1) () N from rfl]
  iapply (send_step m K c _ (dev3 c) 1 fn (left c 2) _) $$ [Hs1 Hd1 HO HtS1 HtV1]
  · isplitr; · iexact HR
    isplitl [Hs1]; · iexact Hs1
    isplitl [Hd1]; · iexact Hd1
    isplitl [HO]; · iexact HO
    isplitl [HtS1] <;> iassumption
  iintro ⟨HcS1, HO⟩
  rw [show left c 2 = left c 1 + tallyAt (come (mate c) 2) () N from rfl]
  iapply (send_step m K c _ (dev4 c) 2 fn (left c 1) _) $$ [Hs2 Hd2 HO HtS2 HtV2]
  · isplitr; · iexact HR
    isplitl [Hs2]; · iexact Hs2
    isplitl [Hd2]; · iexact Hd2
    isplitl [HO]; · iexact HO
    isplitl [HtS2] <;> iassumption
  iintro ⟨HcS2, HO⟩
  rw [show left c 1 = 0 + tallyAt (come (mate c) 3) () N from rfl]
  iapply (send_step m K c _ (dev5 c) 3 fn 0 _) $$ [Hs3 Hd3 HO HtS3 HtV3]
  · isplitr; · iexact HR
    isplitl [Hs3]; · iexact Hs3
    isplitl [Hd3]; · iexact Hd3
    isplitl [HO]; · iexact HO
    isplitl [HtS3] <;> iassumption
  iintro ⟨HcS3, HO⟩
  -- each departure and arrival in turn
  iapply (wait_step m K c (.inl 0) (goneS 0) rfl (src_credit c 0) _) $$ [HcS0 HO HaS0]
  · isplitr; · iexact HR
    isplitl [HcS0]; · iexact HcS0
    isplitl [HO] <;> iassumption
  iintro ⟨HO, HzS0, Hs0⟩
  iapply (wait_step m K c (.inr 0) (comeS 0) rfl (dst_credit 0) _) $$ [HcV0 HO HaV0]
  · isplitr; · iexact HR
    isplitl [HcV0]; · iexact HcV0
    isplitl [HO] <;> iassumption
  iintro ⟨HO, HzV0, Hd0⟩
  iapply (wait_step m K c (.inl 1) (goneS 1) rfl (src_credit c 1) _) $$ [HcS1 HO HaS1]
  · isplitr; · iexact HR
    isplitl [HcS1]; · iexact HcS1
    isplitl [HO] <;> iassumption
  iintro ⟨HO, HzS1, Hs1⟩
  iapply (wait_step m K c (.inr 1) (comeS 1) rfl (dst_credit 1) _) $$ [HcV1 HO HaV1]
  · isplitr; · iexact HR
    isplitl [HcV1]; · iexact HcV1
    isplitl [HO] <;> iassumption
  iintro ⟨HO, HzV1, Hd1⟩
  iapply (wait_step m K c (.inl 2) (goneS 2) rfl (src_credit c 2) _) $$ [HcS2 HO HaS2]
  · isplitr; · iexact HR
    isplitl [HcS2]; · iexact HcS2
    isplitl [HO] <;> iassumption
  iintro ⟨HO, HzS2, Hs2⟩
  iapply (wait_step m K c (.inr 2) (comeS 2) rfl (dst_credit 2) _) $$ [HcV2 HO HaV2]
  · isplitr; · iexact HR
    isplitl [HcV2]; · iexact HcV2
    isplitl [HO] <;> iassumption
  iintro ⟨HO, HzV2, Hd2⟩
  iapply (wait_step m K c (.inl 3) (goneS 3) rfl (src_credit c 3) _) $$ [HcS3 HO HaS3]
  · isplitr; · iexact HR
    isplitl [HcS3]; · iexact HcS3
    isplitl [HO] <;> iassumption
  iintro ⟨HO, HzS3, Hs3⟩
  iapply (wait_step m K c (.inr 3) (comeS 3) rfl (dst_credit 3) _) $$ [HcV3 HO HaV3]
  · isplitr; · iexact HR
    isplitl [HcV3]; · iexact HcV3
    isplitl [HO] <;> iassumption
  iintro ⟨HO, HzV3, Hd3⟩
  simp only [wirePay_gone, wirePay_come]
  rw [wp_ret]; imodintro
  ihave Hk := Hk $$ [HO]
  · iexists _; iexact HO
  iapply Hk
  unfold ends
  simp only [four]
  isplitl [HzG]; · iexact HzG
  isplitl [HzS0 HzS1 HzS2 HzS3 HzV0 HzV1 HzV2 HzV3]
  · isplitl [HzS0 HzS1 HzS2 HzS3]
    · isplitl [HzS0]; · iexact HzS0
      isplitl [HzS1]; · iexact HzS1
      isplitl [HzS2] <;> iassumption
    · isplitl [HzV0]; · iexact HzV0
      isplitl [HzV1]; · iexact HzV1
      isplitl [HzV2] <;> iassumption
  isplitl [Hs0 Hs1 Hs2 Hs3 Hrest]
  · isplitr [Hrest]
    · isplitl [Hs0]; · iexact Hs0
      isplitl [Hs1]; · iexact Hs1
      isplitl [Hs2] <;> iassumption
    · iexact Hrest
  isplitl [Hd0]; · iexact Hd0
  isplitl [Hd1]; · iexact Hd1
  isplitl [Hd2] <;> iassumption

end Cert.ExchangeRun

end
-- ==== Proof.ExchangeLaunch.lean ====
/-
The launch of the exchange: the two devices' semaphores are funded at once, each device's share of the accounting is
dealt to it (its partner's barrier and arrivals cross over), and the whole run follows.
-/
module

public import proofs.«01_k».proof.Proof.ExchangeRun
public import Idealize.ShloMosaic.Lib.Pipeline.CollectiveSegs

@[expose] public section

noncomputable section

namespace Cert.ExchangeRun

open Cert.ExchangeIdeal Cert.ExchangeIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

/-- The ghost state of the launcher. -/
noncomputable abbrev EP : Emb (UR sig nD τ) (MT nD τ sig Unit (Elt F) ℕ Gh ℕ) := embL

/-- The launcher's view of a device: no windows, one point, what it starts with and what it ends with. -/
noncomputable def dats (_ : Fin 1) (c : Dev nD) : Dat τ (Elt F) Unit ℕ Gh ℕ cfg0 c where
  A w := Fin.elim0 w
  after w := Fin.elim0 w
  Φ t := match t with
    | ⟨0, _⟩ => begins m c
    | ⟨_ + 1, _⟩ => ends m c
  q _ := fullShare
  owed t := match t with
    | ⟨0, _⟩ => owe c
    | ⟨_ + 1, _⟩ => 0

/-- The one point of the grid meets its obligation. -/
theorem obligation (c : Dev nD) : BodyObligation (dats (F := F) m 0 c) (defs₀ (F := F)) 𝒱₀ () Set.univ := fun t => by
  rw [fin_N0 t, show (dats m 0 c).Φ t0_0.castSucc = begins m c from rfl, show (dats m 0 c).Φ t0_0.succ = ends m c from rfl]
  iintro ⟨HB, HO, -⟩
  unfold Dat.owesAt Pipeline.owesWithin
  icases HO with ⟨%W, -, HO⟩
  iapply (body m c W _) $$ [HB HO]
  isplitl [HB]; · iexact HB
  isplitl [HO]; · iexact HO
  iintro ⟨%W', HO⟩ HE
  isplitl [HE]; · iexact HE
  isplitl [HO]
  · iexists W'
    isplitr; · ipureintro; exact fun _ _ => Or.inl trivial
    iexact HO
  · rw [show (Finset.univ : Finset (Fin cfg0.W)) = ∅ from rfl, bigSep_empty]; iempintro

/-! ## The semaphores at launch -/

/-- The eight semaphores of the wires are the kernel's own. -/
theorem wireFacts : Pipeline.OwnSemFacts cfg0.spec wireSem := by decide

/-- Different names of semaphores are different semaphores. -/
theorem semOf_injective : Function.Injective semOf := by
  have h : ∀ a b : Which, semOf a = semOf b → a = b := by decide
  exact fun a b => h a b

/-- A device and a name of a semaphore determine each other and the cell. -/
theorem cell_injective : Function.Injective (cell : Dev nD × Which → GSem nD τ sig) := fun x y h =>
  Prod.ext (Fin.ext (congrArg (fun g : GSem nD τ sig => g.1.1.val) h)) (semOf_injective (congrArg Prod.snd h))

/-- Every semaphore of the two devices. -/
noncomputable def cells : Finset (GSem nD τ sig) := Finset.univ.map ⟨cell, cell_injective⟩
/-- The one duty of each of them. -/
noncomputable def tokens : Finset (GSem nD τ sig × ℕ × Unit) :=
  Finset.univ.map ⟨fun x => (cell x, 0, ()), fun _ _ h => cell_injective (congrArg Prod.fst h)⟩

/-- The ghost state the launch begins with. -/
noncomputable def u₀ : Gh := (initOf (Pipeline.cells cfgs cellOf_inj) (Pipeline.launchToks cfgs cellOf_inj), initOf cells tokens)

/-- What the launch deals device `c`: its semaphores' accounts, its places, and the duties at its own semaphores. -/
noncomputable def dealt (c : Dev nD) : sProp (MM F) :=
  iprop((bigSep Finset.univ fun w : Which => roundState EX (once m) (cell (c, w)) 0)
    ∗ (bigSep Finset.univ fun w : Which => atPos EX (cell (c, w)) 0 ∅ 0)
    ∗ (bigSep Finset.univ fun w : Which => reached EX (cell (c, w)) 0)
    ∗ bigSep Finset.univ fun w : Which => dutyTok EX (cell (c, w)) 0 ())

omit [FloatOps F] in
/-- The launch element is what is dealt. -/
theorem fund_all : BI.own (EX (initOf cells tokens)) ⊢ (|==> bigSep Finset.univ (dealt m) : sProp (MM F)) := by
  have hX (Φ : GSem nD τ sig → sProp (MM F)) : bigSep cells Φ = bigSep Finset.univ fun c : Dev nD => bigSep Finset.univ fun w : Which => Φ (cell (c, w)) := by
    unfold cells; rw [bigSep_map, bigSep_univ_prod]; rfl
  have hT : bigSep tokens (fun x => (dutyTok EX x.1 x.2.1 x.2.2 : sProp (MM F)))
      = bigSep Finset.univ fun c : Dev nD => bigSep Finset.univ fun w : Which => dutyTok EX (cell (c, w)) 0 () := by
    unfold tokens; rw [bigSep_map, bigSep_univ_prod]; rfl
  iintro H
  imod (Rounds.fund EX (once m) cells tokens) $$ H with ⟨Hst, Hr, Hat, Htok⟩
  imodintro
  ihave Hst := (Entails.of_eq (hX fun g => roundState EX (once m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold dealt; simp only [bigSep_sep']
  isplitl [Hst]; · iexact Hst
  isplitl [Hat]; · iexact Hat
  isplitl [Hr] <;> iassumption

omit [FloatOps F] in
/-- A device's nine semaphores: the barrier, the departures, the arrivals. -/
theorem nine (Φ : Which → sProp (MM F)) : bigSep Finset.univ Φ
    = iprop(Φ (.inl ()) ∗ (bigSep Finset.univ fun k : Fin 4 => Φ (.inr (.inl k))) ∗ bigSep Finset.univ fun k : Fin 4 => Φ (.inr (.inr k))) := by
  rw [BI.bigSep_univ_sum Φ, BI.bigSep_univ_sum fun w : Fin 4 ⊕ Fin 4 => Φ (.inr w)]
  rw [show (Finset.univ : Finset Unit) = {()} from rfl, bigSep_singleton]; rfl

omit [FloatOps F] in
/-- The barrier is the launch's one semaphore outside the kernel. -/
theorem outer_eq (c : Dev nD) : (unscopedSems0 c : sProp (MM F)) = semVal (gate c) 0 := by
  unfold unscopedSems0; rw [bigSep_eq_bigSepL_of_eq [SemLoc.reg gateS] (by decide) (by decide)]; rfl

omit [FloatOps F] in
/-- The kernel's own semaphores at zero: the departures and the arrivals. -/
theorem own_eq (c : Dev nD) : (Pipeline.ownSems0 (Ix := Unit) (Name := ℕ) (U := Gh) (Lvl := ℕ) (Val := Elt F) (τ := τ) wireSem c : sProp (MM F))
    = iprop((bigSep Finset.univ fun k : Fin 4 => semVal (gone c k) 0) ∗ bigSep Finset.univ fun k : Fin 4 => semVal (come c k) 0) := by
  unfold Pipeline.ownSems0
  exact BI.bigSep_univ_sum _

omit [FloatOps F] in
/-- A device's accounts become invariants. -/
theorem alloc (c : Dev nD) :
    iprop(Pipeline.ownSems0 (Ix := Unit) (Name := ℕ) (U := Gh) (Lvl := ℕ) (Val := Elt F) (τ := τ) wireSem c ∗ unscopedSems0 c ∗ dealt m c)
      ⊢ |={Set.univ}=> iprop((bigSep Finset.univ fun w : Which => iprop(∃ κ : ℕ, cellInv EX (once m) κ (cell (c, w))))
          ∗ (bigSep Finset.univ fun w : Which => atPos EX (cell (c, w)) 0 ∅ 0)
          ∗ (bigSep Finset.univ fun w : Which => reached EX (cell (c, w)) 0)
          ∗ bigSep Finset.univ fun w : Which => dutyTok EX (cell (c, w)) 0 ()) := by
  unfold dealt
  rw [own_eq, outer_eq]
  iintro ⟨Hw, Hg, Hst, Hrest⟩
  ihave Hv := (Entails.of_eq (nine (F := F) fun w => semVal (cell (c, w)) 0).symm) $$ [Hg Hw]
  · isplitl [Hg]; · iexact Hg
    iexact Hw
  imod (show iprop((bigSep Finset.univ fun w : Which => semVal (cell (c, w)) 0) ∗ bigSep Finset.univ fun w : Which => roundState EX (once m) (cell (c, w)) 0)
      ⊢ (|={Set.univ}=> bigSep Finset.univ fun w : Which => iprop(∃ κ : ℕ, cellInv EX (once m) κ (cell (c, w))) : sProp (MM F)) from by
        rw [← bigSep_sep']
        exact (bigSep_mono fun w _ => (Rounds.body_intro EX (once m) (cell (c, w))).trans inv_alloc).trans (bigSep_fupd _ _)) $$ [Hv Hst] with Hinv
  · isplitl [Hv] <;> iassumption
  imodintro
  isplitl [Hinv] <;> iassumption

omit [FloatOps F] in
/-- The duties cross over: each device pays its partner's barrier and its partner's arrivals. -/
theorem cross : (bigSep Finset.univ fun c : Dev nD => bigSep Finset.univ fun w : Which => (dutyTok EX (cell (c, w)) 0 () : sProp (MM F)))
    ⊢ bigSep Finset.univ fun c : Dev nD => pays c := by
  unfold pays
  simp only [nine, bigSep_sep']
  rw [bigSep_univ_equiv swap (fun c : Dev nD => (dutyTok EX (cell (c, .inl ())) 0 () : sProp (MM F))),
    bigSep_univ_equiv swap (fun c : Dev nD => (bigSep Finset.univ fun k : Fin 4 => dutyTok EX (cell (c, .inr (.inr k))) 0 () : sProp (MM F)))]
  iintro ⟨H1, H2, H3⟩
  isplitl [H1]; · iexact H1
  isplitl [H2]; · iexact H2
  iexact H3

omit [FloatOps F] in
/-- What is dealt, once its accounts are invariants, is every device's ghost state. -/
theorem regroup :
    (bigSep Finset.univ fun c : Dev nD => iprop((bigSep Finset.univ fun w : Which => iprop(∃ κ : ℕ, cellInv EX (once m) κ (cell (c, w))))
          ∗ (bigSep Finset.univ fun w : Which => atPos EX (cell (c, w)) 0 ∅ 0)
          ∗ (bigSep Finset.univ fun w : Which => reached EX (cell (c, w)) 0)
          ∗ bigSep Finset.univ fun w : Which => dutyTok EX (cell (c, w)) 0 ()) : sProp (MM F))
      ⊢ bigSep Finset.univ (ghost m) := by
  rw [bigSep_sep', bigSep_sep', bigSep_sep', ← bigSep_univ_prod (fun x : Dev nD × Which => iprop(∃ κ : ℕ, cellInv EX (once m) κ (cell x))),
    ← bigSep_univ_prod (fun x : Dev nD × Which => (reached EX (cell x) 0 : sProp (MM F)))]
  iintro ⟨HI, Hat, #HR, Htok⟩
  ihave HK := (BI.bigSep_exists_pi Finset.univ (fun (x : Dev nD × Which) (κ : ℕ) => (cellInv EX (once m) κ (cell x) : sProp (MM F)))) $$ HI
  icases HK with ⟨%K, #HI⟩
  ihave Htk := (cross (F := F)) $$ Htok
  ihave Hpl := (show (bigSep Finset.univ fun c : Dev nD => bigSep Finset.univ fun w : Which => (atPos EX (cell (c, w)) 0 ∅ 0 : sProp (MM F)))
      ⊢ bigSep Finset.univ fun c : Dev nD => places c from bigSep_mono fun c _ => Entails.of_eq (nine (F := F) fun w => atPos EX (cell (c, w)) 0 ∅ 0)) $$ Hat
  iapply (show iprop(records m K ∗ (bigSep Finset.univ fun c : Dev nD => places c) ∗ bigSep Finset.univ fun c : Dev nD => pays c) ⊢ bigSep Finset.univ (ghost m) from by
    refine (sep_mono_left (BI.bigSep_of_persistent (Finset.univ : Finset (Dev nD)) (records m K))).trans ?_
    rw [← bigSep_sep', ← bigSep_sep']
    exact bigSep_mono fun c _ => show iprop(records m K ∗ places c ∗ pays c) ⊢ ghost m c from by
      unfold ghost; iintro H; iexists K; iexact H)
  isplitr
  · unfold records; isplitl; · iexact HI
    iexact HR
  · isplitl [Hpl] <;> iassumption

omit [FloatOps F] in
/-- Every device's semaphores, at once. -/
theorem glob : (bigSep Finset.univ fun c => iprop(Pipeline.ownSems0 (Ix := Unit) (Name := ℕ) (U := Gh) (Lvl := ℕ) (Val := Elt F) (τ := τ) wireSem c ∗ unscopedSems0 c ∗ dealt m c) : sProp (MM F))
    ⊢ |={Set.univ}=> bigSep Finset.univ (ghost m) :=
  ((bigSep_mono fun c _ => alloc m c).trans (bigSep_fupd _ _)).trans (BI.fupd_mono (regroup m))

/-! ## The credit at launch -/

theorem gate_ne_come (c d : Dev nD) (k : Fin 4) : gate c ≠ come d k := fun h => by cases congrArg Prod.snd h

/-- Two arrival semaphores are the same only for one device and one copy. -/
theorem come_iff {c d : Dev nD} {k l : Fin 4} : come c k = come d l ↔ c = d ∧ k = l := by
  constructor
  · intro h
    have h' : ((c, .inr (.inr k)) : Dev nD × Which) = (d, .inr (.inr l)) := cell_injective h
    exact ⟨congrArg Prod.fst h', by simpa using congrArg Prod.snd h'⟩
  · rintro ⟨rfl, rfl⟩; rfl

/-- Two barrier semaphores are the same only for one device. -/
theorem gate_iff {c d : Dev nD} : gate c = gate d ↔ c = d :=
  ⟨fun h => Fin.ext (congrArg (fun g : GSem nD τ sig => g.1.1.val) h), fun h => h ▸ rfl⟩

/-- What `d` owes the barrier of `c`. -/
theorem owe_gate (d c : Dev nD) : owe d (gate c) () = if d = mate c then 1 else 0 := by
  have h0 : left d 4 (gate c) () = 0 := by
    rcases Nat.eq_zero_or_pos (left d 4 (gate c) ()) with h | h
    · exact h
    · obtain ⟨k, hk⟩ := left_pos d 4 h; exact absurd hk (gate_ne_come _ _ _)
  unfold owe
  rw [Pi.add_apply, Finsupp.add_apply, h0, Nat.zero_add, tallyAt_apply]
  by_cases h : d = mate c
  · subst h; rw [mate_mate, if_pos ⟨rfl, rfl⟩, if_pos rfl]
  · rw [if_neg (fun h' => h (by rw [gate_iff.mp h'.1, mate_mate])), if_neg h]

/-- What `d` owes arrival `k` of `c`. -/
theorem owe_come (d c : Dev nD) (k : Fin 4) : owe d (come c k) () = if d = mate c then N else 0 := by
  unfold owe
  rw [Pi.add_apply, Finsupp.add_apply, tallyAt_ne_cell (fun h => gate_ne_come _ _ _ h.symm), Finsupp.zero_apply, Nat.add_zero]
  have h4 : left d 4 = (((0 + tallyAt (come (mate d) 3) () N) + tallyAt (come (mate d) 2) () N) + tallyAt (come (mate d) 1) () N) + tallyAt (come (mate d) 0) () N := rfl
  rw [h4]
  simp only [Pi.add_apply, Finsupp.add_apply, tallyAt_apply, come_iff, Pi.zero_apply, Finsupp.zero_apply]
  have hd : (c = mate d) ↔ (d = mate c) := ⟨fun h => by rw [h, mate_mate], fun h => by rw [h, mate_mate]⟩
  by_cases h : d = mate c
  · subst h
    simp only [mate_mate]
    generalize N = n
    fin_cases k <;> simp
  · have h' : ¬ c = mate d := fun e => h (hd.mp e)
    simp only [h, h']; simp

/-- The credit of the barrier at launch. -/
theorem credit_gate (c : Dev nD) :
    tallyOn (gate c) (launchCredit (Pipeline.owing owe) 0 (gate c)) = (tallyAt (gate c) () 1 : CellTallies nD τ sig Unit) := by
  unfold tallyAt; refine congrArg _ (Finsupp.ext fun u => ?_); cases u
  rw [Pipeline.launchCredit_owing, Finsupp.single_eq_same, Finset.sum_congr rfl fun d _ => owe_gate d c,
    Finset.sum_ite_eq' Finset.univ (mate c) fun _ => 1, if_pos (Finset.mem_univ _)]

/-- The credit of an arrival at launch. -/
theorem credit_come (c : Dev nD) (k : Fin 4) :
    tallyOn (come c k) (launchCredit (Pipeline.owing owe) 0 (come c k)) = (tallyAt (come c k) () N : CellTallies nD τ sig Unit) := by
  unfold tallyAt; refine congrArg _ (Finsupp.ext fun u => ?_); cases u
  rw [Pipeline.launchCredit_owing, Finsupp.single_eq_same, Finset.sum_congr rfl fun d _ => owe_come d c k,
    Finset.sum_ite_eq' Finset.univ (mate c) fun _ => N, if_pos (Finset.mem_univ _)]

omit [FloatOps F] in
/-- The launch's credit is the credit a device waits with. -/
theorem credits_intro (c : Dev nD) : (Pipeline.launchCred owe c : sProp (MM F)) ⊢ credits c := by
  unfold Pipeline.launchCred credits
  rw [bigSep_univ_at _ (SemLoc.reg gateS), credit_gate]
  refine sep_mono_right ?_
  have hinj : Function.Injective (fun k : Fin 4 => (SemLoc.dma (comeS k) : SemLoc sig)) := fun k l h => by
    have h' : ((.inr (.inr k)) : Which) = .inr (.inr l) := semOf_injective h
    simpa using h'
  refine (BI.bigSep_subset (t := Finset.univ.map ⟨_, hinj⟩) fun x hx => ?_).trans ?_
  · obtain ⟨k, -, rfl⟩ := Finset.mem_map.mp hx
    exact Finset.mem_erase.mpr ⟨nofun, Finset.mem_univ _⟩
  · rw [bigSep_map]
    exact bigSep_mono fun k _ => Entails.of_eq (congrArg cred (credit_come c k))

/-! ## The run -/

omit [FloatOps F] in
/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred owe c ∗ prngReg c (ρ c) ∗ ghost m c)
      ⊢ |={Set.univ}=> iprop(begins m c ∗ emp) := by
  rw [Pipeline.unscopedRestP_none, unscopedRest0_eq, res_split]
  unfold begins
  iintro ⟨⟨Harg, Hres⟩, Hlev, Hcr, -, HG⟩
  ihave Hc := (credits_intro (F := F) c) $$ Hcr
  ihave Ha := ((arg_split m c).1) $$ Harg
  imodintro
  isplitl
  · isplitl [HG]; · iexact HG
    isplitl [Hc]; · iexact Hc
    isplitl [Hlev]; · iexact Hlev
    isplitl [Ha]; · iexact Ha
    iexists _; iexact Hres
  · iempintro

/-- What a device is left with for the reader of the final state. -/
noncomputable def kept (c : Dev nD) : sProp (MM F) :=
  iprop(unscopedSems0 c ∗ (((c : Thread nD τ).loc main_arg0) ↦{fullShare} m ((c : Thread nD τ).loc main_arg0)) ∗ (((c : Thread nD τ).loc main_v1) ↦{fullShare} got m c))

/-- What a device ends with, regrouped for the launch. -/
theorem ends_exit (c : Dev nD) :
    ends m c ⊢ iprop(kept m c ∗ Pipeline.ownSems0 wireSem c ∗ Pipeline.scopedRest cfg0.spec c) := by
  rw [scopedRest0_eq, own_eq]
  unfold ends kept
  rw [outer_eq, res_split]
  iintro ⟨Hg, Hw, Ha, Hr⟩
  ihave Ha := ((arg_split m c).2) $$ Ha
  isplitl [Hg Ha Hr]
  · isplitl [Hg]; · iexact Hg
    isplitl [Ha] <;> iassumption
  isplitl [Hw]; · iexact Hw
  iempintro

/-- What the final state shows of a device. -/
def Shows (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = m ((c.tc : Thread nD τ).loc main_arg0)
    ∧ s.mem ((c.tc : Thread nD τ).loc main_v1) = got m c

/-- What a device keeps at the end shows that its memory holds the result. -/
theorem kept_read (c : Dev nD) (s' : Phys nD τ sig (Elt F)) :
    iprop(kept m c ∗ emp ∗ SI s') ⊢ (|={Set.univ}=> iprop(⌜Shows m c s'.mem⌝ ∗ SI s') : sProp (MM F)) := by
  unfold kept
  iintro ⟨⟨Hu, Ha, Hr⟩, -, HSI⟩
  icombine HSI Ha gives %ha
  icombine HSI Hr gives %hr
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ ha, Buf.eq_of_forall_mem_univ hr⟩
  · iexact HSI

set_option maxRecDepth 8000 in
/-- Every run of the two devices ends, with each device's result the rows that came from its partner, its argument as
    it was, and every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_v1) = got m c) ∧ r.2.sem = fun _ => 0) :=
  Pipeline.θ_run_region_owing_glob_pf (fun p => (cfgs p).toPCfg) (fun p => (cfgs p).toPCfg_adm) (dats m) () cellOf_inj (0 : Fin 1)
    winFacts0.to₀ wireFacts (Pipeline.PreFacts.none _) EP defs₀ 𝒱₀ m ρ main
    (hmain := fun _ => rfl)
    (hbody := obligation m) (hne := fun w => Fin.elim0 w) (harr := arr_whole0) (hstage := stage_whole0) (hshare := fun _ w => Fin.elim0 w)
    (hdistinct := winFacts0.arr_inj)
    (O₀ := owe) (howed₀ := fun _ => rfl) (howedN := fun _ => rfl)
    (L := L) (lv := lv) (hL := fun g hg => if_neg hg)
    (hwaits := fun c => Pipeline.cellsWaits_intro cfgs (dats m) () 0 c fun w _ _ => Fin.elim0 w)
    (G := dealt m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => Fin.elim0 w) (hpf := fun _ k => k.elim0)
    (X := begins m) (Y := kept m) (Z := fun _ => iprop(emp))
    (hX := start_intro m ρ)
    (hin := fun c => by rw [show (dats m 0 c).Φ 0 = begins m c from rfl]; iintro ⟨H, -, -⟩; iexact H)
    (hout := ends_exit m)
    (QY := Shows m) (hY := kept_read m)
    (hQ := fun _ h hs => ⟨fun c => (h c).2.2.2, sem_eq_zero hs fun c => (h c).2.2.1⟩)

end Cert.ExchangeRun

end
-- ==== Proof.ExchangeClaim.lean ====
module

public import proofs.«01_k».proof.Defs
public import proofs.«01_k».proof.Proof.ExchangeLaunch
public import proofs.«01_k».proof.Proof.Gen.Exchange
public import proofs.«01_k».proof.Proof.Gen.ExchangeRef
public import proofs.«01_k».proof.Proof.Gen.ExchangeRefIdeal.Run
public import proofs.«01_k».proof.Proof.Gen.ExchangeRefIdeal.Read
public import Idealize.ShloMosaic.Lib.Quiescent

@[expose] public section

set_option maxHeartbeats 600000
set_option maxRecDepth 16384

noncomputable section

/-! The exchange of halves between two devices: each ends with the slabs of its partner that the reference takes. -/

namespace Cert.ExchangeClaim

open Idealize.ShloMosaic Idealize.ShloMosaic.TcCoe Idealize.SL.Sem Cert.ExchangeRun Cert.ExchangeRefIdeal Cert.ExchangeRefIdeal.Read

/-- The kernel runs and leaves its argument and its counters as they were: its text is its idealization's. -/
theorem frame_kernel : Cert.quiescent_Exchange := fun m ρ _ =>
  (θ_run Cert.ExchangeIdeal.defs _ _).mono (fun _ h => ⟨fun c => (h.1 c).1, h.2⟩) (run_main (F := Bits) m ρ)

/-- So does its idealization. -/
theorem frame_ideal : Cert.quiescent_ExchangeIdeal := fun m ρ _ =>
  (θ_run Cert.ExchangeIdeal.defs _ _).mono (fun _ h => ⟨fun c => (h.1 c).1, h.2⟩) (run_main (F := Ideal) m ρ)

/-- So does the reference: it has no counters at all, and its run leaves the argument. -/
theorem frame_ref : Cert.quiescent_ExchangeRefIdeal := fun m ρ _ =>
  (θ_run Cert.ExchangeRefIdeal.defs _ _).mono (fun r h => ⟨fun c => (h c).2, sem_eq_zero_of_no_sems rfl r.2⟩)
    (Cert.ExchangeRefIdeal.Value.run (F := Ideal) m ρ)

/-- So does the reference over floats. -/
theorem frame_floats : Cert.quiescent_ExchangeRef := fun m ρ _ =>
  (θ_run Cert.ExchangeRefIdeal.defs _ _).mono (fun r h => ⟨fun c => (h c).2, sem_eq_zero_of_no_sems rfl r.2⟩)
    (Cert.ExchangeRefIdeal.Value.run (F := Bits) m ρ)

variable {F : FTy → Type} [FloatOps F]

/-- Where an element of the result stands in the first half of the reference's result and in the second. -/
theorem half {x : FVec F S16x704x1024 .f32} (i : S4x704x1024.Idx) (j : S8x704x1024.Idx) (r : S16x704x1024.Idx)
    (h1 : (j 1).val = (i 1).val ∧ (r 1).val = (i 1).val) (h2 : (j 2).val = (i 2).val ∧ (r 2).val = (i 2).val)
    (h : ((j 0).val = (i 0).val ∧ (r 0).val = 8 + 2 * (i 0).val) ∨ ((j 0).val = 4 + (i 0).val ∧ (r 0).val = 2 * (i 0).val + 1)) :
    val_main_v5 (F := F) x j = x r := by
  have i0 : (i 0).val < 4 := (i 0).isLt
  have i1 : (i 1).val < 704 := (i 1).isLt
  have i2 : (i 2).val < 1024 := (i 2).isLt
  unfold val_main_v5
  rcases h with ⟨hj, hr⟩ | ⟨hj, hr⟩
  · refine (concatenate_pair_apply_left 0 (val_main_v2 (F := F) x) (val_main_v4 (F := F) x) _ j rfl i fun b => ?_).trans ?_
    · match b with
      | ⟨0, _⟩ => exact hj.symm
      | ⟨1, _⟩ => exact h1.1.symm
      | ⟨2, _⟩ => exact h2.1.symm
    rw [val_main_v2_apply, val_main_v1_apply, val_main_v0_apply]
    congr 1
    refine funext fun a => Fin.ext ?_
    match a with
    | ⟨0, _⟩ => rw [show (r ⟨0, _⟩).val = _ from hr]; show _ / 720896 = _; simp; omega
    | ⟨1, _⟩ => rw [show (r ⟨1, _⟩).val = _ from h1.2]; show _ / 1024 % 704 = _; simp; omega
    | ⟨2, _⟩ => rw [show (r ⟨2, _⟩).val = _ from h2.2]; show _ % 1024 = _; simp; omega
  · refine (concatenate_pair_apply_right 0 (val_main_v2 (F := F) x) (val_main_v4 (F := F) x) _ j rfl rfl i (fun b hb => ?_) ?_).trans ?_
    · match b with
      | ⟨0, _⟩ => exact absurd rfl hb
      | ⟨1, _⟩ => exact h1.1.symm
      | ⟨2, _⟩ => exact h2.1.symm
    · show (i 0).val + 4 = (j 0).val
      omega
    rw [val_main_v4_apply, val_main_v3_apply, val_main_v0_apply]
    congr 1
    refine funext fun a => Fin.ext ?_
    match a with
    | ⟨0, _⟩ => rw [show (r ⟨0, _⟩).val = _ from hr]; show _ / 720896 = _; simp; omega
    | ⟨1, _⟩ => rw [show (r ⟨1, _⟩).val = _ from h1.2]; show _ / 1024 % 704 = _; simp; omega
    | ⟨2, _⟩ => rw [show (r ⟨2, _⟩).val = _ from h2.2]; show _ % 1024 = _; simp; omega

/-- Each device ends with its half of the reference's result, whatever the elements are: nothing is computed. -/
theorem halves (m : (ℓ : Loc Cert.ExchangeIdeal.nD Cert.ExchangeIdeal.τ Cert.ExchangeIdeal.sig) → Buf (Elt F) ℓ)
    (g : Dev Cert.ExchangeIdeal.nD → PrngReg)
    (m' : (ℓ : Loc Cert.ExchangeRefIdeal.nD Cert.ExchangeRefIdeal.τ Cert.ExchangeRefIdeal.sig) → Buf (Elt F) ℓ)
    (g' : Dev Cert.ExchangeRefIdeal.nD → PrngReg)
    (hm : ∀ c : Dev Cert.ExchangeIdeal.nD, m ((c.tc : Thread Cert.ExchangeIdeal.nD Cert.ExchangeIdeal.τ).loc Cert.ExchangeIdeal.main_arg0)
      = Layout.blockN ⟨3, ![8, 704, 1024]⟩ ⟨3, ![16, 704, 1024]⟩ (Layout.meshBlock [1, 1, 2] ![[2], [], []] c)
          (m' (((0 : Dev Cert.ExchangeRefIdeal.nD).tc : Thread Cert.ExchangeRefIdeal.nD Cert.ExchangeRefIdeal.τ).loc Cert.ExchangeRefIdeal.main_arg0))) :
    ∃ v0 : Buf (Elt F) (((0 : Dev Cert.ExchangeRefIdeal.nD).tc : Thread Cert.ExchangeRefIdeal.nD Cert.ExchangeRefIdeal.τ).loc Cert.ExchangeRefIdeal.main_v5),
      θ_run (Cert.ExchangeIdeal.defs (F := F)) (onTc (τ := Cert.ExchangeIdeal.τ) (Cert.ExchangeIdeal.main (F := F))) ⟨m, fun _ => 0, g⟩ (fun r => ∀ c : Dev Cert.ExchangeIdeal.nD,
          r.2.mem ((c.tc : Thread Cert.ExchangeIdeal.nD Cert.ExchangeIdeal.τ).loc Cert.ExchangeIdeal.main_v1)
              = Layout.blockN ⟨3, ![4, 704, 1024]⟩ ⟨3, ![8, 704, 1024]⟩ (Layout.meshBlock [1, 1, 2] ![[2], [], []] c) v0
          ∧ r.2.mem ((c.tc : Thread Cert.ExchangeIdeal.nD Cert.ExchangeIdeal.τ).loc Cert.ExchangeIdeal.main_arg0)
              = m ((c.tc : Thread Cert.ExchangeIdeal.nD Cert.ExchangeIdeal.τ).loc Cert.ExchangeIdeal.main_arg0))
      ∧ θ_run (Cert.ExchangeRefIdeal.defs (F := F)) (onTc (τ := Cert.ExchangeRefIdeal.τ) (Cert.ExchangeRefIdeal.main (F := F))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v5) = v0
          ∧ r.2.mem (((0 : Dev Cert.ExchangeRefIdeal.nD).tc : Thread Cert.ExchangeRefIdeal.nD Cert.ExchangeRefIdeal.τ).loc Cert.ExchangeRefIdeal.main_arg0)
              = m' (((0 : Dev Cert.ExchangeRefIdeal.nD).tc : Thread Cert.ExchangeRefIdeal.nD Cert.ExchangeRefIdeal.τ).loc Cert.ExchangeRefIdeal.main_arg0)) := by
  refine ⟨_, (θ_run Cert.ExchangeIdeal.defs _ _).mono (fun r h c => ⟨(h.1 c).2.trans ?_, (h.1 c).1⟩) (run_main (F := F) m g),
    (θ_run Cert.ExchangeRefIdeal.defs _ _).mono (fun r h => h 0) (Cert.ExchangeRefIdeal.Value.run (F := F) m' g')⟩
  refine funext fun i => ?_
  unfold got
  rw [hm (mate c)]
  symm
  refine half i _ _ ?_ ?_ ?_
  all_goals
    obtain ⟨c, hc⟩ := c
    rcases (show c = 0 ∨ c = 1 by change c < 2 at hc; omega) with rfl | rfl <;>
      simp [Layout.TilesN.idx, from8, mate, Layout.meshLin, Layout.meshCoord, Layout.cutSize]

/-- The halves agree over the extended reals. -/
theorem algebraic : Cert.algebraic_ExchangeIdeal_ExchangeRefIdeal := fun m g m' g' _ hm => halves (F := Ideal) m g m' g' hm

/-- They agree bit by bit over floats: the texts of both programs are their idealizations'. -/
theorem bitexact : Cert.bitexact_Exchange_ExchangeRef := fun m g m' g' _ hm => halves (F := Bits) m g m' g' hm

end Cert.ExchangeClaim

end
-- ==== Proof.lean ====
/- The proof of the certificate's claim: each call's frames and values, from its own module. -/
module

public import proofs.«01_k».proof.Defs
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Pre_finite_final
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasRefIdeal
public import proofs.«01_k».proof.Proof.Gen.BiasIdeal.Value
public import proofs.«01_k».proof.Proof.Gen.BiasRefIdeal.Run
public import proofs.«01_k».proof.Proof.Gen.BiasRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvIdeal.Value
public import proofs.«01_k».proof.Proof.Gen.KvRefIdeal.Run
public import proofs.«01_k».proof.Proof.Gen.KvRefIdeal.Read
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.Pre_finite_swiglu
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_attn
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendRefIdeal
public import proofs.«01_k».proof.Proof.Gen.Pre_finite_attend
public import proofs.«01_k».proof.Proof.Gen.AttendIdeal.Value
public import proofs.«01_k».proof.Proof.Gen.AttendRefIdeal.Run
public import proofs.«01_k».proof.Proof.Gen.AttendRefIdeal.Read
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryIdeal.Value
public import proofs.«01_k».proof.Proof.Gen.MemoryRefIdeal.Run
public import proofs.«01_k».proof.Proof.Gen.MemoryRefIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.ProjectIdeal.Value
public import proofs.«01_k».proof.Proof.Gen.ProjectRefIdeal.Run
public import proofs.«01_k».proof.Proof.Gen.ProjectRefIdeal.Read
public import proofs.«01_k».proof.Proof.Gen.MixForward
public import proofs.«01_k».proof.Proof.Gen.MixForward.Skeleton
public import proofs.«01_k».proof.Proof.Gen.MixForward.Launch
public import proofs.«01_k».proof.Proof.Gen.MixForward.Points
public import proofs.«01_k».proof.Proof.Gen.MixForward.Frame
public import proofs.«01_k».proof.Proof.Gen.MixForwardIdeal
public import proofs.«01_k».proof.Proof.Gen.MixForwardIdeal.Skeleton
public import proofs.«01_k».proof.Proof.Gen.MixForwardIdeal.Launch
public import proofs.«01_k».proof.Proof.Gen.MixForwardIdeal.Points
public import proofs.«01_k».proof.Proof.Gen.MixForwardIdeal.Frame
public import proofs.«01_k».proof.Proof.Gen.MixForwardRefIdeal
public import proofs.«01_k».proof.Proof.Gen.MixForwardIdeal.Value
public import proofs.«01_k».proof.Proof.Gen.MixForwardRefIdeal.Run
public import proofs.«01_k».proof.Proof.Gen.MixForwardRefIdeal.Read
public import proofs.«01_k».proof.Proof.Gen.Shard
public import proofs.«01_k».proof.Proof.Gen.Shard.Skeleton
public import proofs.«01_k».proof.Proof.Gen.Shard.Launch
public import proofs.«01_k».proof.Proof.Gen.Shard.Points
public import proofs.«01_k».proof.Proof.Gen.Shard.Frame
public import proofs.«01_k».proof.Proof.Gen.ShardIdeal
public import proofs.«01_k».proof.Proof.Gen.ShardIdeal.Skeleton
public import proofs.«01_k».proof.Proof.Gen.ShardIdeal.Launch
public import proofs.«01_k».proof.Proof.Gen.ShardIdeal.Points
public import proofs.«01_k».proof.Proof.Gen.ShardIdeal.Frame
public import proofs.«01_k».proof.Proof.Gen.ShardRefIdeal
public import proofs.«01_k».proof.Proof.Gen.ShardIdeal.Value
public import proofs.«01_k».proof.Proof.Gen.ShardRefIdeal.Run
public import proofs.«01_k».proof.Proof.Gen.ShardRefIdeal.Read
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightRefIdeal
public import proofs.«01_k».proof.Proof.Gen.WeightIdeal.Value
public import proofs.«01_k».proof.Proof.Gen.WeightRefIdeal.Run
public import proofs.«01_k».proof.Proof.Gen.WeightRefIdeal.Read
public import proofs.«01_k».proof.Proof.Gen.WeightIn
public import proofs.«01_k».proof.Proof.Gen.WeightIn.Skeleton
public import proofs.«01_k».proof.Proof.Gen.WeightIn.Launch
public import proofs.«01_k».proof.Proof.Gen.WeightIn.Points
public import proofs.«01_k».proof.Proof.Gen.WeightIn.Frame
public import proofs.«01_k».proof.Proof.Gen.WeightInIdeal
public import proofs.«01_k».proof.Proof.Gen.WeightInIdeal.Skeleton
public import proofs.«01_k».proof.Proof.Gen.WeightInIdeal.Launch
public import proofs.«01_k».proof.Proof.Gen.WeightInIdeal.Points
public import proofs.«01_k».proof.Proof.Gen.WeightInIdeal.Frame
public import proofs.«01_k».proof.Proof.Gen.WeightInRefIdeal
public import proofs.«01_k».proof.Proof.Gen.WeightInIdeal.Value
public import proofs.«01_k».proof.Proof.Gen.WeightInRefIdeal.Run
public import proofs.«01_k».proof.Proof.Gen.WeightInRefIdeal.Read
public import proofs.«01_k».proof.Proof.Gen.One
public import proofs.«01_k».proof.Proof.Gen.One.Skeleton
public import proofs.«01_k».proof.Proof.Gen.One.Launch
public import proofs.«01_k».proof.Proof.Gen.One.Points
public import proofs.«01_k».proof.Proof.Gen.One.Frame
public import proofs.«01_k».proof.Proof.Gen.OneIdeal
public import proofs.«01_k».proof.Proof.Gen.OneIdeal.Skeleton
public import proofs.«01_k».proof.Proof.Gen.OneIdeal.Launch
public import proofs.«01_k».proof.Proof.Gen.OneIdeal.Points
public import proofs.«01_k».proof.Proof.Gen.OneIdeal.Frame
public import proofs.«01_k».proof.Proof.Gen.OneRefIdeal
public import proofs.«01_k».proof.Proof.Gen.OneIdeal.Value
public import proofs.«01_k».proof.Proof.Gen.OneRefIdeal.Run
public import proofs.«01_k».proof.Proof.Gen.OneRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnRefIdeal
public import proofs.«01_k».proof.Proof.Gen.FfnRefIdeal.Run
public import proofs.«01_k».proof.Proof.Gen.FfnRefIdeal.Read
public import proofs.«01_k».proof.Proof.FinalClaim
public import proofs.«01_k».proof.Proof.BiasClaim
public import proofs.«01_k».proof.Proof.KvClaim
public import proofs.«01_k».proof.Proof.SwigluClaim
public import proofs.«01_k».proof.Proof.AttnClaim
public import proofs.«01_k».proof.Proof.AttendClaim
public import proofs.«01_k».proof.Proof.MemoryClaim
public import proofs.«01_k».proof.Proof.ProjectClaim
public import proofs.«01_k».proof.Proof.MixForwardClaim
public import proofs.«01_k».proof.Proof.FfnClaim
public import proofs.«01_k».proof.Proof.ShardClaim
public import proofs.«01_k».proof.Proof.WeightClaim
public import proofs.«01_k».proof.Proof.WeightInClaim
public import proofs.«01_k».proof.Proof.OneClaim
public import Idealize.ShloMosaic.Adequacy
public import Idealize.ShloMosaic.Init
public import proofs.«01_k».proof.Proof.Gen.Exchange
public import proofs.«01_k».proof.Proof.Gen.Exchange.Skeleton
public import proofs.«01_k».proof.Proof.Gen.Exchange.Launch
public import proofs.«01_k».proof.Proof.Gen.Exchange.Points
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.ExchangeRefIdeal
public import proofs.«01_k».proof.Proof.Gen.ExchangeRef
public import proofs.«01_k».proof.Proof.Gen.ExchangeRefIdeal.Run
public import proofs.«01_k».proof.Proof.Gen.ExchangeRefIdeal.Read
public import proofs.«01_k».proof.Proof.ExchangeClaim

@[expose] public section

noncomputable section

namespace Cert.Proof

open Idealize.ShloMosaic Idealize.SL.Sem

/-- Every claim of the certificate. -/
theorem claim : Cert.Claim :=
  ⟨Cert.Final.Gen.facts,
    Cert.FinalIdeal.Gen.facts,
    Cert.FinalRefIdeal.Gen.facts,
    Cert.Bias.Gen.facts,
    Cert.BiasIdeal.Gen.facts,
    Cert.BiasRefIdeal.Gen.facts,
    Cert.Kv.Gen.facts,
    Cert.KvIdeal.Gen.facts,
    Cert.KvRefIdeal.Gen.facts,
    Cert.Swiglu.Gen.facts,
    Cert.SwigluIdeal.Gen.facts,
    Cert.SwigluRefIdeal.Gen.facts,
    Cert.Attn.Gen.facts,
    Cert.AttnIdeal.Gen.facts,
    Cert.AttnRefIdeal.Gen.facts,
    Cert.Attend.Gen.facts,
    Cert.AttendIdeal.Gen.facts,
    Cert.AttendRefIdeal.Gen.facts,
    Cert.Memory.Gen.facts,
    Cert.MemoryIdeal.Gen.facts,
    Cert.MemoryRefIdeal.Gen.facts,
    Cert.Project.Gen.facts,
    Cert.ProjectIdeal.Gen.facts,
    Cert.ProjectRefIdeal.Gen.facts,
    Cert.MixForward.Gen.facts,
    Cert.MixForwardIdeal.Gen.facts,
    Cert.MixForwardRefIdeal.Gen.facts,
    Cert.Ffn.Gen.facts,
    Cert.FfnIdeal.Gen.facts,
    Cert.FfnRefIdeal.Gen.facts,
    Cert.Shard.Gen.facts,
    Cert.ShardIdeal.Gen.facts,
    Cert.ShardRefIdeal.Gen.facts,
    Cert.Weight.Gen.facts,
    Cert.WeightIdeal.Gen.facts,
    Cert.WeightRefIdeal.Gen.facts,
    Cert.WeightIn.Gen.facts,
    Cert.WeightInIdeal.Gen.facts,
    Cert.WeightInRefIdeal.Gen.facts,
    Cert.One.Gen.facts,
    Cert.OneIdeal.Gen.facts,
    Cert.OneRefIdeal.Gen.facts,
    Cert.Exchange.Gen.facts,
    Cert.ExchangeIdeal.Gen.facts,
    Cert.ExchangeRefIdeal.Gen.facts,
    Cert.ExchangeRef.Gen.facts,
    Cert.Pre_finite_final.Gen.facts,
    Cert.Pre_finite_swiglu.Gen.facts,
    Cert.Pre_finite_attn.Gen.facts,
    Cert.Pre_finite_attend.Gen.facts,
    FinalClaim.frame_kernel,
    FinalClaim.frame_ideal,
    fun m ρ _ => FinalClaim.frame_ideal m ρ trivial,
    FinalClaim.frame_ref,
    fun m ρ _ => FinalClaim.frame_ref m ρ trivial,
    BiasClaim.frame_kernel,
    BiasClaim.frame_ideal,
    BiasClaim.frame_ref,
    KvClaim.frame_kernel,
    KvClaim.frame_ideal,
    KvClaim.frame_ref,
    SwigluClaim.frame_kernel,
    SwigluClaim.frame_ideal,
    fun m ρ _ => SwigluClaim.frame_ideal m ρ trivial,
    SwigluClaim.frame_ref,
    fun m ρ _ => SwigluClaim.frame_ref m ρ trivial,
    AttnClaim.frame_kernel,
    AttnClaim.frame_ideal,
    fun m ρ _ => AttnClaim.frame_ideal m ρ trivial,
    AttnClaim.frame_ref,
    fun m ρ _ => AttnClaim.frame_ref m ρ trivial,
    AttendClaim.frame_kernel,
    AttendClaim.frame_ideal,
    fun m ρ _ => AttendClaim.frame_ideal m ρ trivial,
    AttendClaim.frame_ref,
    fun m ρ _ => AttendClaim.frame_ref m ρ trivial,
    MemoryClaim.frame_kernel,
    MemoryClaim.frame_ideal,
    MemoryClaim.frame_ref,
    ProjectClaim.frame_kernel,
    ProjectClaim.frame_ideal,
    ProjectClaim.frame_ref,
    MixForwardClaim.frame_kernel,
    MixForwardClaim.frame_ideal,
    MixForwardClaim.frame_ref,
    FfnClaim.frame_kernel,
    FfnClaim.frame_ideal,
    FfnClaim.frame_ref,
    ShardClaim.frame_kernel,
    ShardClaim.frame_ideal,
    ShardClaim.frame_ref,
    WeightClaim.frame_kernel,
    WeightClaim.frame_ideal,
    WeightClaim.frame_ref,
    WeightInClaim.frame_kernel,
    WeightInClaim.frame_ideal,
    WeightInClaim.frame_ref,
    OneClaim.frame_kernel,
    OneClaim.frame_ideal,
    OneClaim.frame_ref,
    ExchangeClaim.frame_kernel,
    ExchangeClaim.frame_ideal,
    ExchangeClaim.frame_ref,
    ExchangeClaim.frame_floats,
    trivial, FinalClaim.algebraic,
    trivial, BiasClaim.algebraic,
    trivial, KvClaim.algebraic,
    trivial, SwigluClaim.algebraic,
    trivial, AttnClaim.algebraic,
    trivial, AttendClaim.algebraic,
    trivial, MemoryClaim.algebraic,
    trivial, ProjectClaim.algebraic,
    trivial, MixForwardClaim.algebraic,
    trivial, FfnClaim.algebraic,
    trivial, ShardClaim.algebraic,
    trivial, WeightClaim.algebraic,
    trivial, WeightInClaim.algebraic,
    trivial, OneClaim.algebraic,
    trivial, ExchangeClaim.algebraic, ExchangeClaim.bitexact⟩

end Cert.Proof

end
